-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_routed [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_routed_s [hPre_routed_s : Cert.Pre_routed_s.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed_s.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed_s [hPre_routed_s : Cert.Pre_routed_s.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed_s.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_routed [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_routed m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_routed [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_routed_s [hKernel5Ideal : Cert.Kernel5Ideal.Facts] [hPre_routed_s : Cert.Pre_routed_s.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_routed_s m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_routed_s [hReference5Ideal : Cert.Reference5Ideal.Facts] [hPre_routed_s : Cert.Pre_routed_s.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed_s m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v38_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v38_8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal_pre_routed [hKernel4Ideal : Cert.Kernel4Ideal.Facts] [hReference4Ideal : Cert.Reference4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_routed m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_routed_s [hKernel5Ideal : Cert.Kernel5Ideal.Facts] [hReference5Ideal : Cert.Reference5Ideal.Facts] [hPre_routed_s : Cert.Pre_routed_s.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_routed_s m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_planned : Cert.Pre_planned.Facts) (hPre_routed : Cert.Pre_routed.Facts) (hPre_routed_s : Cert.Pre_routed_s.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_routed (hKernel4Ideal := hKernel4Ideal) (hPre_routed := hPre_routed)
    ∧ quiescent_Reference4Ideal (hReference4Ideal := hReference4Ideal)
    ∧ quiescent_Reference4Ideal_pre_routed (hReference4Ideal := hReference4Ideal) (hPre_routed := hPre_routed)
    ∧ quiescent_Kernel5 (hKernel5 := hKernel5)
    ∧ quiescent_Kernel5Ideal (hKernel5Ideal := hKernel5Ideal)
    ∧ quiescent_Kernel5Ideal_pre_routed_s (hKernel5Ideal := hKernel5Ideal) (hPre_routed_s := hPre_routed_s)
    ∧ quiescent_Reference5Ideal (hReference5Ideal := hReference5Ideal)
    ∧ quiescent_Reference5Ideal_pre_routed_s (hReference5Ideal := hReference5Ideal) (hPre_routed_s := hPre_routed_s)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_planned := hPre_planned)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_routed (hKernel4Ideal := hKernel4Ideal) (hReference4Ideal := hReference4Ideal) (hPre_routed := hPre_routed)
    ∧ preserves_Kernel5_Kernel5Ideal
    ∧ algebraic_Kernel5Ideal_Reference5Ideal_pre_routed_s (hKernel5Ideal := hKernel5Ideal) (hReference5Ideal := hReference5Ideal) (hPre_routed_s := hPre_routed_s)
-- ==== Pre_finite.lean ====
abbrev S128x1x1024 : Shape := ⟨3, ![128, 1, 1024]⟩
abbrev S8x1024 : Shape := ⟨2, ![8, 1024]⟩
abbrev S128x1024 : Shape := ⟨2, ![128, 1024]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x128x30x512 : Shape := ⟨4, ![1, 128, 30, 512]⟩
abbrev S1x1024x6144 : Shape := ⟨3, ![1, 1024, 6144]⟩
abbrev S1x6144 : Shape := ⟨2, ![1, 6144]⟩
abbrev S1x1024 : Shape := ⟨2, ![1, 1024]⟩
abbrev S1x1024x3080 : Shape := ⟨3, ![1, 1024, 3080]⟩
abbrev S1x4 : Shape := ⟨2, ![1, 4]⟩
abbrev S1x31x1x512 : Shape := ⟨4, ![1, 31, 1, 512]⟩
abbrev S1x512 : Shape := ⟨2, ![1, 512]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x3080 : S_.BroadcastsInDim S1x1024x3080 (![] : Fin 0 → Fin S1x1024x3080.rank)
  reducesTo_S1x1024x3080_S_d0_1_2 : S1x1024x3080.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg10 : FVec F S1x1024x3080 .f32) (main_arg12 : FVec F S1x4 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x3080 .f32 := Host.absf main_arg10
  let main_cst_6 : FVec F S_ .f32 := constant S_ .f32 0x7F800000#32
  let main_v20 : FVec F S1x1024x3080 .f32 := broadcastInDim S1x1024x3080 ![] bcast_S_S1x1024x3080 main_cst_6
  let main_v21 : IVec S1x1024x3080 1 := cmpf .olt main_v19 main_v20
  let main_c_7 : IVec S_ 1 := constantI S_ 1 1#1
  let main_v22 : IVec S_ 1 := (fun x v => Host.reduce IntOp.andi x v reducesTo_S1x1024x3080_S_d0_1_2 h_S_) main_v21 main_c_7
  let main_v23 : IVec S_ 1 := andi main_v18 main_v22
  let main_v24 : FVec F S1x4 .f32 := Host.absf main_arg12
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S128x1x1024 .f32) (main_arg1 : FVec F S8x1024 .f32) (main_arg2 : FVec F S128x1024 .f32) (main_arg3 : FVec F S1x128x4x128x128 .f32) (main_arg4 : FVec F S1x128x4x128 .f32) (main_arg5 : FVec F S1x128x4 .f32) (main_arg6 : FVec F S1x128x30x512 .f32) (main_arg7 : FVec F S1x1024x6144 .f32) (main_arg8 : FVec F S1x6144 .f32) (main_arg9 : FVec F S1x1024 .f32) (main_arg10 : FVec F S1x1024x3080 .f32) (main_arg11 : FVec F S1x4 .f32) (main_arg12 : FVec F S1x4 .f32) (main_arg13 : FVec F S1x31x1x512 .f32) (main_arg14 : FVec F S1x512 .f32) (main_arg15 : FVec F S1x512 .f32) (main_arg16 : FVec F S1x512 .f32) : IVec S_ 1 :=
  let main_v0 : FVec F S128x1024 .f32 := Host.absf main_arg2
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1x1024x6144 .f32 := Host.absf main_arg7
  let main_cst_0 : FVec F S_ .f32 := constant S_ .f32 0x7F800000#32
  let main_v5 : FVec F S1x1024x6144 .f32 := broadcastInDim S1x1024x6144 ![] bcast_S_S1x1024x6144 main_cst_0
  let main_v6 : IVec S1x1024x6144 1 := cmpf .olt main_v4 main_v5
  let main_c_1 : IVec S_ 1 := constantI S_ 1 1#1
  let main_v7 : IVec S_ 1 := (fun x v => Host.reduce IntOp.andi x v reducesTo_S1x1024x6144_S_d0_1_2 h_S_) main_v6 main_c_1
  let main_v8 : IVec S_ 1 := andi main_v3 main_v7
  let main_v9 : FVec F S1x6144 .f32 := Host.absf main_arg8
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x1024 .f32 := Host.absf main_arg9
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg10 main_arg12 main_v13 main_v16
-- ==== Pre_planned.lean ====
abbrev S96 : Shape := ⟨1, ![96]⟩
abbrev S1 : Shape := ⟨1, ![1]⟩
abbrev S393216x128 : Shape := ⟨2, ![393216, 128]⟩
abbrev S32x1024x256 : Shape := ⟨3, ![32, 1024, 256]⟩
abbrev S32x256x1024 : Shape := ⟨3, ![32, 256, 1024]⟩
abbrev S_ : Shape := ⟨0, ![]⟩
abbrev S95 : Shape := ⟨1, ![95]⟩

class Facts : Prop where
  shapeCasts_S1_S_ : S1.ShapeCasts S_
  bcast_S_S96 : S_.BroadcastsInDim S96 (![] : Fin 0 → Fin S96.rank)
  slices_S96_S95_1 : S96.Slices ![1] S95
  slices_S96_S1_0 : S96.Slices ![0] S1
  concatenates_S95_S1_S96_d0 : Shape.Concatenates [S95, S1] S96 0

variable [Facts]

def fn_part2 {F : FTy → Type} [FloatOps F] (main_arg3 : IVec S96 32) (main_v0 : IVec S96 32) (main_v1 : IVec S_ 32) (main_v23 : IVec S96 1) (main_v28 : IVec S96 1) (main_v34 : IVec S96 1) (main_v37 : IVec S96 1) (main_v40 : IVec S96 1) (main_v41 : IVec S96 1) : IVec S96 1 :=
  let main_v42 : IVec S96 1 := andi main_v40 main_v41
  let main_v43 : IVec S96 1 := ori main_v37 main_v42
  let main_c_5 : IVec S_ 32 := constantI S_ 32 1#32
  let main_v44 : IVec S96 32 := broadcastInDim S96 ![] bcast_S_S96 main_c_5
  let main_v45 : IVec S96 32 := addi main_v0 main_v44
  let main_v46 : IVec S96 32 := broadcastInDim S96 ![] bcast_S_S96 main_v1
  let main_v47 : IVec S96 1 := cmpi .ne main_v45 main_v46
  let main_c_6 : IVec S_ 32 := constantI S_ 32 0#32
  let main_v48 : IVec S96 32 := broadcastInDim S96 ![] bcast_S_S96 main_c_6
  let main_v49 : IVec S96 1 := cmpi .slt main_arg3 main_v48
  let main_v50 : IVec S96 1 := ori main_v47 main_v49
  let main_c_7 : IVec S_ 32 := constantI S_ 32 1#32
  let main_v51 : IVec S_ 1 := cmpi .sge main_v1 main_c_7
  let main_c_8 : IVec S_ 32 := constantI S_ 32 96#32
  let main_v52 : IVec S_ 1 := cmpi .sle main_v1 main_c_8
  let main_v53 : IVec S_ 1 := andi main_v51 main_v52
  let main_v54 : IVec S96 1 := broadcastInDim S96 ![] bcast_S_S96 main_v53
  let main_v55 : IVec S96 1 := andi main_v54 main_v23
  let main_v56 : IVec S96 1 := andi main_v55 main_v28
  let main_v57 : IVec S96 1 := andi main_v56 main_v34
  let main_v58 : IVec S96 1 := andi main_v57 main_v43
  let main_v59 : IVec S96 1 := andi main_v58 main_v50
  main_v59

def fn_part1 {F : FTy → Type} [FloatOps F] (main_arg0 : IVec S96 32) (main_arg2 : IVec S96 32) (main_arg3 : IVec S96 32) (main_v0 : IVec S96 32) (main_v1 : IVec S_ 32) (main_v5 : IVec S96 1) (main_v8 : IVec S96 32) (main_v11 : IVec S96 32) (main_v14 : IVec S96 32) (main_v15 : IVec S96 1) (main_v17 : IVec S96 1) (main_v19 : IVec S96 1) (main_v20 : IVec S96 32) : IVec S96 1 :=
  let main_v21 : IVec S96 1 := cmpi .slt main_arg0 main_v20
  let main_v22 : IVec S96 1 := andi main_v19 main_v21
  let main_v23 : IVec S96 1 := ori main_v17 main_v22
  let main_c_2 : IVec S_ 32 := constantI S_ 32 0#32
  let main_v24 : IVec S96 32 := broadcastInDim S96 ![] bcast_S_S96 main_c_2
  let main_v25 : IVec S96 1 := cmpi .sgt main_v0 main_v24
  let main_c_3 : IVec S_ 32 := constantI S_ 32 0#32
  let main_v26 : IVec S96 32 := broadcastInDim S96 ![] bcast_S_S96 main_c_3
  let main_v27 : IVec S96 1 := cmpi .eq main_arg2 main_v26
  let main_v28 : IVec S96 1 := ori main_v25 main_v27
  let main_v29 : IVec S96 1 := andi main_v5 main_v15
  let main_v30 : IVec S96 1 := noti main_v29
  let main_v31 : IVec S96 1 := cmpi .eq main_v11 main_arg2
  let main_v32 : IVec S96 1 := cmpi .eq main_v14 main_arg3
  let main_v33 : IVec S96 1 := andi main_v31 main_v32
  let main_v34 : IVec S96 1 := ori main_v30 main_v33
  let main_v35 : IVec S96 1 := noti main_v15
  let main_v36 : IVec S96 1 := andi main_v5 main_v35
  let main_v37 : IVec S96 1 := noti main_v36
  let main_c_4 : IVec S_ 32 := constantI S_ 32 1#32
  let main_v38 : IVec S96 32 := broadcastInDim S96 ![] bcast_S_S96 main_c_4
  let main_v39 : IVec S96 32 := addi main_arg2 main_v38
  let main_v40 : IVec S96 1 := cmpi .eq main_v11 main_v39
  let main_v41 : IVec S96 1 := cmpi .eq main_arg3 main_v8
  fn_part2 (F := F) main_arg3 main_v0 main_v1 main_v23 main_v28 main_v34 main_v37 main_v40 main_v41

def fn {F : FTy → Type} [FloatOps F] (main_arg0 : IVec S96 32) (main_arg1 : IVec S1 32) (main_arg2 : IVec S96 32) (main_arg3 : IVec S96 32) (main_arg4 : FVec F S393216x128 .f32) (main_arg5 : FVec F S32x1024x256 .f32) (main_arg6 : FVec F S32x1024x256 .f32) (main_arg7 : FVec F S32x256x1024 .f32) : IVec S96 1 :=
  let main_v0 : IVec S96 32 := iotaInDim S96 32 0
  let main_v1 : IVec S_ 32 := shapeCast S_ main_arg1 shapeCasts_S1_S_
  let main_c : IVec S_ 32 := constantI S_ 32 1#32
  let main_v2 : IVec S96 32 := broadcastInDim S96 ![] bcast_S_S96 main_c
  let main_v3 : IVec S96 32 := addi main_v0 main_v2
  let main_v4 : IVec S96 32 := broadcastInDim S96 ![] bcast_S_S96 main_v1
  let main_v5 : IVec S96 1 := cmpi .slt main_v3 main_v4
  let main_v6 : IVec S95 32 := (extractStridedSlice S95 ![1] · slices_S96_S95_1) main_arg0
  let main_v7 : IVec S1 32 := (extractStridedSlice S1 ![0] · slices_S96_S1_0) main_arg0
  let main_v8 : IVec S96 32 := (fun a b => concatenate S96 0 [⟨S95, a⟩, ⟨S1, b⟩] concatenates_S95_S1_S96_d0) main_v6 main_v7
  let main_v9 : IVec S95 32 := (extractStridedSlice S95 ![1] · slices_S96_S95_1) main_arg2
  let main_v10 : IVec S1 32 := (extractStridedSlice S1 ![0] · slices_S96_S1_0) main_arg2
  let main_v11 : IVec S96 32 := (fun a b => concatenate S96 0 [⟨S95, a⟩, ⟨S1, b⟩] concatenates_S95_S1_S96_d0) main_v9 main_v10
  let main_v12 : IVec S95 32 := (extractStridedSlice S95 ![1] · slices_S96_S95_1) main_arg3
  let main_v13 : IVec S1 32 := (extractStridedSlice S1 ![0] · slices_S96_S1_0) main_arg3
  let main_v14 : IVec S96 32 := (fun a b => concatenate S96 0 [⟨S95, a⟩, ⟨S1, b⟩] concatenates_S95_S1_S96_d0) main_v12 main_v13
  let main_v15 : IVec S96 1 := cmpi .eq main_v8 main_arg0
  let main_v16 : IVec S96 32 := broadcastInDim S96 ![] bcast_S_S96 main_v1
  let main_v17 : IVec S96 1 := cmpi .sge main_v0 main_v16
  let main_c_0 : IVec S_ 32 := constantI S_ 32 0#32
  let main_v18 : IVec S96 32 := broadcastInDim S96 ![] bcast_S_S96 main_c_0
  let main_v19 : IVec S96 1 := cmpi .sge main_arg0 main_v18
  let main_c_1 : IVec S_ 32 := constantI S_ 32 32#32
  let main_v20 : IVec S96 32 := broadcastInDim S96 ![] bcast_S_S96 main_c_1
  fn_part1 (F := F) main_arg0 main_arg2 main_arg3 main_v0 main_v1 main_v5 main_v8 main_v11 main_v14 main_v15 main_v17 main_v19 main_v20
-- ==== Pre_routed.lean ====
abbrev S16384x128 : Shape := ⟨2, ![16384, 128]⟩
abbrev S32x8x128 : Shape := ⟨3, ![32, 8, 128]⟩
abbrev S32 : Shape := ⟨1, ![32]⟩
abbrev S16384x2 : Shape := ⟨2, ![16384, 2]⟩
abbrev S_ : Shape := ⟨0, ![]⟩
abbrev S32x1x32 : Shape := ⟨3, ![32, 1, 32]⟩
abbrev S32x32 : Shape := ⟨2, ![32, 32]⟩

class Facts : Prop where
  slices_S16384x128_S16384x2_0_0 : S16384x128.Slices ![0, 0] S16384x2
  bcast_S_S16384x2 : S_.BroadcastsInDim S16384x2 (![] : Fin 0 → Fin S16384x2.rank)
  reducesTo_S16384x2_S_d0_1 : S16384x2.ReducesTo [0, 1] S_
  h_S_ : 0 < S_.numel
  slices_S32x8x128_S32x1x32_0_0_0 : S32x8x128.Slices ![0, 0, 0] S32x1x32
  shapeCasts_S32x1x32_S32x32 : S32x1x32.ShapeCasts S32x32
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S16384x128 .f32) (main_arg1 : FVec F S32x8x128 .f32) (main_arg2 : IVec S32 32) : IVec S_ 1 :=
  let main_v0 : FVec F S16384x2 .f32 := (extractStridedSlice S16384x2 ![0, 0] · slices_S16384x128_S16384x2_0_0) main_arg0
  let main_cst : FVec F S_ .f32 := constant S_ .f32 0x42000000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S32x1x32 .f32 := (extractStridedSlice S32x1x32 ![0, 0, 0] · slices_S32x8x128_S32x1x32_0_0_0) main_arg1
  let main_v5 : FVec F S32x32 .f32 := shapeCast S32x32 main_v4 shapeCasts_S32x1x32_S32x32
  let main_v6 : FVec F S32x32 .f32 := Host.absf main_v5
  let main_cst_0 : FVec F S_ .f32 := constant S_ .f32 0x7F800000#32
  let main_v7 : FVec F S32x32 .f32 := broadcastInDim S32x32 ![] bcast_S_S32x32 main_cst_0
  let main_v8 : IVec S32x32 1 := cmpf .olt main_v6 main_v7
  let main_c_1 : IVec S_ 1 := constantI S_ 1 1#1
  let main_v9 : IVec S_ 1 := (fun x v => Host.reduce IntOp.andi x v reducesTo_S32x32_S_d0_1 h_S_) main_v8 main_c_1
  let main_v10 : IVec S_ 1 := andi main_v3 main_v9
  main_v10
-- ==== Pre_routed_s.lean ====
abbrev S128x128 : Shape := ⟨2, ![128, 128]⟩
abbrev S1x8x128 : Shape := ⟨3, ![1, 8, 128]⟩
abbrev S8x128 : Shape := ⟨2, ![8, 128]⟩
abbrev S32 : Shape := ⟨1, ![32]⟩
abbrev S128x2 : Shape := ⟨2, ![128, 2]⟩
abbrev S_ : Shape := ⟨0, ![]⟩
abbrev S1x1x32 : Shape := ⟨3, ![1, 1, 32]⟩
abbrev S1x32 : Shape := ⟨2, ![1, 32]⟩

class Facts : Prop where
  slices_S128x128_S128x2_0_0 : S128x128.Slices ![0, 0] S128x2
  bcast_S_S128x2 : S_.BroadcastsInDim S128x2 (![] : Fin 0 → Fin S128x2.rank)
  reducesTo_S128x2_S_d0_1 : S128x2.ReducesTo [0, 1] S_
  h_S_ : 0 < S_.numel
  slices_S1x8x128_S1x1x32_0_0_0 : S1x8x128.Slices ![0, 0, 0] S1x1x32
  shapeCasts_S1x1x32_S1x32 : S1x1x32.ShapeCasts S1x32
  slices_S8x128_S1x32_0_0 : S8x128.Slices ![0, 0] S1x32
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S128x128 .f32) (main_arg1 : FVec F S1x8x128 .f32) (main_arg2 : FVec F S8x128 .f32) (main_arg3 : IVec S32 32) : IVec S_ 1 :=
  let main_v0 : FVec F S128x2 .f32 := (extractStridedSlice S128x2 ![0, 0] · slices_S128x128_S128x2_0_0) main_arg0
  let main_cst : FVec F S_ .f32 := constant S_ .f32 0x42000000#32
  let main_v1 : FVec F S128x2 .f32 := broadcastInDim S128x2 ![] bcast_S_S128x2 main_cst
  let main_v2 : IVec S128x2 1 := cmpf .olt main_v0 main_v1
  let main_c : IVec S_ 1 := constantI S_ 1 1#1
  let main_v3 : IVec S_ 1 := (fun x v => Host.reduce IntOp.andi x v reducesTo_S128x2_S_d0_1 h_S_) main_v2 main_c
  let main_v4 : FVec F S1x1x32 .f32 := (extractStridedSlice S1x1x32 ![0, 0, 0] · slices_S1x8x128_S1x1x32_0_0_0) main_arg1
  let main_v5 : FVec F S1x32 .f32 := shapeCast S1x32 main_v4 shapeCasts_S1x1x32_S1x32
  let main_v6 : FVec F S1x32 .f32 := (extractStridedSlice S1x32 ![0, 0] · slices_S8x128_S1x32_0_0) main_arg2
  let main_v7 : FVec F S1x32 .f32 := addf main_v5 main_v6
  let main_v8 : FVec F S1x32 .f32 := Host.absf main_v7
  let main_cst_0 : FVec F S_ .f32 := constant S_ .f32 0x7F800000#32
  let main_v9 : FVec F S1x32 .f32 := broadcastInDim S1x32 ![] bcast_S_S1x32 main_cst_0
  let main_v10 : IVec S1x32 1 := cmpf .olt main_v8 main_v9
  let main_c_1 : IVec S_ 1 := constantI S_ 1 1#1
  let main_v11 : IVec S_ 1 := (fun x v => Host.reduce IntOp.andi x v reducesTo_S1x32_S_d0_1 h_S_) main_v10 main_c_1
  let main_v12 : IVec S_ 1 := andi main_v3 main_v11
  main_v12
-- ==== Kernel.lean ====
abbrev S128x1x1024 : Shape := ⟨3, ![128, 1, 1024]⟩
abbrev S8x1024 : Shape := ⟨2, ![8, 1024]⟩
abbrev S128x1024 : Shape := ⟨2, ![128, 1024]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x128x30x512 : Shape := ⟨4, ![1, 128, 30, 512]⟩
abbrev S1x1024x6144 : Shape := ⟨3, ![1, 1024, 6144]⟩
abbrev S1x6144 : Shape := ⟨2, ![1, 6144]⟩
abbrev S1x1024 : Shape := ⟨2, ![1, 1024]⟩
abbrev S1x1024x3080 : Shape := ⟨3, ![1, 1024, 3080]⟩
abbrev S1x4 : Shape := ⟨2, ![1, 4]⟩
abbrev S1x31x1x512 : Shape := ⟨4, ![1, 31, 1, 512]⟩
abbrev S1x512 : Shape := ⟨2, ![1, 512]⟩
abbrev S1024x3080 : Shape := ⟨2, ![1024, 3080]⟩
abbrev S1024x2048 : Shape := ⟨2, ![1024, 2048]⟩
abbrev S1024x8 : Shape := ⟨2, ![1024, 8]⟩
abbrev S1024x1024 : Shape := ⟨2, ![1024, 1024]⟩
abbrev S1024x3072 : Shape := ⟨2, ![1024, 3072]⟩
abbrev S1024x512 : Shape := ⟨2, ![1024, 512]⟩
abbrev S512x1024 : Shape := ⟨2, ![512, 1024]⟩
abbrev S512x512 : Shape := ⟨2, ![512, 512]⟩
abbrev S_ : Shape := ⟨0, ![]⟩
abbrev S1024x128 : Shape := ⟨2, ![1024, 128]⟩
abbrev S4 : Shape := ⟨1, ![4]⟩
abbrev S8 : Shape := ⟨1, ![8]⟩
abbrev S128 : Shape := ⟨1, ![128]⟩
abbrev S1x128 : Shape := ⟨2, ![1, 128]⟩
abbrev S1024 : Shape := ⟨1, ![1024]⟩
abbrev S31x1x512 : Shape := ⟨3, ![31, 1, 512]⟩
abbrev S31x512 : Shape := ⟨2, ![31, 512]⟩
abbrev S512 : Shape := ⟨1, ![512]⟩
abbrev S1024x6144 : Shape := ⟨2, ![1024, 6144]⟩
abbrev S6144 : Shape := ⟨1, ![6144]⟩
abbrev S8x6144 : Shape := ⟨2, ![8, 6144]⟩
abbrev S128x6144 : Shape := ⟨2, ![128, 6144]⟩
abbrev S128x4x128 : Shape := ⟨3, ![128, 4, 128]⟩
abbrev S128x4 : Shape := ⟨2, ![128, 4]⟩
abbrev S128x30x512 : Shape := ⟨3, ![128, 30, 512]⟩
abbrev S128x4x128x128 : Shape := ⟨4, ![128, 4, 128, 128]⟩
abbrev S30x128x512 : Shape := ⟨3, ![30, 128, 512]⟩
abbrev S128x128 : Shape := ⟨2, ![128, 128]⟩
abbrev S128x512 : Shape := ⟨2, ![128, 512]⟩
abbrev S512x128 : Shape := ⟨2, ![512, 128]⟩
abbrev S128x1 : Shape := ⟨2, ![128, 1]⟩
abbrev S128x3072 : Shape := ⟨2, ![128, 3072]⟩
abbrev S1x128x512 : Shape := ⟨3, ![1, 128, 512]⟩
abbrev S8x4x128x128 : Shape := ⟨4, ![8, 4, 128, 128]⟩
abbrev S8x512 : Shape := ⟨2, ![8, 512]⟩
abbrev S1x1x128x128 : Shape := ⟨4, ![1, 1, 128, 128]⟩
abbrev S128x29x512 : Shape := ⟨3, ![128, 29, 512]⟩
abbrev S128x1x512 : Shape := ⟨3, ![128, 1, 512]⟩

abbrev nBuf : Space → Nat
  | .hbm => 87
  | .vmem => 63
  | .smem => 0
  | _ => 0

abbrev bufTy : (tb : Table) → Fin (tcTables nBuf tb) → BufTy
  | .hbm, ⟨0, _⟩ => ⟨S128x1x1024, .f32⟩
  | .hbm, ⟨1, _⟩ => ⟨S8x1024, .f32⟩
  | .hbm, ⟨2, _⟩ => ⟨S128x1024, .f32⟩
  | .hbm, ⟨3, _⟩ => ⟨S1x128x4x128x128, .f32⟩
  | .hbm, ⟨4, _⟩ => ⟨S1x128x4x128, .f32⟩
  | .hbm, ⟨5, _⟩ => ⟨S1x128x4, .f32⟩
  | .hbm, ⟨6, _⟩ => ⟨S1x128x30x512, .f32⟩
  | .hbm, ⟨7, _⟩ => ⟨S1x1024x6144, .f32⟩
  | .hbm, ⟨8, _⟩ => ⟨S1x6144, .f32⟩
  | .hbm, ⟨9, _⟩ => ⟨S1x1024, .f32⟩
  | .hbm, ⟨10, _⟩ => ⟨S1x1024x3080, .f32⟩
  | .hbm, ⟨11, _⟩ => ⟨S1x4, .f32⟩
  | .hbm, ⟨12, _⟩ => ⟨S1x4, .f32⟩
  | .hbm, ⟨13, _⟩ => ⟨S1x31x1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1024x3080, .f32⟩
  | .hbm, ⟨18, _⟩ => ⟨S1024x2048, .f32⟩
  | .hbm, ⟨19, _⟩ => ⟨S1024x8, .f32⟩
  | .hbm, ⟨20, _⟩ => ⟨S1024x1024, .f32⟩
  | .hbm, ⟨21, _⟩ => ⟨S1024x3072, .f32⟩
  | .hbm, ⟨22, _⟩ => ⟨S1024x3072, .bf16⟩
  | .hbm, ⟨23, _⟩ => ⟨S1024x3072, .bf16⟩
  | .hbm, ⟨24, _⟩ => ⟨S1024x512, .f32⟩
  | .hbm, ⟨25, _⟩ => ⟨S512x1024, .f32⟩
  | .hbm, ⟨26, _⟩ => ⟨S512x1024, .bf16⟩
  | .hbm, ⟨27, _⟩ => ⟨S512x1024, .bf16⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x128, .bf16⟩
  | .hbm, ⟨32, _⟩ => ⟨S1024x128, .bf16⟩
  | .hbm, ⟨33, _⟩ => ⟨S4, .f32⟩
  | .hbm, ⟨34, _⟩ => ⟨S4, .f32⟩
  | .hbm, ⟨35, _⟩ => ⟨S8, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S1024, .f32⟩
  | .hbm, ⟨41, _⟩ => ⟨S1x1024, .f32⟩
  | .hbm, ⟨42, _⟩ => ⟨S31x1x512, .f32⟩
  | .hbm, ⟨43, _⟩ => ⟨S31x512, .f32⟩
  | .hbm, ⟨44, _⟩ => ⟨S512, .f32⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S8x6144, .f32⟩
  | .hbm, ⟨54, _⟩ => ⟨S128x6144, .f32⟩
  | .hbm, ⟨55, _⟩ => ⟨S128x1024, .f32⟩
  | .hbm, ⟨56, _⟩ => ⟨S128x4x128, .f32⟩
  | .hbm, ⟨57, _⟩ => ⟨S128x4, .f32⟩
  | .hbm, ⟨58, _⟩ => ⟨S128x30x512, .f32⟩
  | .hbm, ⟨59, _⟩ => ⟨S128x4x128x128, .f32⟩
  | .hbm, ⟨60, _⟩ => ⟨S30x128x512, .f32⟩
  | .hbm, ⟨61, _⟩ => ⟨S_, .i32⟩
  | .hbm, ⟨62, _⟩ => ⟨S_, .f32⟩
  | .hbm, ⟨63, _⟩ => ⟨S128x128, .f32⟩
  | .hbm, ⟨64, _⟩ => ⟨S128x512, .f32⟩
  | .hbm, ⟨65, _⟩ => ⟨S128x512, .f32⟩
  | .hbm, ⟨66, _⟩ => ⟨S512x128, .bf16⟩
  | .hbm, ⟨67, _⟩ => ⟨S128x512, .bf16⟩
  | .hbm, ⟨68, _⟩ => ⟨S128x512, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S128x512, .f32⟩
  | .hbm, ⟨74, _⟩ => ⟨S128x512, .f32⟩
  | .hbm, ⟨75, _⟩ => ⟨S128x512, .f32⟩
  | .hbm, ⟨76, _⟩ => ⟨S128x128, .f32⟩
  | .hbm, ⟨77, _⟩ => ⟨S128x4x128x128, .f32⟩
  | .hbm, ⟨78, _⟩ => ⟨S128x512, .f32⟩
  | .hbm, ⟨79, _⟩ => ⟨S128x29x512, .f32⟩
  | .hbm, ⟨80, _⟩ => ⟨S128x1x512, .f32⟩
  | .hbm, ⟨81, _⟩ => ⟨S128x30x512, .f32⟩
  | .hbm, ⟨82, _⟩ => ⟨S1x128x4x128x128, .f32⟩
  | .hbm, ⟨83, _⟩ => ⟨S1x128x4x128, .f32⟩
  | .hbm, ⟨84, _⟩ => ⟨S128x4, .f32⟩
  | .hbm, ⟨85, _⟩ => ⟨S1x128x4, .f32⟩
  | .hbm, ⟨86, _⟩ => ⟨S1x128x30x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x128, .f32⟩
  | .local _ .vmem, ⟨13, _⟩ => ⟨S1024x128, .bf16⟩
  | .local _ .vmem, ⟨14, _⟩ => ⟨S1024x128, .bf16⟩
  | .local _ .vmem, ⟨15, _⟩ => ⟨S8x1024, .f32⟩
  | .local _ .vmem, ⟨16, _⟩ => ⟨S128x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S8x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x6144, .f32⟩
  | .local _ .vmem, ⟨27, _⟩ => ⟨S1x1024, .f32⟩
  | .local _ .vmem, ⟨28, _⟩ => ⟨S1024x3072, .bf16⟩
  | .local _ .vmem, ⟨29, _⟩ => ⟨S1024x3072, .bf16⟩
  | .local _ .vmem, ⟨30, _⟩ => ⟨S1024x128, .bf16⟩
  | .local _ .vmem, ⟨31, _⟩ => ⟨S1024x128, .bf16⟩
  | .local _ .vmem, ⟨32, _⟩ => ⟨S1x128, .f32⟩
  | .local _ .vmem, ⟨33, _⟩ => ⟨S512x1024, .bf16⟩
  | .local _ .vmem, ⟨34, _⟩ => ⟨S512x1024, .bf16⟩
  | .local _ .vmem, ⟨35, _⟩ => ⟨S31x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S30x128x512, .f32⟩
  | .local _ .vmem, ⟨40, _⟩ => ⟨S128x512, .f32⟩
  | .local _ .vmem, ⟨41, _⟩ => ⟨S128x128, .f32⟩
  | .local _ .vmem, ⟨42, _⟩ => ⟨S128x512, .f32⟩
  | .local _ .vmem, ⟨43, _⟩ => ⟨S512x128, .bf16⟩
  | .local _ .vmem, ⟨44, _⟩ => ⟨S128x512, .bf16⟩
  | .local _ .vmem, ⟨45, _⟩ => ⟨S128x512, .f32⟩
  | .local _ .vmem, ⟨46, _⟩ => ⟨S128x512, .f32⟩
  | .local _ .vmem, ⟨47, _⟩ => ⟨S128x512, .f32⟩
  | .local _ .vmem, ⟨48, _⟩ => ⟨S128x512, .f32⟩
  | .local _ .vmem, ⟨49, _⟩ => ⟨S128x512, .f32⟩
  | .local _ .vmem, ⟨50, _⟩ => ⟨S128x512, .f32⟩
  | .local _ .vmem, ⟨51, _⟩ => ⟨S128x512, .f32⟩
  | .local _ .vmem, ⟨52, _⟩ => ⟨S128x512, .f32⟩
  | .local _ .vmem, ⟨53, _⟩ => ⟨S128x128, .f32⟩
  | .local _ .vmem, ⟨54, _⟩ => ⟨S128x512, .f32⟩
  | .local _ .vmem, ⟨55, _⟩ => ⟨S512x128, .bf16⟩
  | .local _ .vmem, ⟨56, _⟩ => ⟨S128x512, .bf16⟩
  | .local _ .vmem, ⟨57, _⟩ => ⟨S128x512, .f32⟩
  | .local _ .vmem, ⟨58, _⟩ => ⟨S8x4x128x128, .f32⟩
  | .local _ .vmem, ⟨59, _⟩ => ⟨S8x4x128x128, .f32⟩
  | .local _ .vmem, ⟨60, _⟩ => ⟨S8x4x128x128, .f32⟩
  | .local _ .vmem, ⟨61, _⟩ => ⟨S8x4x128x128, .f32⟩
  | .local _ .vmem, ⟨62, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_c : Ref sig .tc := ⟨.hbm, 28, rfl⟩
abbrev main_call0_v0 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_1 : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_v38_0 : Ref sig .tc := ⟨.hbm, 65, rfl⟩
abbrev main_v38_1 : Ref sig .tc := ⟨.hbm, 66, rfl⟩
abbrev main_v38_2 : Ref sig .tc := ⟨.hbm, 67, rfl⟩
abbrev main_v38_3 : Ref sig .tc := ⟨.hbm, 68, rfl⟩
abbrev main_v38_4 : Ref sig .tc := ⟨.hbm, 69, rfl⟩
abbrev main_v38_5 : Ref sig .tc := ⟨.hbm, 70, rfl⟩
abbrev main_v38_6 : Ref sig .tc := ⟨.hbm, 71, rfl⟩
abbrev main_v38_7 : Ref sig .tc := ⟨.hbm, 72, rfl⟩
abbrev main_v38_8 : Ref sig .tc := ⟨.hbm, 73, rfl⟩
abbrev main_v38_9 : Ref sig .tc := ⟨.hbm, 74, rfl⟩
abbrev main_v38_10 : Ref sig .tc := ⟨.hbm, 75, rfl⟩
abbrev main_v38_11 : Ref sig .tc := ⟨.hbm, 76, rfl⟩
abbrev main_v39_0 : Ref sig .tc := ⟨.hbm, 77, rfl⟩
abbrev main_v39_1 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_stg8_0 : Ref sig .tc := ⟨.vmem, 33, rfl⟩
abbrev cc4_stg9_0 : Ref sig .tc := ⟨.vmem, 34, rfl⟩
abbrev cc4_stg10_0 : Ref sig .tc := ⟨.vmem, 35, rfl⟩
abbrev cc4_stg11_0 : Ref sig .tc := ⟨.vmem, 36, rfl⟩
abbrev cc4_stg12_0 : Ref sig .tc := ⟨.vmem, 37, rfl⟩
abbrev cc4_stg13_0 : Ref sig .tc := ⟨.vmem, 38, rfl⟩
abbrev cc4_stg14_0 : Ref sig .tc := ⟨.vmem, 39, rfl⟩
abbrev cc4_stg15_0 : Ref sig .tc := ⟨.vmem, 40, rfl⟩
abbrev cc4_stg16_0 : Ref sig .tc := ⟨.vmem, 41, rfl⟩
abbrev cc4_stg17_0 : Ref sig .tc := ⟨.vmem, 42, rfl⟩
abbrev cc4_stg18_0 : Ref sig .tc := ⟨.vmem, 43, rfl⟩
abbrev cc4_stg19_0 : Ref sig .tc := ⟨.vmem, 44, rfl⟩
abbrev cc4_stg20_0 : Ref sig .tc := ⟨.vmem, 45, rfl⟩
abbrev cc4_stg21_0 : Ref sig .tc := ⟨.vmem, 46, rfl⟩
abbrev cc4_stg22_0 : Ref sig .tc := ⟨.vmem, 47, rfl⟩
abbrev cc4_stg23_0 : Ref sig .tc := ⟨.vmem, 48, rfl⟩
abbrev cc4_stg24_0 : Ref sig .tc := ⟨.vmem, 49, rfl⟩
abbrev cc4_stg25_0 : Ref sig .tc := ⟨.vmem, 50, rfl⟩
abbrev cc4_stg26_0 : Ref sig .tc := ⟨.vmem, 51, rfl⟩
abbrev cc4_stg27_0 : Ref sig .tc := ⟨.vmem, 52, rfl⟩
abbrev cc4_stg28_0 : Ref sig .tc := ⟨.vmem, 53, rfl⟩
abbrev cc5_stg0_0 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc4_sem0_0 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32
abbrev cc4_sem8_0 : DmaSem sig := 33
abbrev cc4_sem9_0 : DmaSem sig := 34
abbrev cc4_sem10_0 : DmaSem sig := 35
abbrev cc4_sem11_0 : DmaSem sig := 36
abbrev cc4_sem12_0 : DmaSem sig := 37
abbrev cc4_sem13_0 : DmaSem sig := 38
abbrev cc4_sem14_0 : DmaSem sig := 39
abbrev cc4_sem15_0 : DmaSem sig := 40
abbrev cc4_sem16_0 : DmaSem sig := 41
abbrev cc4_sem17_0 : DmaSem sig := 42
abbrev cc4_sem18_0 : DmaSem sig := 43
abbrev cc4_sem19_0 : DmaSem sig := 44
abbrev cc4_sem20_0 : DmaSem sig := 45
abbrev cc4_sem21_0 : DmaSem sig := 46
abbrev cc4_sem22_0 : DmaSem sig := 47
abbrev cc4_sem23_0 : DmaSem sig := 48
abbrev cc4_sem24_0 : DmaSem sig := 49
abbrev cc4_sem25_0 : DmaSem sig := 50
abbrev cc4_sem26_0 : DmaSem sig := 51
abbrev cc4_sem27_0 : DmaSem sig := 52
abbrev cc4_sem28_0 : DmaSem sig := 53
abbrev cc5_sem0_0 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem4_1 : DmaSem sig := 59
abbrev cc5_sem5_0 : DmaSem sig := 60
abbrev cc5_sem5_1 : DmaSem sig := 61
abbrev cc5_sem6_0 : DmaSem sig := 62

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S8x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_20 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_21 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_22 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_23 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_24 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_25 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_26 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_27 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_28 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x6144 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x3072 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x3072 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x128 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S512x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x1024 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S31x512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x512 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x512 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x512 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S30x128x512 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S128x512 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S128x128 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S128x512 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S512x128 .bf16 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 1 → Memref sig .tc .vmem S128x512 .bf16 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false]

abbrev stage4_20 : Fin 1 → Memref sig .tc .vmem S128x512 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))
abbrev reads4_20 : Fin grid4.rank → Bool := ![false]

abbrev stage4_21 : Fin 1 → Memref sig .tc .vmem S128x512 .f32 := fun | 0 => Memref.whole cc4_stg21_0 | ⟨_ + 1, h⟩ => absurd h (Nat.not_lt.2 (Nat.le_add_left _ _))
abbrev sem4_21 : Fin 1 → DmaSem sig := fun | 0 => cc4_sem21_0 | ⟨_ + 1, h⟩ => absurd h (Nat.not_lt.2 (Nat.le_add_left _ _))
abbrev reads4_21 : Fin grid4.rank → Bool := ![false]

abbrev stage4_22 : Fin 1 → Memref sig .tc .vmem S128x512 .f32 := fun | 0 => Memref.whole cc4_stg22_0 | ⟨_ + 1, h⟩ => absurd h (Nat.not_lt.2 (Nat.le_add_left _ _))
abbrev sem4_22 : Fin 1 → DmaSem sig := fun | 0 => cc4_sem22_0 | ⟨_ + 1, h⟩ => absurd h (Nat.not_lt.2 (Nat.le_add_left _ _))
abbrev reads4_22 : Fin grid4.rank → Bool := ![false]

abbrev stage4_23 : Fin 1 → Memref sig .tc .vmem S128x512 .f32 := fun | 0 => Memref.whole cc4_stg23_0 | ⟨_ + 1, h⟩ => absurd h (Nat.not_lt.2 (Nat.le_add_left _ _))
abbrev sem4_23 : Fin 1 → DmaSem sig := fun | 0 => cc4_sem23_0 | ⟨_ + 1, h⟩ => absurd h (Nat.not_lt.2 (Nat.le_add_left _ _))
abbrev reads4_23 : Fin grid4.rank → Bool := ![false]

abbrev stage4_24 : Fin 1 → Memref sig .tc .vmem S128x512 .f32 := fun | 0 => Memref.whole cc4_stg24_0 | ⟨_ + 1, h⟩ => absurd h (Nat.not_lt.2 (Nat.le_add_left _ _))
abbrev sem4_24 : Fin 1 → DmaSem sig := fun | 0 => cc4_sem24_0 | ⟨_ + 1, h⟩ => absurd h (Nat.not_lt.2 (Nat.le_add_left _ _))
abbrev reads4_24 : Fin grid4.rank → Bool := ![false]

abbrev stage4_25 : Fin 1 → Memref sig .tc .vmem S128x512 .f32 := fun | 0 => Memref.whole cc4_stg25_0 | ⟨_ + 1, h⟩ => absurd h (Nat.not_lt.2 (Nat.le_add_left _ _))
abbrev sem4_25 : Fin 1 → DmaSem sig := fun | 0 => cc4_sem25_0 | ⟨_ + 1, h⟩ => absurd h (Nat.not_lt.2 (Nat.le_add_left _ _))
abbrev reads4_25 : Fin grid4.rank → Bool := ![false]

abbrev stage4_26 : Fin 1 → Memref sig .tc .vmem S128x512 .f32 := fun | 0 => Memref.whole cc4_stg26_0 | ⟨_ + 1, h⟩ => absurd h (Nat.not_lt.2 (Nat.le_add_left _ _))
abbrev sem4_26 : Fin 1 → DmaSem sig := fun | 0 => cc4_sem26_0 | ⟨_ + 1, h⟩ => absurd h (Nat.not_lt.2 (Nat.le_add_left _ _))
abbrev reads4_26 : Fin grid4.rank → Bool := ![false]

abbrev stage4_27 : Fin 1 → Memref sig .tc .vmem S128x512 .f32 := fun | 0 => Memref.whole cc4_stg27_0 | ⟨_ + 1, h⟩ => absurd h (Nat.not_lt.2 (Nat.le_add_left _ _))
abbrev sem4_27 : Fin 1 → DmaSem sig := fun | 0 => cc4_sem27_0 | ⟨_ + 1, h⟩ => absurd h (Nat.not_lt.2 (Nat.le_add_left _ _))
abbrev reads4_27 : Fin grid4.rank → Bool := ![false]

abbrev stage4_28 : Fin 1 → Memref sig .tc .vmem S128x128 .f32 := fun | 0 => Memref.whole cc4_stg28_0 | ⟨_ + 1, h⟩ => absurd h (Nat.not_lt.2 (Nat.le_add_left _ _))
abbrev sem4_28 : Fin 1 → DmaSem sig := fun | 0 => cc4_sem28_0 | ⟨_ + 1, h⟩ => absurd h (Nat.not_lt.2 (Nat.le_add_left _ _))
abbrev reads4_28 : Fin grid4.rank → Bool := ![false]

abbrev grid5 : Pipeline.Grid := ⟨1, ![16], ![false]⟩

def k5_mult1 (i : grid5.Coords) : BitVec 32 :=
  let arg0 : BitVec 32 := BitVec.ofNat 32 (i 0).val
  let c8_i32 : BitVec 32 := 8#32
  let v4 : BitVec 32 := Scalar.muli arg0 c8_i32
  v4
def k5_off1 (i : grid5.Coords) : Fin 2 → Nat :=
  let arg0 : BitVec 32 := BitVec.ofNat 32 (i 0).val
  let c8_i32 : BitVec 32 := 8#32
  let v4 : BitVec 32 := Scalar.muli arg0 c8_i32
  let v5 : BitVec 32 := v4
  let v6 : Index := Scalar.indexCast v5
  let c0 : Index := 0#32
  ![v6.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_5 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8x4x128x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S8x4x128x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S128x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]
-- ==== ReferenceIdeal.lean ====
abbrev S128x1x1024 : Shape := ⟨3, ![128, 1, 1024]⟩
abbrev S8x1024 : Shape := ⟨2, ![8, 1024]⟩
abbrev S128x1024 : Shape := ⟨2, ![128, 1024]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x128x30x512 : Shape := ⟨4, ![1, 128, 30, 512]⟩
abbrev S1x1024x6144 : Shape := ⟨3, ![1, 1024, 6144]⟩
abbrev S1x6144 : Shape := ⟨2, ![1, 6144]⟩
abbrev S1x1024 : Shape := ⟨2, ![1, 1024]⟩
abbrev S1x1024x3080 : Shape := ⟨3, ![1, 1024, 3080]⟩
abbrev S1x4 : Shape := ⟨2, ![1, 4]⟩
abbrev S1x31x1x512 : Shape := ⟨4, ![1, 31, 1, 512]⟩
abbrev S1x512 : Shape := ⟨2, ![1, 512]⟩
abbrev S128x4x128x128 : Shape := ⟨4, ![128, 4, 128, 128]⟩
abbrev S128x4x128 : Shape := ⟨3, ![128, 4, 128]⟩
abbrev S128x4 : Shape := ⟨2, ![128, 4]⟩
abbrev S128x30x512 : Shape := ⟨3, ![128, 30, 512]⟩
abbrev S_ : Shape := ⟨0, ![]⟩
abbrev S1024x6144 : Shape := ⟨2, ![1024, 6144]⟩
abbrev S128x6144 : Shape := ⟨2, ![128, 6144]⟩
abbrev S6144 : Shape := ⟨1, ![6144]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x3080 : Shape := ⟨2, ![1024, 3080]⟩
abbrev S128x1x3080 : Shape := ⟨3, ![128, 1, 3080]⟩
abbrev S128x1x512 : Shape := ⟨3, ![128, 1, 512]⟩
abbrev S128x1x4 : Shape := ⟨3, ![128, 1, 4]⟩
abbrev S128x1x4x128 : Shape := ⟨4, ![128, 1, 4, 128]⟩
abbrev S128x4x1x128 : Shape := ⟨4, ![128, 4, 1, 128]⟩
abbrev S4 : Shape := ⟨1, ![4]⟩
abbrev S1x1x4 : Shape := ⟨3, ![1, 1, 4]⟩
abbrev S128x4x1 : Shape := ⟨3, ![128, 4, 1]⟩
abbrev S1x1 : Shape := ⟨2, ![1, 1]⟩
abbrev S128x4x1x1 : Shape := ⟨4, ![128, 4, 1, 1]⟩
abbrev S128x31x512 : Shape := ⟨3, ![128, 31, 512]⟩
abbrev S31x512 : Shape := ⟨2, ![31, 512]⟩
abbrev S1x31x512 : Shape := ⟨3, ![1, 31, 512]⟩
abbrev S128x512 : Shape := ⟨2, ![128, 512]⟩
abbrev S512 : Shape := ⟨1, ![512]⟩
abbrev S128 : Shape := ⟨1, ![128]⟩

abbrev nBuf : Space → Nat
  | .hbm => 229
  | .vmem => 0
  | .smem => 0
  | _ => 0

abbrev hbmTy0_0 (i : Nat) : BufTy := match i % 128 with
  | 0 => ⟨S128x1x1024, .f32⟩
  | 1 => ⟨S8x1024, .f32⟩
  | 2 => ⟨S128x1024, .f32⟩
  | 3 => ⟨S1x128x4x128x128, .f32⟩
  | 4 => ⟨S1x128x4x128, .f32⟩
  | 5 => ⟨S1x128x4, .f32⟩
  | 6 => ⟨S1x128x30x512, .f32⟩
  | 7 => ⟨S1x1024x6144, .f32⟩
  | 8 => ⟨S1x6144, .f32⟩
  | 9 => ⟨S1x1024, .f32⟩
  | 10 => ⟨S1x1024x3080, .f32⟩
  | 11 => ⟨S1x4, .f32⟩
  | 12 => ⟨S1x4, .f32⟩
  | 13 => ⟨S1x31x1x512, .f32⟩
  | 14 => ⟨S1x512, .f32⟩
  | 15 => ⟨S1x512, .f32⟩
  | 16 => ⟨S1x512, .f32⟩
  | 17 => ⟨S128x4x128x128, .f32⟩
  | 18 => ⟨S128x4x128, .f32⟩
  | 19 => ⟨S128x4, .f32⟩
  | 20 => ⟨S128x30x512, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S128x1024, .f32⟩
  | 28 => ⟨S128x1024, .f32⟩
  | 29 => ⟨S128x1024, .f32⟩
  | 30 => ⟨S1024x6144, .f32⟩
  | 31 => ⟨S128x6144, .f32⟩
  | 32 => ⟨S6144, .f32⟩
  | 33 => ⟨S1x6144, .f32⟩
  | 34 => ⟨S128x6144, .f32⟩
  | 35 => ⟨S128x6144, .f32⟩
  | 36 => ⟨S128x1024, .f32⟩
  | 37 => ⟨S128x1024, .f32⟩
  | 38 => ⟨S128x1024, .f32⟩
  | 39 => ⟨S128x1024, .f32⟩
  | 40 => ⟨S128x1024, .f32⟩
  | 41 => ⟨S128x1024, .f32⟩
  | 42 => ⟨S1024, .f32⟩
  | 43 => ⟨S128x1x1024, .f32⟩
  | 44 => ⟨S_, .f32⟩
  | 45 => ⟨S128x1, .f32⟩
  | 46 => ⟨S128x1x1, .f32⟩
  | 47 => ⟨S_, .f32⟩
  | 48 => ⟨S128x1x1, .f32⟩
  | 49 => ⟨S128x1x1, .f32⟩
  | 50 => ⟨S_, .f32⟩
  | 51 => ⟨S128x1x1, .f32⟩
  | 52 => ⟨S128x1x1, .f32⟩
  | 53 => ⟨S128x1x1, .f32⟩
  | 54 => ⟨S128x1x1024, .f32⟩
  | 55 => ⟨S128x1x1024, .f32⟩
  | 56 => ⟨S1x1x1024, .f32⟩
  | 57 => ⟨S128x1x1024, .f32⟩
  | 58 => ⟨S128x1x1024, .f32⟩
  | 59 => ⟨S128x1x1024, .f32⟩
  | 60 => ⟨S_, .f32⟩
  | 61 => ⟨S128x1x1024, .f32⟩
  | 62 => ⟨S128x1x1024, .f32⟩
  | 63 => ⟨S128x1x1024, .f32⟩
  | 64 => ⟨S128x1x1024, .f32⟩
  | 65 => ⟨S128x1x1024, .f32⟩
  | 66 => ⟨S1024x3080, .f32⟩
  | 67 => ⟨S128x1x3080, .f32⟩
  | 68 => ⟨S128x1x512, .f32⟩
  | 69 => ⟨S128x1x512, .f32⟩
  | 70 => ⟨S128x1x512, .f32⟩
  | 71 => ⟨S128x1x512, .f32⟩
  | 72 => ⟨S128x1x4, .f32⟩
  | 73 => ⟨S128x1x4, .f32⟩
  | 74 => ⟨S128x1x512, .f32⟩
  | 75 => ⟨S128x1x512, .f32⟩
  | 76 => ⟨S128x1x4x128, .f32⟩
  | 77 => ⟨S128x4x1x128, .f32⟩
  | 78 => ⟨S_, .f32⟩
  | 79 => ⟨S128x4x1x128, .f32⟩
  | 80 => ⟨S128x4x1x128, .f32⟩
  | 81 => ⟨S128x1x4x128, .f32⟩
  | 82 => ⟨S128x4x1x128, .f32⟩
  | 83 => ⟨S4, .f32⟩
  | 84 => ⟨S1x1x4, .f32⟩
  | 85 => ⟨S128x1x4, .f32⟩
  | 86 => ⟨S128x1x4, .f32⟩
  | 87 => ⟨S128x4x1, .f32⟩
  | 88 => ⟨S4, .f32⟩
  | 89 => ⟨S1x1x4, .f32⟩
  | 90 => ⟨S128x1x4, .f32⟩
  | 91 => ⟨S128x1x4, .f32⟩
  | 92 => ⟨S128x4x1, .f32⟩
  | 93 => ⟨S128x4x1, .f32⟩
  | 94 => ⟨S_, .f32⟩
  | 95 => ⟨S128x4x1, .f32⟩
  | 96 => ⟨S128x4x1, .f32⟩
  | 97 => ⟨S128x4x1, .f32⟩
  | 98 => ⟨S128x4x1, .f32⟩
  | 99 => ⟨S128x4x1, .i1⟩
  | 100 => ⟨S128x4x1, .f32⟩
  | 101 => ⟨S128x4x1, .f32⟩
  | 102 => ⟨S128x4x1, .f32⟩
  | 103 => ⟨S128x4x1, .f32⟩
  | 104 => ⟨S128x4x1, .f32⟩
  | 105 => ⟨S128x4x1, .f32⟩
  | 106 => ⟨S128x4x1, .f32⟩
  | 107 => ⟨S128x4x1, .f32⟩
  | 108 => ⟨S128x4x1, .f32⟩
  | 109 => ⟨S_, .i1⟩
  | 110 => ⟨S1x1, .i1⟩
  | 111 => ⟨S1x1, .i32⟩
  | 112 => ⟨S_, .i32⟩
  | 113 => ⟨S1x1, .i32⟩
  | 114 => ⟨S1x1, .i32⟩
  | 115 => ⟨S1x1, .i32⟩
  | 116 => ⟨S1x1, .i1⟩
  | 117 => ⟨S_, .i1⟩
  | 118 => ⟨S1x1, .i1⟩
  | 119 => ⟨S1x1, .i1⟩
  | 120 => ⟨S_, .f32⟩
  | 121 => ⟨S_, .f32⟩
  | 122 => ⟨S128x4x1, .f32⟩
  | 123 => ⟨S128x4x1x1, .f32⟩
  | 124 => ⟨S128x4x1x1, .f32⟩
  | 125 => ⟨S128x4x1x1, .f32⟩
  | 126 => ⟨S128x4x1x1, .f32⟩
  | 127 => ⟨S128x4x1x1, .f32⟩
  | _ => ⟨S128x1x1024, .f32⟩

abbrev hbmTy0_1 (i : Nat) : BufTy := match i % 128 with
  | 0 => ⟨S_, .f32⟩
  | 1 => ⟨S_, .f32⟩
  | 2 => ⟨S128x4x1x1, .i1⟩
  | 3 => ⟨S128x4x1x1, .f32⟩
  | 4 => ⟨S128x4x1x1, .f32⟩
  | 5 => ⟨S128x4x1, .f32⟩
  | 6 => ⟨S128x4x1, .f32⟩
  | 7 => ⟨S_, .f32⟩
  | 8 => ⟨S128x4x1, .f32⟩
  | 9 => ⟨S128x4x1, .f32⟩
  | 10 => ⟨S128x4, .f32⟩
  | 11 => ⟨S128x4x1, .f32⟩
  | 12 => ⟨S128x4x1, .f32⟩
  | 13 => ⟨S128x4x1, .f32⟩
  | 14 => ⟨S128x4x1, .f32⟩
  | 15 => ⟨S128x4, .f32⟩
  | 16 => ⟨S128x4, .f32⟩
  | 17 => ⟨S128x4, .f32⟩
  | 18 => ⟨S128x4, .f32⟩
  | 19 => ⟨S128x4x1x1, .f32⟩
  | 20 => ⟨S128x4x128x128, .f32⟩
  | 21 => ⟨S128x4x128x128, .f32⟩
  | 22 => ⟨S128x4x1x1, .f32⟩
  | 23 => ⟨S128x4x1x128, .f32⟩
  | 24 => ⟨S128x4x1x128, .f32⟩
  | 25 => ⟨S128x4x128x128, .f32⟩
  | 26 => ⟨S128x4x128x128, .f32⟩
  | 27 => ⟨S128x4x1, .f32⟩
  | 28 => ⟨S128x4x128, .f32⟩
  | 29 => ⟨S128x4x128, .f32⟩
  | 30 => ⟨S128x4x1x1, .f32⟩
  | 31 => ⟨S128x4x1x128, .f32⟩
  | 32 => ⟨S128x4x1x128, .f32⟩
  | 33 => ⟨S_, .f32⟩
  | 34 => ⟨S128x4x128, .f32⟩
  | 35 => ⟨S128x4x128, .f32⟩
  | 36 => ⟨S128x1x512, .f32⟩
  | 37 => ⟨S128x1x512, .f32⟩
  | 38 => ⟨S_, .f32⟩
  | 39 => ⟨S128x1x512, .f32⟩
  | 40 => ⟨S128x1x512, .f32⟩
  | 41 => ⟨S_, .f32⟩
  | 42 => ⟨S128x1x512, .f32⟩
  | 43 => ⟨S128x1x512, .f32⟩
  | 44 => ⟨S128x1x512, .f32⟩
  | 45 => ⟨S128x31x512, .f32⟩
  | 46 => ⟨S128x30x512, .f32⟩
  | 47 => ⟨S1x128x4x128x128, .f32⟩
  | 48 => ⟨S1x128x4x128, .f32⟩
  | 49 => ⟨S1x128x4, .f32⟩
  | 50 => ⟨S1x128x30x512, .f32⟩
  | 51 => ⟨S31x512, .f32⟩
  | 52 => ⟨S1x31x512, .f32⟩
  | 53 => ⟨S128x31x512, .f32⟩
  | 54 => ⟨S128x31x512, .f32⟩
  | 55 => ⟨S_, .f32⟩
  | 56 => ⟨S128x512, .f32⟩
  | 57 => ⟨S512, .f32⟩
  | 58 => ⟨S1x512, .f32⟩
  | 59 => ⟨S128x512, .f32⟩
  | 60 => ⟨S128x512, .f32⟩
  | 61 => ⟨S512, .f32⟩
  | 62 => ⟨S512, .f32⟩
  | 63 => ⟨S_, .f32⟩
  | 64 => ⟨S128, .f32⟩
  | 65 => ⟨S128x1, .f32⟩
  | 66 => ⟨S_, .f32⟩
  | 67 => ⟨S128x1, .f32⟩
  | 68 => ⟨S128x1, .f32⟩
  | 69 => ⟨S128x512, .f32⟩
  | 70 => ⟨S128x512, .f32⟩
  | 71 => ⟨S128x512, .f32⟩
  | 72 => ⟨S_, .f32⟩
  | 73 => ⟨S128, .f32⟩
  | 74 => ⟨S128x1, .f32⟩
  | 75 => ⟨S_, .f32⟩
  | 76 => ⟨S128x1, .f32⟩
  | 77 => ⟨S128x1, .f32⟩
  | 78 => ⟨S128x512, .f32⟩
  | 79 => ⟨S128x512, .f32⟩
  | 80 => ⟨S_, .f32⟩
  | 81 => ⟨S128x1, .f32⟩
  | 82 => ⟨S128x1, .f32⟩
  | 83 => ⟨S128x1, .f32⟩
  | 84 => ⟨S128x512, .f32⟩
  | 85 => ⟨S128x512, .f32⟩
  | 86 => ⟨S1x512, .f32⟩
  | 87 => ⟨S128x512, .f32⟩
  | 88 => ⟨S128x512, .f32⟩
  | 89 => ⟨S1x512, .f32⟩
  | 90 => ⟨S128x512, .f32⟩
  | 91 => ⟨S128x512, .f32⟩
  | 92 => ⟨S128x512, .f32⟩
  | 93 => ⟨S128x512, .f32⟩
  | 94 => ⟨S_, .f32⟩
  | 95 => ⟨S128x512, .f32⟩
  | 96 => ⟨S128x512, .f32⟩
  | 97 => ⟨S_, .f32⟩
  | 98 => ⟨S128x512, .f32⟩
  | 99 => ⟨S128x512, .f32⟩
  | 100 => ⟨S128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_v0 : Ref sig .tc := ⟨.hbm, 93, rfl⟩
abbrev main_call1_call0_cst : Ref sig .tc := ⟨.hbm, 94, rfl⟩
abbrev main_call1_call0_v0 : Ref sig .tc := ⟨.hbm, 95, rfl⟩
abbrev main_call1_call0_v1 : Ref sig .tc := ⟨.hbm, 96, rfl⟩
abbrev main_call1_call0_v2 : Ref sig .tc := ⟨.hbm, 97, rfl⟩
abbrev main_call1_call0_v3 : Ref sig .tc := ⟨.hbm, 98, rfl⟩
abbrev main_call1_call0_v4 : Ref sig .tc := ⟨.hbm, 99, rfl⟩
abbrev main_call1_call0_v5 : Ref sig .tc := ⟨.hbm, 100, rfl⟩
abbrev main_call1_call0_v6 : Ref sig .tc := ⟨.hbm, 101, rfl⟩
abbrev main_call1_call0_v7 : Ref sig .tc := ⟨.hbm, 102, rfl⟩
abbrev main_call1_call0_v8 : Ref sig .tc := ⟨.hbm, 103, rfl⟩
abbrev main_call1_call0_v9 : Ref sig .tc := ⟨.hbm, 104, rfl⟩
abbrev main_call1_call0_v10 : Ref sig .tc := ⟨.hbm, 105, rfl⟩
abbrev main_call1_call0_v11 : Ref sig .tc := ⟨.hbm, 106, rfl⟩
abbrev main_call1_v1 : Ref sig .tc := ⟨.hbm, 107, rfl⟩
abbrev main_v63 : Ref sig .tc := ⟨.hbm, 108, rfl⟩
abbrev main_c : Ref sig .tc := ⟨.hbm, 109, rfl⟩
abbrev main_v64 : Ref sig .tc := ⟨.hbm, 110, rfl⟩
abbrev main_call2_v0 : Ref sig .tc := ⟨.hbm, 111, rfl⟩
abbrev main_call2_c : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_0 : Ref sig .tc := ⟨.hbm, 117, rfl⟩
abbrev main_call2_v5 : Ref sig .tc := ⟨.hbm, 118, rfl⟩
abbrev main_v65 : Ref sig .tc := ⟨.hbm, 119, rfl⟩
abbrev main_call3_call0_cst : Ref sig .tc := ⟨.hbm, 120, rfl⟩
abbrev main_call3_call0_v0 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_4 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_5 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_6 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_7 : Ref sig .tc := ⟨.hbm, 166, rfl⟩
abbrev main_v104 : Ref sig .tc := ⟨.hbm, 167, rfl⟩
abbrev main_v105 : Ref sig .tc := ⟨.hbm, 168, rfl⟩
abbrev main_cst_8 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_9 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_10 : Ref sig .tc := ⟨.hbm, 191, rfl⟩
abbrev main_v126 : Ref sig .tc := ⟨.hbm, 192, rfl⟩
abbrev main_v127 : Ref sig .tc := ⟨.hbm, 193, rfl⟩
abbrev main_cst_11 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_12 : Ref sig .tc := ⟨.hbm, 200, rfl⟩
abbrev main_v133 : Ref sig .tc := ⟨.hbm, 201, rfl⟩
abbrev main_v134 : Ref sig .tc := ⟨.hbm, 202, rfl⟩
abbrev main_cst_13 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_14 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_call5_v0 : Ref sig .tc := ⟨.hbm, 220, rfl⟩
abbrev main_call5_v1 : Ref sig .tc := ⟨.hbm, 221, rfl⟩
abbrev main_call5_cst : Ref sig .tc := ⟨.hbm, 222, rfl⟩
abbrev main_call5_v2 : Ref sig .tc := ⟨.hbm, 223, rfl⟩
abbrev main_call5_v3 : Ref sig .tc := ⟨.hbm, 224, rfl⟩
abbrev main_call5_cst_0 : Ref sig .tc := ⟨.hbm, 225, rfl⟩
abbrev main_call5_v4 : Ref sig .tc := ⟨.hbm, 226, rfl⟩
abbrev main_call5_v5 : Ref sig .tc := ⟨.hbm, 227, rfl⟩
abbrev main_v150 : Ref sig .tc := ⟨.hbm, 228, rfl⟩

abbrev nD : Nat := 1
abbrev τ : Topo := Topo.v7x

variable {F : FTy → Type} [FloatOps F]
-- ==== Kernel2.lean ====
abbrev S96 : Shape := ⟨1, ![96]⟩
abbrev S1 : Shape := ⟨1, ![1]⟩
abbrev S393216x128 : Shape := ⟨2, ![393216, 128]⟩
abbrev S32x1024x256 : Shape := ⟨3, ![32, 1024, 256]⟩
abbrev S32x256x1024 : Shape := ⟨3, ![32, 256, 1024]⟩
abbrev S4096x128 : Shape := ⟨2, ![4096, 128]⟩
abbrev S2x1024x256 : Shape := ⟨3, ![2, 1024, 256]⟩
abbrev S2x256x1024 : Shape := ⟨3, ![2, 256, 1024]⟩
abbrev S1024x256 : Shape := ⟨2, ![1024, 256]⟩
abbrev S256x1024 : Shape := ⟨2, ![256, 1024]⟩
abbrev S2 : Shape := ⟨1, ![2]⟩
abbrev S_ : Shape := ⟨0, ![]⟩
abbrev S1x1024x256 : Shape := ⟨3, ![1, 1024, 256]⟩
abbrev S1x256x1024 : Shape := ⟨3, ![1, 256, 1024]⟩
abbrev S512x128 : Shape := ⟨2, ![512, 128]⟩
abbrev S512x1024 : Shape := ⟨2, ![512, 1024]⟩
abbrev S512x256 : Shape := ⟨2, ![512, 256]⟩

abbrev nBuf : Space → Nat
  | .hbm => 5
  | .vmem => 10
  | .smem => 4
  | _ => 0

abbrev bufTy : (tb : Table) → Fin (tcTables nBuf tb) → BufTy
  | .hbm, ⟨0, _⟩ => ⟨S393216x128, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S393216x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S2x1024x256, .f32⟩
  | .local _ .vmem, ⟨5, _⟩ => ⟨S2x1024x256, .f32⟩
  | .local _ .vmem, ⟨6, _⟩ => ⟨S2x256x1024, .f32⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .smem, ⟨0, _⟩ => ⟨S96, .i32⟩
  | .local _ .smem, ⟨1, _⟩ => ⟨S1, .i32⟩
  | .local _ .smem, ⟨2, _⟩ => ⟨S96, .i32⟩
  | .local _ .smem, ⟨3, _⟩ => ⟨S96, .i32⟩
  | _, _ => ⟨S393216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v32 : BitVec 32) : Fin 3 → Nat :=
  let c0_i32_15 : BitVec 32 := 0#32
  let c0_i32_16 : BitVec 32 := 0#32
  ![v32.toNat, 0, 0]
def k0_cond1 (i : grid0.Coords) (v0 : BitVec 32) : BitVec 1 :=
  let arg0 : BitVec 32 := BitVec.ofNat 32 (i 0).val
  let v1 : BitVec 1 := Scalar.cmpi .slt arg0 v0
  let c0_i32_6 : BitVec 32 := 0#32
  let v24 : BitVec 1 := Scalar.cmpi .eq arg0 c0_i32_6
  let v25 : BitVec 1 := Scalar.andi v1 v24
  let v26 : BitVec 32 := Scalar.extui v25
  let c0_i32_7 : BitVec 32 := 0#32
  let v27 : BitVec 1 := Scalar.cmpi .ne v26 c0_i32_7
  v27

def k0_off4 (v32 : BitVec 32) : Fin 3 → Nat :=
  let c0_i32_27 : BitVec 32 := 0#32
  let c0_i32_28 : BitVec 32 := 0#32
  ![v32.toNat, 0, 0]

def k0_chk1 (i : grid0.Coords) (v0 : BitVec 32) (v32 : BitVec 32) : Prop :=
  (∀ (k0_h1 : k0_cond1 i v0 = 1#1), ∀ a, (k0_off3 v32) a + S1x1024x256.size a ≤ S32x1024x256.size a) ∧
  (∀ (k0_h1 : k0_cond1 i v0 = 1#1), ∀ a, (k0_off4 v32) a + S1x256x1024.size a ≤ S32x256x1024.size a)
theorem k0_off3_inb : ∀ (i : grid0.Coords) (v0 : BitVec 32) (v32 : BitVec 32) (k0_hw1 : k0_chk1 i v0 v32), ∀ (k0_h1 : k0_cond1 i v0 = 1#1), ∀ a, (k0_off3 v32) a + S1x1024x256.size a ≤ S32x1024x256.size a := fun i v0 v32 k0_hw1 k0_h1 => k0_hw1.1 k0_h1
theorem k0_off4_inb : ∀ (i : grid0.Coords) (v0 : BitVec 32) (v32 : BitVec 32) (k0_hw1 : k0_chk1 i v0 v32), ∀ (k0_h1 : k0_cond1 i v0 = 1#1), ∀ a, (k0_off4 v32) a + S1x256x1024.size a ≤ S32x256x1024.size a := fun i v0 v32 k0_hw1 k0_h1 => k0_hw1.2 k0_h1

def k0_off5 (i : grid0.Coords) : Fin 1 → Nat :=
  let arg0 : BitVec 32 := BitVec.ofNat 32 (i 0).val
  let v32 : Index := Scalar.indexCast arg0
  ![v32.toNat]
def k0_off6 (v13 : BitVec 32) : Fin 1 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  ![v23.toNat]
def k0_cond2 (i : grid0.Coords) (v0 : BitVec 32) (v4 : BitVec 32) (v8 : BitVec 32) : BitVec 1 :=
  let arg0 : BitVec 32 := BitVec.ofNat 32 (i 0).val
  let v1 : BitVec 1 := Scalar.cmpi .slt arg0 v0
  let c0_i32 : BitVec 32 := 0#32
  let v2 : BitVec 1 := Scalar.cmpi .eq arg0 c0_i32
  let v9 : BitVec 1 := Scalar.cmpi .ne v4 v8
  let v10 : BitVec 1 := Scalar.ori v2 v9
  let v11 : BitVec 1 := Scalar.andi v1 v10
  let v28 : BitVec 32 := Scalar.extui v11
  let c0_i32_8 : BitVec 32 := 0#32
  let v29 : BitVec 1 := Scalar.cmpi .ne v28 c0_i32_8
  v29

def k0_off7 (v13 : BitVec 32) : Fin 3 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let c0_i32_10 : BitVec 32 := 0#32
  let c0_i32_11 : BitVec 32 := 0#32
  ![v23.toNat, 0, 0]
def k0_off8 (v33 : BitVec 32) : Fin 3 → Nat :=
  let c0_i32_12 : BitVec 32 := 0#32
  let c0_i32_13 : BitVec 32 := 0#32
  ![v33.toNat, 0, 0]

def k0_off9 (v13 : BitVec 32) : Fin 1 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  ![v23.toNat]
def k0_off10 (v13 : BitVec 32) : Fin 3 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let c0_i32_14 : BitVec 32 := 0#32
  let c0_i32_15 : BitVec 32 := 0#32
  ![v23.toNat, 0, 0]
def k0_off11 (v13 : BitVec 32) : Fin 3 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let c0_i32_18 : BitVec 32 := 0#32
  let c0_i32_19 : BitVec 32 := 0#32
  ![v23.toNat, 0, 0]
def k0_off12 (v33 : BitVec 32) : Fin 3 → Nat :=
  let c0_i32_20 : BitVec 32 := 0#32
  let c0_i32_21 : BitVec 32 := 0#32
  ![v33.toNat, 0, 0]

def k0_chk3 (i : grid0.Coords) (v0 : BitVec 32) (v4 : BitVec 32) (v8 : BitVec 32) (v33 : BitVec 32) : Prop :=
  (∀ (k0_h2 : k0_cond2 i v0 v4 v8 = 1#1), ∀ a, (k0_off8 v33) a + S1x1024x256.size a ≤ S32x1024x256.size a) ∧
  (∀ (k0_h2 : k0_cond2 i v0 v4 v8 = 1#1), ∀ a, (k0_off12 v33) a + S1x256x1024.size a ≤ S32x256x1024.size a)
theorem k0_off8_inb : ∀ (i : grid0.Coords) (v0 : BitVec 32) (v4 : BitVec 32) (v8 : BitVec 32) (v33 : BitVec 32) (k0_hw3 : k0_chk3 i v0 v4 v8 v33), ∀ (k0_h2 : k0_cond2 i v0 v4 v8 = 1#1), ∀ a, (k0_off8 v33) a + S1x1024x256.size a ≤ S32x1024x256.size a := fun i v0 v4 v8 v33 k0_hw3 k0_h2 => k0_hw3.1 k0_h2
theorem k0_off12_inb : ∀ (i : grid0.Coords) (v0 : BitVec 32) (v4 : BitVec 32) (v8 : BitVec 32) (v33 : BitVec 32) (k0_hw3 : k0_chk3 i v0 v4 v8 v33), ∀ (k0_h2 : k0_cond2 i v0 v4 v8 = 1#1), ∀ a, (k0_off12 v33) a + S1x256x1024.size a ≤ S32x256x1024.size a := fun i v0 v4 v8 v33 k0_hw3 k0_h2 => k0_hw3.2 k0_h2

def k0_off13 (v13 : BitVec 32) : Fin 3 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v52 : Index := Scalar.indexCast v23
  let c0_22 : Index := 0#32
  let c0_23 : Index := 0#32
  ![v52.toNat, 0, 0]
def k0_off14 (v13 : BitVec 32) : Fin 3 → Nat :=
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v66 : Index := Scalar.indexCast v23
  let c0_30 : Index := 0#32
  let c0_31 : Index := 0#32
  ![v66.toNat, 0, 0]

def k0_chk2 (i : grid0.Coords) (v0 : BitVec 32) (v4 : BitVec 32) (v8 : BitVec 32) (v13 : BitVec 32) : Prop :=
  (∀ (k0_h2 : k0_cond2 i v0 v4 v8 = 1#1), ∀ a, (k0_off6 v13) a + S1.size a ≤ S2.size a) ∧
  (∀ (k0_h2 : k0_cond2 i v0 v4 v8 = 1#1), ∀ a, (k0_off7 v13) a + S1x1024x256.size a ≤ S2x1024x256.size a) ∧
  (∀ (k0_h2 : k0_cond2 i v0 v4 v8 = 1#1), ∀ a, (k0_off9 v13) a + S1.size a ≤ S2.size a) ∧
  (∀ (k0_h2 : k0_cond2 i v0 v4 v8 = 1#1), ∀ a, (k0_off10 v13) a + S1x1024x256.size a ≤ S2x1024x256.size a) ∧
  (∀ (k0_h2 : k0_cond2 i v0 v4 v8 = 1#1), ∀ a, (k0_off11 v13) a + S1x256x1024.size a ≤ S2x256x1024.size a) ∧
  (∀ (k0_h2 : k0_cond2 i v0 v4 v8 = 1#1), ∀ a, (k0_off13 v13) a + S1x1024x256.size a ≤ S2x1024x256.size a) ∧
  (∀ (k0_h2 : k0_cond2 i v0 v4 v8 = 1#1), ∀ a, (k0_off14 v13) a + S1x256x1024.size a ≤ S2x256x1024.size a)
theorem k0_off6_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off6 v13) a + S1.size a ≤ S2.size a := fun i v0 v4 v8 v13 k0_hw2 k0_h2 => k0_hw2.1 k0_h2
theorem k0_off7_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off7 v13) a + S1x1024x256.size a ≤ S2x1024x256.size a := fun i v0 v4 v8 v13 k0_hw2 k0_h2 => k0_hw2.2.1 k0_h2
theorem k0_off9_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off9 v13) a + S1.size a ≤ S2.size a := fun i v0 v4 v8 v13 k0_hw2 k0_h2 => k0_hw2.2.2.1 k0_h2
theorem k0_off10_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off10 v13) a + S1x1024x256.size a ≤ S2x1024x256.size a := fun i v0 v4 v8 v13 k0_hw2 k0_h2 => k0_hw2.2.2.2.1 k0_h2
theorem k0_off11_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off11 v13) a + S1x256x1024.size a ≤ S2x256x1024.size a := fun i v0 v4 v8 v13 k0_hw2 k0_h2 => k0_hw2.2.2.2.2.1 k0_h2
theorem k0_off13_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off13 v13) a + S1x1024x256.size a ≤ S2x1024x256.size a := fun i v0 v4 v8 v13 k0_hw2 k0_h2 => k0_hw2.2.2.2.2.2.1 k0_h2
theorem k0_off14_inb : ∀ (i : grid0.Coords) (v0 : BitVec 32) (v4 : BitVec 32) (v8 : BitVec 32) (v13 : BitVec 32) (k0_hw2 : k0_chk2 i v0 v4 v8 v13), ∀ (k0_h2 : k0_cond2 i v0 v4 v8 = 1#1), ∀ a, (k0_off14 v13) a + S1x256x1024.size a ≤ S2x256x1024.size a := fun i v0 v4 v8 v13 k0_hw2 k0_h2 => k0_hw2.2.2.2.2.2.2 k0_h2

def k0_off15 (i : grid0.Coords) : Fin 1 → Nat :=
  let arg0 : BitVec 32 := BitVec.ofNat 32 (i 0).val
  let v73 : Index := Scalar.indexCast arg0
  ![v73.toNat]
def k0_off16 (i : grid0.Coords) : Fin 1 → Nat :=
  let arg0 : BitVec 32 := BitVec.ofNat 32 (i 0).val
  let v78 : Index := Scalar.indexCast arg0
  ![v78.toNat]
def k0_off17 (v13 : BitVec 32) : Fin 1 → Nat :=
  let c1_i32_36 : BitVec 32 := 1#32
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v80 : BitVec 32 := Scalar.subi c1_i32_36 v23
  ![v80.toNat]
def k0_cond3 (v74 : BitVec 32) : BitVec 1 :=
  let c0_i32_34 : BitVec 32 := 0#32
  let v75 : BitVec 1 := Scalar.cmpi .sge v74 c0_i32_34
  let v76 : BitVec 32 := Scalar.extui v75
  let c0_i32_35 : BitVec 32 := 0#32
  let v77 : BitVec 1 := Scalar.cmpi .ne v76 c0_i32_35
  v77

def k0_off18 (v13 : BitVec 32) : Fin 3 → Nat :=
  let c1_i32_36 : BitVec 32 := 1#32
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v80 : BitVec 32 := Scalar.subi c1_i32_36 v23
  let c0_i32_37 : BitVec 32 := 0#32
  let c0_i32_38 : BitVec 32 := 0#32
  ![v80.toNat, 0, 0]
def k0_off19 (v79 : BitVec 32) : Fin 3 → Nat :=
  let c0_i32_39 : BitVec 32 := 0#32
  let c0_i32_40 : BitVec 32 := 0#32
  ![v79.toNat, 0, 0]

def k0_off20 (v13 : BitVec 32) : Fin 1 → Nat :=
  let c1_i32_36 : BitVec 32 := 1#32
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v80 : BitVec 32 := Scalar.subi c1_i32_36 v23
  ![v80.toNat]
def k0_off21 (v13 : BitVec 32) : Fin 3 → Nat :=
  let c1_i32_36 : BitVec 32 := 1#32
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v80 : BitVec 32 := Scalar.subi c1_i32_36 v23
  let c0_i32_41 : BitVec 32 := 0#32
  let c0_i32_42 : BitVec 32 := 0#32
  ![v80.toNat, 0, 0]
def k0_off22 (v13 : BitVec 32) : Fin 3 → Nat :=
  let c1_i32_36 : BitVec 32 := 1#32
  let c2_i32 : BitVec 32 := 2#32
  let c0_i32_1 : BitVec 32 := 0#32
  let v14 : BitVec 1 := Scalar.cmpi .eq c2_i32 c0_i32_1
  let c1_i32_2 : BitVec 32 := 1#32
  let v15 : BitVec 32 := Scalar.select v14 c1_i32_2 c2_i32
  let v16 : BitVec 32 := Scalar.remsi v13 v15
  let c0_i32_4 : BitVec 32 := 0#32
  let v18 : BitVec 1 := Scalar.cmpi .slt v16 c0_i32_4
  let c0_i32_5 : BitVec 32 := 0#32
  let v19 : BitVec 1 := Scalar.cmpi .slt v15 c0_i32_5
  let v20 : BitVec 1 := Scalar.xori v18 v19
  let c0_i32_3 : BitVec 32 := 0#32
  let v17 : BitVec 1 := Scalar.cmpi .ne v16 c0_i32_3
  let v21 : BitVec 1 := Scalar.andi v20 v17
  let v22 : BitVec 32 := Scalar.addi v16 v15
  let v23 : BitVec 32 := Scalar.select v21 v22 v16
  let v80 : BitVec 32 := Scalar.subi c1_i32_36 v23
  let c0_i32_45 : BitVec 32 := 0#32
  let c0_i32_46 : BitVec 32 := 0#32
  ![v80.toNat, 0, 0]

def k0_chk4 (i : grid0.Coords) (v0 : BitVec 32) (v4 : BitVec 32) (v8 : BitVec 32) (v13 : BitVec 32) (v74 : BitVec 32) : Prop :=
  (∀ (k0_h2 : k0_cond2 i v0 v4 v8 = 1#1), ∀ (k0_h3 : k0_cond3 v74 = 1#1), ∀ a, (k0_off17 v13) a + S1.size a ≤ S2.size a) ∧
  (∀ (k0_h2 : k0_cond2 i v0 v4 v8 = 1#1), ∀ (k0_h3 : k0_cond3 v74 = 1#1), ∀ a, (k0_off18 v13) a + S1x1024x256.size a ≤ S2x1024x256.size a) ∧
  (∀ (k0_h2 : k0_cond2 i v0 v4 v8 = 1#1), ∀ (k0_h3 : k0_cond3 v74 = 1#1), ∀ a, (k0_off20 v13) a + S1.size a ≤ S2.size a) ∧
  (∀ (k0_h2 : k0_cond2 i v0 v4 v8 = 1#1), ∀ (k0_h3 : k0_cond3 v74 = 1#1), ∀ a, (k0_off21 v13) a + S1x1024x256.size a ≤ S2x1024x256.size a) ∧
  (∀ (k0_h2 : k0_cond2 i v0 v4 v8 = 1#1), ∀ (k0_h3 : k0_cond3 v74 = 1#1), ∀ a, (k0_off22 v13) a + S1x256x1024.size a ≤ S2x256x1024.size a)
theorem k0_off17_inb : ∀ (i : grid0.Coords) (v0 : BitVec 32) (v4 : BitVec 32) (v8 : BitVec 32) (v13 : BitVec 32) (v74 : BitVec 32) (k0_hw4 : k0_chk4 i v0 v4 v8 v13 v74), ∀ (k0_h2 : k0_cond2 i v0 v4 v8 = 1#1), ∀ (k0_h3 : k0_cond3 v74 = 1#1), ∀ a, (k0_off17 v13) a + S1.size a ≤ S2.size a := fun i v0 v4 v8 v13 v74 k0_hw4 k0_h2 k0_h3 => k0_hw4.1 k0_h2 k0_h3
theorem k0_off18_inb : ∀ (i : grid0.Coords) (v0 : BitVec 32) (v4 : BitVec 32) (v8 : BitVec 32) (v13 : BitVec 32) (v74 : BitVec 32) (k0_hw4 : k0_chk4 i v0 v4 v8 v13 v74), ∀ (k0_h2 : k0_cond2 i v0 v4 v8 = 1#1), ∀ (k0_h3 : k0_cond3 v74 = 1#1), ∀ a, (k0_off18 v13) a + S1x1024x256.size a ≤ S2x1024x256.size a := fun i v0 v4 v8 v13 v74 k0_hw4 k0_h2 k0_h3 => k0_hw4.2.1 k0_h2 k0_h3
theorem k0_off20_inb : ∀ (i : grid0.Coords) (v0 : BitVec 32) (v4 : BitVec 32) (v8 : BitVec 32) (v13 : BitVec 32) (v74 : BitVec 32) (k0_hw4 : k0_chk4 i v0 v4 v8 v13 v74), ∀ (k0_h2 : k0_cond2 i v0 v4 v8 = 1#1), ∀ (k0_h3 : k0_cond3 v74 = 1#1), ∀ a, (k0_off20 v13) a + S1.size a ≤ S2.size a := fun i v0 v4 v8 v13 v74 k0_hw4 k0_h2 k0_h3 => k0_hw4.2.2.1 k0_h2 k0_h3
theorem k0_off21_inb : ∀ (i : grid0.Coords) (v0 : BitVec 32) (v4 : BitVec 32) (v8 : BitVec 32) (v13 : BitVec 32) (v74 : BitVec 32) (k0_hw4 : k0_chk4 i v0 v4 v8 v13 v74), ∀ (k0_h2 : k0_cond2 i v0 v4 v8 = 1#1), ∀ (k0_h3 : k0_cond3 v74 = 1#1), ∀ a, (k0_off21 v13) a + S1x1024x256.size a ≤ S2x1024x256.size a := fun i v0 v4 v8 v13 v74 k0_hw4 k0_h2 k0_h3 => k0_hw4.2.2.2.1 k0_h2 k0_h3
theorem k0_off22_inb : ∀ (i : grid0.Coords) (v0 : BitVec 32) (v4 : BitVec 32) (v8 : BitVec 32) (v13 : BitVec 32) (v74 : BitVec 32) (k0_hw4 : k0_chk4 i v0 v4 v8 v13 v74), ∀ (k0_h2 : k0_cond2 i v0 v4 v8 = 1#1), ∀ (k0_h3 : k0_cond3 v74 = 1#1), ∀ a, (k0_off22 v13) a + S1x256x1024.size a ≤ S2x256x1024.size a := fun i v0 v4 v8 v13 v74 k0_hw4 k0_h2 k0_h3 => k0_hw4.2.2.2.2 k0_h2 k0_h3

def k0_off23 (v79 : BitVec 32) : Fin 3 → Nat :=
  let c0_i32_47 : BitVec 32 := 0#32
  let c0_i32_48 : BitVec 32 := 0#32
  ![v79.toNat, 0, 0]

def k0_chk5 (i : grid0.Coords) (v0 : BitVec 32) (v4 : BitVec 32) (v8 : BitVec 32) (v74 : BitVec 32) (v79 : BitVec 32) : Prop :=
  (∀ (k0_h2 : k0_cond2 i v0 v4 v8 = 1#1), ∀ (k0_h3 : k0_cond3 v74 = 1#1), ∀ a, (k0_off19 v79) a + S1x1024x256.size a ≤ S32x1024x256.size a) ∧
  (∀ (k0_h2 : k0_cond2 i v0 v4 v8 = 1#1), ∀ (k0_h3 : k0_cond3 v74 = 1#1), ∀ a, (k0_off23 v79) a + S1x256x1024.size a ≤ S32x256x1024.size a)
theorem k0_off19_inb : ∀ (i : grid0.Coords) (v0 : BitVec 32) (v4 : BitVec 32) (v8 : BitVec 32) (v74 : BitVec 32) (v79 : BitVec 32) (k0_hw5 : k0_chk5 i v0 v4 v8 v74 v79), ∀ (k0_h2 : k0_cond2 i v0 v4 v8 = 1#1), ∀ (k0_h3 : k0_cond3 v74 = 1#1), ∀ a, (k0_off19 v79) a + S1x1024x256.size a ≤ S32x1024x256.size a := fun i v0 v4 v8 v74 v79 k0_hw5 k0_h2 k0_h3 => k0_hw5.1 k0_h2 k0_h3
theorem k0_off23_inb : ∀ (i : grid0.Coords) (v0 : BitVec 32) (v4 : BitVec 32) (v8 : BitVec 32) (v74 : BitVec 32) (v79 : BitVec 32) (k0_hw5 : k0_chk5 i v0 v4 v8 v74 v79), ∀ (k0_h2 : k0_cond2 i v0 v4 v8 = 1#1), ∀ (k0_h3 : k0_cond3 v74 = 1#1), ∀ a, (k0_off23 v79) a + S1x256x1024.size a ≤ S32x256x1024.size a := fun i v0 v4 v8 v74 v79 k0_hw5 k0_h2 k0_h3 => k0_hw5.2 k0_h2 k0_h3

def k0_cond4 (i : grid0.Coords) (v0 : BitVec 32) : BitVec 1 :=
  let arg0 : BitVec 32 := BitVec.ofNat 32 (i 0).val
  let v1 : BitVec 1 := Scalar.cmpi .slt arg0 v0
  let v30 : BitVec 32 := Scalar.extui v1
  let c0_i32_9 : BitVec 32 := 0#32
  let v31 : BitVec 1 := Scalar.cmpi .ne v30 c0_i32_9
  v31

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S96 : Shape := ⟨1, ![96]⟩
abbrev S1 : Shape := ⟨1, ![1]⟩
abbrev S393216x128 : Shape := ⟨2, ![393216, 128]⟩
abbrev S32x1024x256 : Shape := ⟨3, ![32, 1024, 256]⟩
abbrev S32x256x1024 : Shape := ⟨3, ![32, 256, 1024]⟩
abbrev S49152x1024 : Shape := ⟨2, ![49152, 1024]⟩
abbrev S49152 : Shape := ⟨1, ![49152]⟩
abbrev S_ : Shape := ⟨0, ![]⟩
abbrev S49152x1 : Shape := ⟨2, ![49152, 1]⟩
abbrev S1x32 : Shape := ⟨2, ![1, 32]⟩
abbrev S49152x32 : Shape := ⟨2, ![49152, 32]⟩
abbrev S49152x32x256 : Shape := ⟨3, ![49152, 32, 256]⟩
abbrev S49152x32x1 : Shape := ⟨3, ![49152, 32, 1]⟩

abbrev nBuf : Space → Nat
  | .hbm => 68
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S96, .i32⟩
  | .hbm, ⟨3, _⟩ => ⟨S96, .i32⟩
  | .hbm, ⟨4, _⟩ => ⟨S393216x128, .f32⟩
  | .hbm, ⟨5, _⟩ => ⟨S32x1024x256, .f32⟩
  | .hbm, ⟨6, _⟩ => ⟨S32x1024x256, .f32⟩
  | .hbm, ⟨7, _⟩ => ⟨S32x256x1024, .f32⟩
  | .hbm, ⟨8, _⟩ => ⟨S49152x1024, .f32⟩
  | .hbm, ⟨9, _⟩ => ⟨S49152, .i32⟩
  | .hbm, ⟨10, _⟩ => ⟨S_, .i32⟩
  | .hbm, ⟨11, _⟩ => ⟨S_, .i32⟩
  | .hbm, ⟨12, _⟩ => ⟨S49152, .i32⟩
  | .hbm, ⟨13, _⟩ => ⟨S49152, .i32⟩
  | .hbm, ⟨14, _⟩ => ⟨S49152, .i32⟩
  | .hbm, ⟨15, _⟩ => ⟨S_, .i32⟩
  | .hbm, ⟨16, _⟩ => ⟨S49152, .i32⟩
  | .hbm, ⟨17, _⟩ => ⟨S49152, .i1⟩
  | .hbm, ⟨18, _⟩ => ⟨S49152, .i32⟩
  | .hbm, ⟨19, _⟩ => ⟨S49152, .i32⟩
  | .hbm, ⟨20, _⟩ => ⟨S_, .i32⟩
  | .hbm, ⟨21, _⟩ => ⟨S49152, .i32⟩
  | .hbm, ⟨22, _⟩ => ⟨S49152, .i1⟩
  | .hbm, ⟨23, _⟩ => ⟨S49152, .i1⟩
  | .hbm, ⟨24, _⟩ => ⟨S_, .i32⟩
  | .hbm, ⟨25, _⟩ => ⟨S49152, .i32⟩
  | .hbm, ⟨26, _⟩ => ⟨S49152, .i32⟩
  | .hbm, ⟨27, _⟩ => ⟨S49152, .i32⟩
  | .hbm, ⟨28, _⟩ => ⟨S_, .i32⟩
  | .hbm, ⟨29, _⟩ => ⟨S49152, .i32⟩
  | .hbm, ⟨30, _⟩ => ⟨S49152, .i1⟩
  | .hbm, ⟨31, _⟩ => ⟨S_, .i32⟩
  | .hbm, ⟨32, _⟩ => ⟨S49152, .i32⟩
  | .hbm, ⟨33, _⟩ => ⟨S49152, .i32⟩
  | .hbm, ⟨34, _⟩ => ⟨S49152, .i32⟩
  | .hbm, ⟨35, _⟩ => ⟨S49152x1, .i32⟩
  | .hbm, ⟨36, _⟩ => ⟨S49152, .i32⟩
  | .hbm, ⟨37, _⟩ => ⟨S49152x1, .i32⟩
  | .hbm, ⟨38, _⟩ => ⟨S1x32, .i32⟩
  | .hbm, ⟨39, _⟩ => ⟨S49152x32, .i32⟩
  | .hbm, ⟨40, _⟩ => ⟨S49152x32, .i32⟩
  | .hbm, ⟨41, _⟩ => ⟨S49152x32, .i1⟩
  | .hbm, ⟨42, _⟩ => ⟨S49152x32, .f32⟩
  | .hbm, ⟨43, _⟩ => ⟨S49152x32x256, .f32⟩
  | .hbm, ⟨44, _⟩ => ⟨S49152x32x256, .f32⟩
  | .hbm, ⟨45, _⟩ => ⟨S49152x32x256, .f32⟩
  | .hbm, ⟨46, _⟩ => ⟨S_, .f32⟩
  | .hbm, ⟨47, _⟩ => ⟨S49152x32x256, .f32⟩
  | .hbm, ⟨48, _⟩ => ⟨S49152x32x256, .f32⟩
  | .hbm, ⟨49, _⟩ => ⟨S_, .f32⟩
  | .hbm, ⟨50, _⟩ => ⟨S49152x32x256, .f32⟩
  | .hbm, ⟨51, _⟩ => ⟨S49152x32x256, .f32⟩
  | .hbm, ⟨52, _⟩ => ⟨S49152x32x256, .f32⟩
  | .hbm, ⟨53, _⟩ => ⟨S49152x32x256, .f32⟩
  | .hbm, ⟨54, _⟩ => ⟨S49152x32x256, .f32⟩
  | .hbm, ⟨55, _⟩ => ⟨S49152x32x1, .f32⟩
  | .hbm, ⟨56, _⟩ => ⟨S49152x32x256, .f32⟩
  | .hbm, ⟨57, _⟩ => ⟨S49152x32x256, .f32⟩
  | .hbm, ⟨58, _⟩ => ⟨S49152x1024, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S49152, .i32⟩
  | .hbm, ⟨63, _⟩ => ⟨S49152, .i1⟩
  | .hbm, ⟨64, _⟩ => ⟨S49152x1, .i1⟩
  | .hbm, ⟨65, _⟩ => ⟨S49152x1024, .i1⟩
  | .hbm, ⟨66, _⟩ => ⟨S49152x1024, .f32⟩
  | .hbm, ⟨67, _⟩ => ⟨S393216x128, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v10 : Ref sig .tc := ⟨.hbm, 42, rfl⟩
abbrev main_v11 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_2 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call3_v0 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]
-- ==== Kernel3.lean ====
abbrev S128x128 : Shape := ⟨2, ![128, 128]⟩
abbrev S1x8x128 : Shape := ⟨3, ![1, 8, 128]⟩
abbrev S8x128 : Shape := ⟨2, ![8, 128]⟩
abbrev S128x1 : Shape := ⟨2, ![128, 1]⟩
abbrev S128 : Shape := ⟨1, ![128]⟩
abbrev S1x128 : Shape := ⟨2, ![1, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x128, .f32⟩
  | .hbm, ⟨1, _⟩ => ⟨S1x8x128, .f32⟩
  | .hbm, ⟨2, _⟩ => ⟨S8x128, .f32⟩
  | .local _ .vmem, ⟨0, _⟩ => ⟨S128x128, .f32⟩
  | .local _ .vmem, ⟨1, _⟩ => ⟨S1x8x128, .f32⟩
  | .local _ .vmem, ⟨2, _⟩ => ⟨S8x128, .f32⟩
  | .local _ .vmem, ⟨3, _⟩ => ⟨S8x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S128x128 : Shape := ⟨2, ![128, 128]⟩
abbrev S128x2 : Shape := ⟨2, ![128, 2]⟩
abbrev S128x2x1 : Shape := ⟨3, ![128, 2, 1]⟩
abbrev S1x1x128 : Shape := ⟨3, ![1, 1, 128]⟩
abbrev S128x2x128 : Shape := ⟨3, ![128, 2, 128]⟩
abbrev S_ : Shape := ⟨0, ![]⟩
abbrev S1x8x128 : Shape := ⟨3, ![1, 8, 128]⟩
abbrev S128 : Shape := ⟨1, ![128]⟩
abbrev S8x128 : Shape := ⟨2, ![8, 128]⟩

abbrev nBuf : Space → Nat
  | .hbm => 15
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x2, .f32⟩
  | .hbm, ⟨2, _⟩ => ⟨S128x2x1, .f32⟩
  | .hbm, ⟨3, _⟩ => ⟨S1x1x128, .f32⟩
  | .hbm, ⟨4, _⟩ => ⟨S128x2x128, .f32⟩
  | .hbm, ⟨5, _⟩ => ⟨S128x2x128, .f32⟩
  | .hbm, ⟨6, _⟩ => ⟨S128x2x128, .i1⟩
  | .hbm, ⟨7, _⟩ => ⟨S128x2x128, .f32⟩
  | .hbm, ⟨8, _⟩ => ⟨S_, .f32⟩
  | .hbm, ⟨9, _⟩ => ⟨S128x128, .f32⟩
  | .hbm, ⟨10, _⟩ => ⟨S_, .f32⟩
  | .hbm, ⟨11, _⟩ => ⟨S1x8x128, .f32⟩
  | .hbm, ⟨12, _⟩ => ⟨S_, .f32⟩
  | .hbm, ⟨13, _⟩ => ⟨S128, .f32⟩
  | .hbm, ⟨14, _⟩ => ⟨S8x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel4.lean ====
abbrev S16384x128 : Shape := ⟨2, ![16384, 128]⟩
abbrev S32x8x128 : Shape := ⟨3, ![32, 8, 128]⟩
abbrev S32 : Shape := ⟨1, ![32]⟩
abbrev S_ : Shape := ⟨0, ![]⟩
abbrev S128 : Shape := ⟨1, ![128]⟩
abbrev S1x128 : Shape := ⟨2, ![1, 128]⟩
abbrev S8x128 : Shape := ⟨2, ![8, 128]⟩
abbrev S32x8x512 : Shape := ⟨3, ![32, 8, 512]⟩
abbrev S512x128 : Shape := ⟨2, ![512, 128]⟩
abbrev S1x8x128 : Shape := ⟨3, ![1, 8, 128]⟩
abbrev S1x8x512 : Shape := ⟨3, ![1, 8, 512]⟩
abbrev S512x512 : Shape := ⟨2, ![512, 512]⟩
abbrev S512x1 : Shape := ⟨2, ![512, 1]⟩
abbrev S8x512 : Shape := ⟨2, ![8, 512]⟩

abbrev nBuf : Space → Nat
  | .hbm => 10
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S32x8x128, .f32⟩
  | .hbm, ⟨2, _⟩ => ⟨S32, .i32⟩
  | .hbm, ⟨3, _⟩ => ⟨S32, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S8x128, .f32⟩
  | .hbm, ⟨9, _⟩ => ⟨S32x8x512, .i32⟩
  | .local _ .vmem, ⟨0, _⟩ => ⟨S512x128, .f32⟩
  | .local _ .vmem, ⟨1, _⟩ => ⟨S512x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | .local _ .vmem, ⟨5, _⟩ => ⟨S1x8x512, .i32⟩
  | .local _ .vmem, ⟨6, _⟩ => ⟨S1x8x512, .i32⟩
  | .local _ .vmem, ⟨7, _⟩ => ⟨S512x512, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x128 : Shape := ⟨2, ![16384, 128]⟩
abbrev S32x8x128 : Shape := ⟨3, ![32, 8, 128]⟩
abbrev S32 : Shape := ⟨1, ![32]⟩
abbrev S16384x2 : Shape := ⟨2, ![16384, 2]⟩
abbrev S32x512x2 : Shape := ⟨3, ![32, 512, 2]⟩
abbrev S32x512x2x1 : Shape := ⟨4, ![32, 512, 2, 1]⟩
abbrev S1x1x1x32 : Shape := ⟨4, ![1, 1, 1, 32]⟩
abbrev S32x512x2x32 : Shape := ⟨4, ![32, 512, 2, 32]⟩
abbrev S_ : Shape := ⟨0, ![]⟩
abbrev S32x512x32 : Shape := ⟨3, ![32, 512, 32]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32x1x32 : Shape := ⟨3, ![32, 1, 32]⟩
abbrev S32x32 : Shape := ⟨2, ![32, 32]⟩
abbrev S32x32x512 : Shape := ⟨3, ![32, 32, 512]⟩
abbrev S1x1x32 : Shape := ⟨3, ![1, 1, 32]⟩
abbrev S32x512x1x32 : Shape := ⟨4, ![32, 512, 1, 32]⟩
abbrev S32x2x512 : Shape := ⟨3, ![32, 2, 512]⟩
abbrev S32x8x512 : Shape := ⟨3, ![32, 8, 512]⟩

abbrev nBuf : Space → Nat
  | .hbm => 44
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32x8x128, .f32⟩
  | .hbm, ⟨2, _⟩ => ⟨S32, .i32⟩
  | .hbm, ⟨3, _⟩ => ⟨S16384x2, .f32⟩
  | .hbm, ⟨4, _⟩ => ⟨S32x512x2, .f32⟩
  | .hbm, ⟨5, _⟩ => ⟨S32x512x2x1, .f32⟩
  | .hbm, ⟨6, _⟩ => ⟨S1x1x1x32, .f32⟩
  | .hbm, ⟨7, _⟩ => ⟨S32x512x2x32, .f32⟩
  | .hbm, ⟨8, _⟩ => ⟨S32x512x2x32, .f32⟩
  | .hbm, ⟨9, _⟩ => ⟨S32x512x2x32, .i1⟩
  | .hbm, ⟨10, _⟩ => ⟨S32x512x2x32, .f32⟩
  | .hbm, ⟨11, _⟩ => ⟨S_, .f32⟩
  | .hbm, ⟨12, _⟩ => ⟨S32x512x32, .f32⟩
  | .hbm, ⟨13, _⟩ => ⟨S512, .i32⟩
  | .hbm, ⟨14, _⟩ => ⟨S1x512, .i32⟩
  | .hbm, ⟨15, _⟩ => ⟨S512x1, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S32x1x32, .f32⟩
  | .hbm, ⟨21, _⟩ => ⟨S32x32, .f32⟩
  | .hbm, ⟨22, _⟩ => ⟨S32x1x32, .f32⟩
  | .hbm, ⟨23, _⟩ => ⟨S32x32x512, .f32⟩
  | .hbm, ⟨24, _⟩ => ⟨S32x512x32, .f32⟩
  | .hbm, ⟨25, _⟩ => ⟨S32x512x32, .f32⟩
  | .hbm, ⟨26, _⟩ => ⟨S32x512x32, .f32⟩
  | .hbm, ⟨27, _⟩ => ⟨S32, .f32⟩
  | .hbm, ⟨28, _⟩ => ⟨S1x1x32, .f32⟩
  | .hbm, ⟨29, _⟩ => ⟨S32x512x32, .f32⟩
  | .hbm, ⟨30, _⟩ => ⟨S32x512x32, .f32⟩
  | .hbm, ⟨31, _⟩ => ⟨S32x512x1x32, .f32⟩
  | .hbm, ⟨32, _⟩ => ⟨S32x512x2x32, .f32⟩
  | .hbm, ⟨33, _⟩ => ⟨S32x512x2x32, .f32⟩
  | .hbm, ⟨34, _⟩ => ⟨S_, .f32⟩
  | .hbm, ⟨35, _⟩ => ⟨S32x512x2, .f32⟩
  | .hbm, ⟨36, _⟩ => ⟨S_, .f32⟩
  | .hbm, ⟨37, _⟩ => ⟨S32x512x2, .f32⟩
  | .hbm, ⟨38, _⟩ => ⟨S32x512x2, .f32⟩
  | .hbm, ⟨39, _⟩ => ⟨S32x512x2, .i32⟩
  | .hbm, ⟨40, _⟩ => ⟨S32x2x512, .i32⟩
  | .hbm, ⟨41, _⟩ => ⟨S_, .i32⟩
  | .hbm, ⟨42, _⟩ => ⟨S_, .i32⟩
  | .hbm, ⟨43, _⟩ => ⟨S32x8x512, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call1_v0 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel5.lean ====
abbrev S128x128 : Shape := ⟨2, ![128, 128]⟩
abbrev S1x8x128 : Shape := ⟨3, ![1, 8, 128]⟩
abbrev S8x128 : Shape := ⟨2, ![8, 128]⟩
abbrev S32 : Shape := ⟨1, ![32]⟩
abbrev S_ : Shape := ⟨0, ![]⟩
abbrev S128 : Shape := ⟨1, ![128]⟩
abbrev S1x128 : Shape := ⟨2, ![1, 128]⟩
abbrev S128x1 : Shape := ⟨2, ![128, 1]⟩

abbrev nBuf : Space → Nat
  | .hbm => 13
  | .vmem => 5
  | .smem => 0
  | _ => 0

abbrev bufTy : (tb : Table) → Fin (tcTables nBuf tb) → BufTy
  | .hbm, ⟨0, _⟩ => ⟨S128x128, .f32⟩
  | .hbm, ⟨1, _⟩ => ⟨S1x8x128, .f32⟩
  | .hbm, ⟨2, _⟩ => ⟨S8x128, .f32⟩
  | .hbm, ⟨3, _⟩ => ⟨S32, .i32⟩
  | .hbm, ⟨4, _⟩ => ⟨S1x8x128, .f32⟩
  | .hbm, ⟨5, _⟩ => ⟨S1x8x128, .f32⟩
  | .hbm, ⟨6, _⟩ => ⟨S32, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S8x128, .f32⟩
  | .hbm, ⟨12, _⟩ => ⟨S1x8x128, .i32⟩
  | .local _ .vmem, ⟨0, _⟩ => ⟨S128x128, .f32⟩
  | .local _ .vmem, ⟨1, _⟩ => ⟨S1x8x128, .f32⟩
  | .local _ .vmem, ⟨2, _⟩ => ⟨S8x128, .f32⟩
  | .local _ .vmem, ⟨3, _⟩ => ⟨S1x8x128, .i32⟩
  | .local _ .vmem, ⟨4, _⟩ => ⟨S128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference5Ideal.lean ====
abbrev S128x128 : Shape := ⟨2, ![128, 128]⟩
abbrev S1x8x128 : Shape := ⟨3, ![1, 8, 128]⟩
abbrev S8x128 : Shape := ⟨2, ![8, 128]⟩
abbrev S32 : Shape := ⟨1, ![32]⟩
abbrev S128x2 : Shape := ⟨2, ![128, 2]⟩
abbrev S128x2x1 : Shape := ⟨3, ![128, 2, 1]⟩
abbrev S1x1x32 : Shape := ⟨3, ![1, 1, 32]⟩
abbrev S128x2x32 : Shape := ⟨3, ![128, 2, 32]⟩
abbrev S_ : Shape := ⟨0, ![]⟩
abbrev S128x32 : Shape := ⟨2, ![128, 32]⟩
abbrev S128 : Shape := ⟨1, ![128]⟩
abbrev S1x128 : Shape := ⟨2, ![1, 128]⟩
abbrev S128x1 : Shape := ⟨2, ![128, 1]⟩
abbrev S1x32 : Shape := ⟨2, ![1, 32]⟩
abbrev S128x1x32 : Shape := ⟨3, ![128, 1, 32]⟩
abbrev S2x128 : Shape := ⟨2, ![2, 128]⟩
abbrev S1x2x128 : Shape := ⟨3, ![1, 2, 128]⟩

abbrev nBuf : Space → Nat
  | .hbm => 45
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S1x8x128, .f32⟩
  | .hbm, ⟨2, _⟩ => ⟨S8x128, .f32⟩
  | .hbm, ⟨3, _⟩ => ⟨S32, .i32⟩
  | .hbm, ⟨4, _⟩ => ⟨S128x2, .f32⟩
  | .hbm, ⟨5, _⟩ => ⟨S128x2x1, .f32⟩
  | .hbm, ⟨6, _⟩ => ⟨S1x1x32, .f32⟩
  | .hbm, ⟨7, _⟩ => ⟨S128x2x32, .f32⟩
  | .hbm, ⟨8, _⟩ => ⟨S128x2x32, .f32⟩
  | .hbm, ⟨9, _⟩ => ⟨S128x2x32, .i1⟩
  | .hbm, ⟨10, _⟩ => ⟨S128x2x32, .f32⟩
  | .hbm, ⟨11, _⟩ => ⟨S_, .f32⟩
  | .hbm, ⟨12, _⟩ => ⟨S128x32, .f32⟩
  | .hbm, ⟨13, _⟩ => ⟨S128, .i32⟩
  | .hbm, ⟨14, _⟩ => ⟨S1x128, .i32⟩
  | .hbm, ⟨15, _⟩ => ⟨S128x1, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .f32⟩
  | .hbm, ⟨20, _⟩ => ⟨S1x1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S32, .f32⟩
  | .hbm, ⟨28, _⟩ => ⟨S1x32, .f32⟩
  | .hbm, ⟨29, _⟩ => ⟨S128x32, .f32⟩
  | .hbm, ⟨30, _⟩ => ⟨S128x32, .f32⟩
  | .hbm, ⟨31, _⟩ => ⟨S128x1x32, .f32⟩
  | .hbm, ⟨32, _⟩ => ⟨S128x2x32, .f32⟩
  | .hbm, ⟨33, _⟩ => ⟨S128x2x32, .f32⟩
  | .hbm, ⟨34, _⟩ => ⟨S_, .f32⟩
  | .hbm, ⟨35, _⟩ => ⟨S128x2, .f32⟩
  | .hbm, ⟨36, _⟩ => ⟨S_, .f32⟩
  | .hbm, ⟨37, _⟩ => ⟨S128x2, .f32⟩
  | .hbm, ⟨38, _⟩ => ⟨S128x2, .f32⟩
  | .hbm, ⟨39, _⟩ => ⟨S128x2, .i32⟩
  | .hbm, ⟨40, _⟩ => ⟨S2x128, .i32⟩
  | .hbm, ⟨41, _⟩ => ⟨S1x2x128, .i32⟩
  | .hbm, ⟨42, _⟩ => ⟨S_, .i32⟩
  | .hbm, ⟨43, _⟩ => ⟨S_, .i32⟩
  | .hbm, ⟨44, _⟩ => ⟨S1x8x128, .i32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.MoePlan.lean ====
/- What the precondition on the tables says, in numbers. -/
module

public import proofs.«01_k».proof.Defs
public import proofs.«01_k».proof.Proof.Gen.Pre_planned
public import Idealize.ShloMosaic.Lib.Pointwise
public import Idealize.ShloMosaic.Lib.WordCmp
public import Idealize.ShloMosaic.Lib.ValueIdx
public import Idealize.ShloMosaic.Lib.ReduceAll
public import Idealize.ShloMosaic.Lib.StableHlo.Predicate

@[expose] public section

namespace Cert.Moe

open Idealize.ShloMosaic Idealize.ShloMosaic.TcCoe

variable {F : FTy → Type} [FloatOps F]

/-- The tables describe a plan: how many tiles are used, the used tiles' experts, the segments' numbers, the next segments' experts. -/
structure Plan (te : IVec Pre_planned.S96 32) (nu : IVec Pre_planned.S1 32) (sg nx : IVec Pre_planned.S96 32) : Prop where
  n_pos : 1 ≤ (nu (ix1 0)).toNat
  n_le : (nu (ix1 0)).toNat ≤ 96
  te_lt : ∀ i : Fin 96, i.val < (nu (ix1 0)).toNat → (te (ix1 i)).toNat < 32
  sg_zero : sg (ix1 0) = 0#32
  same : ∀ i j : Fin 96, j.val = i.val + 1 → j.val < (nu (ix1 0)).toNat → te (ix1 j) = te (ix1 i) → sg (ix1 j) = sg (ix1 i) ∧ nx (ix1 j) = nx (ix1 i)
  next : ∀ i j : Fin 96, j.val = i.val + 1 → j.val < (nu (ix1 0)).toNat → te (ix1 j) ≠ te (ix1 i) →
    sg (ix1 j) = sg (ix1 i) + 1#32 ∧ nx (ix1 i) = te (ix1 j)
  last : ∀ i : Fin 96, i.val + 1 = (nu (ix1 0)).toNat → 2 ^ 31 ≤ (nx (ix1 i)).toNat

theorem not_eq_one (c : BitVec 1) : ~~~c = 1#1 ↔ ¬c = 1#1 := by revert c; decide

theorem small_toInt (i : Nat) (h : i < 200) : (BitVec.ofNat 32 i).toInt = i := by
  rw [BitVec.toInt_eq_toNat_cond, BitVec.toNat_ofNat]; omega

theorem succ_small (i : Nat) : IntOp.addi (BitVec.ofNat 32 i) 1#32 = BitVec.ofNat 32 (i + 1) := by
  simp [IntOp.addi, BitVec.ofNat_add]

theorem eq_small (i : Nat) (h : i < 200) (x : BitVec 32) : BitVec.ofNat 32 i = x ↔ x.toNat = i := by
  rw [← BitVec.toNat_inj, BitVec.toNat_ofNat]; omega

theorem plan_of (te : IVec Pre_planned.S96 32) (nu : IVec Pre_planned.S1 32) (sg nx : IVec Pre_planned.S96 32)
    (xs : FVec F Pre_planned.S393216x128 .f32) (wg wu : FVec F Pre_planned.S32x1024x256 .f32) (wd : FVec F Pre_planned.S32x256x1024 .f32)
    (h : Pre_planned.fn (F := F) te nu sg nx xs wg wu wd = fun _ => 1#1) : Plan te nu sg nx := by
  have E : ∀ i : Fin 96, _ := fun i => by
    have e := congrFun h (ix1 i)
    pointwise [Pre_planned.fn, Pre_planned.fn_part1, Pre_planned.fn_part2] at e
    exact e
  have e0 := E 0
  simp only [IntOp.andi_eq_one, IntOp.ori_eq_one, not_eq_one, succ_small, WordCmp.cmpi_slt_eq, WordCmp.cmpi_sle_eq, WordCmp.cmpi_sgt_eq,
    WordCmp.cmpi_sge_eq, WordCmp.cmpi_eq_eq, WordCmp.cmpi_ne_eq, WordCmp.ofBool_decide_eq_one_iff] at E e0
  have hi1 : (1#32).toInt = 1 := by decide
  have hi96 : (96#32).toInt = 96 := by decide
  have hi0 : (0#32).toInt = 0 := by decide
  have hi32 : (32#32).toInt = 32 := by decide
  simp only [hi1, hi96, hi0, hi32] at E e0
  have hn := e0.1.1.1.1.1
  have hn' : (nu (ix1 0)).toInt = (nu (ix1 0)).toNat := by
    rw [BitVec.toInt_eq_toNat_cond] at hn ⊢; have := (nu (ix1 0)).isLt; omega
  rw [hn'] at hn
  have nxt : ∀ (i j : Fin 96), j.val = i.val + 1 → ∀ X : IVec Pre_planned.S96 32, (if h : i.val < 95 then X (ix1 ⟨1 + i.val, by omega⟩) else X (ix1 ⟨i.val - 95, by omega⟩)) = X (ix1 j) := by
    intro i j e X
    rw [dif_pos (by omega)]; congr 2; exact Fin.ext (by simp only; omega)
  refine ⟨by omega, by omega, ?_, ?_, ?_, ?_, ?_⟩
  · intro i hi
    have := (E i).1.1.1.1.2
    rw [hn', small_toInt _ (by omega), BitVec.toInt_eq_toNat_cond] at this
    have := (te (ix1 i)).isLt; omega
  · have := e0.1.1.1.2
    simpa using this
  · intro i j e hj ht
    have := (E i).1.1.2
    rw [hn', small_toInt _ (by omega), nxt i j e, nxt i j e, nxt i j e] at this
    rcases this with h | h
    · exact absurd ⟨by omega, ht⟩ h
    · exact h
  · intro i j e hj ht
    have := (E i).1.2
    rw [hn', small_toInt _ (by omega), nxt i j e, nxt i j e] at this
    rcases this with h | h
    · exact absurd ⟨by omega, ht⟩ h
    · exact h
  · intro i hi
    have := (E i).2
    rw [Ne, eq_small _ (by omega)] at this
    rw [BitVec.toInt_eq_toNat_cond] at this
    have := (nx (ix1 i)).isLt; omega

/-- The slot a segment's number names, and the expert a word names. -/
def slotW (v : BitVec 32) : Fin 2 := ⟨v.toNat % 2, Nat.mod_lt _ (by decide)⟩
def expW (v : BitVec 32) : Fin 32 := ⟨v.toNat % 32, Nat.mod_lt _ (by decide)⟩
/-- The slot of a tile's segment. -/
def slotAt (sg : IVec Pre_planned.S96 32) (k : Fin 96) : Fin 2 := slotW (sg (ix1 k))
/-- A tile's expert. -/
def expAt (te : IVec Pre_planned.S96 32) (k : Fin 96) : Fin 32 := expW (te (ix1 k))
/-- What is on its way once a tile is done: the next segment's expert, to the other slot. -/
def nextAt (sg nx : IVec Pre_planned.S96 32) (k : Fin 96) : Option (Fin 2 × Fin 32) :=
  if 2 ^ 31 ≤ (nx (ix1 k)).toNat then none else some (1 - slotAt sg k, expW (nx (ix1 k)))

variable {te : IVec Pre_planned.S96 32} {nu : IVec Pre_planned.S1 32} {sg nx : IVec Pre_planned.S96 32}

theorem Plan.seg (P : Plan te nu sg nx) : ∀ k : ℕ, ∀ h : k < 96, k < (nu (ix1 0)).toNat → (sg (ix1 ⟨k, h⟩)).toNat ≤ k := by
  intro k
  induction k with
  | zero => intro h hn; rw [show (⟨0, h⟩ : Fin 96) = 0 from rfl, P.sg_zero]; simp
  | succ k ih =>
    intro h hn
    have := ih (by omega) (by omega)
    by_cases e : te (ix1 ⟨k + 1, h⟩) = te (ix1 ⟨k, by omega⟩)
    · rw [(P.same ⟨k, by omega⟩ ⟨k + 1, h⟩ rfl hn e).1]; omega
    · rw [(P.next ⟨k, by omega⟩ ⟨k + 1, h⟩ rfl hn e).1, BitVec.toNat_add]
      simp only [BitVec.toNat_ofNat]; omega

theorem Plan.seg_word (P : Plan te nu sg nx) (k : Fin 96) (hn : k.val < (nu (ix1 0)).toNat) :
    ∃ q : Fin 96, sg (ix1 k) = BitVec.ofNat 32 q.val ∧ slotAt sg k = ⟨q.val % 2, Nat.mod_lt _ (by decide)⟩ := by
  have := P.seg k.val k.isLt hn
  have hk := k.isLt
  exact ⟨⟨(sg (ix1 k)).toNat, lt_of_le_of_lt this hk⟩, by simp, rfl⟩

theorem Plan.nx_dec (P : Plan te nu sg nx) : ∀ d : ℕ, ∀ k : Fin 96, k.val + 1 + d = (nu (ix1 0)).toNat → 2 ^ 31 ≤ (nx (ix1 k)).toNat ∨ (nx (ix1 k)).toNat < 32 := by
  intro d
  induction d with
  | zero => intro k h; exact Or.inl (P.last k (by omega))
  | succ d ih =>
    intro k h
    have hl := P.n_le
    have := ih ⟨k.val + 1, by omega⟩ (by simp only; omega)
    by_cases e : te (ix1 ⟨k.val + 1, by omega⟩) = te (ix1 k)
    · rw [(P.same k ⟨k.val + 1, by omega⟩ rfl (by simp only; omega) e).2] at this; exact this
    · rw [(P.next k ⟨k.val + 1, by omega⟩ rfl (by simp only; omega) e).2]
      exact Or.inr (P.te_lt _ (by simp only; omega))

theorem Plan.nx_range (P : Plan te nu sg nx) (k : Fin 96) (hn : k.val < (nu (ix1 0)).toNat) : 2 ^ 31 ≤ (nx (ix1 k)).toNat ∨ (nx (ix1 k)).toNat < 32 :=
  P.nx_dec ((nu (ix1 0)).toNat - (k.val + 1)) k (by omega)

theorem Plan.nextAt_same (P : Plan te nu sg nx) (i j : Fin 96) (e : j.val = i.val + 1) (hj : j.val < (nu (ix1 0)).toNat) (h : te (ix1 j) = te (ix1 i)) :
    nextAt sg nx j = nextAt sg nx i ∧ expAt te j = expAt te i := by
  obtain ⟨h1, h2⟩ := P.same i j e hj h
  unfold nextAt slotAt expAt
  rw [h1, h2, h]; exact ⟨rfl, rfl⟩

theorem Plan.nextAt_new (P : Plan te nu sg nx) (i j : Fin 96) (e : j.val = i.val + 1) (hj : j.val < (nu (ix1 0)).toNat) (h : te (ix1 j) ≠ te (ix1 i)) :
    nextAt sg nx i = some (slotAt sg j, expAt te j) := by
  obtain ⟨h1, h2⟩ := P.next i j e hj h
  have hs := P.seg i.val i.isLt (by omega)
  have ht := P.te_lt j hj
  have hi := i.isLt
  unfold nextAt slotAt expAt
  rw [if_neg (by rw [h2]; omega), h1, h2]
  congr 2
  change (sg (ix1 i)).toNat ≤ _ at hs
  apply Fin.ext
  simp only [slotW, Fin.sub_def, BitVec.toNat_add, BitVec.toNat_ofNat, Fin.val_one]
  omega

theorem Plan.nextAt_last (P : Plan te nu sg nx) (i : Fin 96) (h : i.val + 1 = (nu (ix1 0)).toNat) : nextAt sg nx i = none :=
  if_pos (P.last i h)

end Cert.Moe
-- ==== Proof.MoeRun.lean ====
/- The expert layer's kernel body, run piece by piece. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Batch
public import Idealize.ShloMosaic.Lib.Ring
public import Idealize.ShloMosaic.Lib.Tactic
public import Idealize.ShloMosaic.Lib.UnfoldOut
public import Idealize.ShloMosaic.Lib.WordCmp
public import Idealize.ShloMosaic.Lib.Pointwise

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Buffer `b` held whole at contents `f`. -/
abbrev heldB {sp : Space} {s : Shape} {e : EltTy} (c : Dev nD) (q : PosShare TreeShare) (M : Memref sig .tc sp s e)
    (f : Buf (Elt F) (M.view.loc (c : Thread nD τ))) : sProp 𝕄 :=
  M.view.loc (c : Thread nD τ) ↦{q} f

/-- The body as the pipeline calls it, the two staging buffers of the point left open. -/
abbrev bodyP (i : grid0.Coords) (M5 : Memref sig .tc .vmem S4096x128 .f32) (h5 : M5.IsWhole)
    (M9 : Memref sig .tc .vmem S4096x128 .f32) (h9 : M9.IsWhole) : Prog (TpuEff nD τ sig (Elt F) Λ₀ .tc) PUnit :=
  cc0_moe i (Memref.whole main_arg0) (Memref.isWhole_whole _) (Memref.whole main_arg1) (Memref.isWhole_whole _)
    (Memref.whole main_arg2) (Memref.isWhole_whole _) (Memref.whole main_arg3) (Memref.isWhole_whole _) M5 h5
    (Memref.whole main_arg5) (Memref.isWhole_whole _) (Memref.whole main_arg6) (Memref.isWhole_whole _)
    (Memref.whole main_arg7) (Memref.isWhole_whole _) M9 h9
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _) cc0_scratch6

/-- `v` is the word a table's buffer holds at a rectangle of one element. -/
def IsWord {s : Shape} (c : Dev nD) (M : Memref sig .tc .smem s .i32) (r : Rect s)
    (f : Buf (Elt F) (M.view.loc (c : Thread nD τ))) (v : BitVec 32) : Prop :=
  ∀ x, v = (M.access r).read (Elt F) f x

/-- A load of a table's word continues at the proof's name for the word. -/
theorem wp_word {α : Type} {s : Shape} (c : Dev nD) (M : Memref sig .tc .smem s .i32) (r : Rect s)
    (h1 : r.shape.numel = 1) (hp : EltTy.i32.packing = 1) {q : PosShare TreeShare}
    {f : Buf (Elt F) (M.view.loc (c : Thread nD τ))} {v : BitVec 32} (hv : IsWord (F := F) c M r f v)
    {K : Elt F .i32 → Prog (TpuEff nD τ sig (Elt F) Λ₀ .tc) α} {Q : α → sProp 𝕄} :
    (M.view.loc (c : Thread nD τ) ↦{q} f)
      ⊢ iprop(((M.view.loc (c : Thread nD τ) ↦{q} f) -∗ wp frame (wpE (defs₀ (F := F)) Variants.none c none) Set.univ (K v) Q)
        -∗ wp frame (wpE (defs₀ (F := F)) Variants.none c none) Set.univ (smemLoad M r h1 hp >>= K) Q) := by
  iintro H Hk
  iapply (wp_smemLoadElt_named Variants.none (c : Thread nD τ) none Set.univ (m := M) (r := r) (k := fun w => K w) (hw := View.loads_smem_one hp h1)
    (S := Finset.univ)) $$ H
  iintro H
  iapply (wand_of_eq (P := fun w => wp frame (wpE (defs₀ (F := F)) Variants.none c none) Set.univ (K w) Q) v (hv _))
  iapply Hk $$ H

/-! ## The three copies of an expert's matrices -/

/-- A slot of the two gate or up buffers, and one of the down buffer, at an offset. -/
abbrev slotA (b : Memref sig .tc .vmem S2x1024x256 .f32) (o : Fin 3 → ℕ)
    (h : ∀ a, o a + S1x1024x256.size a ≤ S2x1024x256.size a) : Memref sig .tc .vmem S1024x256 .f32 :=
  (b.slice (Rect.unit (s := S2x1024x256) o S1x1024x256.size h) (fun _ => rfl)).squeeze S1024x256 squeezes_S1x1024x256_S1024x256
abbrev slotB (b : Memref sig .tc .vmem S2x256x1024 .f32) (o : Fin 3 → ℕ)
    (h : ∀ a, o a + S1x256x1024.size a ≤ S2x256x1024.size a) : Memref sig .tc .vmem S256x1024 .f32 :=
  (b.slice (Rect.unit (s := S2x256x1024) o S1x256x1024.size h) (fun _ => rfl)).squeeze S256x1024 squeezes_S1x256x1024_S256x1024
/-- An expert's matrix in the whole weights, at an offset. -/
abbrev matA (b : Memref sig .tc .hbm S32x1024x256 .f32) (o : Fin 3 → ℕ)
    (h : ∀ a, o a + S1x1024x256.size a ≤ S32x1024x256.size a) : Memref sig .tc .hbm S1024x256 .f32 :=
  (b.slice (Rect.unit (s := S32x1024x256) o S1x1024x256.size h) (fun _ => rfl)).squeeze S1024x256 squeezes_S1x1024x256_S1024x256
abbrev matB (b : Memref sig .tc .hbm S32x256x1024 .f32) (o : Fin 3 → ℕ)
    (h : ∀ a, o a + S1x256x1024.size a ≤ S32x256x1024.size a) : Memref sig .tc .hbm S256x1024 .f32 :=
  (b.slice (Rect.unit (s := S32x256x1024) o S1x256x1024.size h) (fun _ => rfl)).squeeze S256x1024 squeezes_S1x256x1024_S256x1024
/-- A slot's semaphore, at an offset. -/
abbrev semAt (o : Fin 1 → ℕ) (h : ∀ a, o a + S1.size a ≤ S2.size a) : DmaSem sig :=
  ((cc0_scratch6.slice (Rect.unit (s := S2) o S1.size h)).squeeze S_ squeezes_S1_S_).sem

/-- A window held at exactly its own elements. -/
abbrev heldOwn {sp : Space} {s : Shape} {e : EltTy} (c : Dev nD) (M : Memref sig .tc sp s e)
    (f : Buf (Elt F) (M.view.loc (c : Thread nD τ))) : sProp 𝕄 :=
  M.view.loc (c : Thread nD τ) ↦[M.view.set]{fullShare} f

/-- What the three copies deliver: each slot holding the matrix read, and the matrix back. -/
def deliv (c : Dev nD) (s1 s2 : Memref sig .tc .hbm S1024x256 .f32) (s3 : Memref sig .tc .hbm S256x1024 .f32)
    (d1 d2 : Memref sig .tc .vmem S1024x256 .f32) (d3 : Memref sig .tc .vmem S256x1024 .f32)
    (f1 : Buf (Elt F) (s1.view.loc (c : Thread nD τ))) (f2 : Buf (Elt F) (s2.view.loc (c : Thread nD τ)))
    (f3 : Buf (Elt F) (s3.view.loc (c : Thread nD τ))) : Fin 3 → sProp 𝕄
  | 0 => iprop(owns (c : Thread nD τ) d1 fullShare (s1.view.read (Elt F) f1) ∗ heldOwn c s1 f1)
  | 1 => iprop(owns (c : Thread nD τ) d2 fullShare (s2.view.read (Elt F) f2) ∗ heldOwn c s2 f2)
  | 2 => iprop(owns (c : Thread nD τ) d3 fullShare (s3.view.read (Elt F) f3) ∗ heldOwn c s3 f3)

instance deliv_storable (c : Dev nD) (s1 s2 : Memref sig .tc .hbm S1024x256 .f32) (s3 : Memref sig .tc .hbm S256x1024 .f32)
    (d1 d2 : Memref sig .tc .vmem S1024x256 .f32) (d3 : Memref sig .tc .vmem S256x1024 .f32)
    (f1 : Buf (Elt F) (s1.view.loc (c : Thread nD τ))) (f2 : Buf (Elt F) (s2.view.loc (c : Thread nD τ)))
    (f3 : Buf (Elt F) (s3.view.loc (c : Thread nD τ))) (t : Fin 3) :
    Storable (upEmb : UEmb _ 𝕄) (deliv c s1 s2 s3 d1 d2 d3 f1 f2 f3 t) := by
  fin_cases t <;> simp only [deliv] <;> unfold owns <;> infer_instance

/-- The three copies in flight on one semaphore. -/
def flight (c : Dev nD) (sem : DmaSem sig) (s1 s2 : Memref sig .tc .hbm S1024x256 .f32) (s3 : Memref sig .tc .hbm S256x1024 .f32)
    (d1 d2 : Memref sig .tc .vmem S1024x256 .f32) (d3 : Memref sig .tc .vmem S256x1024 .f32)
    (f1 : Buf (Elt F) (s1.view.loc (c : Thread nD τ))) (f2 : Buf (Elt F) (s2.view.loc (c : Thread nD τ)))
    (f3 : Buf (Elt F) (s3.view.loc (c : Thread nD τ))) : sProp 𝕄 :=
  Transfers.Batch (countersEmb (U := Pipeline.UD sig nD τ)) (c : Thread nD τ) (.dma sem) () (d1.view.dmaCredit)
    (deliv c s1 s2 s3 d1 d2 d3 f1 f2 f3) 3 0

/-- A copy landed is the destination owned at what the source reads. -/
theorem landed (c : Dev nD) {s : Shape} (src : Memref sig .tc .hbm s .f32) (dst : Memref sig .tc .vmem s .f32)
    (f : Buf (Elt F) (src.view.loc (c : Thread nD τ))) (g : Buf (Elt F) (dst.view.loc (c : Thread nD τ))) :
    iprop((dst.view.loc (c : Thread nD τ) ↦[dst.view.set]{fullShare}
        (dst.view.write (Elt F) g (ReadAs.same.apply (src.view.read (Elt F) f)) Finset.univ)) ∗ heldOwn c src f)
      ⊢ (iprop(owns (c : Thread nD τ) dst fullShare (src.view.read (Elt F) f) ∗ heldOwn c src f) : sProp 𝕄) := by
  unfold owns
  iintro ⟨H, Hs⟩
  isplitl [H]
  · iexists _; isplitr; swap
    · iexact H
    · ipureintro; exact View.read_write_univ _ _
  iexact Hs

/-- The three copies started one after the other on one semaphore. -/
theorem wp_issue3 (c : Dev nD) {sem : DmaSem sig} {s1 s2 : Memref sig .tc .hbm S1024x256 .f32} {s3 : Memref sig .tc .hbm S256x1024 .f32}
    {d1 d2 : Memref sig .tc .vmem S1024x256 .f32} {d3 : Memref sig .tc .vmem S256x1024 .f32}
    (h2 : d2.view.dmaCredit = d1.view.dmaCredit) (h3 : d3.view.dmaCredit = d1.view.dmaCredit)
    (f1 : Buf (Elt F) (s1.view.loc (c : Thread nD τ))) (f2 : Buf (Elt F) (s2.view.loc (c : Thread nD τ)))
    (f3 : Buf (Elt F) (s3.view.loc (c : Thread nD τ)))
    {a1 : s1.view.WordExact} {b1 : d1.view.WordExact} {t1 : DmaTarget.Typed (nD := nD) .hbm (.dma sem) (DmaTarget.here (nD := nD) (p := (Proc.tc : Proc τ)) d1)}
    {a2 : s2.view.WordExact} {b2 : d2.view.WordExact} {t2 : DmaTarget.Typed (nD := nD) .hbm (.dma sem) (DmaTarget.here (nD := nD) (p := (Proc.tc : Proc τ)) d2)}
    {a3 : s3.view.WordExact} {b3 : d3.view.WordExact} {t3 : DmaTarget.Typed (nD := nD) .hbm (.dma sem) (DmaTarget.here (nD := nD) (p := (Proc.tc : Proc τ)) d3)}
    {α : Type} {K : Prog (TpuEff nD τ sig (Elt F) Λ₀ .tc) α} {Q : α → sProp 𝕄} :
    iprop(semVal ((c : Thread nD τ), .dma sem) 0 ∗ heldOwn c s1 f1 ∗ heldOwn c s2 f2 ∗ heldOwn c s3 f3
        ∗ (∃ g, heldOwn (F := F) c d1 g) ∗ (∃ g, heldOwn (F := F) c d2 g) ∗ (∃ g, heldOwn (F := F) c d3 g))
      ⊢ iprop((flight c sem s1 s2 s3 d1 d2 d3 f1 f2 f3 -∗ wp frame (wpE (defs₀ (F := F)) Variants.none c none) Set.univ K Q)
        -∗ wp frame (wpE (defs₀ (F := F)) Variants.none c none) Set.univ
          (Prog.lift (.enqueueDma s1 (.here d1) (.dma sem) a1 b1 t1) >>= fun _ : PUnit =>
            (Prog.lift (.enqueueDma s2 (.here d2) (.dma sem) a2 b2 t2) >>= fun _ : PUnit =>
              (Prog.lift (.enqueueDma s3 (.here d3) (.dma sem) a3 b3 t3) >>= fun _ : PUnit => K))) Q) := by
  iintro ⟨Hc, H1, H2, H3, ⟨%g1, D1⟩, ⟨%g2, D2⟩, ⟨%g3, D3⟩⟩ Hk
  imod (Transfers.batch_alloc' (Lvl := ℕ) (countersEmb (U := Pipeline.UD sig nD τ)) (c : Thread nD τ) () (d1.view.dmaCredit)
    (deliv c s1 s2 s3 d1 d2 d3 f1 f2 f3) (sm := .dma sem) (E := Set.univ)) $$ Hc with HB
  iapply (Transfers.wp_dmaBatch (countersEmb (U := Pipeline.UD sig nD τ)) Variants.none (c : Thread nD τ) none (src := s1) (dst := d1)
    (via := ReadAs.same) (D := deliv c s1 s2 s3 d1 d2 d3 f1 f2 f3) (sm := .dma sem) (j := 0) (u := 0) () (d1.view.dmaCredit) rfl (Finset.Subset.refl _) (by decide) (Nat.zero_le _)
    (landed c s1 d1 f1 g1)) $$ [H1 D1 HB]
  · isplitl [H1]; · iexact H1
    isplitl [D1]; · iexact D1
    iexact HB
  iintro HB
  iapply (Transfers.wp_dmaBatch (countersEmb (U := Pipeline.UD sig nD τ)) Variants.none (c : Thread nD τ) none (src := s2) (dst := d2)
    (via := ReadAs.same) (D := deliv c s1 s2 s3 d1 d2 d3 f1 f2 f3) (sm := .dma sem) (j := 1) (u := 0) () (d1.view.dmaCredit) h2 (Finset.Subset.refl _) (by decide) (Nat.zero_le _)
    (landed c s2 d2 f2 g2)) $$ [H2 D2 HB]
  · isplitl [H2]; · iexact H2
    isplitl [D2]; · iexact D2
    iexact HB
  iintro HB
  iapply (Transfers.wp_dmaBatch (countersEmb (U := Pipeline.UD sig nD τ)) Variants.none (c : Thread nD τ) none (src := s3) (dst := d3)
    (via := ReadAs.same) (D := deliv c s1 s2 s3 d1 d2 d3 f1 f2 f3) (sm := .dma sem) (j := 2) (u := 0) () (d1.view.dmaCredit) h3 (Finset.Subset.refl _) (by decide) (Nat.zero_le _)
    (landed c s3 d3 f3 g3)) $$ [H3 D3 HB]
  · isplitl [H3]; · iexact H3
    isplitl [D3]; · iexact D3
    iexact HB
  iintro HB
  iapply Hk
  unfold flight
  iexact HB

/-- The three waits, the last handing every slot and every matrix back. -/
theorem wp_wait3 (c : Dev nD) {sem : DmaSem sig} {s1 s2 : Memref sig .tc .hbm S1024x256 .f32} {s3 : Memref sig .tc .hbm S256x1024 .f32}
    {d1 d2 : Memref sig .tc .vmem S1024x256 .f32} {d3 : Memref sig .tc .vmem S256x1024 .f32}
    (h1 : 0 < d1.view.dmaCredit) (h2 : d2.view.dmaCredit = d1.view.dmaCredit) (h3 : d3.view.dmaCredit = d1.view.dmaCredit)
    (f1 : Buf (Elt F) (s1.view.loc (c : Thread nD τ))) (f2 : Buf (Elt F) (s2.view.loc (c : Thread nD τ)))
    (f3 : Buf (Elt F) (s3.view.loc (c : Thread nD τ))) (W : Waits sig Unit)
    {w1 w2 : Memref sig .tc .hbm S1024x256 .f32} {w3 : Memref sig .tc .hbm S256x1024 .f32}
    {a1 : w1.view.WordExact} {b1 : d1.view.WordExact} {a2 : w2.view.WordExact} {b2 : d2.view.WordExact}
    {a3 : w3.view.WordExact} {b3 : d3.view.WordExact}
    {α : Type} {K : Prog (TpuEff nD τ sig (Elt F) Λ₀ .tc) α} {Q : α → sProp 𝕄} :
    iprop(flight c sem s1 s2 s3 d1 d2 d3 f1 f2 f3 ∗ owes (c : Thread nD τ) 0 W)
      ⊢ iprop((iprop((owns (c : Thread nD τ) d1 fullShare (s1.view.read (Elt F) f1) ∗ heldOwn c s1 f1)
          ∗ (owns (c : Thread nD τ) d2 fullShare (s2.view.read (Elt F) f2) ∗ heldOwn c s2 f2)
          ∗ (owns (c : Thread nD τ) d3 fullShare (s3.view.read (Elt F) f3) ∗ heldOwn c s3 f3)
          ∗ semVal ((c : Thread nD τ), .dma sem) 0 ∗ (∃ W', owes (c : Thread nD τ) 0 W'))
          -∗ wp frame (wpE (defs₀ (F := F)) Variants.none c none) Set.univ K Q)
        -∗ wp frame (wpE (defs₀ (F := F)) Variants.none c none) Set.univ
          (Prog.lift (.waitDma2 sem w1 d1 a1 b1) >>= fun _ : PUnit =>
            (Prog.lift (.waitDma2 sem w2 d2 a2 b2) >>= fun _ : PUnit =>
              (Prog.lift (.waitDma2 sem w3 d3 a3 b3) >>= fun _ : PUnit => K))) Q) := by
  iintro ⟨HB, HO⟩ Hk
  unfold flight
  iapply (Transfers.wp_waitBatch (countersEmb (U := Pipeline.UD sig nD τ)) Variants.none (c : Thread nD τ) none (sem := sem)
    (srcw := w1) (dstw := d1) (N := d1.view.dmaCredit) (D := deliv c s1 s2 s3 d1 d2 d3 f1 f2 f3) (u := 0) () rfl (by omega)) $$ [HB HO]
  · isplitl [HB]; · iexact HB
    iexact HO
  iintro ⟨HB, HO⟩
  iapply (Transfers.wp_waitBatch (countersEmb (U := Pipeline.UD sig nD τ)) Variants.none (c : Thread nD τ) none (sem := sem)
    (srcw := w2) (dstw := d2) (N := d1.view.dmaCredit) (D := deliv c s1 s2 s3 d1 d2 d3 f1 f2 f3) (u := 0 + d1.view.dmaCredit) () h2 (by omega)) $$ [HB HO]
  · isplitl [HB]; · iexact HB
    iexact HO
  iintro ⟨HB, HO⟩
  iapply (Transfers.wp_waitBatchLast (countersEmb (U := Pipeline.UD sig nD τ)) Variants.none (c : Thread nD τ) none (sem := sem)
    (srcw := w3) (dstw := d3) (N := d1.view.dmaCredit) (D := deliv c s1 s2 s3 d1 d2 d3 f1 f2 f3) (u := 0 + d1.view.dmaCredit + d1.view.dmaCredit) () h3 h1 (by omega)) $$ [HB HO]
  · isplitl [HB]; · iexact HB
    iexact HO
  rw [show (bigSep Finset.univ (deliv c s1 s2 s3 d1 d2 d3 f1 f2 f3) : sProp 𝕄) = iprop(deliv c s1 s2 s3 d1 d2 d3 f1 f2 f3 0 ∗ deliv c s1 s2 s3 d1 d2 d3 f1 f2 f3 1 ∗ deliv c s1 s2 s3 d1 d2 d3 f1 f2 f3 2) from
    bigSep_univ_eq_bigSepL [0, 1, 2] (by decide) (by decide) _]
  simp only [deliv]
  iintro ⟨HD, HC, HO⟩
  iapply Hk
  icases HD with ⟨H1, H2, H3⟩
  isplitl [H1]; · iexact H1
  isplitl [H2]; · iexact H2
  isplitl [H3]; · iexact H3
  isplitl [HC]; · iexact HC
  iexists _; iexact HO

/-- A load of one slot through the whole buffer, the slot held by its own elements: it reads what the slot holds. -/
theorem wp_loadA (c : Dev nD) (b : Memref sig .tc .vmem S2x1024x256 .f32) (o o' : Fin 3 → ℕ) (ho : o' = o)
    (h : ∀ a, o a + S1x1024x256.size a ≤ S2x1024x256.size a) (h' : ∀ a, o' a + S1x1024x256.size a ≤ S2x1024x256.size a)
    {hl : b.view.LoadsAt (Rect.unit (s := S2x1024x256) o' S1x1024x256.size h').toLoadRect}
    (X : Vec F S1024x256 .f32) {α : Type} {K : Vec F S1x1024x256 .f32 → Prog (TpuEff nD τ sig (Elt F) Λ₀ .tc) α} {Q : α → sProp 𝕄} :
    (owns (c : Thread nD τ) (slotA b o h) fullShare X : sProp 𝕄)
      ⊢ iprop((owns (c : Thread nD τ) (slotA b o h) fullShare X
          -∗ wp frame (wpE (defs₀ (F := F)) Variants.none c none) Set.univ (K (fun j => X (ix2 (j 1) (j 2)))) Q)
        -∗ wp frame (wpE (defs₀ (F := F)) Variants.none c none) Set.univ
          (Prog.lift (.load b (Rect.unit (s := S2x1024x256) o' S1x1024x256.size h').toLoadRect hl) >>= K) Q) := by
  subst ho
  unfold owns
  iintro ⟨%f, %hf, H⟩ Hk
  have hS : b.view.setOn (Rect.unit (s := S2x1024x256) o' S1x1024x256.size h').toLoadRect.set ⊆ (slotA b o' h).view.set :=
    ((View.set_reshape _ _).trans (View.set_slice _ _)).symm.subset
  have e : b.view.readAt (Elt F) (Rect.unit (s := S2x1024x256) o' S1x1024x256.size h').toLoadRect f
      = fun j => X (ix2 (j 1) (j 2)) := by
    subst hf
    funext j
    have e0 : (slotA b o' h).view.read (Elt F) f = fun y =>
      (b.view.readAt (Elt F) (Rect.unit (s := S2x1024x256) o' S1x1024x256.size h').toLoadRect f) (Shape.reshapeEquiv squeezes_S1x1024x256_S1024x256.numel_eq y) := rfl
    rw [e0]
    refine congrArg _ ?_
    refine Eq.trans ?_ (Shape.reshapeEquiv_cons_one (d := ![1024, 256]) _ _).symm
    funext a
    match a with
    | 0 => exact Subsingleton.elim (α := Fin 1) _ _
    | 1 => rfl
    | 2 => rfl
  have L := wp_load (defs := defs₀ (F := F)) (Γ := .empty) Variants.none (c : Thread nD τ) none Set.univ (m := b) (q := fullShare) (f := f) (hl := hl) (k := fun w => K w) (Q := Q) hS
  rw [e] at L
  iapply L $$ H
  iintro H
  iapply Hk
  iexists f
  isplitr
  · ipureintro; exact hf
  iexact H

/-- A load of one slot through the whole buffer, the slot held by its own elements: it reads what the slot holds. -/
theorem wp_loadB (c : Dev nD) (b : Memref sig .tc .vmem S2x256x1024 .f32) (o o' : Fin 3 → ℕ) (ho : o' = o)
    (h : ∀ a, o a + S1x256x1024.size a ≤ S2x256x1024.size a) (h' : ∀ a, o' a + S1x256x1024.size a ≤ S2x256x1024.size a)
    {hl : b.view.LoadsAt (Rect.unit (s := S2x256x1024) o' S1x256x1024.size h').toLoadRect}
    (X : Vec F S256x1024 .f32) {α : Type} {K : Vec F S1x256x1024 .f32 → Prog (TpuEff nD τ sig (Elt F) Λ₀ .tc) α} {Q : α → sProp 𝕄} :
    (owns (c : Thread nD τ) (slotB b o h) fullShare X : sProp 𝕄)
      ⊢ iprop((owns (c : Thread nD τ) (slotB b o h) fullShare X
          -∗ wp frame (wpE (defs₀ (F := F)) Variants.none c none) Set.univ (K (fun j => X (ix2 (j 1) (j 2)))) Q)
        -∗ wp frame (wpE (defs₀ (F := F)) Variants.none c none) Set.univ
          (Prog.lift (.load b (Rect.unit (s := S2x256x1024) o' S1x256x1024.size h').toLoadRect hl) >>= K) Q) := by
  subst ho
  unfold owns
  iintro ⟨%f, %hf, H⟩ Hk
  have hS : b.view.setOn (Rect.unit (s := S2x256x1024) o' S1x256x1024.size h').toLoadRect.set ⊆ (slotB b o' h).view.set :=
    ((View.set_reshape _ _).trans (View.set_slice _ _)).symm.subset
  have e : b.view.readAt (Elt F) (Rect.unit (s := S2x256x1024) o' S1x256x1024.size h').toLoadRect f
      = fun j => X (ix2 (j 1) (j 2)) := by
    subst hf
    funext j
    have e0 : (slotB b o' h).view.read (Elt F) f = fun y =>
      (b.view.readAt (Elt F) (Rect.unit (s := S2x256x1024) o' S1x256x1024.size h').toLoadRect f) (Shape.reshapeEquiv squeezes_S1x256x1024_S256x1024.numel_eq y) := rfl
    rw [e0]
    refine congrArg _ ?_
    refine Eq.trans ?_ (Shape.reshapeEquiv_cons_one (d := ![256, 1024]) _ _).symm
    funext a
    match a with
    | 0 => exact Subsingleton.elim (α := Fin 1) _ _
    | 1 => rfl
    | 2 => rfl
  have L := wp_load (defs := defs₀ (F := F)) (Γ := .empty) Variants.none (c : Thread nD τ) none Set.univ (m := b) (q := fullShare) (f := f) (hl := hl) (k := fun w => K w) (Q := Q) hS
  rw [e] at L
  iapply L $$ H
  iintro H
  iapply Hk
  iexists f
  isplitr
  · ipureintro; exact hf
  iexact H

/-! ## The slots and the experts by number -/

theorem slot_inbA (s : Fin 2) : ∀ a, (![s.val, 0, 0] : Fin 3 → ℕ) a + S1x1024x256.size a ≤ S2x1024x256.size a := by
  fin_cases s <;> decide
theorem slot_inbB (s : Fin 2) : ∀ a, (![s.val, 0, 0] : Fin 3 → ℕ) a + S1x256x1024.size a ≤ S2x256x1024.size a := by
  fin_cases s <;> decide
theorem slot_inbS (s : Fin 2) : ∀ a, (![s.val] : Fin 1 → ℕ) a + S1.size a ≤ S2.size a := by
  fin_cases s <;> decide
theorem mat_inbA (e : Fin 32) : ∀ a, (![e.val, 0, 0] : Fin 3 → ℕ) a + S1x1024x256.size a ≤ S32x1024x256.size a := by
  revert e; decide
theorem mat_inbB (e : Fin 32) : ∀ a, (![e.val, 0, 0] : Fin 3 → ℕ) a + S1x256x1024.size a ≤ S32x256x1024.size a := by
  revert e; decide

abbrev s1 (s : Fin 2) : Memref sig .tc .vmem S1024x256 .f32 := slotA (Memref.whole cc0_scratch0) ![s.val, 0, 0] (slot_inbA s)
abbrev s2 (s : Fin 2) : Memref sig .tc .vmem S1024x256 .f32 := slotA (Memref.whole cc0_scratch1) ![s.val, 0, 0] (slot_inbA s)
abbrev s3 (s : Fin 2) : Memref sig .tc .vmem S256x1024 .f32 := slotB (Memref.whole cc0_scratch2) ![s.val, 0, 0] (slot_inbB s)
abbrev sm (s : Fin 2) : DmaSem sig := semAt ![s.val] (slot_inbS s)
abbrev w1 (e : Fin 32) : Memref sig .tc .hbm S1024x256 .f32 := matA (Memref.whole main_arg5) ![e.val, 0, 0] (mat_inbA e)
abbrev w2 (e : Fin 32) : Memref sig .tc .hbm S1024x256 .f32 := matA (Memref.whole main_arg6) ![e.val, 0, 0] (mat_inbA e)
abbrev w3 (e : Fin 32) : Memref sig .tc .hbm S256x1024 .f32 := matB (Memref.whole main_arg7) ![e.val, 0, 0] (mat_inbB e)

/-- The three arrays of weights. -/
structure Wts (F : FTy → Type) [FloatOps F] (c : Dev nD) where
  g : Buf (Elt F) ((Memref.whole main_arg5 : Memref sig .tc .hbm S32x1024x256 .f32).view.loc (c : Thread nD τ))
  u : Buf (Elt F) ((Memref.whole main_arg6 : Memref sig .tc .hbm S32x1024x256 .f32).view.loc (c : Thread nD τ))
  d : Buf (Elt F) ((Memref.whole main_arg7 : Memref sig .tc .hbm S32x256x1024 .f32).view.loc (c : Thread nD τ))

/-- The weights held whole. -/
def wts (c : Dev nD) (f : Wts F c) : sProp 𝕄 :=
  iprop(heldB c fullShare (Memref.whole main_arg5) f.g ∗ heldB c fullShare (Memref.whole main_arg6) f.u
    ∗ heldB c fullShare (Memref.whole main_arg7) f.d)
/-- An array held but for a window. -/
abbrev butOwn {sp : Space} {s s' : Shape} {e : EltTy} (c : Dev nD) (B : Memref sig .tc sp s' e) (M : Memref sig .tc sp s e)
    (h : M.view.loc (c : Thread nD τ) = B.view.loc (c : Thread nD τ))
    (f : Buf (Elt F) (M.view.loc (c : Thread nD τ))) : sProp 𝕄 :=
  M.view.loc (c : Thread nD τ) ↦[Finset.univ \ M.view.set]{fullShare} f
/-- The weights held but for one expert's matrices. -/
def rests (c : Dev nD) (e : Fin 32) (f : Wts F c) : sProp 𝕄 :=
  iprop(butOwn c (Memref.whole main_arg5) (w1 e) rfl f.g ∗ butOwn c (Memref.whole main_arg6) (w2 e) rfl f.u
    ∗ butOwn c (Memref.whole main_arg7) (w3 e) rfl f.d)
/-- One expert's matrices held. -/
def mats (c : Dev nD) (e : Fin 32) (f : Wts F c) : sProp 𝕄 :=
  iprop(heldOwn c (w1 e) f.g ∗ heldOwn c (w2 e) f.u ∗ heldOwn c (w3 e) f.d)

theorem wts_split (c : Dev nD) (e : Fin 32) (f : Wts F c) : wts c f ⊣⊢ iprop(mats c e f ∗ rests c e f) := by
  have h1 : (heldB c fullShare (Memref.whole main_arg5) f.g : sProp 𝕄) ⊣⊢ iprop(heldOwn c (w1 e) f.g ∗ butOwn c (Memref.whole main_arg5) (w1 e) rfl f.g) :=
    pointsTo_split_subset (Finset.subset_univ _)
  have h2 : (heldB c fullShare (Memref.whole main_arg6) f.u : sProp 𝕄) ⊣⊢ iprop(heldOwn c (w2 e) f.u ∗ butOwn c (Memref.whole main_arg6) (w2 e) rfl f.u) :=
    pointsTo_split_subset (Finset.subset_univ _)
  have h3 : (heldB c fullShare (Memref.whole main_arg7) f.d : sProp 𝕄) ⊣⊢ iprop(heldOwn c (w3 e) f.d ∗ butOwn c (Memref.whole main_arg7) (w3 e) rfl f.d) :=
    pointsTo_split_subset (Finset.subset_univ _)
  unfold wts mats rests
  constructor
  · iintro ⟨H1, H2, H3⟩
    ihave H1 := h1.1 $$ H1
    ihave H2 := h2.1 $$ H2
    ihave H3 := h3.1 $$ H3
    icases H1 with ⟨A1, B1⟩
    icases H2 with ⟨A2, B2⟩
    icases H3 with ⟨A3, B3⟩
    isplitl [A1 A2 A3]
    · isplitl [A1]; · iexact A1
      isplitl [A2]; · iexact A2
      iexact A3
    isplitl [B1]; · iexact B1
    isplitl [B2]; · iexact B2
    iexact B3
  · iintro ⟨⟨A1, A2, A3⟩, B1, B2, B3⟩
    isplitl [A1 B1]
    · iapply h1.2 $$ [A1 B1]
      isplitl [A1]; · iexact A1
      iexact B1
    isplitl [A2 B2]
    · iapply h2.2 $$ [A2 B2]
      isplitl [A2]; · iexact A2
      iexact B2
    iapply h3.2 $$ [A3 B3]
    isplitl [A3]; · iexact A3
    iexact B3

/-- A slot with nothing in flight: its semaphore at zero, its three windows at any contents. -/
def free (c : Dev nD) (s : Fin 2) : sProp 𝕄 :=
  iprop(semVal ((c : Thread nD τ), .dma (sm s)) 0 ∗ (∃ g, heldOwn (F := F) c (s1 s) g) ∗ (∃ g, heldOwn (F := F) c (s2 s) g)
    ∗ (∃ g, heldOwn (F := F) c (s3 s) g))

/-- What the slots and the weights are between two points: nothing in flight, or one expert's matrices on their way to a slot. -/
def St (c : Dev nD) (f : Wts F c) : Option (Fin 2 × Fin 32) → sProp 𝕄
  | none => iprop(free c 0 ∗ free c 1 ∗ wts c f)
  | some (s, e) => iprop(flight c (sm s) (w1 e) (w2 e) (w3 e) (s1 s) (s2 s) (s3 s) f.g f.u f.d ∗ free c (1 - s) ∗ rests c e f)

theorem St_none (c : Dev nD) (f : Wts F c) (s : Fin 2) : St c f none ⊣⊢ iprop(free c s ∗ free c (1 - s) ∗ wts c f) := by
  fin_cases s
  · exact .rfl
  · constructor
    · unfold St
      iintro ⟨H0, H1, H⟩
      isplitl [H1]; · iexact H1
      isplitl [H0]; · iexact H0
      iexact H
    · unfold St
      iintro ⟨H0, H1, H⟩
      isplitl [H1]; · iexact H1
      isplitl [H0]; · iexact H0
      iexact H

theorem cr2 (s : Fin 2) : (s2 s).view.dmaCredit = (s1 s).view.dmaCredit := rfl
theorem cr3 (s : Fin 2) : (s3 s).view.dmaCredit = (s1 s).view.dmaCredit := by decide +revert
theorem cr1 (s : Fin 2) : 0 < (s1 s).view.dmaCredit := by decide +revert

/-- An expert's three copies started into a slot. -/
theorem wp_issueS (c : Dev nD) (f : Wts F c) (s : Fin 2) (e : Fin 32)
    {q1 : Fin 1 → ℕ} {hq1 : ∀ a, q1 a + S1.size a ≤ S2.size a} {q2 : Fin 1 → ℕ} {hq2 : ∀ a, q2 a + S1.size a ≤ S2.size a} {q3 : Fin 1 → ℕ} {hq3 : ∀ a, q3 a + S1.size a ≤ S2.size a}
    {o1 : Fin 3 → ℕ} {ho1 : ∀ a, o1 a + S1x1024x256.size a ≤ S2x1024x256.size a} {o2 : Fin 3 → ℕ} {ho2 : ∀ a, o2 a + S1x1024x256.size a ≤ S2x1024x256.size a} {o3 : Fin 3 → ℕ} {ho3 : ∀ a, o3 a + S1x256x1024.size a ≤ S2x256x1024.size a}
    {m1 : Fin 3 → ℕ} {hm1 : ∀ a, m1 a + S1x1024x256.size a ≤ S32x1024x256.size a} {m2 : Fin 3 → ℕ} {hm2 : ∀ a, m2 a + S1x1024x256.size a ≤ S32x1024x256.size a} {m3 : Fin 3 → ℕ} {hm3 : ∀ a, m3 a + S1x256x1024.size a ≤ S32x256x1024.size a}
    (eq1 : q1 = ![s.val]) (eq2 : q2 = ![s.val]) (eq3 : q3 = ![s.val]) (eo1 : o1 = ![s.val, 0, 0]) (eo2 : o2 = ![s.val, 0, 0]) (eo3 : o3 = ![s.val, 0, 0])
    (em1 : m1 = ![e.val, 0, 0]) (em2 : m2 = ![e.val, 0, 0]) (em3 : m3 = ![e.val, 0, 0])
    {a1 : (matA (Memref.whole main_arg5) m1 hm1).view.WordExact} {b1 : (slotA (Memref.whole cc0_scratch0) o1 ho1).view.WordExact} {a2 : (matA (Memref.whole main_arg6) m2 hm2).view.WordExact} {b2 : (slotA (Memref.whole cc0_scratch1) o2 ho2).view.WordExact} {a3 : (matB (Memref.whole main_arg7) m3 hm3).view.WordExact} {b3 : (slotB (Memref.whole cc0_scratch2) o3 ho3).view.WordExact}
    {t1 : DmaTarget.Typed (nD := nD) .hbm (.dma (semAt q1 hq1)) (DmaTarget.here (nD := nD) (p := (Proc.tc : Proc τ)) (slotA (Memref.whole cc0_scratch0) o1 ho1))} {t2 : DmaTarget.Typed (nD := nD) .hbm (.dma (semAt q2 hq2)) (DmaTarget.here (nD := nD) (p := (Proc.tc : Proc τ)) (slotA (Memref.whole cc0_scratch1) o2 ho2))} {t3 : DmaTarget.Typed (nD := nD) .hbm (.dma (semAt q3 hq3)) (DmaTarget.here (nD := nD) (p := (Proc.tc : Proc τ)) (slotB (Memref.whole cc0_scratch2) o3 ho3))}
    {α : Type} {K : Prog (TpuEff nD τ sig (Elt F) Λ₀ .tc) α} {Q : α → sProp 𝕄} :
    St c f none
      ⊢ iprop((St c f (some (s, e)) -∗ wp frame (wpE (defs₀ (F := F)) Variants.none c none) Set.univ K Q)
        -∗ wp frame (wpE (defs₀ (F := F)) Variants.none c none) Set.univ
          (Prog.lift (.enqueueDma (matA (Memref.whole main_arg5) m1 hm1) (.here (slotA (Memref.whole cc0_scratch0) o1 ho1)) (.dma (semAt q1 hq1)) a1 b1 t1) >>= fun _ : PUnit =>
            (Prog.lift (.enqueueDma (matA (Memref.whole main_arg6) m2 hm2) (.here (slotA (Memref.whole cc0_scratch1) o2 ho2)) (.dma (semAt q2 hq2)) a2 b2 t2) >>= fun _ : PUnit =>
              (Prog.lift (.enqueueDma (matB (Memref.whole main_arg7) m3 hm3) (.here (slotB (Memref.whole cc0_scratch2) o3 ho3)) (.dma (semAt q3 hq3)) a3 b3 t3) >>= fun _ : PUnit => K))) Q) := by
  subst eq1 eq2 eq3 eo1 eo2 eo3 em1 em2 em3
  refine (St_none c f s).1.trans ?_
  unfold free
  iintro ⟨⟨HC, D1, D2, D3⟩, HF, HW⟩ Hk
  ihave HW := (wts_split c e f).1 $$ HW
  icases HW with ⟨HM, HR⟩
  unfold mats
  icases HM with ⟨M1, M2, M3⟩
  iapply (wp_issue3 c (sem := sm s) (s1 := w1 e) (s2 := w2 e) (s3 := w3 e) (d1 := s1 s) (d2 := s2 s) (d3 := s3 s) (cr2 s) (cr3 s) f.g f.u f.d) $$ [HC M1 M2 M3 D1 D2 D3]
  · isplitl [HC]; · iexact HC
    isplitl [M1]; · iexact M1
    isplitl [M2]; · iexact M2
    isplitl [M3]; · iexact M3
    isplitl [D1]; · iexact D1
    isplitl [D2]; · iexact D2
    iexact D3
  iintro HB
  iapply Hk
  unfold St
  isplitl [HB]; · iexact HB
  isplitl [HF]; · unfold free; iexact HF
  iexact HR

/-- What an expert's matrices are, read out of the whole weights. -/
def matG (c : Dev nD) (f : Wts F c) (e : Fin 32) : Vec F S1024x256 .f32 := (w1 e).view.read (Elt F) f.g
def matU (c : Dev nD) (f : Wts F c) (e : Fin 32) : Vec F S1024x256 .f32 := (w2 e).view.read (Elt F) f.u
def matD (c : Dev nD) (f : Wts F c) (e : Fin 32) : Vec F S256x1024 .f32 := (w3 e).view.read (Elt F) f.d

/-- A slot landed: its three windows hold an expert's matrices, and nothing else is in flight. -/
def landedS (c : Dev nD) (f : Wts F c) (s : Fin 2) (e : Fin 32) : sProp 𝕄 :=
  iprop(owns (c : Thread nD τ) (s1 s) fullShare (matG c f e) ∗ owns (c : Thread nD τ) (s2 s) fullShare (matU c f e)
    ∗ owns (c : Thread nD τ) (s3 s) fullShare (matD c f e) ∗ semVal ((c : Thread nD τ), .dma (sm s)) 0 ∗ free c (1 - s) ∗ wts c f)

/-- Its contents forgotten, a landed slot is free again. -/
theorem landedS_free (c : Dev nD) (f : Wts F c) (s : Fin 2) (e : Fin 32) : landedS c f s e ⊢ St c f none := by
  refine .trans ?_ (St_none c f s).2
  unfold landedS
  iintro ⟨H1, H2, H3, HC, HF, HW⟩
  isplitr [HF HW]
  · unfold free owns
    icases H1 with ⟨%g1, -, H1⟩
    icases H2 with ⟨%g2, -, H2⟩
    icases H3 with ⟨%g3, -, H3⟩
    isplitl [HC]; · iexact HC
    isplitl [H1]; · iexists _; iexact H1
    isplitl [H2]; · iexists _; iexact H2
    iexists _; iexact H3
  isplitl [HF]; · iexact HF
  iexact HW

/-- An expert's three copies waited for. -/
theorem wp_waitS (c : Dev nD) (f : Wts F c) (s : Fin 2) (e : Fin 32) (W : Waits sig Unit)
    {q1 : Fin 1 → ℕ} {hq1 : ∀ a, q1 a + S1.size a ≤ S2.size a} {q2 : Fin 1 → ℕ} {hq2 : ∀ a, q2 a + S1.size a ≤ S2.size a} {q3 : Fin 1 → ℕ} {hq3 : ∀ a, q3 a + S1.size a ≤ S2.size a}
    {o1 : Fin 3 → ℕ} {ho1 : ∀ a, o1 a + S1x1024x256.size a ≤ S2x1024x256.size a} {o2 : Fin 3 → ℕ} {ho2 : ∀ a, o2 a + S1x1024x256.size a ≤ S2x1024x256.size a} {o3 : Fin 3 → ℕ} {ho3 : ∀ a, o3 a + S1x256x1024.size a ≤ S2x256x1024.size a}
    {m1 : Fin 3 → ℕ} {hm1 : ∀ a, m1 a + S1x1024x256.size a ≤ S32x1024x256.size a} {m2 : Fin 3 → ℕ} {hm2 : ∀ a, m2 a + S1x1024x256.size a ≤ S32x1024x256.size a} {m3 : Fin 3 → ℕ} {hm3 : ∀ a, m3 a + S1x256x1024.size a ≤ S32x256x1024.size a}
    (eq1 : q1 = ![s.val]) (eq2 : q2 = ![s.val]) (eq3 : q3 = ![s.val]) (eo1 : o1 = ![s.val, 0, 0]) (eo2 : o2 = ![s.val, 0, 0]) (eo3 : o3 = ![s.val, 0, 0])
    {a1 : (matA (Memref.whole main_arg5) m1 hm1).view.WordExact} {b1 : (slotA (Memref.whole cc0_scratch0) o1 ho1).view.WordExact} {a2 : (matA (Memref.whole main_arg6) m2 hm2).view.WordExact} {b2 : (slotA (Memref.whole cc0_scratch1) o2 ho2).view.WordExact} {a3 : (matB (Memref.whole main_arg7) m3 hm3).view.WordExact} {b3 : (slotB (Memref.whole cc0_scratch2) o3 ho3).view.WordExact}
    {α : Type} {K : Prog (TpuEff nD τ sig (Elt F) Λ₀ .tc) α} {Q : α → sProp 𝕄} :
    iprop(St c f (some (s, e)) ∗ owes (c : Thread nD τ) 0 W)
      ⊢ iprop((iprop(landedS c f s e ∗ (∃ W', owes (c : Thread nD τ) 0 W')) -∗ wp frame (wpE (defs₀ (F := F)) Variants.none c none) Set.univ K Q)
        -∗ wp frame (wpE (defs₀ (F := F)) Variants.none c none) Set.univ
          (Prog.lift (.waitDma2 (semAt q1 hq1) (matA (Memref.whole main_arg5) m1 hm1) (slotA (Memref.whole cc0_scratch0) o1 ho1) a1 b1) >>= fun _ : PUnit =>
            (Prog.lift (.waitDma2 (semAt q2 hq2) (matA (Memref.whole main_arg6) m2 hm2) (slotA (Memref.whole cc0_scratch1) o2 ho2) a2 b2) >>= fun _ : PUnit =>
              (Prog.lift (.waitDma2 (semAt q3 hq3) (matB (Memref.whole main_arg7) m3 hm3) (slotB (Memref.whole cc0_scratch2) o3 ho3) a3 b3) >>= fun _ : PUnit => K))) Q) := by
  subst eq1 eq2 eq3 eo1 eo2 eo3
  unfold St
  iintro ⟨⟨HB, HF, HR⟩, HO⟩ Hk
  iapply (wp_wait3 c (sem := sm s) (s1 := w1 e) (s2 := w2 e) (s3 := w3 e) (d1 := s1 s) (d2 := s2 s) (d3 := s3 s) (cr1 s) (cr2 s) (cr3 s) f.g f.u f.d W) $$ [HB HO]
  · isplitl [HB]; · iexact HB
    iexact HO
  iintro ⟨⟨D1, M1⟩, ⟨D2, M2⟩, ⟨D3, M3⟩, HC, HO⟩
  iapply Hk
  isplitr [HO]; swap; · iexact HO
  unfold landedS
  isplitl [D1]; · iexact D1
  isplitl [D2]; · iexact D2
  isplitl [D3]; · iexact D3
  isplitl [HC]; · iexact HC
  isplitl [HF]; · iexact HF
  iapply (wts_split c e f).2 $$ [M1 M2 M3 HR]
  unfold mats
  isplitr [HR]; swap; · iexact HR
  isplitl [M1]; · iexact M1
  isplitl [M2]; · iexact M2
  iexact M3

end Cert.Kernel2Ideal.Gen

end
-- ==== Proof.MoeBody.lean ====
/- The expert layer's kernel body at one point of the grid. -/
module

public import proofs.«01_k».proof.Proof.MoeRun
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four tables a point reads, at the words it reads there. -/
structure Words (c : Dev nD) (i : grid0.Coords) where
  T0 : Buf (Elt F) ((Memref.whole main_arg0 : Memref sig .tc .smem S96 .i32).view.loc (c : Thread nD τ))
  T1 : Buf (Elt F) ((Memref.whole main_arg1 : Memref sig .tc .smem S1 .i32).view.loc (c : Thread nD τ))
  T2 : Buf (Elt F) ((Memref.whole main_arg2 : Memref sig .tc .smem S96 .i32).view.loc (c : Thread nD τ))
  T3 : Buf (Elt F) ((Memref.whole main_arg3 : Memref sig .tc .smem S96 .i32).view.loc (c : Thread nD τ))
  n : BitVec 32
  te : BitVec 32
  pe : BitVec 32
  sg : BitVec 32
  nx : BitVec 32
  t0 : BitVec 32
  hn : IsWord c (Memref.whole main_arg1) (Rect.unit (s := S1) ![0] S1.size inb_S1_S1_0) T1 n
  hte : IsWord c (Memref.whole main_arg0) (Rect.unit (s := S96) (k0_off1 i) S1.size (k0_off1_inb i)) T0 te
  hte' : IsWord c (Memref.whole main_arg0) (Rect.unit (s := S96) (k0_off5 i) S1.size (k0_off5_inb i)) T0 te
  hpe : IsWord c (Memref.whole main_arg0) (Rect.unit (s := S96) (k0_off2 i) S1.size (k0_off2_inb i)) T0 pe
  hsg : IsWord c (Memref.whole main_arg2) (Rect.unit (s := S96) (k0_off1 i) S1.size (k0_off1_inb i)) T2 sg
  hnx : IsWord c (Memref.whole main_arg3) (Rect.unit (s := S96) (k0_off15 i) S1.size (k0_off15_inb i)) T3 nx
  hnx' : IsWord c (Memref.whole main_arg3) (Rect.unit (s := S96) (k0_off16 i) S1.size (k0_off16_inb i)) T3 nx
  ht0 : IsWord c (Memref.whole main_arg0) (Rect.unit (s := S96) ![0] S1.size inb_S96_S1_0) T0 t0

/-- The tables held. -/
def tabs {c : Dev nD} {i : grid0.Coords} (q : PosShare TreeShare) (w : Words (F := F) c i) : sProp 𝕄 :=
  iprop(heldB c q (Memref.whole main_arg0) w.T0 ∗ heldB c q (Memref.whole main_arg1) w.T1
    ∗ heldB c q (Memref.whole main_arg2) w.T2 ∗ heldB c q (Memref.whole main_arg3) w.T3)

/-- The body's offsets into the slots, where a segment's slot is `s`. -/
structure SlotOf (v : BitVec 32) (s : Fin 2) : Prop where
  o6 : k0_off6 v = ![s.val]
  o7 : k0_off7 v = ![s.val, 0, 0]
  o9 : k0_off9 v = ![s.val]
  o10 : k0_off10 v = ![s.val, 0, 0]
  o11 : k0_off11 v = ![s.val, 0, 0]
  o13 : k0_off13 v = ![s.val, 0, 0]
  o14 : k0_off14 v = ![s.val, 0, 0]
  o17 : k0_off17 v = ![(1 - s).val]
  o18 : k0_off18 v = ![(1 - s).val, 0, 0]
  o20 : k0_off20 v = ![(1 - s).val]
  o21 : k0_off21 v = ![(1 - s).val, 0, 0]
  o22 : k0_off22 v = ![(1 - s).val, 0, 0]

/-- A segment's slot is its number's parity. -/
theorem slotOf (k : Fin 96) : SlotOf (BitVec.ofNat 32 k.val) ⟨k.val % 2, Nat.mod_lt _ (by decide)⟩ := by
  constructor <;> revert k <;> decide

/-- A branch taken and one not. -/
theorem wp_dif_pos (c : Dev nD) {P : Prop} [d : Decidable P] (h : P) {α : Type} {A : P → Prog (TpuEff nD τ sig (Elt F) Λ₀ .tc) α}
    {B : ¬ P → Prog (TpuEff nD τ sig (Elt F) Λ₀ .tc) α} {Q : α → sProp 𝕄} :
    wp frame (wpE (defs₀ (F := F)) Variants.none c none) Set.univ (A h) Q
      ⊢ wp frame (wpE (defs₀ (F := F)) Variants.none c none) Set.univ (dite P A B) Q := by
  rw [dif_pos h]
theorem wp_dif_neg (c : Dev nD) {P : Prop} [d : Decidable P] (h : ¬ P) {α : Type} {A : P → Prog (TpuEff nD τ sig (Elt F) Λ₀ .tc) α}
    {B : ¬ P → Prog (TpuEff nD τ sig (Elt F) Λ₀ .tc) α} {Q : α → sProp 𝕄} :
    wp frame (wpE (defs₀ (F := F)) Variants.none c none) Set.univ (B h) Q
      ⊢ wp frame (wpE (defs₀ (F := F)) Variants.none c none) Set.univ (dite P A B) Q := by
  rw [dif_neg h]

/-- A whole buffer owned is its memory held. -/
theorem owns_sc3 (c : Dev nD) (f : Vec F S1024x256 .bf16) :
    (owns (c : Thread nD τ) (Memref.whole cc0_scratch3 : Memref sig .tc .vmem S1024x256 .bf16) fullShare f : sProp 𝕄)
      = heldB c fullShare (Memref.whole cc0_scratch3) f := owns_whole _ _ _ _
theorem owns_sc4 (c : Dev nD) (f : Vec F S1024x256 .bf16) :
    (owns (c : Thread nD τ) (Memref.whole cc0_scratch4 : Memref sig .tc .vmem S1024x256 .bf16) fullShare f : sProp 𝕄)
      = heldB c fullShare (Memref.whole cc0_scratch4) f := owns_whole _ _ _ _
theorem owns_sc5 (c : Dev nD) (f : Vec F S256x1024 .bf16) :
    (owns (c : Thread nD τ) (Memref.whole cc0_scratch5 : Memref sig .tc .vmem S256x1024 .bf16) fullShare f : sProp 𝕄)
      = heldB c fullShare (Memref.whole cc0_scratch5) f := owns_whole _ _ _ _

/-- A buffer overwritten whole, its old contents loaded and dropped. -/
theorem wp_put (c : Dev nD) {s : Shape} {e : EltTy} (b : Memref sig .tc .vmem s e) (hb : b.IsWhole) {off : Fin s.rank → ℕ}
    (inb : ∀ a, off a + s.size a ≤ s.size a) (w : s.Idx → Elt F e)
    {hl : b.view.LoadsAt (Rect.unit (s := s) off s.size inb).toLoadRect}
    {hx : (b.access (Rect.unit (s := s) off s.size inb)).Stores Finset.univ}
    {hm : Finset.univ = Finset.univ ∨ ∀ a, (Rect.unit (s := s) off s.size inb).stride a = 1}
    {α : Type} {K : Prog (TpuEff nD τ sig (Elt F) Λ₀ .tc) α} {Q : α → sProp 𝕄} :
    iprop(∃ g, heldB (F := F) c fullShare b g)
      ⊢ iprop((owns (c : Thread nD τ) b fullShare w -∗ wp frame (wpE (defs₀ (F := F)) Variants.none c none) Set.univ K Q)
        -∗ wp frame (wpE (defs₀ (F := F)) Variants.none c none) Set.univ
          (Prog.lift (.load b (Rect.unit (s := s) off s.size inb).toLoadRect hl) >>= fun _ =>
            (Prog.lift (.store b (Rect.unit (s := s) off s.size inb) w Finset.univ hx hm) >>= fun _ : PUnit => K)) Q) := by
  iintro ⟨%g, H⟩ Hk
  iapply (wp_load (defs := defs₀ (F := F)) (Γ := .empty) Variants.none (c : Thread nD τ) none Set.univ (m := b) (q := fullShare) (f := g) (hl := hl)
    (S := Finset.univ) (Finset.subset_univ _)) $$ H
  iintro H
  iapply (wp_store (defs := defs₀ (F := F)) (Γ := .empty) Variants.none (c : Thread nD τ) none Set.univ (m := b) (f := g) (hx := hx) (hm := hm)
    (S := Finset.univ) (Finset.subset_univ _)) $$ H
  iintro H
  iapply Hk
  unfold owns
  rw [hb.set_eq_univ]
  iexists _; isplitr; swap
  · iexact H
  · ipureintro
    exact View.read_writes_full b.view g inb w []

/-- Writes that each leave a piece of `T` leave `T`, where they cover. -/
theorem canon_pieces {s : Shape} {e : EltTy} [∀ e, Nonempty (Elt F e)] (T : s.Idx → Elt F e) (y : s.Idx) :
    ∀ L : List (View.Piece (Elt F) s e), (∀ p ∈ L, ∀ x, p.2 x = T (p.1.emb x)) → (∃ p ∈ L, y ∈ p.1.set) → View.canon L y = T y
  | [], _, h => by obtain ⟨p, hp, -⟩ := h; cases hp
  | p :: L, hp, h => by
    by_cases hy : y ∈ p.1.set
    · obtain ⟨x, rfl⟩ := p.1.exists_idx_of_mem hy
      exact (View.canon_cons_emb p.1 p.2 L x).trans (hp p (.head _) x)
    · rw [View.canon_cons_of_not_mem p L hy]
      refine canon_pieces T y L (fun q hq => hp q (.tail _ hq)) ?_
      obtain ⟨q, hq, hyq⟩ := h
      rcases List.mem_cons.1 hq with rfl | hq
      · exact absurd hyq hy
      · exact ⟨q, hq, hyq⟩

/-- Covering writes that each leave a piece of `T` leave `T`. -/
theorem read_writes_pieces {s : Shape} {e : EltTy} {κ : Kind} {sp : Space} (v : View sig κ sp s e) (f : v.ty.Contents (Elt F))
    (T : s.Idx → Elt F e) (L : List (View.Piece (Elt F) s e)) (hp : ∀ p ∈ L, ∀ x, p.2 x = T (p.1.emb x))
    (hc : ∀ y, ∃ p ∈ L, y ∈ p.1.set) : v.read (Elt F) (v.writes (Elt F) f L) = T :=
  (View.read_writes_eq_canon v f L hc).trans (funext fun y => canon_pieces T y L hp (hc y))

/-- Every eighth row of a tile, from row `k`: the `k`-th group of 128 features of each of its 512 rows. -/
def rows8 (X : Vec F S4096x128 .f32) (k : Fin 8) : Vec F S512x128 .f32 :=
  fun x => X (ix2 ⟨k.val + 8 * (x 0).val, by have := k.isLt; have h : (x 0).val < 512 := (x 0).isLt; omega⟩ (x 1))

/-- What a load of every eighth row of a tile reads. -/
theorem rows8_read (M5 : Memref sig .tc .vmem S4096x128 .f32) (X : Vec F S4096x128 .f32) (f : M5.view.ty.Contents (Elt F))
    (hf : M5.view.read (Elt F) f = X) (k : Fin 8) (o : Fin 2 → ℕ) (ho : o = ![k.val, 0])
    (inb : ∀ a, S512x128.size a = 0 ∨ o a + (![8, 1] : Fin 2 → ℕ) a * (S512x128.size a - 1) < S4096x128.size a) :
    M5.view.readAt (Elt F) (⟨o, S512x128.size, ![8, 1], inb⟩ : LoadRect S4096x128) f = rows8 X k := by
  subst hf ho
  funext x
  refine congrArg (M5.view.read (Elt F) f) (funext fun a => ?_)
  match a with
  | 0 => exact Fin.ext rfl
  | 1 => exact Fin.ext (show 0 + 1 * (x 1).val = (x 1).val by omega)

/-- The 512 rows of 1024 features a tile's output is. -/
def mlp (X : Vec F S4096x128 .f32) (G U : Vec F S1024x256 .bf16) (D : Vec F S256x1024 .bf16) : Vec F S512x1024 .f32 :=
  k0_pay10 (rows8 X 0) (rows8 X 1) (rows8 X 2) (rows8 X 3) (rows8 X 4) (rows8 X 5) (rows8 X 6) (rows8 X 7) G U D

/-- The tile as the body leaves it: eight rows of 128 for each of those. -/
def tileV (X : Vec F S4096x128 .f32) (G U : Vec F S1024x256 .bf16) (D : Vec F S256x1024 .bf16) : Vec F S4096x128 .f32 :=
  fun y => mlp X G U D (ix2 ⟨(y 0).val / 8, by have h : (y 0).val < 4096 := (y 0).isLt; omega⟩
    ⟨128 * ((y 0).val % 8) + (y 1).val, by have h : (y 1).val < 128 := (y 1).isLt; omega⟩)

/-- The rectangle of every eighth row from row `k`. -/
def rect8 (o : Fin 2 → ℕ) (inb : ∀ a, S512x128.size a = 0 ∨ o a + (![8, 1] : Fin 2 → ℕ) a * (S512x128.size a - 1) < S4096x128.size a)
    (sp : ∀ a, 0 < (![8, 1] : Fin 2 → ℕ) a) : Rect S4096x128 := ⟨⟨o, S512x128.size, ![8, 1], inb⟩, sp⟩

/-- The `k`-th 128 features of the 512 rows are what the tile holds on every eighth row from row `k`. -/
theorem slice_tile (X : Vec F S4096x128 .f32) (G U : Vec F S1024x256 .bf16) (Dn : Vec F S256x1024 .bf16) (k : Fin 8)
    (o o' : Fin 2 → ℕ) (ho : o = ![k.val, 0]) (ho' : o' = ![0, 128 * k.val])
    (inb : ∀ a, S512x128.size a = 0 ∨ o a + (![8, 1] : Fin 2 → ℕ) a * (S512x128.size a - 1) < S4096x128.size a)
    (sp : ∀ a, 0 < (![8, 1] : Fin 2 → ℕ) a) (sl : S512x1024.Slices o' S512x128) (x : S512x128.Idx) :
    extractStridedSlice S512x128 o' (mlp X G U Dn) sl x = tileV X G U Dn ((rect8 o inb sp).emb x) := by
  subst ho ho'
  have h0 : (x 0).val < 512 := (x 0).isLt
  have h1 : (x 1).val < 128 := (x 1).isLt
  have hk := k.isLt
  refine congrArg (mlp X G U Dn) (funext fun a => ?_)
  match a with
  | 0 => exact Fin.ext (show 0 + (x 0).val = (k.val + 8 * (x 0).val) / 8 by omega)
  | 1 => exact Fin.ext (show 128 * k.val + (x 1).val = 128 * ((k.val + 8 * (x 0).val) % 8) + (0 + 1 * (x 1).val) by omega)

theorem mem_rect8 (k : Fin 8) (o : Fin 2 → ℕ) (ho : o = ![k.val, 0])
    (inb : ∀ a, S512x128.size a = 0 ∨ o a + (![8, 1] : Fin 2 → ℕ) a * (S512x128.size a - 1) < S4096x128.size a)
    (sp : ∀ a, 0 < (![8, 1] : Fin 2 → ℕ) a) (y : S4096x128.Idx) (hy : (y 0).val % 8 = k.val) : y ∈ (rect8 o inb sp).set := by
  subst ho
  have h0 : (y 0).val < 4096 := (y 0).isLt
  have e : y = (rect8 ![k.val, 0] inb sp).emb (ix2 ⟨(y 0).val / 8, by omega⟩ (y 1) : S512x128.Idx) := funext fun a => by
    match a with
    | 0 => exact Fin.ext (show (y 0).val = k.val + 8 * ((y 0).val / 8) by omega)
    | 1 => exact Fin.ext (show (y 1).val = 0 + 1 * (y 1).val by omega)
  rw [e]
  exact (rect8 _ inb sp).toLoadRect.idx_mem _

/-- The last part of the body: the point's tile computed from the expert's matrices kept. -/
abbrev tailP (i : grid0.Coords) (n : BitVec 32) (M5 : Memref sig .tc .vmem S4096x128 .f32) (h5 : M5.IsWhole)
    (M9 : Memref sig .tc .vmem S4096x128 .f32) (h9 : M9.IsWhole) : Prog (TpuEff nD τ sig (Elt F) Λ₀ .tc) PUnit := do
  if k0_h4 : k0_cond4 i n = 1#1 then do
    let ⟨v57, v60⟩ : Σ' (v57 : FVec F S512x1024 .f32), FVec F S512x128 .f32 ← k0_part2_skel i (Memref.whole main_arg0) (Memref.isWhole_whole _) (Memref.whole main_arg1) (Memref.isWhole_whole _) (Memref.whole main_arg2) (Memref.isWhole_whole _) (Memref.whole main_arg3) (Memref.isWhole_whole _) M5 h5 (Memref.whole main_arg5) (Memref.isWhole_whole _) (Memref.whole main_arg6) (Memref.isWhole_whole _) (Memref.whole main_arg7) (Memref.isWhole_whole _) M9 h9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6
    let v61 : Vec F S512x128 .f32 ← Prog.lift (.load M9 (⟨![1, 0], S512x128.size, ![8, 1], inb_S4096x128_S512x128_1_0_s_8_1⟩ : LoadRect S4096x128) (View.loadsAt_vmem h_S512x128))
    Prog.lift (.store M9 ⟨(⟨![1, 0], S512x128.size, ![8, 1], inb_S4096x128_S512x128_1_0_s_8_1⟩ : LoadRect S4096x128), spos_8_1⟩ v60 Finset.univ (View.stores_vmem_bits_univ h_S512x128 rfl) (.inl rfl))
    let v63 : Vec F S512x128 .f32 ← Prog.lift (.load M9 (⟨![2, 0], S512x128.size, ![8, 1], inb_S4096x128_S512x128_2_0_s_8_1⟩ : LoadRect S4096x128) (View.loadsAt_vmem h_S512x128))
    Prog.lift (.store M9 ⟨(⟨![2, 0], S512x128.size, ![8, 1], inb_S4096x128_S512x128_2_0_s_8_1⟩ : LoadRect S4096x128), spos_8_1⟩ (k0_pay2 v57) Finset.univ (View.stores_vmem_bits_univ h_S512x128 rfl) (.inl rfl))
    let v65 : Vec F S512x128 .f32 ← Prog.lift (.load M9 (⟨![3, 0], S512x128.size, ![8, 1], inb_S4096x128_S512x128_3_0_s_8_1⟩ : LoadRect S4096x128) (View.loadsAt_vmem h_S512x128))
    Prog.lift (.store M9 ⟨(⟨![3, 0], S512x128.size, ![8, 1], inb_S4096x128_S512x128_3_0_s_8_1⟩ : LoadRect S4096x128), spos_8_1⟩ (k0_pay3 v57) Finset.univ (View.stores_vmem_bits_univ h_S512x128 rfl) (.inl rfl))
    let v67 : Vec F S512x128 .f32 ← Prog.lift (.load M9 (⟨![4, 0], S512x128.size, ![8, 1], inb_S4096x128_S512x128_4_0_s_8_1⟩ : LoadRect S4096x128) (View.loadsAt_vmem h_S512x128))
    Prog.lift (.store M9 ⟨(⟨![4, 0], S512x128.size, ![8, 1], inb_S4096x128_S512x128_4_0_s_8_1⟩ : LoadRect S4096x128), spos_8_1⟩ (k0_pay4 v57) Finset.univ (View.stores_vmem_bits_univ h_S512x128 rfl) (.inl rfl))
    let v69 : Vec F S512x128 .f32 ← Prog.lift (.load M9 (⟨![5, 0], S512x128.size, ![8, 1], inb_S4096x128_S512x128_5_0_s_8_1⟩ : LoadRect S4096x128) (View.loadsAt_vmem h_S512x128))
    Prog.lift (.store M9 ⟨(⟨![5, 0], S512x128.size, ![8, 1], inb_S4096x128_S512x128_5_0_s_8_1⟩ : LoadRect S4096x128), spos_8_1⟩ (k0_pay5 v57) Finset.univ (View.stores_vmem_bits_univ h_S512x128 rfl) (.inl rfl))
    let v71 : Vec F S512x128 .f32 ← Prog.lift (.load M9 (⟨![6, 0], S512x128.size, ![8, 1], inb_S4096x128_S512x128_6_0_s_8_1⟩ : LoadRect S4096x128) (View.loadsAt_vmem h_S512x128))
    Prog.lift (.store M9 ⟨(⟨![6, 0], S512x128.size, ![8, 1], inb_S4096x128_S512x128_6_0_s_8_1⟩ : LoadRect S4096x128), spos_8_1⟩ (k0_pay6 v57) Finset.univ (View.stores_vmem_bits_univ h_S512x128 rfl) (.inl rfl))
    let v73 : Vec F S512x128 .f32 ← Prog.lift (.load M9 (⟨![7, 0], S512x128.size, ![8, 1], inb_S4096x128_S512x128_7_0_s_8_1⟩ : LoadRect S4096x128) (View.loadsAt_vmem h_S512x128))
    Prog.lift (.store M9 ⟨(⟨![7, 0], S512x128.size, ![8, 1], inb_S4096x128_S512x128_7_0_s_8_1⟩ : LoadRect S4096x128), spos_8_1⟩ (k0_pay7 v57) Finset.univ (View.stores_vmem_bits_univ h_S512x128 rfl) (.inl rfl))
    pure ⟨⟩
  else do
    pure ⟨⟩
  pure ⟨⟩

/-- What owning a window is, opened. -/
theorem owns_open (c : Dev nD) {s : Shape} {e : EltTy} (b : Memref sig .tc .vmem s e) (w : s.Idx → Elt F e) :
    (owns (c : Thread nD τ) b fullShare w : sProp 𝕄)
      = iprop(∃ f, ⌜b.view.read (Elt F) f = w⌝ ∗ (b.view.loc (c : Thread nD τ)) ↦[b.view.set]{fullShare} f) := by
  unfold owns; rfl

theorem off2_zero : (![0, 0] : Fin 2 → ℕ) = fun _ => 0 := by decide

/-- A whole buffer loaded whole reads what it holds. -/
theorem wp_get (c : Dev nD) {s : Shape} {e : EltTy} (b : Memref sig .tc .vmem s e) (hb : b.IsWhole)
    (w : s.Idx → Elt F e) {off : Fin s.rank → ℕ} (ho : off = fun _ => 0)
    (inb : ∀ a, off a + s.size a ≤ s.size a)
    {hl : b.view.LoadsAt (Rect.unit (s := s) off s.size inb).toLoadRect}
    {α : Type} {K : (s.Idx → Elt F e) → Prog (TpuEff nD τ sig (Elt F) Λ₀ .tc) α} {Q : α → sProp 𝕄} :
    (owns (c : Thread nD τ) b fullShare w : sProp 𝕄)
      ⊢ iprop((owns (c : Thread nD τ) b fullShare w -∗ wp frame (wpE (defs₀ (F := F)) Variants.none c none) Set.univ (K w) Q)
        -∗ wp frame (wpE (defs₀ (F := F)) Variants.none c none) Set.univ
          (Prog.lift (.load b (Rect.unit (s := s) off s.size inb).toLoadRect hl) >>= K) Q) := by
  subst ho
  unfold owns
  rw [hb.set_eq_univ]
  iintro ⟨%f, %hf, H⟩ Hk
  iapply (wp_load (defs := defs₀ (F := F)) (Γ := .empty) Variants.none (c : Thread nD τ) none Set.univ (m := b) (q := fullShare) (f := f) (hl := hl)
    (S := Finset.univ) (Finset.subset_univ _)) $$ H
  iintro H
  have e : b.view.readAt (Elt F) (Rect.unit (s := s) (fun _ => 0) s.size inb).toLoadRect f = w := by
    subst hf
    exact View.readAt_full _ _ _
  rw [e]
  iapply Hk
  iexists f; isplitr; swap
  · iexact H
  · ipureintro; exact hf

theorem run_tail (c : Dev nD) (i : grid0.Coords) (n : BitVec 32) (M5 : Memref sig .tc .vmem S4096x128 .f32) (h5 : M5.IsWhole)
    (M9 : Memref sig .tc .vmem S4096x128 .f32) (h9 : M9.IsWhole) (hc4 : k0_cond4 i n = 1#1)
    (X D : Vec F S4096x128 .f32) (G U : Vec F S1024x256 .bf16) (Dn : Vec F S256x1024 .bf16) {Q : PUnit → sProp 𝕄} :
    iprop(owns (c : Thread nD τ) M5 fullShare X ∗ owns (c : Thread nD τ) M9 fullShare D
        ∗ owns (c : Thread nD τ) (Memref.whole cc0_scratch3 : Memref sig .tc .vmem S1024x256 .bf16) fullShare G ∗ owns (c : Thread nD τ) (Memref.whole cc0_scratch4 : Memref sig .tc .vmem S1024x256 .bf16) fullShare U
        ∗ owns (c : Thread nD τ) (Memref.whole cc0_scratch5 : Memref sig .tc .vmem S256x1024 .bf16) fullShare Dn
        ∗ (iprop(owns (c : Thread nD τ) M5 fullShare X ∗ owns (c : Thread nD τ) M9 fullShare (tileV X G U Dn)
        ∗ owns (c : Thread nD τ) (Memref.whole cc0_scratch3 : Memref sig .tc .vmem S1024x256 .bf16) fullShare G ∗ owns (c : Thread nD τ) (Memref.whole cc0_scratch4 : Memref sig .tc .vmem S1024x256 .bf16) fullShare U
        ∗ owns (c : Thread nD τ) (Memref.whole cc0_scratch5 : Memref sig .tc .vmem S256x1024 .bf16) fullShare Dn) -∗ Q ⟨⟩))
      ⊢ wp frame (wpE (defs₀ (F := F)) Variants.none c none) Set.univ (tailP i n M5 h5 M9 h9) Q := by
  unfold tailP
  rw [owns_open c M5, owns_open c M9, owns_open c M9]
  iintro ⟨H5, H9, HG, HU, HD, Hk⟩
  icases H5 with ⟨%f5, %hf5, H5⟩
  icases H9 with ⟨%f9, %hf9, H9⟩
  dsimp only
  iapply (wp_dif_pos c hc4)
  rw [wp_bind]
  unfold k0_part2_skel
  have e0 := rows8_read M5 X f5 hf5 0 ![0, 0] (by decide) inb_S4096x128_S512x128_0_0_s_8_1
  have e1 := rows8_read M5 X f5 hf5 1 ![1, 0] (by decide) inb_S4096x128_S512x128_1_0_s_8_1
  have e2 := rows8_read M5 X f5 hf5 2 ![2, 0] (by decide) inb_S4096x128_S512x128_2_0_s_8_1
  have e3 := rows8_read M5 X f5 hf5 3 ![3, 0] (by decide) inb_S4096x128_S512x128_3_0_s_8_1
  have e4 := rows8_read M5 X f5 hf5 4 ![4, 0] (by decide) inb_S4096x128_S512x128_4_0_s_8_1
  have e5 := rows8_read M5 X f5 hf5 5 ![5, 0] (by decide) inb_S4096x128_S512x128_5_0_s_8_1
  have e6 := rows8_read M5 X f5 hf5 6 ![6, 0] (by decide) inb_S4096x128_S512x128_6_0_s_8_1
  have e7 := rows8_read M5 X f5 hf5 7 ![7, 0] (by decide) inb_S4096x128_S512x128_7_0_s_8_1
  sl_exec
  simp only [e0, e1, e2, e3, e4, e5, e6, e7]
  iapply (wp_get c _ (Memref.isWhole_whole _) G off2_zero _) $$ HG
  iintro HG
  iapply (wp_get c _ (Memref.isWhole_whole _) U off2_zero _) $$ HU
  iintro HU
  iapply (wp_get c _ (Memref.isWhole_whole _) Dn off2_zero _) $$ HD
  iintro HD
  sl_exec
  sl_step

  iapply Hk
  isplitl [H5]
  · iexists _; isplitr; swap
    · iexact H5
    · ipureintro; exact hf5
  isplitl [H9]
  · iexists _; isplitr; swap
    · iexact H9
    · ipureintro
      refine read_writes_pieces M9.view f9 (tileV X G U Dn) _ ?_ fun y => ?_
      · simp only [List.mem_cons, List.not_mem_nil, or_false, forall_eq_or_imp, forall_eq]
        exact ⟨slice_tile X G U Dn 7 _ ![0, 896] rfl rfl _ _ slices_S512x1024_o0_896_S512x128,
          slice_tile X G U Dn 6 _ ![0, 768] rfl rfl _ _ slices_S512x1024_o0_768_S512x128,
          slice_tile X G U Dn 5 _ ![0, 640] rfl rfl _ _ slices_S512x1024_o0_640_S512x128,
          slice_tile X G U Dn 4 _ ![0, 512] rfl rfl _ _ slices_S512x1024_o0_512_S512x128,
          slice_tile X G U Dn 3 _ ![0, 384] rfl rfl _ _ slices_S512x1024_o0_384_S512x128,
          slice_tile X G U Dn 2 _ ![0, 256] rfl rfl _ _ slices_S512x1024_o0_256_S512x128,
          slice_tile X G U Dn 1 _ ![0, 128] rfl rfl _ _ slices_S512x1024_o0_128_S512x128,
          slice_tile X G U Dn 0 _ ![0, 0] rfl rfl _ _ slices_S512x1024_o0_0_S512x128⟩
      · have h8 : (y 0).val % 8 < 8 := Nat.mod_lt _ (by omega)
        interval_cases h : (y 0).val % 8
        · exact ⟨_, (.tail _ (.tail _ (.tail _ (.tail _ (.tail _ (.tail _ (.tail _ (.head _)))))))), mem_rect8 0 _ rfl _ _ y h⟩
        · exact ⟨_, (.tail _ (.tail _ (.tail _ (.tail _ (.tail _ (.tail _ (.head _))))))), mem_rect8 1 _ rfl _ _ y h⟩
        · exact ⟨_, (.tail _ (.tail _ (.tail _ (.tail _ (.tail _ (.head _)))))), mem_rect8 2 _ rfl _ _ y h⟩
        · exact ⟨_, (.tail _ (.tail _ (.tail _ (.tail _ (.head _))))), mem_rect8 3 _ rfl _ _ y h⟩
        · exact ⟨_, (.tail _ (.tail _ (.tail _ (.head _)))), mem_rect8 4 _ rfl _ _ y h⟩
        · exact ⟨_, (.tail _ (.tail _ (.head _))), mem_rect8 5 _ rfl _ _ y h⟩
        · exact ⟨_, (.tail _ (.head _)), mem_rect8 6 _ rfl _ _ y h⟩
        · exact ⟨_, (.head _), mem_rect8 7 _ rfl _ _ y h⟩
  isplitl [HG]; · iexact HG
  isplitl [HU]; · iexact HU
  iexact HD

/-- The matrices the body keeps of an expert: its three matrices, cast. -/
abbrev castG (c : Dev nD) (f : Wts F c) (e : Fin 32) : Vec F S1024x256 .bf16 := k0_pay8 (fun j => matG c f e (ix2 (j 1) (j 2)))
abbrev castU (c : Dev nD) (f : Wts F c) (e : Fin 32) : Vec F S1024x256 .bf16 := k0_pay9 (fun j => matU c f e (ix2 (j 1) (j 2)))
abbrev castD (c : Dev nD) (f : Wts F c) (e : Fin 32) : Vec F S256x1024 .bf16 := k0_pay1 (fun j => matD c f e (ix2 (j 1) (j 2)))

/-- The kept matrices are the expert's. -/
def kept (c : Dev nD) (f : Wts F c) (e : Fin 32) : sProp 𝕄 :=
  iprop(owns (c : Thread nD τ) (Memref.whole cc0_scratch3 : Memref sig .tc .vmem S1024x256 .bf16) fullShare (castG c f e)
    ∗ owns (c : Thread nD τ) (Memref.whole cc0_scratch4 : Memref sig .tc .vmem S1024x256 .bf16) fullShare (castU c f e)
    ∗ owns (c : Thread nD τ) (Memref.whole cc0_scratch5 : Memref sig .tc .vmem S256x1024 .bf16) fullShare (castD c f e))

/-- What the body leaves at a point that computes a tile of the expert `e`. -/
def leaves (c : Dev nD) {i : grid0.Coords} (q : PosShare TreeShare) (w : Words (F := F) c i) (f : Wts F c) (e : Fin 32)
    (σ : Option (Fin 2 × Fin 32)) (M5 M9 : Memref sig .tc .vmem S4096x128 .f32) (X : Vec F S4096x128 .f32) : sProp 𝕄 :=
  iprop(tabs q w ∗ St c f σ ∗ (∃ W, owes (c : Thread nD τ) 0 W) ∗ kept c f e ∗ owns (c : Thread nD τ) M5 fullShare X
    ∗ owns (c : Thread nD τ) M9 fullShare (tileV X (castG c f e) (castU c f e) (castD c f e)))

set_option maxHeartbeats 4000000 in
theorem run_first (c : Dev nD) (i : grid0.Coords) (M5 : Memref sig .tc .vmem S4096x128 .f32) (h5 : M5.IsWhole)
    (M9 : Memref sig .tc .vmem S4096x128 .f32) (h9 : M9.IsWhole) (q : PosShare TreeShare)
    (w : Words (F := F) c i) (f : Wts F c) (s : Fin 2) (e : Fin 32) (hs : SlotOf w.sg s) (he : w.te.toNat = e.val)
    (hk2 : k0_chk2 i w.n w.te w.pe w.sg) (hc2 : k0_cond2 i w.n w.te w.pe = 1#1) (hc4 : k0_cond4 i w.n = 1#1)
    (hk3 : k0_chk3 i w.n w.te w.pe w.te) (hk4 : k0_chk4 i w.n w.te w.pe w.sg w.nx)
    (σ σ' : Option (Fin 2 × Fin 32))
    (hσ : (k0_cond1 i w.n = 1#1 ∧ σ = none ∧ s = 0 ∧ w.t0.toNat = e.val ∧ k0_chk1 i w.n w.t0) ∨ (¬ k0_cond1 i w.n = 1#1 ∧ σ = some (s, e)))
    (hσ' : (k0_cond3 w.nx = 1#1 ∧ (∃ e' : Fin 32, σ' = some (1 - s, e') ∧ w.nx.toNat = e'.val) ∧ k0_chk5 i w.n w.te w.pe w.nx w.nx)
      ∨ (¬ k0_cond3 w.nx = 1#1 ∧ σ' = none))
    (X D : Vec F S4096x128 .f32) (W : Waits sig Unit) :
    iprop(tabs q w ∗ St c f σ ∗ owes (c : Thread nD τ) 0 W
        ∗ (∃ g, heldB (F := F) c fullShare (Memref.whole cc0_scratch3 : Memref sig .tc .vmem S1024x256 .bf16) g) ∗ (∃ g, heldB (F := F) c fullShare (Memref.whole cc0_scratch4 : Memref sig .tc .vmem S1024x256 .bf16) g)
        ∗ (∃ g, heldB (F := F) c fullShare (Memref.whole cc0_scratch5 : Memref sig .tc .vmem S256x1024 .bf16) g)
        ∗ owns (c : Thread nD τ) M5 fullShare X ∗ owns (c : Thread nD τ) M9 fullShare D)
      ⊢ wp frame (wpE (defs₀ (F := F)) Variants.none c none) Set.univ (bodyP i M5 h5 M9 h9) (fun _ => leaves c q w f e σ' M5 M9 X) := by
  unfold bodyP
  simp only [cc0_moe_eq_skeleton]
  unfold cc0_moe_skel
  simp only [k0_part1_eq_skeleton, k0_part2_eq_skeleton]
  unfold tabs
  iintro ⟨⟨HT0, HT1, HT2, HT3⟩, HS, HO, HG, HU, HD, H5, H9⟩
  iapply (wp_word c _ _ _ _ w.hn) $$ HT1; iintro HT1
  iapply (wp_word c _ _ _ _ w.hte) $$ HT0; iintro HT0
  iapply (wp_word c _ _ _ _ w.hpe) $$ HT0; iintro HT0
  iapply (wp_word c _ _ _ _ w.hsg) $$ HT2; iintro HT2
  iapply (wp_assume Variants.none (c : Thread nD τ) none Set.univ hk2)
  rcases hσ with ⟨hc1, rfl, rfl, ht0, hk1⟩ | ⟨hc1, rfl⟩
  on_goal 1 =>
    iapply (wp_dif_pos c hc1)
    iapply (wp_word c _ _ _ _ w.ht0) $$ HT0; iintro HT0
    iapply (wp_assume Variants.none (c : Thread nD τ) none Set.univ hk1)
    iapply (wp_issueS c f 0 e rfl rfl rfl rfl rfl rfl (by rw [← ht0]; rfl) (by rw [← ht0]; rfl) (by rw [← ht0]; rfl)) $$ HS
    iintro HS
  on_goal 2 => iapply (wp_dif_neg c hc1)
  all_goals
    iapply (wp_dif_pos c hc2)
    rw [wp_bind]
    unfold k0_part1_skel
    iapply (wp_word c _ _ _ _ w.hte') $$ HT0; iintro HT0
    iapply (wp_assume Variants.none (c : Thread nD τ) none Set.univ hk3)
    iapply (wp_waitS c f _ e W hs.o6 hs.o9 hs.o9 hs.o7 hs.o10 hs.o11) $$ [HS HO]
    · isplitl [HS]; · iexact HS
      iexact HO
    iintro ⟨HL, ⟨%W', HO⟩⟩
    unfold landedS
    icases HL with ⟨L1, L2, L3, HC, HF, HW⟩
    iapply (wp_loadA c _ _ _ hs.o13) $$ L1; iintro L1
    iapply (wp_put c (Memref.whole cc0_scratch3 : Memref sig .tc .vmem S1024x256 .bf16) (Memref.isWhole_whole _) _ (castG c f e)) $$ HG; iintro HG
    iapply (wp_loadA c _ _ _ hs.o13) $$ L2; iintro L2
    iapply (wp_put c (Memref.whole cc0_scratch4 : Memref sig .tc .vmem S1024x256 .bf16) (Memref.isWhole_whole _) _ (castU c f e)) $$ HU; iintro HU
    sl_step
    iapply (wp_loadB c _ _ _ hs.o14) $$ L3; iintro L3
    iapply (wp_put c (Memref.whole cc0_scratch5 : Memref sig .tc .vmem S256x1024 .bf16) (Memref.isWhole_whole _) _ (castD c f e)) $$ HD; iintro HD
    iapply (wp_word c _ _ _ _ w.hnx) $$ HT3; iintro HT3
    iapply (wp_assume Variants.none (c : Thread nD τ) none Set.univ hk4)
    ihave HS := (landedS_free c f _ e) $$ [L1 L2 L3 HC HF HW]
    · unfold landedS
      isplitl [L1]; · iexact L1
      isplitl [L2]; · iexact L2
      isplitl [L3]; · iexact L3
      isplitl [HC]; · iexact HC
      isplitl [HF]; · iexact HF
      iexact HW
    rcases hσ' with ⟨hc3, ⟨e', rfl, he'⟩, hk5⟩ | ⟨hc3, rfl⟩
    on_goal 1 =>
      iapply (wp_dif_pos c hc3)
      iapply (wp_word c _ _ _ _ w.hnx') $$ HT3; iintro HT3
      iapply (wp_assume Variants.none (c : Thread nD τ) none Set.univ hk5)
      iapply (wp_issueS c f _ e' hs.o17 hs.o20 hs.o20 hs.o18 hs.o21 hs.o22 (by rw [← he']; rfl) (by rw [← he']; rfl) (by rw [← he']; rfl)) $$ HS
      iintro HS
    on_goal 2 => iapply (wp_dif_neg c hc3)
    all_goals
      iapply (run_tail c i w.n M5 h5 M9 h9 hc4 X D (castG c f e) (castU c f e) (castD c f e))
      isplitl [H5]; · iexact H5
      isplitl [H9]; · iexact H9
      isplitl [HG]; · iexact HG
      isplitl [HU]; · iexact HU
      isplitl [HD]; · iexact HD
      iintro ⟨H5, H9, HG, HU, HD⟩
      unfold leaves tabs kept
      isplitl [HT0 HT1 HT2 HT3]
      · isplitl [HT0]; · iexact HT0
        isplitl [HT1]; · iexact HT1
        isplitl [HT2]; · iexact HT2
        iexact HT3
      isplitl [HS]; · iexact HS
      isplitl [HO]; · iexists W'; iexact HO
      isplitl [HG HU HD]
      · isplitl [HG]; · iexact HG
        isplitl [HU]; · iexact HU
        iexact HD
      isplitl [H5]; · iexact H5
      iexact H9

/-- The body at a used point that is not its segment's first: the kept matrices are still the expert's. -/
theorem run_rest (c : Dev nD) (i : grid0.Coords) (M5 : Memref sig .tc .vmem S4096x128 .f32) (h5 : M5.IsWhole)
    (M9 : Memref sig .tc .vmem S4096x128 .f32) (h9 : M9.IsWhole) (q : PosShare TreeShare)
    (w : Words (F := F) c i) (f : Wts F c) (e : Fin 32)
    (hk2 : k0_chk2 i w.n w.te w.pe w.sg) (hc1 : ¬ k0_cond1 i w.n = 1#1) (hc2 : ¬ k0_cond2 i w.n w.te w.pe = 1#1) (hc4 : k0_cond4 i w.n = 1#1)
    (σ : Option (Fin 2 × Fin 32)) (X D : Vec F S4096x128 .f32) (W : Waits sig Unit) :
    iprop(tabs q w ∗ St c f σ ∗ owes (c : Thread nD τ) 0 W ∗ kept c f e
        ∗ owns (c : Thread nD τ) M5 fullShare X ∗ owns (c : Thread nD τ) M9 fullShare D)
      ⊢ wp frame (wpE (defs₀ (F := F)) Variants.none c none) Set.univ (bodyP i M5 h5 M9 h9) (fun _ => leaves c q w f e σ M5 M9 X) := by
  unfold bodyP
  simp only [cc0_moe_eq_skeleton]
  unfold cc0_moe_skel
  simp only [k0_part1_eq_skeleton, k0_part2_eq_skeleton]
  unfold tabs kept
  iintro ⟨⟨HT0, HT1, HT2, HT3⟩, HS, HO, ⟨HG, HU, HD⟩, H5, H9⟩
  iapply (wp_word c _ _ _ _ w.hn) $$ HT1; iintro HT1
  iapply (wp_word c _ _ _ _ w.hte) $$ HT0; iintro HT0
  iapply (wp_word c _ _ _ _ w.hpe) $$ HT0; iintro HT0
  iapply (wp_word c _ _ _ _ w.hsg) $$ HT2; iintro HT2
  iapply (wp_assume Variants.none (c : Thread nD τ) none Set.univ hk2)
  iapply (wp_dif_neg c hc1)
  iapply (wp_dif_neg c hc2)
  iapply (run_tail c i w.n M5 h5 M9 h9 hc4 X D (castG c f e) (castU c f e) (castD c f e))
  isplitl [H5]; · iexact H5
  isplitl [H9]; · iexact H9
  isplitl [HG]; · iexact HG
  isplitl [HU]; · iexact HU
  isplitl [HD]; · iexact HD
  iintro ⟨H5, H9, HG, HU, HD⟩
  unfold leaves tabs kept
  isplitl [HT0 HT1 HT2 HT3]
  · isplitl [HT0]; · iexact HT0
    isplitl [HT1]; · iexact HT1
    isplitl [HT2]; · iexact HT2
    iexact HT3
  isplitl [HS]; · iexact HS
  isplitl [HO]; · iexists W; iexact HO
  isplitl [HG HU HD]
  · isplitl [HG]; · iexact HG
    isplitl [HU]; · iexact HU
    iexact HD
  isplitl [H5]; · iexact H5
  iexact H9

/-- The body at a point past the used ones: nothing but the tables is read. -/
theorem run_unused (c : Dev nD) (i : grid0.Coords) (M5 : Memref sig .tc .vmem S4096x128 .f32) (h5 : M5.IsWhole)
    (M9 : Memref sig .tc .vmem S4096x128 .f32) (h9 : M9.IsWhole) (q : PosShare TreeShare) (w : Words (F := F) c i)
    (hk2 : k0_chk2 i w.n w.te w.pe w.sg) (hc1 : ¬ k0_cond1 i w.n = 1#1) (hc2 : ¬ k0_cond2 i w.n w.te w.pe = 1#1) (hc4 : ¬ k0_cond4 i w.n = 1#1)
    (R : sProp 𝕄) :
    iprop(tabs q w ∗ R)
      ⊢ wp frame (wpE (defs₀ (F := F)) Variants.none c none) Set.univ (bodyP i M5 h5 M9 h9) (fun _ => iprop(tabs q w ∗ R)) := by
  unfold bodyP
  simp only [cc0_moe_eq_skeleton]
  unfold cc0_moe_skel
  simp only [k0_part1_eq_skeleton, k0_part2_eq_skeleton]
  unfold tabs
  iintro ⟨⟨HT0, HT1, HT2, HT3⟩, R⟩
  iapply (wp_word c _ _ _ _ w.hn) $$ HT1; iintro HT1
  iapply (wp_word c _ _ _ _ w.hte) $$ HT0; iintro HT0
  iapply (wp_word c _ _ _ _ w.hpe) $$ HT0; iintro HT0
  iapply (wp_word c _ _ _ _ w.hsg) $$ HT2; iintro HT2
  iapply (wp_assume Variants.none (c : Thread nD τ) none Set.univ hk2)
  iapply (wp_dif_neg c hc1)
  iapply (wp_dif_neg c hc2)
  iapply (wp_dif_neg c hc4)
  sl_step
  isplitl [HT0 HT1 HT2 HT3]
  · isplitl [HT0]; · iexact HT0
    isplitl [HT1]; · iexact HT1
    isplitl [HT2]; · iexact HT2
    iexact HT3
  iexact R

end Cert.Kernel2Ideal.Gen

end
-- ==== Proof.MoeStep.lean ====
/- The expert layer's body at a point of the grid, read off the plan the tables describe. -/
module

public import proofs.«01_k».proof.Proof.MoePlan
public import proofs.«01_k».proof.Proof.MoeBody

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Moe

variable {F : FTy → Type} [FloatOps F]

local notation "𝕄" => MT nD τ sig Unit (Elt F) ℕ (Pipeline.UD sig nD τ) ℕ

/-! ## The body's conditions, in numbers -/

theorem slt_iff (k : ℕ) (hk : k < 96) (n : BitVec 32) (hn : n.toNat ≤ 96) : Scalar.cmpi .slt (BitVec.ofNat 32 k) n = 1#1 ↔ k < n.toNat := by
  change IntOp.cmpi .slt (BitVec.ofNat 32 k) n = 1#1 ↔ _
  rw [WordCmp.cmpi_slt_eq, WordCmp.ofBool_decide_eq_one_iff, small_toInt _ (by omega), BitVec.toInt_eq_toNat_cond]
  omega

theorem eq_iff (x y : BitVec 32) : Scalar.cmpi .eq x y = 1#1 ↔ x = y := by
  change IntOp.cmpi .eq x y = 1#1 ↔ _
  rw [WordCmp.cmpi_eq_eq, WordCmp.ofBool_decide_eq_one_iff]

theorem ne_iff (x y : BitVec 32) : Scalar.cmpi .ne x y = 1#1 ↔ x ≠ y := by
  change IntOp.cmpi .ne x y = 1#1 ↔ _
  rw [WordCmp.cmpi_ne_eq, WordCmp.ofBool_decide_eq_one_iff]

theorem cond4_iff (i : grid0.Coords) (n : BitVec 32) (hn : n.toNat ≤ 96) : k0_cond4 i n = 1#1 ↔ (i 0).val < n.toNat :=
  (Scalar.guard_iff _).trans (slt_iff _ (i 0).isLt n hn)

theorem zero_iff (i : grid0.Coords) : Scalar.cmpi .eq (BitVec.ofNat 32 (i 0).val) 0#32 = 1#1 ↔ (i 0).val = 0 := by
  have := (i 0).isLt
  rw [eq_iff, eq_small _ (lt_trans this (by decide)), BitVec.toNat_ofNat]; omega

theorem cond1_iff (i : grid0.Coords) (n : BitVec 32) (hn : n.toNat ≤ 96) : k0_cond1 i n = 1#1 ↔ (i 0).val < n.toNat ∧ (i 0).val = 0 :=
  ((Scalar.guard_iff _).trans IntOp.andi_eq_one).trans (and_congr (slt_iff _ (i 0).isLt n hn) (zero_iff i))

theorem cond2_iff (i : grid0.Coords) (n te pe : BitVec 32) (hn : n.toNat ≤ 96) :
    k0_cond2 i n te pe = 1#1 ↔ (i 0).val < n.toNat ∧ ((i 0).val = 0 ∨ te ≠ pe) :=
  ((Scalar.guard_iff _).trans IntOp.andi_eq_one).trans
    (and_congr (slt_iff _ (i 0).isLt n hn) (IntOp.ori_eq_one.trans (or_congr (zero_iff i) (ne_iff te pe))))

theorem cond3_iff (nx : BitVec 32) : k0_cond3 nx = 1#1 ↔ ¬ 2 ^ 31 ≤ nx.toNat := by
  refine (Scalar.guard_iff _).trans ?_
  change IntOp.cmpi .sge nx 0#32 = 1#1 ↔ _
  rw [WordCmp.cmpi_sge_eq, WordCmp.ofBool_decide_eq_one_iff, show (0#32).toInt = 0 by decide, BitVec.toInt_eq_toNat_cond]
  have := nx.isLt
  omega

theorem off2_val : ∀ i : grid0.Coords, k0_off2 i = ![(i 0).val - 1] := by decide +kernel

/-! ## The body's side conditions -/

theorem inb3 {o : Fin 3 → ℕ} {b c N : ℕ} (k : ℕ) (h : o = ![k, 0, 0]) (hk : k + 1 ≤ N) (x : Fin 3) :
    o x + (![1, b, c] : Fin 3 → ℕ) x ≤ (![N, b, c] : Fin 3 → ℕ) x := by
  subst h; fin_cases x <;> simp <;> omega
theorem inb1 {o : Fin 1 → ℕ} {N : ℕ} (k : ℕ) (h : o = ![k]) (hk : k + 1 ≤ N) (x : Fin 1) :
    o x + (![1] : Fin 1 → ℕ) x ≤ (![N] : Fin 1 → ℕ) x := by
  subst h; fin_cases x; simp; omega

theorem chk2_of (i : grid0.Coords) (n te pe sg : BitVec 32) (s : Fin 2) (hs : SlotOf sg s) : k0_chk2 i n te pe sg :=
  ⟨fun _ => inb1 _ hs.o6 s.isLt, fun _ => inb3 _ hs.o7 s.isLt, fun _ => inb1 _ hs.o9 s.isLt, fun _ => inb3 _ hs.o10 s.isLt,
    fun _ => inb3 _ hs.o11 s.isLt, fun _ => inb3 _ hs.o13 s.isLt, fun _ => inb3 _ hs.o14 s.isLt⟩
theorem chk2_not (i : grid0.Coords) (n te pe sg : BitVec 32) (h : ¬ k0_cond2 i n te pe = 1#1) : k0_chk2 i n te pe sg :=
  ⟨fun h' => absurd h' h, fun h' => absurd h' h, fun h' => absurd h' h, fun h' => absurd h' h, fun h' => absurd h' h, fun h' => absurd h' h,
    fun h' => absurd h' h⟩
theorem chk4_of (i : grid0.Coords) (n te pe sg nx : BitVec 32) (s : Fin 2) (hs : SlotOf sg s) : k0_chk4 i n te pe sg nx :=
  ⟨fun _ _ => inb1 _ hs.o17 (1 - s).isLt, fun _ _ => inb3 _ hs.o18 (1 - s).isLt, fun _ _ => inb1 _ hs.o20 (1 - s).isLt,
    fun _ _ => inb3 _ hs.o21 (1 - s).isLt, fun _ _ => inb3 _ hs.o22 (1 - s).isLt⟩
theorem chk1_of (i : grid0.Coords) (n t0 : BitVec 32) (h : t0.toNat < 32) : k0_chk1 i n t0 := ⟨fun _ => inb3 _ rfl h, fun _ => inb3 _ rfl h⟩
theorem chk3_of (i : grid0.Coords) (n te pe v : BitVec 32) (h : v.toNat < 32) : k0_chk3 i n te pe v := ⟨fun _ => inb3 _ rfl h, fun _ => inb3 _ rfl h⟩
theorem chk5_of (i : grid0.Coords) (n te pe nx v : BitVec 32) (h : v.toNat < 32) : k0_chk5 i n te pe nx v := ⟨fun _ _ => inb3 _ rfl h, fun _ _ => inb3 _ rfl h⟩

/-! ## The tables' words -/

theorem at_word (k : Fin 96) (h : ∀ a, (![k.val] : Fin 1 → ℕ) a + S1.size a ≤ S96.size a) (x : (Rect.unit (s := S96) ![k.val] S1.size h).shape.Idx) :
    (ix1 k : S96.Idx) = (Rect.unit (s := S96) ![k.val] S1.size h).emb x := by
  refine funext fun a => Fin.ext ?_
  match a with
  | 0 =>
    have : (x 0).val < 1 := (x 0).isLt
    change k.val = k.val + 1 * (x 0).val
    omega

theorem word0 (c : Dev nD) (T : Buf (Elt F) ((Memref.whole main_arg0 : Memref sig .tc .smem S96 .i32).view.loc (c : Thread nD τ))) (o : Fin 1 → ℕ)
    (h : ∀ a, o a + S1.size a ≤ S96.size a) (k : Fin 96) (ho : o = ![k.val]) :
    IsWord c (Memref.whole main_arg0) (Rect.unit (s := S96) o S1.size h) T (show BitVec 32 from T (ix1 k)) := by
  subst ho
  exact fun x => congrArg T (at_word k h x)

theorem word2 (c : Dev nD) (T : Buf (Elt F) ((Memref.whole main_arg2 : Memref sig .tc .smem S96 .i32).view.loc (c : Thread nD τ))) (o : Fin 1 → ℕ)
    (h : ∀ a, o a + S1.size a ≤ S96.size a) (k : Fin 96) (ho : o = ![k.val]) :
    IsWord c (Memref.whole main_arg2) (Rect.unit (s := S96) o S1.size h) T (show BitVec 32 from T (ix1 k)) := by
  subst ho
  exact fun x => congrArg T (at_word k h x)

theorem word3 (c : Dev nD) (T : Buf (Elt F) ((Memref.whole main_arg3 : Memref sig .tc .smem S96 .i32).view.loc (c : Thread nD τ))) (o : Fin 1 → ℕ)
    (h : ∀ a, o a + S1.size a ≤ S96.size a) (k : Fin 96) (ho : o = ![k.val]) :
    IsWord c (Memref.whole main_arg3) (Rect.unit (s := S96) o S1.size h) T (show BitVec 32 from T (ix1 k)) := by
  subst ho
  exact fun x => congrArg T (at_word k h x)

theorem word1 (c : Dev nD) (T : Buf (Elt F) ((Memref.whole main_arg1 : Memref sig .tc .smem S1 .i32).view.loc (c : Thread nD τ))) :
    IsWord c (Memref.whole main_arg1) (Rect.unit (s := S1) ![0] S1.size inb_S1_S1_0) T (show BitVec 32 from T (ix1 0)) := by
  refine fun x => congrArg T (funext fun a => Fin.ext ?_)
  match a with
  | 0 =>
    have : (x 0).val < 1 := (x 0).isLt
    change 0 = 0 + 1 * (x 0).val
    omega

/-- The four tables. -/
structure Tables where
  te : IVec Pre_planned.S96 32
  nu : IVec Pre_planned.S1 32
  sg : IVec Pre_planned.S96 32
  nx : IVec Pre_planned.S96 32

/-- How many tiles are used. -/
abbrev Tables.n (T : Tables) : ℕ := (T.nu (ix1 0)).toNat
abbrev Tables.Ok (T : Tables) : Prop := Plan T.te T.nu T.sg T.nx

/-- A point of the grid as a tile. -/
abbrev pt (i : grid0.Coords) : Fin 96 := ⟨(i 0).val, (i 0).isLt⟩

/-- The words a point reads of the four tables. -/
def wordsOf (c : Dev nD) (T : Tables) (i : grid0.Coords) : Words (F := F) c i where
  T0 := T.te
  T1 := T.nu
  T2 := T.sg
  T3 := T.nx
  n := T.nu (ix1 0)
  te := T.te (ix1 (pt i))
  pe := T.te (ix1 ⟨(i 0).val - 1, lt_of_le_of_lt (Nat.sub_le _ _) (i 0).isLt⟩)
  sg := T.sg (ix1 (pt i))
  nx := T.nx (ix1 (pt i))
  t0 := T.te (ix1 0)
  hn := word1 c T.nu
  hte := word0 c T.te _ _ (pt i) (k0_off1_eq i)
  hte' := word0 c T.te _ _ (pt i) (k0_off5_eq i)
  hpe := word0 c T.te _ _ ⟨(i 0).val - 1, lt_of_le_of_lt (Nat.sub_le _ _) (i 0).isLt⟩ (off2_val i)
  hsg := word2 c T.sg _ _ (pt i) (k0_off1_eq i)
  hnx := word3 c T.nx _ _ (pt i) (k0_off15_eq i)
  hnx' := word3 c T.nx _ _ (pt i) (k0_off16_eq i)
  ht0 := word0 c T.te _ _ 0 rfl

/-- The four tables held. -/
def tabsT (c : Dev nD) (q : PosShare TreeShare) (T : Tables) : sProp 𝕄 :=
  iprop(heldB (F := F) c q (Memref.whole main_arg0 : Memref sig .tc .smem S96 .i32) T.te ∗ heldB (F := F) c q (Memref.whole main_arg1 : Memref sig .tc .smem S1 .i32) T.nu
    ∗ heldB (F := F) c q (Memref.whole main_arg2 : Memref sig .tc .smem S96 .i32) T.sg ∗ heldB (F := F) c q (Memref.whole main_arg3 : Memref sig .tc .smem S96 .i32) T.nx)

theorem tabs_eq (c : Dev nD) (q : PosShare TreeShare) (T : Tables) (i : grid0.Coords) : tabs q (wordsOf (F := F) c T i) = tabsT c q T := rfl

/-- What is held between two points once `p` tiles are done: at the start nothing is in flight and nothing is kept; after a
    tile the next segment's expert is on its way and the tile's expert is kept. -/
def slots (c : Dev nD) (f : Wts F c) (T : Tables) (p : ℕ) : sProp 𝕄 :=
  match p with
  | 0 => iprop(St c f none
      ∗ (∃ g, heldB (F := F) c fullShare (Memref.whole cc0_scratch3 : Memref sig .tc .vmem S1024x256 .bf16) g)
      ∗ (∃ g, heldB (F := F) c fullShare (Memref.whole cc0_scratch4 : Memref sig .tc .vmem S1024x256 .bf16) g)
      ∗ (∃ g, heldB (F := F) c fullShare (Memref.whole cc0_scratch5 : Memref sig .tc .vmem S256x1024 .bf16) g))
  | k + 1 => iprop(St c f (nextAt T.sg T.nx ⟨k % 96, Nat.mod_lt _ (by decide)⟩) ∗ kept c f (expAt T.te ⟨k % 96, Nat.mod_lt _ (by decide)⟩))

theorem slots_succ (c : Dev nD) (f : Wts F c) (T : Tables) (k : ℕ) : slots c f T (k + 1) =
    iprop(St c f (nextAt T.sg T.nx ⟨k % 96, Nat.mod_lt _ (by decide)⟩) ∗ kept c f (expAt T.te ⟨k % 96, Nat.mod_lt _ (by decide)⟩)) := rfl

/-- Kept matrices are, in particular, some matrices. -/
theorem kept_some (c : Dev nD) (f : Wts F c) (e : Fin 32) : kept c f e ⊢ iprop(
      (∃ g, heldB (F := F) c fullShare (Memref.whole cc0_scratch3 : Memref sig .tc .vmem S1024x256 .bf16) g)
      ∗ (∃ g, heldB (F := F) c fullShare (Memref.whole cc0_scratch4 : Memref sig .tc .vmem S1024x256 .bf16) g)
      ∗ (∃ g, heldB (F := F) c fullShare (Memref.whole cc0_scratch5 : Memref sig .tc .vmem S256x1024 .bf16) g)) := by
  unfold kept
  rw [owns_sc3, owns_sc4, owns_sc5]
  iintro ⟨H1, H2, H3⟩
  isplitl [H1]; · iexists _; iexact H1
  isplitl [H2]; · iexists _; iexact H2
  iexists _; iexact H3

/-- The body at a used point. -/
theorem step_used (c : Dev nD) (i : grid0.Coords) (M5 : Memref sig .tc .vmem S4096x128 .f32) (h5 : M5.IsWhole)
    (M9 : Memref sig .tc .vmem S4096x128 .f32) (h9 : M9.IsWhole) (q : PosShare TreeShare)
    (T : Tables) (P : T.Ok) (f : Wts F c) (hi : (i 0).val < T.n) (X D : Vec F S4096x128 .f32) (W : Waits sig Unit) :
    iprop(tabsT c q T ∗ slots c f T (i 0).val ∗ owes (c : Thread nD τ) 0 W ∗ owns (c : Thread nD τ) M5 fullShare X ∗ owns (c : Thread nD τ) M9 fullShare D)
      ⊢ wp frame (wpE (defs₀ (F := F)) Variants.none c none) Set.univ (bodyP i M5 h5 M9 h9)
        (fun _ => iprop(tabsT c q T ∗ slots c f T ((i 0).val + 1) ∗ (∃ W, owes (c : Thread nD τ) 0 W) ∗ owns (c : Thread nD τ) M5 fullShare X
          ∗ owns (c : Thread nD τ) M9 fullShare (tileV X (castG c f (expAt T.te (pt i))) (castU c f (expAt T.te (pt i))) (castD c f (expAt T.te (pt i)))))) := by
  have hi96 : (i 0).val < 96 := (i 0).isLt
  have hn : ((wordsOf (F := F) c T i).n).toNat ≤ 96 := P.n_le
  have hmod : (⟨(i 0).val % 96, Nat.mod_lt _ (by decide)⟩ : Fin 96) = pt i := Fin.ext (Nat.mod_eq_of_lt hi96)
  have hte : (T.te (ix1 (pt i))).toNat < 32 := P.te_lt (pt i) hi
  have he : (wordsOf (F := F) c T i).te.toNat = (expAt T.te (pt i)).val := (Nat.mod_eq_of_lt hte).symm
  have hS : SlotOf (wordsOf (F := F) c T i).sg (slotAt T.sg (pt i)) := by
    obtain ⟨k, h1, h2⟩ := P.seg_word (pt i) hi
    rw [h2]
    change SlotOf (T.sg (ix1 (pt i))) _
    rw [h1]
    exact slotOf k
  have hc4 : k0_cond4 i (wordsOf (F := F) c T i).n = 1#1 := (cond4_iff i _ hn).2 hi
  have hk2 := chk2_of i (wordsOf (F := F) c T i).n (wordsOf (F := F) c T i).te (wordsOf (F := F) c T i).pe _ _ hS
  have out : ∀ σ, σ = nextAt T.sg T.nx (pt i) → leaves c q (wordsOf (F := F) c T i) f (expAt T.te (pt i)) σ M5 M9 X ⊢
      iprop(tabsT c q T ∗ slots c f T ((i 0).val + 1) ∗ (∃ W, owes (c : Thread nD τ) 0 W) ∗ owns (c : Thread nD τ) M5 fullShare X
          ∗ owns (c : Thread nD τ) M9 fullShare (tileV X (castG c f (expAt T.te (pt i))) (castU c f (expAt T.te (pt i))) (castD c f (expAt T.te (pt i))))) := by
    rintro σ rfl
    unfold leaves
    rw [slots_succ, hmod, tabs_eq]
    iintro ⟨HT, HS, HO, HK, H5, H9⟩
    isplitl [HT]; · iexact HT
    isplitl [HS HK]
    · isplitl [HS]; · iexact HS
      iexact HK
    isplitl [HO]; · iexact HO
    isplitl [H5]; · iexact H5
    iexact H9
  by_cases hc2 : (i 0).val = 0 ∨ (wordsOf (F := F) c T i).te ≠ (wordsOf (F := F) c T i).pe
  · have hσ' : ∃ σ', σ' = nextAt T.sg T.nx (pt i) ∧ ((k0_cond3 (wordsOf (F := F) c T i).nx = 1#1 ∧ (∃ e' : Fin 32, σ' = some (1 - slotAt T.sg (pt i), e') ∧ (wordsOf (F := F) c T i).nx.toNat = e'.val)
          ∧ k0_chk5 i (wordsOf (F := F) c T i).n (wordsOf (F := F) c T i).te (wordsOf (F := F) c T i).pe (wordsOf (F := F) c T i).nx (wordsOf (F := F) c T i).nx)
        ∨ (¬ k0_cond3 (wordsOf (F := F) c T i).nx = 1#1 ∧ σ' = none)) := by
      refine ⟨_, rfl, ?_⟩
      by_cases h : 2 ^ 31 ≤ (T.nx (ix1 (pt i))).toNat
      · exact Or.inr ⟨fun h' => (cond3_iff _).1 h' h, if_pos h⟩
      · have hx : (T.nx (ix1 (pt i))).toNat < 32 := (P.nx_range (pt i) hi).resolve_left h
        exact Or.inl ⟨(cond3_iff _).2 h, ⟨expW (T.nx (ix1 (pt i))), if_neg h, (Nat.mod_eq_of_lt hx).symm⟩, chk5_of _ _ _ _ _ _ hx⟩
    obtain ⟨σ', hσe, hσ'⟩ := hσ'
    have hσ : ∃ σ, (slots c f T (i 0).val ⊢ iprop(St c f σ
          ∗ (∃ g, heldB (F := F) c fullShare (Memref.whole cc0_scratch3 : Memref sig .tc .vmem S1024x256 .bf16) g)
          ∗ (∃ g, heldB (F := F) c fullShare (Memref.whole cc0_scratch4 : Memref sig .tc .vmem S1024x256 .bf16) g)
          ∗ (∃ g, heldB (F := F) c fullShare (Memref.whole cc0_scratch5 : Memref sig .tc .vmem S256x1024 .bf16) g)))
        ∧ ((k0_cond1 i (wordsOf (F := F) c T i).n = 1#1 ∧ σ = none ∧ slotAt T.sg (pt i) = 0 ∧ (wordsOf (F := F) c T i).t0.toNat = (expAt T.te (pt i)).val
            ∧ k0_chk1 i (wordsOf (F := F) c T i).n (wordsOf (F := F) c T i).t0) ∨ (¬ k0_cond1 i (wordsOf (F := F) c T i).n = 1#1 ∧ σ = some (slotAt T.sg (pt i), expAt T.te (pt i)))) := by
      by_cases h0 : (i 0).val = 0
      · have hz : pt i = (0 : Fin 96) := Fin.ext h0
        refine ⟨none, by rw [h0]; exact .rfl, Or.inl ⟨(cond1_iff i _ hn).2 ⟨hi, h0⟩, rfl, ?_, ?_, ?_⟩⟩
        · rw [hz]; unfold slotAt; rw [P.sg_zero]; rfl
        · rw [← he]; exact congrArg (fun k : Fin 96 => (T.te (ix1 k)).toNat) hz.symm
        · exact chk1_of _ _ _ (P.te_lt 0 (by have := P.n_pos; exact this))
      · obtain ⟨k, hk⟩ : ∃ k, (i 0).val = k + 1 := Nat.exists_eq_succ_of_ne_zero h0
        refine ⟨_, ?_, Or.inr ⟨fun h => h0 ((cond1_iff i _ hn).1 h).2, rfl⟩⟩
        rw [hk, slots_succ]
        have hk' : (⟨k % 96, Nat.mod_lt _ (by decide)⟩ : Fin 96) = ⟨(i 0).val - 1, lt_of_le_of_lt (Nat.sub_le _ _) hi96⟩ := Fin.ext (by simp only; omega)
        rw [hk', P.nextAt_new _ (pt i) (by simp only; omega) hi (hc2.resolve_left h0)]
        iintro ⟨HS, HK⟩
        isplitl [HS]; · iexact HS
        iapply (kept_some c f _) $$ HK
    obtain ⟨σ, hin, hσ⟩ := hσ
    refine BIBase.Entails.trans ?_ ((run_first c i M5 h5 M9 h9 q (wordsOf (F := F) c T i) f (slotAt T.sg (pt i)) (expAt T.te (pt i)) hS he hk2
      ((cond2_iff i _ _ _ hn).2 ⟨hi, hc2⟩) hc4 (chk3_of _ _ _ _ _ hte) (chk4_of _ _ _ _ _ _ _ hS) σ σ' hσ hσ' X D W).trans (wp_mono _ _ _ fun _ => out σ' hσe))
    rw [tabs_eq]
    iintro ⟨HT, HS, HO, H5, H9⟩
    ihave HS := hin $$ HS
    icases HS with ⟨HS, HG, HU, HD⟩
    isplitl [HT]; · iexact HT
    isplitl [HS]; · iexact HS
    isplitl [HO]; · iexact HO
    isplitl [HG]; · iexact HG
    isplitl [HU]; · iexact HU
    isplitl [HD]; · iexact HD
    isplitl [H5]; · iexact H5
    iexact H9
  · have h0 : (i 0).val ≠ 0 := fun h => hc2 (Or.inl h)
    have hsame : (wordsOf (F := F) c T i).te = (wordsOf (F := F) c T i).pe := by
      by_contra h; exact hc2 (Or.inr h)
    obtain ⟨k, hk⟩ : ∃ k, (i 0).val = k + 1 := Nat.exists_eq_succ_of_ne_zero h0
    have hk' : (⟨k % 96, Nat.mod_lt _ (by decide)⟩ : Fin 96) = ⟨(i 0).val - 1, lt_of_le_of_lt (Nat.sub_le _ _) hi96⟩ := Fin.ext (by simp only; omega)
    obtain ⟨s1, s2⟩ := P.nextAt_same ⟨(i 0).val - 1, lt_of_le_of_lt (Nat.sub_le _ _) hi96⟩ (pt i) (by simp only; omega) hi hsame
    refine BIBase.Entails.trans ?_ ((run_rest c i M5 h5 M9 h9 q (wordsOf (F := F) c T i) f (expAt T.te (pt i)) hk2
      (fun h => h0 ((cond1_iff i _ hn).1 h).2) (fun h => hc2 ((cond2_iff i _ _ _ hn).1 h).2) hc4 _ X D W).trans (wp_mono _ _ _ fun _ => out _ rfl))
    rw [hk, slots_succ]
    rw [hk', ← s1, ← s2, tabs_eq]
    iintro ⟨HT, ⟨HS, HK⟩, HO, H5, H9⟩
    isplitl [HT]; · iexact HT
    isplitl [HS]; · iexact HS
    isplitl [HO]; · iexact HO
    isplitl [HK]; · iexact HK
    isplitl [H5]; · iexact H5
    iexact H9

/-- The body at a point past the used ones. -/
theorem step_unused (c : Dev nD) (i : grid0.Coords) (M5 : Memref sig .tc .vmem S4096x128 .f32) (h5 : M5.IsWhole)
    (M9 : Memref sig .tc .vmem S4096x128 .f32) (h9 : M9.IsWhole) (q : PosShare TreeShare)
    (T : Tables) (P : T.Ok) (hi : T.n ≤ (i 0).val) (R : sProp 𝕄) :
    iprop(tabsT c q T ∗ R) ⊢ wp frame (wpE (defs₀ (F := F)) Variants.none c none) Set.univ (bodyP i M5 h5 M9 h9) (fun _ => iprop(tabsT c q T ∗ R)) := by
  have hn : ((wordsOf (F := F) c T i).n).toNat ≤ 96 := P.n_le
  have hc2 : ¬ k0_cond2 i (wordsOf (F := F) c T i).n (wordsOf (F := F) c T i).te (wordsOf (F := F) c T i).pe = 1#1 :=
    fun h => absurd ((cond2_iff i _ _ _ hn).1 h).1 (not_lt.2 hi)
  exact run_unused c i M5 h5 M9 h9 q (wordsOf (F := F) c T i) (chk2_not _ _ _ _ _ hc2) (fun h => absurd ((cond1_iff i _ hn).1 h).1 (not_lt.2 hi)) hc2
    (fun h => absurd ((cond4_iff i _ hn).1 h) (not_lt.2 hi)) R

end Cert.Kernel2Ideal.Gen

end
-- ==== Proof.MoeIdx.lean ====
/- The expert layer's blocks: which tile each point of the grid names, and that the tables' side condition holds of a plan. -/
module

public import proofs.«01_k».proof.Proof.MoeStep

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Moe

variable {F : FTy → Type} [FloatOps F]

/-- The four tables a prefetch brings. -/
abbrev tabsOf (pf : pre0.Contents (Elt F)) : Tables := ⟨pf 0, pf 1, pf 2, pf 3⟩

theorem one_idx (x y : S1.Idx) : x = y := by
  funext a
  match a with
  | 0 => exact Subsingleton.elim (α := Fin 1) _ _

theorem at_nu (pf : pre0.Contents (Elt F)) :
    (pf.at 1 (Rect.unit (s := S1) ![0] S1.size inb_S1_S1_0) numel1_S1 : BitVec 32) = (tabsOf pf).nu (ix1 0) := by
  exact congrArg (pf 1) (one_idx _ _)

theorem atD_nu (pf : pre0.Contents (Elt F)) : (pf.atD 1 ![0] : BitVec 32) = (tabsOf pf).nu (ix1 0) := by
  exact (dif_pos (by decide)).trans (congrArg (pf 1) (one_idx _ _))

/-- The tile the point `k` names: its own, or the last used one past them. -/
theorem tile_word (k : ℕ) (hk : k < 96) (n : BitVec 32) (h1 : 1 ≤ n.toNat) (h2 : n.toNat ≤ 96) :
    (Scalar.minsi (BitVec.ofNat 32 k) (Scalar.maxsi (Scalar.subi n 1#32) 0#32)).toNat = min k (n.toNat - 1) := by
  have e : Scalar.subi n 1#32 = BitVec.ofNat 32 (n.toNat - 1) := by
    change IntOp.subi n 1#32 = _
    apply BitVec.eq_of_toNat_eq
    simp only [IntOp.subi, BitVec.toNat_sub, BitVec.toNat_ofNat]; omega
  rw [e]
  obtain ⟨j, hj, hj'⟩ : ∃ j, n.toNat - 1 = j ∧ j < 96 := ⟨_, rfl, by omega⟩
  rw [hj]
  have : ∀ k j : Fin 96, (Scalar.minsi (BitVec.ofNat 32 k.val) (Scalar.maxsi (BitVec.ofNat 32 j.val) 0#32)).toNat = min k.val j.val := by
    decide +kernel
  exact this ⟨k, hk⟩ ⟨j, hj'⟩

/-- The block a point names, of the number of used tiles. -/
def blockAt (k : ℕ) (n : BitVec 32) : Fin 2 → ℕ :=
  ![(Scalar.minsi (BitVec.ofNat 32 k) (Scalar.maxsi (Scalar.subi n 1#32) 0#32)).toNat, (0#32).toNat]

theorem ix_0 (pf : pre0.Contents (Elt F)) (P : (tabsOf pf).Ok) (i : grid0.Coords) :
    cc0_transform_0 inb_S1_S1_0 numel1_S1 pf i = ![min (i 0).val ((tabsOf pf).n - 1), 0] := by
  exact (congrArg (blockAt (i 0).val) (at_nu pf)).trans (congrArg (fun k => ![k, 0]) (tile_word _ (i 0).isLt _ P.n_pos P.n_le))
theorem ix_1 (pf : pre0.Contents (Elt F)) (P : (tabsOf pf).Ok) (i : grid0.Coords) :
    cc0_transform_4 inb_S1_S1_0 numel1_S1 pf i = ![min (i 0).val ((tabsOf pf).n - 1), 0] := by
  exact (congrArg (blockAt (i 0).val) (at_nu pf)).trans (congrArg (fun k => ![k, 0]) (tile_word _ (i 0).isLt _ P.n_pos P.n_le))

theorem coords_val : ∀ t : Fin grid0.N, ((grid0.coords t) 0).val = t.val := by decide +kernel

theorem tile_inb (j : ℕ) (hj : j < 96) (a : Fin 2) : ((![j, 0] : Fin 2 → ℕ) a + 1) * S4096x128.size a ≤ S393216x128.size a := by
  match a with
  | 0 => change (j + 1) * 4096 ≤ 393216; omega
  | 1 => change (0 + 1) * 128 ≤ 128; omega

/-- The tables' side condition: the blocks lie in the array, and the tiles are written in order. -/
theorem ok_of (pf : pre0.Contents (Elt F)) (P : (tabsOf pf).Ok) : ok0 pf := by
  have hn := P.n_pos
  refine ⟨fun i => ⟨fun a => ?_, Or.inl rfl⟩, fun i => ⟨fun a => ?_, Or.inl rfl⟩, ?_⟩
  · rw [ix_0 pf P i]; exact tile_inb _ (lt_of_le_of_lt (min_le_left _ _) (i 0).isLt) a
  · rw [ix_1 pf P i]; exact tile_inb _ (lt_of_le_of_lt (min_le_left _ _) (i 0).isLt) a
  · refine ⟨rfl, rfl, rfl, fun a a' h => by obtain rfl : a = a' := Fin.ext h; rfl, fun i a a' h => by obtain rfl : a = a' := Fin.ext h; rfl, fun u u' h hf hw => ?_⟩
    rw [Pipeline.WinSpec.flushAt] at hw
    have hu := u.isLt
    simp only [Bool.and_eq_true, Bool.or_eq_true, decide_eq_true_eq] at hw
    obtain ⟨-, hw⟩ := hw
    have hx : ∀ t : Fin grid0.N, ix0 pf 1 (grid0.coords t) = ![min t.val ((tabsOf pf).n - 1), 0] := fun t => by
      refine (ix_1 pf P _).trans ?_
      rw [coords_val]
    rw [hx, hx]
    have h' : u'.val < u.val := h
    rcases hw with hw | ⟨hw1, hw2⟩
    · exact absurd hu (by omega)
    · rw [hx, hx] at hw2
      intro e
      have e0 : min u'.val ((tabsOf pf).n - 1) = min u.val ((tabsOf pf).n - 1) ∨ min u.val ((tabsOf pf).n - 1) = min u'.val ((tabsOf pf).n - 1) := by
        first
        | exact Or.inl (congrFun e 0)
        | exact Or.inr (congrFun e 0)
      refine hw2 ?_
      have : min (u'.val + 1) ((tabsOf pf).n - 1) = min u'.val ((tabsOf pf).n - 1) := by omega
      change ![min (u'.val + 1) ((tabsOf pf).n - 1), 0] = _
      rw [this]

end Cert.Kernel2Ideal.Gen

end
-- ==== Proof.MoeLaunch.lean ====
/- The expert layer's call: what is held between two points, from the launch's buffers and back to them. -/
module

public import proofs.«01_k».proof.Proof.MoeIdx

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Moe

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers when the call is entered -/

/-- A device's buffers when the call is entered: the result's is a copy of the tokens. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; rfl

set_option maxHeartbeats 2000000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The copy writes the result's buffer alone. -/
theorem V_of (c : Dev nD) (b : Ref sig .tc) (h : Proc.devRef .tc b ≠ (Proc.devRef .tc main_v0 : DevRef τ sig)) : V m c b = m ((c : Thread nD τ).loc b) :=
  StableHlo.after_of_forall_not_mem (b := Proc.devRef .tc b) _ _ (by
    intro op hop
    obtain rfl := List.mem_singleton.1 hop
    exact fun h' => h (Finset.mem_singleton.1 h'))

theorem V_main_v0 (c : Dev nD) : V m c main_v0 = m ((c : Thread nD τ).loc main_arg4) := rfl

/-- The tables' contents when the call is entered. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- The four tables. -/
abbrev tabs0 : Tables := tabsOf (tbl m)
abbrev adm (P : (tabs0 m).Ok) : (pcfg0 (F := F)).Adm := ⟨tbl m, ok_of (tbl m) P⟩
abbrev cfgM (P : (tabs0 m).Ok) : Cfg sig Λ₀ := cfg0 (adm m P)

/-- The weights. -/
def wtsV (c : Dev nD) : Wts F c := ⟨V m c main_arg5, V m c main_arg6, V m c main_arg7⟩

/-! ## The body's own cells and buffers -/

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {main_arg5, main_arg6, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄) = wts c (wtsV m c) := by
  rw [BI.bigSep_eq_bigSepL_of_eq [main_arg5, main_arg6, main_arg7] (by decide) (by decide)]; rfl

theorem tabs_pre (c : Dev nD) : (Pipeline.ΦT (U := Pipeline.UD sig nD τ) pre0 (tbl m) c : sProp 𝕄) = tabsT c fullShare.right (tabs0 m) := by
  unfold Pipeline.ΦT Pipeline.prefHeld
  rw [bigSep_univ_eq_bigSepL [(0 : Fin 4), (1 : Fin 4), (2 : Fin 4), (3 : Fin 4)] (by decide) (by decide)]
  rfl

/-! ## A buffer of two slots -/

theorem halves {ℓ : Loc nD τ sig} (I J : Finset (Idx ℓ)) (hd : Disjoint I J) (hu : I ∪ J = Finset.univ) :
    (iprop(∃ f : Buf (Elt F) ℓ, ℓ ↦{fullShare} f) : sProp 𝕄)
      ⊣⊢ iprop((∃ g : Buf (Elt F) ℓ, ℓ ↦[I]{fullShare} g) ∗ (∃ g : Buf (Elt F) ℓ, ℓ ↦[J]{fullShare} g)) := by
  constructor
  · iintro ⟨%f, H⟩
    ihave H := (show (ℓ ↦{fullShare} f : sProp 𝕄) ⊢ iprop((ℓ ↦[I]{fullShare} f) ∗ (ℓ ↦[J]{fullShare} f)) by
      rw [← hu]; exact (pointsTo_union hd).1) $$ H
    icases H with ⟨H1, H2⟩
    isplitl [H1]
    · iexists f; iexact H1
    iexists f; iexact H2
  · iintro ⟨⟨%f, H1⟩, ⟨%g, H2⟩⟩
    iexists J.piecewise g f
    iapply (show iprop((ℓ ↦[I]{fullShare} f) ∗ (ℓ ↦[J]{fullShare} g)) ⊢ (ℓ ↦{fullShare} J.piecewise g f : sProp 𝕄) by
      rw [← hu]; exact pointsTo_join hd) $$ [H1 H2]
    isplitl [H1]; · iexact H1
    iexact H2

theorem slot_disj {b c : ℕ} (h0 : ∀ a, (![0, 0, 0] : Fin 3 → ℕ) a + (![1, b, c] : Fin 3 → ℕ) a ≤ (![2, b, c] : Fin 3 → ℕ) a)
    (h1 : ∀ a, (![1, 0, 0] : Fin 3 → ℕ) a + (![1, b, c] : Fin 3 → ℕ) a ≤ (![2, b, c] : Fin 3 → ℕ) a) :
    Disjoint (Rect.unit (s := ⟨3, ![2, b, c]⟩) ![0, 0, 0] ![1, b, c] h0).set (Rect.unit (s := ⟨3, ![2, b, c]⟩) ![1, 0, 0] ![1, b, c] h1).set :=
  Rect.unit_disjoint 0 (Or.inl (le_refl 1))
theorem slot_union {b c : ℕ} (h0 : ∀ a, (![0, 0, 0] : Fin 3 → ℕ) a + (![1, b, c] : Fin 3 → ℕ) a ≤ (![2, b, c] : Fin 3 → ℕ) a)
    (h1 : ∀ a, (![1, 0, 0] : Fin 3 → ℕ) a + (![1, b, c] : Fin 3 → ℕ) a ≤ (![2, b, c] : Fin 3 → ℕ) a) :
    (Rect.unit (s := ⟨3, ![2, b, c]⟩) ![0, 0, 0] ![1, b, c] h0).set ∪ (Rect.unit (s := ⟨3, ![2, b, c]⟩) ![1, 0, 0] ![1, b, c] h1).set = Finset.univ := by
  refine Finset.eq_univ_iff_forall.2 fun x => Finset.mem_union.2 ?_
  have e0 : (x 0).val < 2 := (x 0).isLt
  have e1 : (x 1).val < b := (x 1).isLt
  have e2 : (x 2).val < c := (x 2).isLt
  rw [Rect.mem_set_unit, Rect.mem_set_unit]
  by_cases h : (x 0).val = 0
  · refine Or.inl fun a => ?_
    match a with
    | 0 => exact ⟨Nat.zero_le _, (show (x 0).val < 0 + 1 by omega)⟩
    | 1 => exact ⟨Nat.zero_le _, (show (x 1).val < 0 + b by omega)⟩
    | 2 => exact ⟨Nat.zero_le _, (show (x 2).val < 0 + c by omega)⟩
  · refine Or.inr fun a => ?_
    match a with
    | 0 => exact ⟨(show 1 ≤ (x 0).val by omega), (show (x 0).val < 1 + 1 by omega)⟩
    | 1 => exact ⟨Nat.zero_le _, (show (x 1).val < 0 + b by omega)⟩
    | 2 => exact ⟨Nat.zero_le _, (show (x 2).val < 0 + c by omega)⟩

theorem set_s1 (s : Fin 2) : (s1 s).view.set = (Rect.unit (s := S2x1024x256) ![s.val, 0, 0] S1x1024x256.size (slot_inbA s)).set :=
  (View.set_reshape _ _).trans (View.set_slice_whole _ _)
theorem set_s2 (s : Fin 2) : (s2 s).view.set = (Rect.unit (s := S2x1024x256) ![s.val, 0, 0] S1x1024x256.size (slot_inbA s)).set :=
  (View.set_reshape _ _).trans (View.set_slice_whole _ _)
theorem set_s3 (s : Fin 2) : (s3 s).view.set = (Rect.unit (s := S2x256x1024) ![s.val, 0, 0] S1x256x1024.size (slot_inbB s)).set :=
  (View.set_reshape _ _).trans (View.set_slice_whole _ _)

theorem halves1 (c : Dev nD) : (iprop(∃ f : Buf (Elt F) ((c : Thread nD τ).loc cc0_scratch0), ((c : Thread nD τ).loc cc0_scratch0) ↦{fullShare} f) : sProp 𝕄)
    ⊣⊢ iprop((∃ g, heldOwn (F := F) c (s1 0) g) ∗ (∃ g, heldOwn (F := F) c (s1 1) g)) :=
  halves (ℓ := (c : Thread nD τ).loc cc0_scratch0) (s1 0).view.set (s1 1).view.set (by rw [set_s1, set_s1]; exact slot_disj _ _) (by rw [set_s1, set_s1]; exact slot_union _ _)
theorem halves2 (c : Dev nD) : (iprop(∃ f : Buf (Elt F) ((c : Thread nD τ).loc cc0_scratch1), ((c : Thread nD τ).loc cc0_scratch1) ↦{fullShare} f) : sProp 𝕄)
    ⊣⊢ iprop((∃ g, heldOwn (F := F) c (s2 0) g) ∗ (∃ g, heldOwn (F := F) c (s2 1) g)) :=
  halves (ℓ := (c : Thread nD τ).loc cc0_scratch1) (s2 0).view.set (s2 1).view.set (by rw [set_s2, set_s2]; exact slot_disj _ _) (by rw [set_s2, set_s2]; exact slot_union _ _)
theorem halves3 (c : Dev nD) : (iprop(∃ f : Buf (Elt F) ((c : Thread nD τ).loc cc0_scratch2), ((c : Thread nD τ).loc cc0_scratch2) ↦{fullShare} f) : sProp 𝕄)
    ⊣⊢ iprop((∃ g, heldOwn (F := F) c (s3 0) g) ∗ (∃ g, heldOwn (F := F) c (s3 1) g)) :=
  halves (ℓ := (c : Thread nD τ).loc cc0_scratch2) (s3 0).view.set (s3 1).view.set (by rw [set_s3, set_s3]; exact slot_disj _ _) (by rw [set_s3, set_s3]; exact slot_union _ _)

/-! ## What is held before a point -/

/-- Before the point `t`: the tables, the random register, and the slots as the used tiles before it leave them. -/
def PhiM (c : Dev nD) (t : ℕ) : sProp 𝕄 :=
  iprop(tabsT c fullShare.right (tabs0 m) ∗ (∃ r, prngReg c r) ∗ slots c (wtsV m c) (tabs0 m) (min t (tabs0 m).n))

/-- The launch's buffers and cells are the slots with nothing in flight. -/
theorem rest_slots (c : Dev nD) :
    (Pipeline.ΦD osem0 spec0 H0 (V m) c : sProp 𝕄)
      ⊣⊢ iprop((∃ r, prngReg c r) ∗ slots c (wtsV m c) (tabs0 m) 0) := by
  rw [Pipeline.ΦD_eq, scopedRest0_eq, ownSems00_eq, hbmPts0_eq]
  unfold slots St free
  constructor
  · iintro ⟨⟨A0, A1, A2, A3, A4, A5⟩, HR, ⟨HS0, HS1⟩, HW⟩
    ihave A0 := (halves1 c).1 $$ A0
    ihave A1 := (halves2 c).1 $$ A1
    ihave A2 := (halves3 c).1 $$ A2
    icases A0 with ⟨A00, A01⟩
    icases A1 with ⟨A10, A11⟩
    icases A2 with ⟨A20, A21⟩
    isplitl [HR]; · iexact HR
    isplitl [HS0 HS1 HW A00 A01 A10 A11 A20 A21]
    · isplitl [HS0 A00 A10 A20]
      · isplitl [HS0]; · iexact HS0
        isplitl [A00]; · iexact A00
        isplitl [A10]; · iexact A10
        iexact A20
      isplitl [HS1 A01 A11 A21]
      · isplitl [HS1]; · iexact HS1
        isplitl [A01]; · iexact A01
        isplitl [A11]; · iexact A11
        iexact A21
      iexact HW
    isplitl [A3]; · iexact A3
    isplitl [A4]; · iexact A4
    iexact A5
  · iintro ⟨HR, ⟨⟨HS0, A00, A10, A20⟩, ⟨HS1, A01, A11, A21⟩, HW⟩, A3, A4, A5⟩
    isplitl [A00 A01 A10 A11 A20 A21 A3 A4 A5]
    · isplitl [A00 A01]
      · iapply (halves1 c).2 $$ [A00 A01]
        isplitl [A00]; · iexact A00
        iexact A01
      isplitl [A10 A11]
      · iapply (halves2 c).2 $$ [A10 A11]
        isplitl [A10]; · iexact A10
        iexact A11
      isplitl [A20 A21]
      · iapply (halves3 c).2 $$ [A20 A21]
        isplitl [A20]; · iexact A20
        iexact A21
      isplitl [A3]; · iexact A3
      isplitl [A4]; · iexact A4
      iexact A5
    isplitl [HR]; · iexact HR
    isplitl [HS0 HS1]
    · isplitl [HS0]; · iexact HS0
      iexact HS1
    iexact HW

theorem hin (c : Dev nD) : iprop(Pipeline.ΦD osem0 spec0 H0 (V m) c ∗ Pipeline.ΦT pre0 (tbl m) c) ⊢ (PhiM m c 0 : sProp 𝕄) := by
  unfold PhiM
  rw [tabs_pre, Nat.zero_min]
  iintro ⟨HD, HT⟩
  ihave HD := (rest_slots m c).1 $$ HD
  icases HD with ⟨HR, HS⟩
  isplitl [HT]; · iexact HT
  isplitl [HR]; · iexact HR
  iexact HS

theorem hout (P : (tabs0 m).Ok) (c : Dev nD) (t : ℕ) (ht : 96 ≤ t) : (PhiM m c t : sProp 𝕄) ⊢ Pipeline.ΦD osem0 spec0 H0 (V m) c := by
  refine BIBase.Entails.trans ?_ (rest_slots m c).2
  unfold PhiM
  have h1 := P.n_pos
  have h2 := P.n_le
  obtain ⟨k, hk⟩ : ∃ k, (tabs0 m).n = k + 1 := ⟨(tabs0 m).n - 1, by have : 1 ≤ (tabs0 m).n := h1; omega⟩
  have hk96 : k < 96 := by have : (tabs0 m).n ≤ 96 := h2; omega
  have hlast : k % 96 + 1 = (tabs0 m).n := by rw [Nat.mod_eq_of_lt hk96]; exact hk.symm
  rw [show min t (tabs0 m).n = k + 1 by have : (tabs0 m).n ≤ 96 := h2; omega, slots_succ,
    P.nextAt_last ⟨k % 96, _⟩ hlast]
  iintro ⟨-, HR, HS, HK⟩
  isplitl [HR]; · iexact HR
  ihave HK := kept_some c _ _ $$ HK
  unfold slots
  isplitl [HS]; · iexact HS
  iexact HK

end Cert.Kernel2Ideal.Gen

end
-- ==== Proof.MoeFrame.lean ====
/- The expert layer's call runs: every used tile holds its expert's answer, the rest of the result is the tokens. -/
module

public import proofs.«01_k».proof.Proof.MoeLaunch

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Moe

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (P : (tabs0 m).Ok)

/-! ## The windows -/

/-- The tile the point `t` names. -/
def tile (t : ℕ) (ht : t < 96) : Fin 96 := ⟨min t ((tabs0 m).n - 1), lt_of_le_of_lt (min_le_left _ _) ht⟩

/-- The tokens' tile `j`. -/
def tok (c : Dev nD) (j : Fin 96) : Vec F S4096x128 .f32 :=
  fun y => (show FVec F S393216x128 .f32 from V m c main_arg4) (ix2 ⟨4096 * j.val + (y 0).val, by
    have h : (y 0).val < 4096 := (y 0).isLt; have := j.isLt; omega⟩ (y 1))

/-- The result's tile `j`: the tokens' through their expert. -/
def res (c : Dev nD) (j : Fin 96) : Vec F S4096x128 .f32 :=
  tileV (tok m c j) (castG c (wtsV m c) (expAt (tabs0 m).te j)) (castU c (wtsV m c) (expAt (tabs0 m).te j)) (castD c (wtsV m c) (expAt (tabs0 m).te j))

theorem index_eq (w : Fin 2) (t : Fin (cfgM m P).N) : ((cfgM m P).win w).index t = (match w with | 0 => ![min t.val ((tabs0 m).n - 1), 0] | 1 => ![min t.val ((tabs0 m).n - 1), 0]) := by
  match w with
  | 0 => exact (ix_0 (tbl m) P (grid0.coords t)).trans (by rw [coords_val])
  | 1 => exact (ix_1 (tbl m) P (grid0.coords t)).trans (by rw [coords_val])

def iblk (c : Dev nD) (w : Fin (cfgM m P).W) (t : Fin (cfgM m P).N) : (((cfgM m P).win w).xblock ((cfgM m P).grid.coords t)).Idx → Elt F ((cfgM m P).win w).elt :=
  (((cfgM m P).win w).blk t).view.read (Elt F) (V m c (Pipeline.arrRef spec0 w))

theorem iblk_0 (c : Dev nD) (t : Fin (cfgM m P).N) : iblk m P c 0 t = tok m c (tile m t.val t.isLt) := by
  have h : ((cfgM m P).win 0).index t = ![min t.val ((tabs0 m).n - 1), 0] := index_eq m P 0 t
  have h0 := congrFun h (0 : Fin 2)
  have h1 := congrFun h (1 : Fin 2)
  funext y
  refine congrArg (V m c main_arg4) (funext fun a => Fin.ext ?_)
  match a with
  | ⟨0, _⟩ => exact (congrArg (fun k : ℕ => k * 4096 + 1 * ((show S4096x128.Idx from y) 0).val) h0).trans (by
      change min t.val ((tabs0 m).n - 1) * 4096 + 1 * ((show S4096x128.Idx from y) 0).val = 4096 * min t.val ((tabs0 m).n - 1) + ((show S4096x128.Idx from y) 0).val
      omega)
  | ⟨1, _⟩ => exact (congrArg (fun k : ℕ => k * 128 + 1 * ((show S4096x128.Idx from y) 1).val) h1).trans (by
      change 0 * 128 + 1 * ((show S4096x128.Idx from y) 1).val = ((show S4096x128.Idx from y) 1).val
      omega)

/-- What the call's data are: the arrays as found, the tokens' window left as found, the result's holding its tile's answer. -/
def dats (_ : Fin 1) (c : Dev nD) : Dat τ (Elt F) Unit ℕ (Pipeline.UD sig nD τ) ℕ (cfgM m P) c where
  A w := V m c (Pipeline.arrRef spec0 w)
  after w t := match w with
    | ⟨0, _⟩ => tok m c (tile m t.val t.isLt)
    | ⟨1, _⟩ => res m c (tile m t.val t.isLt)
  Φ t := PhiM m c t.val
  q _ := fullShare
  owed _ := 0

theorem A_eq (c : Dev nD) (w : Fin (cfgM m P).W) : (dats m P 0 c).A w = V m c (Pipeline.arrRef spec0 w) := by dsimp only [dats]
theorem after_0 (c : Dev nD) (t : Fin (cfgM m P).N) : (dats m P 0 c).after 0 t = tok m c (tile m t.val t.isLt) := rfl
theorem after_1 (c : Dev nD) (t : Fin (cfgM m P).N) : (dats m P 0 c).after 1 t = res m c (tile m t.val t.isLt) := rfl

theorem before_0 (c : Dev nD) (t : Fin (cfgM m P).N) (d) : (dats m P 0 c).before 0 t d = tok m c (tile m t.val t.isLt) :=
  (((dats m P 0 c).before_in_eq_fetched 0 rfl (fun _ => rfl) (fun _ _ _ => rfl)
    (fun t => by rw [after_0, ← iblk_0 m P]; unfold Dat.blockOf iblk; rw [A_eq]; try rfl) t d).trans
    (by unfold Dat.fetched Dat.blockOf; rw [A_eq]; try rfl : _ = iblk m P c 0 t)).trans (iblk_0 m P c t)

theorem idle_tbl (pf : pre0.Contents (Elt F)) (i : grid0.Coords) : idle0 pf 1 i = !(k0_cond4 i ((tabsOf pf).nu (ix1 0)) == 1#1) := by
  change (!(k0_cond4 i (pf.atD 1 ![0]) == 1#1)) = _
  exact congrArg (fun n : BitVec 32 => !(k0_cond4 i n == 1#1)) (atD_nu pf)

theorem idle_fn : (cfgM m P).idle = idle0 (tbl m) := rfl

theorem idle_eq (t : Fin (cfgM m P).N) : (cfgM m P).idle 1 ((cfgM m P).grid.coords t) = !(k0_cond4 (grid0.coords t) ((tabs0 m).nu (ix1 0)) == 1#1) := by
  rw [idle_fn]
  exact idle_tbl (tbl m) (grid0.coords t)

theorem idle_used (t : Fin (cfgM m P).N) (h : t.val < (tabs0 m).n) : (cfgM m P).idle 1 ((cfgM m P).grid.coords t) = false := by
  rw [idle_eq, (cond4_iff (grid0.coords t) _ P.n_le).2 (by rw [coords_val]; exact h)]; rfl
theorem idle_unused (t : Fin (cfgM m P).N) (h : (tabs0 m).n ≤ t.val) : (cfgM m P).idle 1 ((cfgM m P).grid.coords t) = true := by
  rw [idle_eq, Bool.not_eq_true', beq_eq_false_iff_ne]
  exact fun e => absurd ((cond4_iff (grid0.coords t) _ P.n_le).1 e) (by rw [coords_val]; exact not_lt.2 h)

theorem flush_not (s : ℕ) (hs : s + 1 < (cfgM m P).N) (h : (tabs0 m).n ≤ s + 1) : ((cfgM m P).win 1).flush ⟨s, Nat.lt_of_succ_lt hs⟩ = false := by
  have h96 : s + 1 < 96 := hs
  unfold Window.flush
  have e : ((cfgM m P).win 1).index ⟨s + 1, hs⟩ = ((cfgM m P).win 1).index ⟨s, Nat.lt_of_succ_lt hs⟩ := by
    refine (index_eq m P 1 ⟨s + 1, hs⟩).trans (Eq.trans ?_ (index_eq m P 1 ⟨s, Nat.lt_of_succ_lt hs⟩).symm)
    change ![min (s + 1) ((tabs0 m).n - 1), 0] = ![min s ((tabs0 m).n - 1), 0]
    rw [show min (s + 1) ((tabs0 m).n - 1) = min s ((tabs0 m).n - 1) by omega]
  refine Bool.and_eq_false_iff.2 (Or.inr (Bool.or_eq_false_iff.2 ⟨decide_eq_false ?_, decide_eq_false ?_⟩))
  · exact fun h' => by
      have h97 : s + 1 = 96 := h'
      omega
  · rintro ⟨h1, h2⟩
    exact h2 e

/-- Past the used tiles the result's window holds the last used tile's answer. -/
theorem before_1 (c : Dev nD) (d) : ∀ (s : ℕ) (hs : s < (cfgM m P).N), (tabs0 m).n ≤ s →
    (dats m P 0 c).before 1 ⟨s, hs⟩ d = res m c (tile m s hs)
  | 0, hs, h => absurd h (not_le.2 P.n_pos)
  | s + 1, hs, h => by
    rw [(dats m P 0 c).before_of_pos 1 ⟨s + 1, hs⟩ (Nat.succ_ne_zero s) rfl d]
    have hf := flush_not m P s hs h
    refine (if_neg (fun hh => Bool.false_ne_true (hf.symm.trans hh))).trans ?_
    have ht : tile m (s + 1) hs = tile m s (Nat.lt_of_succ_lt hs) := Fin.ext (by
      change min (s + 1) ((tabs0 m).n - 1) = min s ((tabs0 m).n - 1)
      omega)
    rw [ht]
    change (match (cfgM m P).idle 1 ((cfgM m P).grid.coords ⟨s, Nat.lt_of_succ_lt hs⟩) with
        | true => (dats m P 0 c).before 1 ⟨s, Nat.lt_of_succ_lt hs⟩ d | false => (dats m P 0 c).kept 1 ⟨s, Nat.lt_of_succ_lt hs⟩ d) = _
    by_cases hn : (tabs0 m).n ≤ s
    · have hi := idle_unused m P ⟨s, Nat.lt_of_succ_lt hs⟩ hn
      rw [hi]
      exact before_1 c d s (Nat.lt_of_succ_lt hs) hn
    · have hi := idle_used m P ⟨s, Nat.lt_of_succ_lt hs⟩ (not_le.1 hn)
      rw [hi]
      change (dats m P 0 c).kept 1 ⟨s, Nat.lt_of_succ_lt hs⟩ d = _
      unfold Dat.kept
      rw [after_1]
      rfl

/-! ## The body -/

abbrev st0 (t : Fin (cfgM m P).N) : Memref sig .tc .vmem S4096x128 .f32 := spec0_0.stage ((cfgM m P).slots t 0)
abbrev st1 (t : Fin (cfgM m P).N) : Memref sig .tc .vmem S4096x128 .f32 := spec0_1.stage ((cfgM m P).slots t 1)
abbrev bodyAt (t : Fin (cfgM m P).N) : Prog (TpuEff nD τ sig (Elt F) Λ₀ .tc) PUnit :=
  bodyP (grid0.coords t) (st0 m P t) (hstage0_0 (((cfgM m P).slots t 0).cast nbuf0_0)) (st1 m P t) (hstage0_1 (((cfgM m P).slots t 1).cast nbuf0_1))

theorem defs₀_row (t : Fin (cfgM m P).N) : defs₀ (F := F) .tc (cfgM m P).body ((cfgM m P).bodyArgs t ((cfgM m P).slots t)) = bodyAt m P t := by
  unfold defs₀; rw [Defs.onTc_tc]

theorem sound_used (c : Dev nD) (t : Fin (cfgM m P).N) (h : t.val < (tabs0 m).n) :
    iprop(PhiM m c t.val ∗ (dats m P 0 c).owesAt () t.castSucc
      ∗ (∃ d, owns (c : Thread nD τ) (st0 m P t) fullShare ((dats m P 0 c).before 0 t d))
      ∗ (∃ d, owns (c : Thread nD τ) (st1 m P t) fullShare ((dats m P 0 c).before 1 t d)))
    ⊢ wp frame (wpE (defs₀ (F := F)) Variants.none c none) Set.univ (bodyAt m P t)
      (fun _ => iprop(PhiM m c (t.val + 1) ∗ (dats m P 0 c).owesAt () t.succ
        ∗ owns (c : Thread nD τ) (st0 m P t) fullShare ((dats m P 0 c).after 0 t)
        ∗ owns (c : Thread nD τ) (st1 m P t) fullShare ((dats m P 0 c).after 1 t))) := by
  have ht : tile m t.val t.isLt = pt (grid0.coords t) := Fin.ext (by
    change min t.val ((tabs0 m).n - 1) = ((grid0.coords t) 0).val
    rw [coords_val]; omega)
  have hv := coords_val t
  unfold PhiM
  rw [after_0, after_1, show min t.val (tabs0 m).n = ((grid0.coords t) 0).val by rw [hv]; omega,
    show min (t.val + 1) (tabs0 m).n = ((grid0.coords t) 0).val + 1 by rw [hv]; omega]
  unfold Dat.owesAt Pipeline.owesWithin res
  rw [show (dats m P 0 c).owed t.castSucc = 0 from rfl, show (dats m P 0 c).owed t.succ = 0 from rfl, ht]
  iintro ⟨⟨HT, HR, HS⟩, ⟨%W, -, HW⟩, ⟨%d0, H0⟩, ⟨%d1, H1⟩⟩
  rw [before_0, ht]
  iapply (wp_wand_r _ _ _)
  isplitl [HT HS HW H0 H1]
  · iapply (step_used c (grid0.coords t) (st0 m P t) _ (st1 m P t) _ fullShare.right (tabs0 m) P (wtsV m c) (by rw [hv]; exact h)
      (tok m c (pt (grid0.coords t))) ((dats m P 0 c).before 1 t d1) W)
    isplitl [HT]; · iexact HT
    isplitl [HS]; · iexact HS
    isplitl [HW]; · iexact HW
    isplitl [H0]; · iexact H0
    iexact H1
  iintro %a ⟨HT, HS, ⟨%W', HW'⟩, H0, H1⟩
  isplitl [HT HR HS]
  · isplitl [HT]; · iexact HT
    isplitl [HR]; · iexact HR
    iexact HS
  isplitl [HW']
  · iexists W'; isplitr; · ipureintro; exact fun _ _ => Or.inl trivial
    iexact HW'
  isplitl [H0]; · iexact H0
  iexact H1

theorem sound_unused (c : Dev nD) (t : Fin (cfgM m P).N) (h : (tabs0 m).n ≤ t.val) :
    iprop(PhiM m c t.val ∗ (dats m P 0 c).owesAt () t.castSucc
      ∗ (∃ d, owns (c : Thread nD τ) (st0 m P t) fullShare ((dats m P 0 c).before 0 t d))
      ∗ (∃ d, owns (c : Thread nD τ) (st1 m P t) fullShare ((dats m P 0 c).before 1 t d)))
    ⊢ wp frame (wpE (defs₀ (F := F)) Variants.none c none) Set.univ (bodyAt m P t)
      (fun _ => iprop(PhiM m c (t.val + 1) ∗ (dats m P 0 c).owesAt () t.succ
        ∗ owns (c : Thread nD τ) (st0 m P t) fullShare ((dats m P 0 c).after 0 t)
        ∗ (∃ d, owns (c : Thread nD τ) (st1 m P t) fullShare ((dats m P 0 c).before 1 t d)))) := by
  have hv := coords_val t
  unfold PhiM
  rw [after_0, show min t.val (tabs0 m).n = (tabs0 m).n by omega, show min (t.val + 1) (tabs0 m).n = (tabs0 m).n by omega]
  unfold Dat.owesAt Pipeline.owesWithin
  rw [show (dats m P 0 c).owed t.castSucc = 0 from rfl, show (dats m P 0 c).owed t.succ = 0 from rfl]
  refine BIBase.Entails.trans ?_ ((step_unused c (grid0.coords t) (st0 m P t) _ (st1 m P t) _ fullShare.right (tabs0 m) P (by rw [hv]; exact h)
    iprop((∃ r, prngReg c r) ∗ slots c (wtsV m c) (tabs0 m) (tabs0 m).n ∗ (∃ W, owes (c : Thread nD τ) 0 W)
      ∗ owns (c : Thread nD τ) (st0 m P t) fullShare (tok m c (tile m t.val t.isLt))
      ∗ (∃ d, owns (c : Thread nD τ) (st1 m P t) fullShare ((dats m P 0 c).before 1 t d)))).trans (wp_mono _ _ _ fun _ => ?_))
  · iintro ⟨⟨HT, HR, HS⟩, ⟨%W, -, HW⟩, ⟨%d0, H0⟩, H1⟩
    rw [before_0]
    isplitl [HT]; · iexact HT
    isplitl [HR]; · iexact HR
    isplitl [HS]; · iexact HS
    isplitl [HW]; · iexists W; iexact HW
    isplitl [H0]; · iexact H0
    iexact H1
  · iintro ⟨HT, HR, HS, ⟨%W', HW'⟩, H0, H1⟩
    isplitl [HT HR HS]
    · isplitl [HT]; · iexact HT
      isplitl [HR]; · iexact HR
      iexact HS
    isplitl [HW']
    · iexists W'; isplitr; · ipureintro; exact fun _ _ => Or.inl trivial
      iexact HW'
    isplitl [H0]; · iexact H0
    iexact H1

theorem idle_0 (t : Fin (cfgM m P).N) : (cfgM m P).idle 0 ((cfgM m P).grid.coords t) = false := rfl

theorem leaf_0 (c : Dev nD) (t : Fin (cfgM m P).N) :
    owns (c : Thread nD τ) (st0 m P t) fullShare ((dats m P 0 c).after 0 t) ⊢ ((dats m P 0 c).leaves 0 t : sProp 𝕄) :=
  BIBase.Entails.trans (by unfold Dat.leavesExact; rw [idle_0]; exact .rfl) ((dats m P 0 c).leaves_intro 0 t)

theorem leaf_used (c : Dev nD) (t : Fin (cfgM m P).N) (h : t.val < (tabs0 m).n) :
    owns (c : Thread nD τ) (st1 m P t) fullShare ((dats m P 0 c).after 1 t) ⊢ ((dats m P 0 c).leaves 1 t : sProp 𝕄) :=
  BIBase.Entails.trans (by unfold Dat.leavesExact; rw [idle_used m P t h]; exact .rfl) ((dats m P 0 c).leaves_intro 1 t)

/-- What a point past the used ones leaves of the result's window, as the pipeline asks it. -/
theorem leaf_unused (c : Dev nD) (t : Fin (cfgM m P).N) (h : (tabs0 m).n ≤ t.val) :
    iprop(∃ d, owns (c : Thread nD τ) (st1 m P t) fullShare ((dats m P 0 c).before 1 t d)) ⊢ ((dats m P 0 c).leaves 1 t : sProp 𝕄) := by
  refine BIBase.Entails.trans ?_ ((dats m P 0 c).leaves_intro 1 t)
  by_cases hf : ((cfgM m P).win 1).flush t = true
  · unfold Dat.leavesExact
    rw [idle_unused m P t h, hf]
    iintro ⟨%d, H⟩
    rw [before_1 m P c d t.val t.isLt h, ← after_1 m P c t]
    iexact H
  · rw [(dats m P 0 c).leavesExact_idle 1 t (idle_unused m P t h) (Bool.not_eq_true _ ▸ hf)]
    exact .rfl

theorem sound (c : Dev nD) (t : Fin (cfgM m P).N) :
    iprop(PhiM m c t.val ∗ (dats m P 0 c).owesAt () t.castSucc
      ∗ (∃ d, owns (c : Thread nD τ) (st0 m P t) fullShare ((dats m P 0 c).before 0 t d))
      ∗ (∃ d, owns (c : Thread nD τ) (st1 m P t) fullShare ((dats m P 0 c).before 1 t d)))
    ⊢ wp frame (wpE (defs₀ (F := F)) Variants.none c none) Set.univ (bodyAt m P t)
      (fun _ => iprop(PhiM m c (t.val + 1) ∗ (dats m P 0 c).owesAt () t.succ
        ∗ (dats m P 0 c).leaves 0 t ∗ (dats m P 0 c).leaves 1 t)) := by
  by_cases h : t.val < (tabs0 m).n
  · refine (sound_used m P c t h).trans (wp_mono _ _ _ fun _ => ?_)
    exact BIClass.sep_mono .rfl (BIClass.sep_mono .rfl (BIClass.sep_mono (leaf_0 m P c t) (leaf_used m P c t h)))
  · refine (sound_unused m P c t (not_lt.1 h)).trans (wp_mono _ _ _ fun _ => ?_)
    exact BIClass.sep_mono .rfl (BIClass.sep_mono .rfl (BIClass.sep_mono (leaf_0 m P c t) (leaf_unused m P c t (not_lt.1 h))))

set_option maxHeartbeats 2000000 in
theorem body_obligation (c : Dev nD) : BodyObligationLoose (dats m P 0 c) (defs₀ (F := F)) Variants.none () Set.univ := fun t => by
  rw [bigSep_W0, bigSep_W0, defs₀_row]
  exact sound m P c t

/-! ## The run -/

set_option backward.isDefEq.respectTransparency.types false in
theorem run_main : θ_run defs (onTc (τ := τ) (main (F := F))) (s₀ m ρ)
    (fun r => Pipeline.FramePost (Pipeline.pin pcfgs fun _ => adm m P) (dats m P) 0 (V m) r ∧ r.2.sem = fun _ => 0) :=
  Pipeline.θ_run_frameP_dma (Q' := _) pcfgs (fun _ => adm m P) (dats m P) (0 : Fin 1) launch0 osem0 defs₀ Variants.none ownSemFacts0 H0 H0_sub m ρ main
    (hbody := fun c => body_obligation m P c) (hshare := fun c => (dats m P 0 c).share_full fun _ => rfl)
    (howed := fun _ _ => rfl) (V := V m) (hmain := hmain m Variants.none) (hA := A_eq m P) (hpf := V_pre m)
    (hin := fun c => hin m c) (hout := fun c => hout m P c 96 (le_refl _))

end Cert.Kernel2Ideal.Gen

end
-- ==== Proof.MoeEnd.lean ====
/- What the expert layer's call leaves: the result's used tiles, the rest of it as the tokens, the arguments unchanged. -/
module

public import proofs.«01_k».proof.Proof.MoeFrame

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.Sem
open Idealize.ShloMosaic.Pipeline (Dat Cfg Window)
open Cert.Moe

variable {F : FTy → Type} [FloatOps F]
variable (m : (ℓ : Loc nD τ sig) → Buf (Elt F) ℓ) (ρ : Dev nD → PrngReg)

/-- The precondition's word for the plan. -/
abbrev Planned : Prop := ∀ c : Dev nD, Pre_planned.fn (F := F) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1

theorem tabs0_eq : tabs0 m = ⟨m (((0 : Dev nD).tc : Thread nD τ).loc main_arg0), m (((0 : Dev nD).tc : Thread nD τ).loc main_arg1),
    m (((0 : Dev nD).tc : Thread nD τ).loc main_arg2), m (((0 : Dev nD).tc : Thread nD τ).loc main_arg3)⟩ := rfl

theorem plan_of_pre (h : Planned m) : (tabs0 m).Ok := by
  rw [tabs0_eq]
  exact plan_of _ _ _ _ _ _ _ _ (h 0)

variable (P : (tabs0 m).Ok)

/-- The result: a used tile's answer, the tokens elsewhere. -/
def outV (c : Dev nD) : FVec F S393216x128 .f32 := fun i =>
  if (i 0).val / 4096 < (tabs0 m).n then
    res m c ⟨(i 0).val / 4096, by have h : (i 0).val < 393216 := (i 0).isLt; omega⟩ (ix2 ⟨(i 0).val % 4096, Nat.mod_lt _ (by decide)⟩ (i 1))
  else (show FVec F S393216x128 .f32 from V m c main_v0) i

theorem emb_1 (t : Fin (cfgM m P).N) (y : S4096x128.Idx) :
    (((cfgM m P).win 1).blk t).view.emb y = (show S393216x128.Idx from ix2 ⟨4096 * (tile m t.val t.isLt).val + (y 0).val, by
      have h : (y 0).val < 4096 := (y 0).isLt; have := (tile m t.val t.isLt).isLt; omega⟩
      (y 1)) := by
  have h : ((cfgM m P).win 1).index t = ![min t.val ((tabs0 m).n - 1), 0] := index_eq m P 1 t
  have h0 := congrFun h (0 : Fin 2)
  have h1 := congrFun h (1 : Fin 2)
  refine funext fun a => Fin.ext ?_
  match a with
  | ⟨0, _⟩ => exact (congrArg (fun k : ℕ => k * 4096 + 1 * (y 0).val) h0).trans (by
      change min t.val ((tabs0 m).n - 1) * 4096 + 1 * (y 0).val = 4096 * min t.val ((tabs0 m).n - 1) + (y 0).val
      omega)
  | ⟨1, _⟩ => exact (congrArg (fun k : ℕ => k * 128 + 1 * (y 1).val) h1).trans (by
      change 0 * 128 + 1 * (y 1).val = (y 1).val
      omega)

include P in
theorem tile_lt (t : ℕ) (ht : t < 96) : (tile m t ht).val < (tabs0 m).n := by
  have : 1 ≤ (tabs0 m).n := P.n_pos
  change min t ((tabs0 m).n - 1) < (tabs0 m).n
  omega

/-- The point at which the used tile `j` is written back: its own, the last one's at the end. -/
def lastOf (j : ℕ) : ℕ := if j + 1 = (tabs0 m).n then 95 else j

theorem flush_last (j : ℕ) (hj : j < (tabs0 m).n) (hl : lastOf m j < (cfgM m P).N) : ((cfgM m P).win 1).flush ⟨lastOf m j, hl⟩ = true := by
  have hn : (tabs0 m).n ≤ 96 := P.n_le
  unfold Window.flush
  refine Bool.and_eq_true_iff.2 ⟨rfl, Bool.or_eq_true_iff.2 ?_⟩
  by_cases h : j + 1 = (tabs0 m).n
  · left
    refine decide_eq_true ?_
    change lastOf m j + 1 = 96
    unfold lastOf
    rw [if_pos h]
  · right
    have e : lastOf m j = j := if_neg h
    have hs : lastOf m j + 1 < (cfgM m P).N := by
      change lastOf m j + 1 < 96
      omega
    refine decide_eq_true ⟨hs, fun e' => ?_⟩
    have i1 : ((cfgM m P).win 1).index ⟨lastOf m j + 1, hs⟩ = ![min (lastOf m j + 1) ((tabs0 m).n - 1), 0] := index_eq m P 1 ⟨lastOf m j + 1, hs⟩
    have i0 : ((cfgM m P).win 1).index ⟨lastOf m j, hl⟩ = ![min (lastOf m j) ((tabs0 m).n - 1), 0] := index_eq m P 1 ⟨lastOf m j, hl⟩
    have e2 := congrFun (i1.symm.trans (e'.trans i0)) (0 : Fin 2)
    have e3 : min (lastOf m j + 1) ((tabs0 m).n - 1) = min (lastOf m j) ((tabs0 m).n - 1) := e2
    omega

theorem out_tile (c : Dev nD) (t : Fin (cfgM m P).N) (y : S4096x128.Idx) : res m c (tile m t.val t.isLt) y
    = outV m c (ix2 ⟨4096 * (tile m t.val t.isLt).val + (y 0).val, by
      have h : (y 0).val < 4096 := (y 0).isLt; have := (tile m t.val t.isLt).isLt; omega⟩ (y 1)) := by
  have h2 : (y 0).val < 4096 := (y 0).isLt
  have h1 := tile_lt m P t.val t.isLt
  have e : (4096 * (tile m t.val t.isLt).val + (y 0).val) / 4096 = (tile m t.val t.isLt).val := by omega
  refine Eq.trans ?_ (if_pos (show (4096 * (tile m t.val t.isLt).val + (y 0).val) / 4096 < (tabs0 m).n by rw [e]; exact h1)).symm
  refine congr (congrArg (res m c) (Fin.ext e.symm)) (funext fun a => Fin.ext ?_)
  match a with
  | ⟨0, _⟩ =>
    change (y 0).val = (4096 * (tile m t.val t.isLt).val + (y 0).val) % 4096
    omega
  | ⟨1, _⟩ => rfl

theorem final_at (c : Dev nD) (i : S393216x128.Idx) : (dats m P 0 c).arrAt 1 (cfgM m P).N i = outV m c i := by
  by_cases h : (i 0).val / 4096 < (tabs0 m).n
  · have hn : (tabs0 m).n ≤ 96 := P.n_le
    have hl : lastOf m ((i 0).val / 4096) < (cfgM m P).N := by
      change lastOf m ((i 0).val / 4096) < 96
      unfold lastOf
      split
      · decide
      · omega
    have ht : (tile m (lastOf m ((i 0).val / 4096)) hl).val = (i 0).val / 4096 := by
      change min (lastOf m ((i 0).val / 4096)) ((tabs0 m).n - 1) = _
      unfold lastOf
      by_cases hh : (i 0).val / 4096 + 1 = (tabs0 m).n
      · rw [if_pos hh]; omega
      · rw [if_neg hh]; omega
    have hi : i = (((cfgM m P).win 1).blk ⟨_, hl⟩).view.emb (show S4096x128.Idx from ix2 ⟨(i 0).val % 4096, Nat.mod_lt _ (by decide)⟩ (i 1)) := by
      refine Eq.trans ?_ (emb_1 m P ⟨_, hl⟩ _).symm
      refine funext fun a => Fin.ext ?_
      match a with
      | ⟨0, _⟩ =>
        change (i 0).val = 4096 * (tile m (lastOf m ((i 0).val / 4096)) hl).val + (i 0).val % 4096
        rw [ht]; omega
      | ⟨1, _⟩ => rfl
    refine (dats m P 0 c).arrAt_forall_of_flushed 1 (fun i v => v = outV m c i) (fun t hf y => ?_) (cfgM m P).N ⟨_, hl⟩ i hl (flush_last m P _ h hl) ?_
    · refine (cast_eq _ _).trans ?_
      have ey := emb_1 m P t y
      exact (out_tile m P c t y).trans (congrArg (outV m c) ey).symm
    · exact (congrArg (· ∈ (((cfgM m P).win 1).blk ⟨_, hl⟩).view.set) hi).mpr (View.emb_mem_set _ _)
  · refine ((dats m P 0 c).arrAt_apply_of_forall_not_mem 1 (cfgM m P).N i fun t _ _ hm => h ?_).trans (if_neg h).symm
    obtain ⟨y, hy⟩ := View.exists_emb_of_mem_set _ hm
    have hy' := hy.symm.trans (emb_1 m P t y)
    have h1 := tile_lt m P t.val t.isLt
    have h2 : ((show S4096x128.Idx from y) 0).val < 4096 := ((show S4096x128.Idx from y) 0).isLt
    have h3 : (i 0).val = 4096 * (tile m t.val t.isLt).val + ((show S4096x128.Idx from y) 0).val := congrArg (fun z : S393216x128.Idx => (z 0).val) hy'
    omega

theorem final_1 (c : Dev nD) : (dats m P 0 c).arrAt 1 (cfgM m P).N = outV m c := funext (final_at m P c)

include P in
/-- The call ends with the result's buffer at `outV` and the arguments as they were. -/
theorem ends : θ_run defs (onTc (τ := τ) (main (F := F))) (s₀ m ρ) (fun r => (∀ c : Dev nD,
      r.2.mem ((c.tc : Thread nD τ).loc main_v0) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).1 1).trans (final_1 m P c),
      ((h.1 c).2 main_arg0 (Pipeline.mem_restRefs_of main_arg0 (by decide) (show ∀ w : Fin 2, (spec0 w).arr.view.ref ≠ main_arg0 by decide))).trans (V_of m c main_arg0 (by decide)),
      ((h.1 c).2 main_arg1 (Pipeline.mem_restRefs_of main_arg1 (by decide) (show ∀ w : Fin 2, (spec0 w).arr.view.ref ≠ main_arg1 by decide))).trans (V_of m c main_arg1 (by decide)),
      ((h.1 c).2 main_arg2 (Pipeline.mem_restRefs_of main_arg2 (by decide) (show ∀ w : Fin 2, (spec0 w).arr.view.ref ≠ main_arg2 by decide))).trans (V_of m c main_arg2 (by decide)),
      ((h.1 c).2 main_arg3 (Pipeline.mem_restRefs_of main_arg3 (by decide) (show ∀ w : Fin 2, (spec0 w).arr.view.ref ≠ main_arg3 by decide))).trans (V_of m c main_arg3 (by decide)),
      ((h.1 c).1 0).trans (((dats m P 0 c).arrAt_in 0 rfl _).trans ((A_eq m P c 0).trans (V_of m c main_arg4 (by decide)))),
      ((h.1 c).2 main_arg5 (Pipeline.mem_restRefs_of main_arg5 (by decide) (show ∀ w : Fin 2, (spec0 w).arr.view.ref ≠ main_arg5 by decide))).trans (V_of m c main_arg5 (by decide)),
      ((h.1 c).2 main_arg6 (Pipeline.mem_restRefs_of main_arg6 (by decide) (show ∀ w : Fin 2, (spec0 w).arr.view.ref ≠ main_arg6 by decide))).trans (V_of m c main_arg6 (by decide)),
      ((h.1 c).2 main_arg7 (Pipeline.mem_restRefs_of main_arg7 (by decide) (show ∀ w : Fin 2, (spec0 w).arr.view.ref ≠ main_arg7 by decide))).trans (V_of m c main_arg7 (by decide))⟩, h.2⟩)
    (run_main m ρ P)

include P in
/-- The run's frame alone. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => (h.1 c).2, h.2⟩) (ends m ρ P)

end Cert.Kernel2Ideal.Gen

end
-- ==== Proof.MoeTwin.lean ====
/- The frames of the expert layer's call: one run, read at bit patterns and at extended reals. -/
module

public import proofs.«01_k».proof.Defs
public import proofs.«01_k».proof.Proof.Gen.Kernel2
public import proofs.«01_k».proof.Proof.MoeEnd
public import Idealize.ShloMosaic.Lib.Tactic

@[expose] public section

noncomputable section

namespace Cert.Proof

open Idealize.ShloMosaic Idealize.SL.Sem

/-- The idealized call runs, keeps its arguments, and leaves every semaphore at zero. -/
theorem frame_kernel2I : Cert.quiescent_Kernel2Ideal (hKernel2Ideal := Cert.Kernel2Ideal.Gen.facts) (hPre_planned := Cert.Pre_planned.Gen.facts) := fun m ρ h =>
  Cert.Kernel2Ideal.Gen.frame (F := Ideal) m ρ (Cert.Kernel2Ideal.Gen.plan_of_pre m h)

/-- So does the call as compiled: the two programs have the same text. -/
theorem frame_kernel2 : Cert.quiescent_Kernel2 (hKernel2 := Cert.Kernel2.Gen.facts) (hPre_planned := Cert.Pre_planned.Gen.facts) := fun m ρ h => by
  have h := Cert.Kernel2Ideal.Gen.frame (F := Bits) m ρ (Cert.Kernel2Ideal.Gen.plan_of_pre (F := Bits) m h)
  refine Eq.mp ?_ h
  sl_kernel_rfl

end Cert.Proof

end
-- ==== Proof.Spec.lean ====
/- The decode step of the sample group, entry by entry over the extended reals, as the reference reads; and the arithmetic
   by which the kernel's forms of it agree where the numbers are real. -/
module

public import Idealize.ShloMosaic.PureOps.Ideal
public import Idealize.ShloMosaic.PureOps.Ideal.Laws
public import Idealize.ShloMosaic.Lib.Pointwise

@[expose] public section

noncomputable section

namespace Cert.Spec

open Idealize.ShloMosaic

/-- A number that is neither infinity. -/
def Fin' (x : EReal) : Prop := x ≠ ⊤ ∧ x ≠ ⊥

theorem fin_iff {x : EReal} : Fin' x ↔ ∃ r : ℝ, x = r := by
  constructor
  · rintro ⟨h1, h2⟩
    exact ⟨x.toReal, (EReal.coe_toReal h1 h2).symm⟩
  · rintro ⟨r, rfl⟩
    exact ⟨EReal.coe_ne_top r, EReal.coe_ne_bot r⟩

theorem Fin'.coe (r : ℝ) : Fin' (r : EReal) := fin_iff.2 ⟨r, rfl⟩

theorem Fin'.add {x y : EReal} (hx : Fin' x) (hy : Fin' y) : Fin' (x + y) := by
  obtain ⟨a, rfl⟩ := fin_iff.1 hx
  obtain ⟨b, rfl⟩ := fin_iff.1 hy
  exact fin_iff.2 ⟨a + b, by push_cast; rfl⟩

theorem Fin'.mul {x y : EReal} (hx : Fin' x) (hy : Fin' y) : Fin' (x * y) := by
  obtain ⟨a, rfl⟩ := fin_iff.1 hx
  obtain ⟨b, rfl⟩ := fin_iff.1 hy
  exact fin_iff.2 ⟨a * b, by push_cast; rfl⟩

theorem Fin'.sum {K : ℕ} (f : Fin K → EReal) (hf : ∀ k, Fin' (f k)) : Fin' (∑ k, f k) := by
  have : ∀ s : Finset (Fin K), Fin' (∑ k ∈ s, f k) := by
    intro s
    induction s using Finset.induction_on with
    | empty => simpa using Fin'.coe 0
    | insert a s ha ih => rw [Finset.sum_insert ha]; exact (hf a).add ih
  exact this Finset.univ

theorem Fin'.sub_self {x : EReal} (hx : Fin' x) : x - x = 0 := EReal.sub_self hx.1 hx.2

/-- A product with a weight cut in two, the first part the weight and the second the weight's difference with itself, of a
    factor cut likewise: the plain product, where all the numbers are real. -/
theorem dot3 {K : ℕ} (a w : Fin K → EReal) (ha : ∀ k, Fin' (a k)) (hw : ∀ k, Fin' (w k)) :
    (∑ k, a k * w k) + (∑ k, (a k - a k) * w k) + (∑ k, a k * (w k - w k)) = ∑ k, a k * w k := by
  simp only [(ha _).sub_self, (hw _).sub_self, zero_mul, mul_zero, Finset.sum_const_zero, add_zero]

/-- The same product with the weight's rows on the left. -/
theorem dot3' {K : ℕ} (a w : Fin K → EReal) (ha : ∀ k, Fin' (a k)) (hw : ∀ k, Fin' (w k)) :
    (∑ k, w k * a k) + (∑ k, (w k - w k) * a k) + (∑ k, w k * (a k - a k)) = ∑ k, a k * w k := by
  simp only [(ha _).sub_self, (hw _).sub_self, zero_mul, mul_zero, Finset.sum_const_zero, add_zero, mul_comm]

/-- The logistic function. -/
def sig (x : EReal) : EReal := Ideal.div 1 (1 + Ideal.exp (-x))

/-- A number times its logistic value. -/
def silu (x : EReal) : EReal := x * sig x

theorem one_add_exp (r : ℝ) : (1 : EReal) + Ideal.exp (r : EReal) = ((1 + Real.exp r : ℝ) : EReal) := by
  rw [Ideal.exp_coe]
  push_cast
  rfl

theorem sig_fin {x : EReal} (hx : Fin' x) : Fin' (sig x) := by
  obtain ⟨r, rfl⟩ := fin_iff.1 hx
  have hp : (0 : ℝ) < 1 + Real.exp (-r) := by positivity
  unfold sig Ideal.div
  rw [← EReal.coe_neg, one_add_exp, if_neg (by exact_mod_cast hp.ne'), one_mul, ← EReal.coe_inv]
  exact Fin'.coe _

theorem silu_fin {x : EReal} (hx : Fin' x) : Fin' (silu x) := hx.mul (sig_fin hx)

theorem coe_max (a b : ℝ) : ((max a b : ℝ) : EReal) = max (a : EReal) (b : EReal) :=
  (show Monotone ((↑) : ℝ → EReal) from fun _ _ h => EReal.coe_le_coe_iff.2 h).map_max

theorem coe_min (a b : ℝ) : ((min a b : ℝ) : EReal) = min (a : EReal) (b : EReal) :=
  (show Monotone ((↑) : ℝ → EReal) from fun _ _ h => EReal.coe_le_coe_iff.2 h).map_min

/-- The logarithm of the logistic value, as the kernel writes it. -/
def lsig (x : EReal) : EReal := min x 0 - Ideal.log (1 + Ideal.exp (0 - max x (-x)))

/-- The same as the reference writes it, by `softplus`: the two agree at a real number. -/
theorem lsig_eq {x : EReal} (hx : Fin' x) :
    -(max (-x) 0 + Ideal.log1p (Ideal.exp (-(max (-x - 0) (-(-x - 0)))))) = lsig x := by
  obtain ⟨r, rfl⟩ := fin_iff.1 hx
  have e : -(max (-(r : EReal) - 0) (-(-(r : EReal) - 0))) = ((-|r| : ℝ) : EReal) := by
    rw [sub_zero, neg_neg, abs_eq_max_neg, max_comm]
    push_cast
    rw [coe_max]
    rfl
  have e' : (0 : EReal) - max (r : EReal) (-(r : EReal)) = ((-|r| : ℝ) : EReal) := by
    rw [zero_sub, abs_eq_max_neg]
    push_cast
    rw [coe_max]
    rfl
  have hp : ¬ (1 + Real.exp (-|r|) ≤ 0) := by have := Real.exp_pos (-|r|); linarith
  unfold lsig Ideal.log1p
  rw [e, e', one_add_exp, Ideal.log_coe, if_neg hp]
  have h1 : max (-(r : EReal)) 0 = ((max (-r) 0 : ℝ) : EReal) := by
    rw [coe_max]; rfl
  have h2 : min (r : EReal) 0 = ((min r 0 : ℝ) : EReal) := by
    rw [coe_min]; rfl
  rw [h1, h2, ← EReal.coe_add, ← EReal.coe_neg, ← EReal.coe_sub]
  congr 1
  rcases le_total r 0 with h | h
  · rw [min_eq_left h, max_eq_left (by linarith)]; ring
  · rw [min_eq_right h, max_eq_right (by linarith)]; ring

/-- A reciprocal square root of a mean square plus a positive number, times the number itself, stays finite: at an infinite
    number the mean is infinite and its reciprocal root is zero. -/
theorem rsqrt_fin {x : EReal} (hx : 0 < x) : Fin' (Ideal.rsqrt x) := by
  induction x using EReal.rec with
  | bot => exact absurd hx (by simp)
  | top => rw [Ideal.rsqrt_top]; exact Fin'.coe 0
  | coe r =>
    have hr : 0 < r := by exact_mod_cast hx
    rw [Ideal.rsqrt_coe, if_neg (by linarith), if_neg hr.ne']
    exact Fin'.coe _

end Cert.Spec

end
-- ==== Proof.MoeRef.lean ====
/- The tile product's reference at an entry. -/
module

public import proofs.«01_k».proof.Proof.Gen.Reference2Ideal.Read
public import proofs.«01_k».proof.Proof.Spec
public import Idealize.ShloMosaic.Lib.Pointwise
public import Idealize.ShloMosaic.Lib.Routing.OpsSearch

@[expose] public section

set_option maxRecDepth 16384

noncomputable section

namespace Cert.Spec

open Idealize.ShloMosaic

/-- A row of 1024 features times an expert's matrix. -/
def feat (X : Fin 1024 → EReal) (W : (⟨3, ![32, 1024, 256]⟩ : Shape).Idx → EReal) (e : Fin 32) (f : Fin 256) : EReal :=
  ∑ k : Fin 1024, X k * W (ix3 e k f)

/-- An expert's two layers of a row. -/
def expert (X : Fin 1024 → EReal) (G U : (⟨3, ![32, 1024, 256]⟩ : Shape).Idx → EReal) (D : (⟨3, ![32, 256, 1024]⟩ : Shape).Idx → EReal)
    (e : Fin 32) (o : Fin 1024) : EReal :=
  ∑ f : Fin 256, silu (feat X G e f) * feat X U e f * D (ix3 e f o)

end Cert.Spec

namespace Cert.Reference2Ideal.Val

open Idealize.ShloMosaic Idealize.ShloMosaic.TcCoe Idealize.SL.Sem
open Cert.Reference2Ideal Cert.Reference2Ideal.Gen Cert.Reference2Ideal.Read

variable (x0 : (⟨S96, .i32⟩ : BufTy).Contents (Elt Ideal)) (x1 : (⟨S1, .i32⟩ : BufTy).Contents (Elt Ideal))
  (x4 : (⟨S393216x128, .f32⟩ : BufTy).Contents (Elt Ideal)) (x5 x6 : (⟨S32x1024x256, .f32⟩ : BufTy).Contents (Elt Ideal))
  (x7 : (⟨S32x256x1024, .f32⟩ : BufTy).Contents (Elt Ideal))

/-- An index of two axes from its coordinates. -/
theorem at_ix2 {a b : ℕ} (j : (⟨2, ![a, b]⟩ : Shape).Idx) (p : Fin a) (q : Fin b) (h0 : (j 0).val = p.val) (h1 : (j 1).val = q.val) : j = ix2 p q := by
  funext k
  match k with
  | ⟨0, _⟩ => exact Fin.ext h0
  | ⟨1, _⟩ => exact Fin.ext h1

/-- The quotient by 512 of a small word, as the floor division and the index's wrap leave it. -/
theorem tile_word (a : ℕ) (ha : a < 49152) :
    Scalar.select
        (IntOp.cmpi .slt
          (Scalar.select
            (IntOp.andi
              (IntOp.cmpi .ne (if BitVec.ofNat 32 a = 0 then (0 : BitVec 32) else if (BitVec.ofNat 32 a).msb = true then -1 else 1)
                (if (512#32 : BitVec 32) = 0 then (0 : BitVec 32) else if BitVec.msb 512#32 = true then -1 else 1))
              (IntOp.cmpi .ne (IntOp.remsi .host (BitVec.ofNat 32 a) 512#32) 0#32))
            (IntOp.subi (IntOp.divsi .host (BitVec.ofNat 32 a) 512#32) 1#32)
            (IntOp.divsi .host (BitVec.ofNat 32 a) 512#32)) 0#32)
        (IntOp.addi
          (Scalar.select
            (IntOp.andi
              (IntOp.cmpi .ne (if BitVec.ofNat 32 a = 0 then (0 : BitVec 32) else if (BitVec.ofNat 32 a).msb = true then -1 else 1)
                (if (512#32 : BitVec 32) = 0 then (0 : BitVec 32) else if BitVec.msb 512#32 = true then -1 else 1))
              (IntOp.cmpi .ne (IntOp.remsi .host (BitVec.ofNat 32 a) 512#32) 0#32))
            (IntOp.subi (IntOp.divsi .host (BitVec.ofNat 32 a) 512#32) 1#32)
            (IntOp.divsi .host (BitVec.ofNat 32 a) 512#32)) 96#32)
        (Scalar.select
          (IntOp.andi
            (IntOp.cmpi .ne (if BitVec.ofNat 32 a = 0 then (0 : BitVec 32) else if (BitVec.ofNat 32 a).msb = true then -1 else 1)
              (if (512#32 : BitVec 32) = 0 then (0 : BitVec 32) else if BitVec.msb 512#32 = true then -1 else 1))
            (IntOp.cmpi .ne (IntOp.remsi .host (BitVec.ofNat 32 a) 512#32) 0#32))
          (IntOp.subi (IntOp.divsi .host (BitVec.ofNat 32 a) 512#32) 1#32)
          (IntOp.divsi .host (BitVec.ofNat 32 a) 512#32)) = BitVec.ofNat 32 (a / 512) := by
  have hN : (BitVec.ofNat 32 a).toNat = a := by rw [BitVec.toNat_ofNat]; omega
  have hm : (BitVec.ofNat 32 a).msb = false := by rw [BitVec.msb_eq_false_iff_two_mul_lt]; omega
  have hd : IntOp.divsi .host (BitVec.ofNat 32 a) 512#32 = BitVec.ofNat 32 (a / 512) := by
    unfold IntOp.divsi
    rw [if_neg (IntOp.not_corner_of_pos (by decide)), BitVec.sdiv_eq, hm, show (512#32 : BitVec 32).msb = false from rfl]
    refine BitVec.eq_of_toNat_eq ?_
    show (BitVec.ofNat 32 a / 512#32).toNat = _
    rw [BitVec.toNat_udiv, hN]
    show a / 512 = (BitVec.ofNat 32 (a / 512)).toNat
    rw [BitVec.toNat_ofNat]
    omega
  have hq : (BitVec.ofNat 32 (a / 512)).toInt = (a / 512 : ℕ) := by
    rw [BitVec.toInt_eq_toNat_of_lt (by rw [BitVec.toNat_ofNat]; omega), BitVec.toNat_ofNat, Nat.mod_eq_of_lt (by omega)]
  have hf : Scalar.select
      (IntOp.andi
        (IntOp.cmpi .ne (if BitVec.ofNat 32 a = 0 then (0 : BitVec 32) else if (BitVec.ofNat 32 a).msb = true then -1 else 1)
          (if (512#32 : BitVec 32) = 0 then (0 : BitVec 32) else if BitVec.msb 512#32 = true then -1 else 1))
        (IntOp.cmpi .ne (IntOp.remsi .host (BitVec.ofNat 32 a) 512#32) 0#32))
      (IntOp.subi (IntOp.divsi .host (BitVec.ofNat 32 a) 512#32) 1#32)
      (IntOp.divsi .host (BitVec.ofNat 32 a) 512#32) = BitVec.ofNat 32 (a / 512) := by
    rw [← hd]
    refine if_neg fun h => ?_
    obtain ⟨h1, h2⟩ := IntOp.andi_eq_one.1 h
    rw [IntOp.cmpi_ne] at h1 h2
    by_cases hz : a = 0
    · subst hz
      exact h2 (by decide)
    · refine h1 ?_
      rw [if_neg (fun e => hz (by rw [← hN, e]; rfl)), hm]
      decide
  rw [hf]
  refine if_neg fun h => ?_
  have h := IntOp.cmpi_slt.1 h
  rw [hq] at h
  exact absurd h (by show ¬ ((a / 512 : ℕ) : ℤ) < 0; omega)

theorem one_word : FloatOps.uitofp (F := Ideal) .f32 (1#1) = 1 := by
  show ((((1#1 : BitVec 1).toNat : ℝ)) : EReal) = 1
  norm_num

theorem zero_word : FloatOps.uitofp (F := Ideal) .f32 (0#1) = 0 := by
  show ((((0#1 : BitVec 1).toNat : ℝ)) : EReal) = 0
  norm_num

/-- The row's tile. -/
theorem v7_at (r : Fin 49152) : val_main_v7 (F := Ideal) (ix1 r) = BitVec.ofNat 32 (r.val / 512) := by
  pointwise [val_main_v7, val_main_v4, val_main_v6, val_main_v3, val_main_v5, val_main_c_0, val_main_c_1, val_main_v2, val_main_call0_v11,
    val_main_call0_v13, val_main_call0_v12, val_main_call0_c_0, val_main_call0_v2, val_main_call0_v10, val_main_call0_v9, val_main_call0_c,
    val_main_call0_v8, val_main_call0_v7, val_main_call0_v6, val_main_call0_v5, val_main_call0_v4, val_main_call0_v3, val_main_call0_v1,
    val_main_call0_v0, val_main_c, val_main_v1]
  exact tile_word r.val (by omega)

/-- The row's expert's number. -/
theorem v9_at (r : Fin 49152) : val_main_v9 (F := Ideal) x0 (ix1 r) = x0 (ix1 ⟨r.val / 512, by omega⟩) := by
  unfold val_main_v9
  exact Routing.take_ap gather_S96_S49152x1_S49152_n_0_n_n_0_1_1 rfl rfl rfl rfl x0 _ r (by omega) (by omega)
    (by pointwise [val_main_v8]; exact v7_at r)

/-- Whether the row's expert is `e`, as a number. -/
theorem v16_at (r : Fin 49152) (e : Fin 32) (f : Fin 256) :
    val_main_v16 (F := Ideal) x0 (ix3 r e f) = if (x0 (ix1 ⟨r.val / 512, by omega⟩) : BitVec 32).toNat = e.val then 1 else 0 := by
  pointwise [val_main_v16, val_main_v15, val_main_v10, val_main_call1_v4, val_main_call1_v2, val_main_call1_v0, val_main_call1_v3, val_main_call1_v1]
  rw [v9_at]
  generalize x0 (ix1 ⟨r.val / 512, _⟩) = w
  have hN : (BitVec.ofNat 32 e.val).toNat = e.val := by rw [BitVec.toNat_ofNat]; omega
  by_cases h : BitVec.toNat w = e.val
  · rw [if_pos h, (IntOp.cmpi_eq.2 (BitVec.eq_of_toNat_eq (h.trans hN.symm)))]
    exact one_word
  · rw [if_neg h, (BitVec.eq_zero_or_eq_one (IntOp.cmpi .eq w (BitVec.ofNat 32 e.val))).resolve_right
      (fun h1 => h ((congrArg BitVec.toNat (IntOp.cmpi_eq.1 h1)).trans hN))]
    exact zero_word

/-- The row's features of all experts. -/
theorem v17_at (r : Fin 49152) (e : Fin 32) (f : Fin 256) :
    val_main_v17 (F := Ideal) x0 x4 x5 x6 (ix3 r e f)
      = Spec.silu (Spec.feat (fun k => val_main_v0 (F := Ideal) x4 (ix2 r k)) x5 e f) * Spec.feat (fun k => val_main_v0 (F := Ideal) x4 (ix2 r k)) x6 e f
        * val_main_v16 (F := Ideal) x0 (ix3 r e f) := by
  pointwise [val_main_v17, val_main_v14, val_main_v12, val_main_v13, val_main_v11, val_main_call2_v0, val_main_call2_v1, val_main_call2_v2,
    val_main_call2_v3, val_main_call2_v4, val_main_call2_v5, val_main_call2_cst, val_main_call2_cst_0]
  rfl

theorem v18_at (r : Fin 49152) (o : Fin 1024) :
    val_main_v18 (F := Ideal) x0 x4 x5 x6 x7 (ix2 r o)
      = ∑ e : Fin 32, ∑ f : Fin 256, val_main_v17 (F := Ideal) x0 x4 x5 x6 (ix3 r e f) * x7 (ix3 e f o) := by
  pointwise [val_main_v18]

/-- The row's result before the unused tiles are told apart: its expert's two layers. -/
theorem v18_eq (r : Fin 49152) (o : Fin 1024) (e : Fin 32) (he : (x0 (ix1 ⟨r.val / 512, by omega⟩) : BitVec 32).toNat = e.val) :
    val_main_v18 (F := Ideal) x0 x4 x5 x6 x7 (ix2 r o) = Spec.expert (fun k => val_main_v0 (F := Ideal) x4 (ix2 r k)) x5 x6 x7 e o := by
  rw [v18_at]
  simp only [v17_at, v16_at, he]
  rw [Finset.sum_eq_single e]
  · simp only [if_true, mul_one]
    rfl
  · intro b _ hb
    simp only [if_neg (fun h : e.val = b.val => hb (Fin.ext h.symm)), mul_zero, zero_mul, Finset.sum_const_zero]
  · exact fun h => absurd (Finset.mem_univ e) h

/-- The row's result: the layers' where the row is of a used tile. -/
theorem v24_at (hn : (x1 (ix1 0) : BitVec 32).toNat ≤ 96) (r : Fin 49152) (o : Fin 1024) :
    val_main_v24 (F := Ideal) x0 x1 x4 x5 x6 x7 (ix2 r o)
      = if r.val < 512 * (x1 (ix1 0) : BitVec 32).toNat then val_main_v18 (F := Ideal) x0 x4 x5 x6 x7 (ix2 r o) else val_main_v0 (F := Ideal) x4 (ix2 r o) := by
  pointwise [val_main_v24, val_main_call3_v0, val_main_v23, val_main_v22, val_main_v1, val_main_v21, val_main_v20, val_main_c_2, val_main_v19]
  generalize x1 (ix1 0) = w at hn ⊢
  have hr : (BitVec.ofNat 32 r.val).toInt = (r.val : ℤ) := by
    rw [BitVec.toInt_eq_toNat_of_lt (by rw [BitVec.toNat_ofNat]; omega), BitVec.toNat_ofNat, Nat.mod_eq_of_lt (by omega)]
  have hw : (IntOp.muli 512#32 w).toNat = 512 * w.toNat := by
    show (512#32 * w).toNat = _
    rw [BitVec.toNat_mul]
    show 512 * w.toNat % 2 ^ 32 = _
    omega
  have hw' : (IntOp.muli 512#32 w).toInt = (512 * w.toNat : ℕ) := by
    rw [BitVec.toInt_eq_toNat_of_lt (by rw [hw]; omega), hw]
  have hc : IntOp.cmpi .slt (BitVec.ofNat 32 r.val) (IntOp.muli 512#32 w) = 1#1 ↔ r.val < 512 * w.toNat := by
    rw [IntOp.cmpi_slt, hr, hw']
    omega
  exact if_congr hc rfl rfl

/-- The reference's result at an entry of the used tiles, `8 r + g` in rows of 128. -/
theorem v25_used (hn : (x1 (ix1 0) : BitVec 32).toNat ≤ 96) (i : S393216x128.Idx) (r : Fin 49152) (o : Fin 1024) (e : Fin 32)
    (hr : r.val = (i 0).val / 8) (ho : o.val = 128 * ((i 0).val % 8) + (i 1).val) (hu : r.val < 512 * (x1 (ix1 0) : BitVec 32).toNat)
    (he : (x0 (ix1 ⟨r.val / 512, by omega⟩) : BitVec 32).toNat = e.val) :
    val_main_v25 (F := Ideal) x0 x1 x4 x5 x6 x7 i = Spec.expert (fun k => val_main_v0 (F := Ideal) x4 (ix2 r k)) x5 x6 x7 e o := by
  have h1 : (i 1).val < 128 := (i 1).isLt
  rw [val_main_v25_apply, show idx_main_v25 i = ix2 r o from at_ix2 _ _ _ (by show ((i 0).val * 128 + (i 1).val) / 1024 = r.val; omega)
    (by show ((i 0).val * 128 + (i 1).val) % 1024 = o.val; omega), v24_at x0 x1 x4 x5 x6 x7 hn, if_pos hu, v18_eq x0 x4 x5 x6 x7 r o e he]

/-- The reference's result at an entry of the unused tiles: the argument's. -/
theorem v25_unused (hn : (x1 (ix1 0) : BitVec 32).toNat ≤ 96) (i : S393216x128.Idx) (hu : ¬ (i 0).val / 8 < 512 * (x1 (ix1 0) : BitVec 32).toNat) :
    val_main_v25 (F := Ideal) x0 x1 x4 x5 x6 x7 i = x4 i := by
  have h0 : (i 0).val < 393216 := (i 0).isLt
  have h1 : (i 1).val < 128 := (i 1).isLt
  rw [val_main_v25_apply, show idx_main_v25 i = ix2 ⟨(i 0).val / 8, by omega⟩ ⟨128 * ((i 0).val % 8) + (i 1).val, by omega⟩ from
    at_ix2 _ _ _ (by show ((i 0).val * 128 + (i 1).val) / 1024 = (i 0).val / 8; omega)
    (by show ((i 0).val * 128 + (i 1).val) % 1024 = 128 * ((i 0).val % 8) + (i 1).val; omega), v24_at x0 x1 x4 x5 x6 x7 hn, if_neg hu,
    val_main_v0_apply]
  refine congrArg x4 (funext fun a => Fin.ext ?_)
  match a with
  | 0 => show ((i 0).val / 8 * 1024 + (128 * ((i 0).val % 8) + (i 1).val)) / 128 = (i 0).val; omega
  | 1 => show ((i 0).val / 8 * 1024 + (128 * ((i 0).val % 8) + (i 1).val)) % 128 = (i 1).val; omega

/-- The argument's rows of 1024 features are eight rows of 128. -/
theorem v0_at (r : Fin 49152) (k : Fin 1024) :
    val_main_v0 (F := Ideal) x4 (ix2 r k) = x4 (ix2 ⟨8 * r.val + k.val / 128, by omega⟩ ⟨k.val % 128, by omega⟩) := by
  rw [val_main_v0_apply]
  refine congrArg x4 (funext fun a => Fin.ext ?_)
  match a with
  | 0 => show (r.val * 1024 + k.val) / 128 = 8 * r.val + k.val / 128; omega
  | 1 => show (r.val * 1024 + k.val) % 128 = k.val % 128; omega

end Cert.Reference2Ideal.Val
-- ==== Proof.MoeKer.lean ====
/- A tile of the tile product at an entry. -/
module

public import proofs.«01_k».proof.Proof.MoeEnd
public import proofs.«01_k».proof.Proof.MoeRef

@[expose] public section

set_option maxRecDepth 16384

noncomputable section

namespace Cert.Kernel2Ideal.Val

open Idealize.ShloMosaic Idealize.ShloMosaic.TcCoe Idealize.SL.Sem
open Cert.Kernel2Ideal Cert.Kernel2Ideal.Gen

/-- The eight groups of 128 features, side by side. -/
def row (X : Fin 8 → S512x128.Idx → EReal) (r : Fin 512) (k : Fin 1024) : EReal :=
  X ⟨k.val / 128, by omega⟩ (ix2 r ⟨k.val % 128, by omega⟩)

theorem row_at (X : Fin 8 → S512x128.Idx → EReal) (r : Fin 512) (k : Fin 1024) (n : ℕ) (hn : n < 8) (q : Fin 128) (h : k.val = 128 * n + q.val) :
    X ⟨n, hn⟩ (ix2 r q) = row X r k := by
  have e1 : (⟨n, hn⟩ : Fin 8) = ⟨k.val / 128, by omega⟩ := Fin.ext (by show n = k.val / 128; omega)
  have e2 : q = ⟨k.val % 128, by omega⟩ := Fin.ext (by show q.val = k.val % 128; omega)
  exact (congrFun (congrArg X e1) _).trans (congrArg (fun q => X ⟨k.val / 128, _⟩ (ix2 r q)) e2)

/-- The group a feature lies in, told by its distance from the first. -/
theorem pick (X : Fin 8 → S512x128.Idx → EReal) (r : Fin 512) (k : Fin 1024) :
    (if h : k.val < 128 then X 0 (ix2 r ⟨k.val, h⟩) else
      if h : k.val - 128 < 128 then X 1 (ix2 r ⟨k.val - 128, h⟩) else
      if h : k.val - 128 - 128 < 128 then X 2 (ix2 r ⟨k.val - 128 - 128, h⟩) else
      if h : k.val - 128 - 128 - 128 < 128 then X 3 (ix2 r ⟨k.val - 128 - 128 - 128, h⟩) else
      if h : k.val - 128 - 128 - 128 - 128 < 128 then X 4 (ix2 r ⟨k.val - 128 - 128 - 128 - 128, h⟩) else
      if h : k.val - 128 - 128 - 128 - 128 - 128 < 128 then X 5 (ix2 r ⟨k.val - 128 - 128 - 128 - 128 - 128, h⟩) else
      if h : k.val - 128 - 128 - 128 - 128 - 128 - 128 < 128 then X 6 (ix2 r ⟨k.val - 128 - 128 - 128 - 128 - 128 - 128, h⟩) else
      X 7 (ix2 r ⟨k.val - 128 - 128 - 128 - 128 - 128 - 128 - 128, by omega⟩)) = row X r k := by
  split
  · exact row_at X r k 0 (by omega) _ (by show k.val = 128 * 0 + (k.val); omega)
  split
  · exact row_at X r k 1 (by omega) _ (by show k.val = 128 * 1 + (k.val - 128); omega)
  split
  · exact row_at X r k 2 (by omega) _ (by show k.val = 128 * 2 + (k.val - 128 - 128); omega)
  split
  · exact row_at X r k 3 (by omega) _ (by show k.val = 128 * 3 + (k.val - 128 - 128 - 128); omega)
  split
  · exact row_at X r k 4 (by omega) _ (by show k.val = 128 * 4 + (k.val - 128 - 128 - 128 - 128); omega)
  split
  · exact row_at X r k 5 (by omega) _ (by show k.val = 128 * 5 + (k.val - 128 - 128 - 128 - 128 - 128); omega)
  split
  · exact row_at X r k 6 (by omega) _ (by show k.val = 128 * 6 + (k.val - 128 - 128 - 128 - 128 - 128 - 128); omega)
  exact row_at X r k 7 (by omega) _ (by show k.val = 128 * 7 + (k.val - 128 - 128 - 128 - 128 - 128 - 128 - 128); omega)

/-- The two layers at an entry. -/
theorem pay10_at (X : Fin 8 → Vec Ideal S512x128 .f32) (G U : Vec Ideal S1024x256 .bf16) (D : Vec Ideal S256x1024 .bf16) (r : Fin 512) (o : Fin 1024) :
    k0_pay10 (F := Ideal) (X 0) (X 1) (X 2) (X 3) (X 4) (X 5) (X 6) (X 7) G U D (ix2 r o)
      = ∑ f : Fin 256, Spec.silu (∑ k : Fin 1024, row X r k * G (ix2 k f)) * (∑ k : Fin 1024, row X r k * U (ix2 k f)) * D (ix2 f o) := by
  pointwise [k0_pay10]
  simp only [pick, zero_sub]
  rfl

/-- The tile's two layers at an entry. -/
theorem mlp_at (X : Vec Ideal S4096x128 .f32) (G U : Vec Ideal S1024x256 .bf16) (D : Vec Ideal S256x1024 .bf16) (r : Fin 512) (o : Fin 1024) :
    mlp (F := Ideal) X G U D (ix2 r o)
      = ∑ f : Fin 256, Spec.silu (∑ k : Fin 1024, row (rows8 X) r k * G (ix2 k f)) * (∑ k : Fin 1024, row (rows8 X) r k * U (ix2 k f)) * D (ix2 f o) :=
  pay10_at (rows8 X) G U D r o

variable (c : Dev nD) (w : Wts Ideal c) (e : Fin 32)

theorem dropA_at (y : S1x1024x256.Idx → EReal) (k : Fin 1024) (f : Fin 256) :
    shapeCast S1024x256 y shapeCasts_S1x1024x256_S1024x256 (ix2 k f) = y (ix3 0 k f) := by
  pointwise

theorem dropB_at (y : S1x256x1024.Idx → EReal) (f : Fin 256) (o : Fin 1024) :
    shapeCast S256x1024 y shapeCasts_S1x256x1024_S256x1024 (ix2 f o) = y (ix3 0 f o) := by
  pointwise

theorem matG_at (k : Fin 1024) (f : Fin 256) : matG c w e (ix2 k f) = w.g (ix3 e k f) := by
  refine (congrFun (Memref.read_squeeze_slice (Val := Elt Ideal) (Memref.whole main_arg5) (Rect.unit (s := S32x1024x256) ![e.val, 0, 0] S1x1024x256.size (mat_inbA e)) (fun _ => rfl)
    squeezes_S1x1024x256_S1024x256 shapeCasts_S1x1024x256_S1024x256 w.g) (ix2 k f)).trans ?_
  refine (dropA_at _ k f).trans ?_
  exact congrArg w.g (funext fun x => Fin.ext (by
    match x with
    | 0 => show e.val + 1 * 0 = e.val; omega
    | 1 => show 0 + 1 * k.val = k.val; omega
    | 2 => show 0 + 1 * f.val = f.val; omega))

theorem matU_at (k : Fin 1024) (f : Fin 256) : matU c w e (ix2 k f) = w.u (ix3 e k f) := by
  refine (congrFun (Memref.read_squeeze_slice (Val := Elt Ideal) (Memref.whole main_arg6) (Rect.unit (s := S32x1024x256) ![e.val, 0, 0] S1x1024x256.size (mat_inbA e)) (fun _ => rfl)
    squeezes_S1x1024x256_S1024x256 shapeCasts_S1x1024x256_S1024x256 w.u) (ix2 k f)).trans ?_
  refine (dropA_at _ k f).trans ?_
  exact congrArg w.u (funext fun x => Fin.ext (by
    match x with
    | 0 => show e.val + 1 * 0 = e.val; omega
    | 1 => show 0 + 1 * k.val = k.val; omega
    | 2 => show 0 + 1 * f.val = f.val; omega))

theorem matD_at (f : Fin 256) (o : Fin 1024) : matD c w e (ix2 f o) = w.d (ix3 e f o) := by
  refine (congrFun (Memref.read_squeeze_slice (Val := Elt Ideal) (Memref.whole main_arg7) (Rect.unit (s := S32x256x1024) ![e.val, 0, 0] S1x256x1024.size (mat_inbB e)) (fun _ => rfl)
    squeezes_S1x256x1024_S256x1024 shapeCasts_S1x256x1024_S256x1024 w.d) (ix2 f o)).trans ?_
  refine (dropB_at _ f o).trans ?_
  exact congrArg w.d (funext fun x => Fin.ext (by
    match x with
    | 0 => show e.val + 1 * 0 = e.val; omega
    | 1 => show 0 + 1 * f.val = f.val; omega
    | 2 => show 0 + 1 * o.val = o.val; omega))

theorem castG_at (k : Fin 1024) (f : Fin 256) : castG c w e (ix2 k f) = w.g (ix3 e k f) := by
  pointwise [castG, k0_pay8]
  exact matG_at c w e _ _

theorem castU_at (k : Fin 1024) (f : Fin 256) : castU c w e (ix2 k f) = w.u (ix3 e k f) := by
  pointwise [castU, k0_pay9]
  exact matU_at c w e _ _

theorem castD_at (f : Fin 256) (o : Fin 1024) : castD c w e (ix2 f o) = w.d (ix3 e f o) := by
  pointwise [castD, k0_pay1]
  exact matD_at c w e _ _

/-- The tile's two layers, of an expert. -/
theorem mlp_expert (X : Vec Ideal S4096x128 .f32) (r : Fin 512) (o : Fin 1024) :
    mlp (F := Ideal) X (castG c w e) (castU c w e) (castD c w e) (ix2 r o) = Spec.expert (row (rows8 X) r) w.g w.u w.d e o := by
  rw [mlp_at]
  simp only [castG_at, castU_at, castD_at]
  rfl

variable (m : (ℓ : Loc nD τ sig) → Buf (Elt Ideal) ℓ)

/-- The token whose rows of 128 hold row `r` of the argument. -/
def token (x : S393216x128.Idx → EReal) (r : Fin 49152) (k : Fin 1024) : EReal :=
  x (ix2 ⟨8 * r.val + k.val / 128, by omega⟩ ⟨k.val % 128, by omega⟩)

theorem row_tok (j : Fin 96) (q : Fin 512) (r : Fin 49152) (h : r.val = 512 * j.val + q.val) :
    row (rows8 (tok m c j)) q = token (m ((c.tc : Thread nD τ).loc main_arg4)) r := by
  funext k
  refine congrArg (m ((c.tc : Thread nD τ).loc main_arg4)) (funext fun a => Fin.ext ?_)
  match a with
  | ⟨0, _⟩ => show 4096 * j.val + (k.val / 128 + 8 * q.val) = 8 * r.val + k.val / 128; omega
  | ⟨1, _⟩ => rfl

/-- The call's result at an entry of a used tile. -/
theorem outV_used (i : S393216x128.Idx) (r : Fin 49152) (o : Fin 1024) (j : Fin 96) (hr : r.val = (i 0).val / 8)
    (ho : o.val = 128 * ((i 0).val % 8) + (i 1).val) (hj : j.val = (i 0).val / 4096) (hu : j.val < (tabs0 m).n) :
    outV m c i = Spec.expert (token (m ((c.tc : Thread nD τ).loc main_arg4)) r) (m ((c.tc : Thread nD τ).loc main_arg5))
      (m ((c.tc : Thread nD τ).loc main_arg6)) (m ((c.tc : Thread nD τ).loc main_arg7)) (Moe.expAt (tabs0 m).te j) o := by
  have h0 : (i 0).val < 393216 := (i 0).isLt
  have hq : (i 0).val / 4096 < 96 := Nat.div_lt_of_lt_mul h0
  obtain rfl : j = ⟨(i 0).val / 4096, hq⟩ := Fin.ext hj
  unfold outV
  rw [if_pos hu]
  unfold res tileV
  refine (mlp_expert c _ _ _ _ _).trans ?_
  rw [row_tok c m ⟨(i 0).val / 4096, by omega⟩ _ r (by
    show r.val = 512 * ((i 0).val / 4096) + (i 0).val % 4096 / 8
    omega)]
  refine congrArg (Spec.expert _ _ _ _ _) (Fin.ext ?_)
  show 128 * ((i 0).val % 4096 % 8) + (i 1).val = o.val
  omega

/-- The reference's result is the call's. -/
theorem result (P : (tabs0 m).Ok) :
    Cert.Reference2Ideal.Read.val_main_v25 (F := Ideal) (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg6))
      (m ((c.tc : Thread nD τ).loc main_arg7)) = outV m c := by
  obtain rfl : c = 0 := Subsingleton.elim _ _
  funext i
  have h0 : (i 0).val < 393216 := (i 0).isLt
  have h1 : (i 1).val < 128 := (i 1).isLt
  have hn : (tabs0 m).n ≤ 96 := P.n_le
  by_cases hu : (i 0).val / 4096 < (tabs0 m).n
  · have ht : ((tabs0 m).te (ix1 ⟨(i 0).val / 4096, by omega⟩)).toNat < 32 := P.te_lt ⟨(i 0).val / 4096, by omega⟩ hu
    rw [outV_used 0 m i ⟨(i 0).val / 8, by omega⟩ ⟨128 * ((i 0).val % 8) + (i 1).val, by omega⟩ ⟨(i 0).val / 4096, by omega⟩ rfl rfl rfl hu]
    refine (Cert.Reference2Ideal.Val.v25_used _ _ _ _ _ _ hn i ⟨(i 0).val / 8, by omega⟩ ⟨128 * ((i 0).val % 8) + (i 1).val, by omega⟩
      (Moe.expAt (tabs0 m).te ⟨(i 0).val / 4096, by omega⟩) rfl rfl ?_ ?_).trans ?_
    · show (i 0).val / 8 < 512 * (tabs0 m).n
      omega
    · have e : (⟨(i 0).val / 8 / 512, by omega⟩ : Fin 96) = ⟨(i 0).val / 4096, by omega⟩ := Fin.ext (by show (i 0).val / 8 / 512 = (i 0).val / 4096; omega)
      refine (congrArg (fun q => BitVec.toNat ((tabs0 m).te (ix1 q))) e).trans ?_
      exact (Nat.mod_eq_of_lt ht).symm
    · refine congrArg (fun x => Spec.expert x _ _ _ _ _) (funext fun k => ?_)
      exact Cert.Reference2Ideal.Val.v0_at _ _ k
  · refine (Cert.Reference2Ideal.Val.v25_unused _ _ _ _ _ _ hn i ?_).trans ?_
    · show ¬ (i 0).val / 8 < 512 * (tabs0 m).n
      omega
    · unfold outV
      rw [if_neg hu]
      rfl

end Cert.Kernel2Ideal.Val
-- ==== Proof.Region4.lean ====
/- Custom call 4's region (the decode step's per-row part) at any entry contents: its blocks, what its body leaves
   in each output buffer, and the body's obligation. The text of the generated region with more heartbeats for the
   29 windows of the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_s_pre` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S128x1024 := Rect.unit (s := S128x1024) ![0, 0] S128x1024.size inb_S128x1024_S128x1024_0_0
abbrev r4_1 : Rect S128x6144 := Rect.unit (s := S128x6144) ![0, 0] S128x6144.size inb_S128x6144_S128x6144_0_0
abbrev r4_2 : Rect S1x1024 := Rect.unit (s := S1x1024) ![0, 0] S1x1024.size inb_S1x1024_S1x1024_0_0
abbrev r4_3 : Rect S1024x3072 := Rect.unit (s := S1024x3072) ![0, 0] S1024x3072.size inb_S1024x3072_S1024x3072_0_0
abbrev r4_4 : Rect S1024x128 := Rect.unit (s := S1024x128) ![0, 0] S1024x128.size inb_S1024x128_S1024x128_0_0
abbrev r4_5 : Rect S1x128 := Rect.unit (s := S1x128) ![0, 0] S1x128.size inb_S1x128_S1x128_0_0
abbrev r4_6 : Rect S512x1024 := Rect.unit (s := S512x1024) ![0, 0] S512x1024.size inb_S512x1024_S512x1024_0_0
abbrev r4_7 : Rect S512x128 := Rect.unit (s := S512x128) ![0, 0] S512x128.size inb_S512x128_S512x128_0_0
abbrev r4_8 : Rect S128x512 := Rect.unit (s := S128x512) ![0, 0] S128x512.size inb_S128x512_S128x512_0_0
abbrev r4_9 : Rect S1x512 := Rect.unit (s := S1x512) ![0, 0] S1x512.size inb_S1x512_S1x512_0_0
abbrev r4_10 : Rect S31x512 := Rect.unit (s := S31x512) ![30, 0] S1x512.size inb_S31x512_S1x512_30_0
abbrev r4_11 : Rect S30x128x512 := Rect.unit (s := S30x128x512) ![0, 0, 0] S1x128x512.size inb_S30x128x512_S1x128x512_0_0_0
abbrev r4_12 : Rect S31x512 := Rect.unit (s := S31x512) ![0, 0] S1x512.size inb_S31x512_S1x512_0_0
abbrev r4_13 : Rect S30x128x512 := Rect.unit (s := S30x128x512) ![1, 0, 0] S1x128x512.size inb_S30x128x512_S1x128x512_1_0_0
abbrev r4_14 : Rect S31x512 := Rect.unit (s := S31x512) ![1, 0] S1x512.size inb_S31x512_S1x512_1_0
abbrev r4_15 : Rect S30x128x512 := Rect.unit (s := S30x128x512) ![2, 0, 0] S1x128x512.size inb_S30x128x512_S1x128x512_2_0_0
abbrev r4_16 : Rect S31x512 := Rect.unit (s := S31x512) ![2, 0] S1x512.size inb_S31x512_S1x512_2_0
abbrev r4_17 : Rect S30x128x512 := Rect.unit (s := S30x128x512) ![3, 0, 0] S1x128x512.size inb_S30x128x512_S1x128x512_3_0_0
abbrev r4_18 : Rect S31x512 := Rect.unit (s := S31x512) ![3, 0] S1x512.size inb_S31x512_S1x512_3_0
abbrev r4_19 : Rect S30x128x512 := Rect.unit (s := S30x128x512) ![4, 0, 0] S1x128x512.size inb_S30x128x512_S1x128x512_4_0_0
abbrev r4_20 : Rect S31x512 := Rect.unit (s := S31x512) ![4, 0] S1x512.size inb_S31x512_S1x512_4_0
abbrev r4_21 : Rect S30x128x512 := Rect.unit (s := S30x128x512) ![5, 0, 0] S1x128x512.size inb_S30x128x512_S1x128x512_5_0_0
abbrev r4_22 : Rect S31x512 := Rect.unit (s := S31x512) ![5, 0] S1x512.size inb_S31x512_S1x512_5_0
abbrev r4_23 : Rect S30x128x512 := Rect.unit (s := S30x128x512) ![6, 0, 0] S1x128x512.size inb_S30x128x512_S1x128x512_6_0_0
abbrev r4_24 : Rect S31x512 := Rect.unit (s := S31x512) ![6, 0] S1x512.size inb_S31x512_S1x512_6_0
abbrev r4_25 : Rect S30x128x512 := Rect.unit (s := S30x128x512) ![7, 0, 0] S1x128x512.size inb_S30x128x512_S1x128x512_7_0_0
abbrev r4_26 : Rect S31x512 := Rect.unit (s := S31x512) ![7, 0] S1x512.size inb_S31x512_S1x512_7_0
abbrev r4_27 : Rect S30x128x512 := Rect.unit (s := S30x128x512) ![8, 0, 0] S1x128x512.size inb_S30x128x512_S1x128x512_8_0_0
abbrev r4_28 : Rect S31x512 := Rect.unit (s := S31x512) ![8, 0] S1x512.size inb_S31x512_S1x512_8_0
abbrev r4_29 : Rect S30x128x512 := Rect.unit (s := S30x128x512) ![9, 0, 0] S1x128x512.size inb_S30x128x512_S1x128x512_9_0_0
abbrev r4_30 : Rect S31x512 := Rect.unit (s := S31x512) ![9, 0] S1x512.size inb_S31x512_S1x512_9_0
abbrev r4_31 : Rect S30x128x512 := Rect.unit (s := S30x128x512) ![10, 0, 0] S1x128x512.size inb_S30x128x512_S1x128x512_10_0_0
abbrev r4_32 : Rect S31x512 := Rect.unit (s := S31x512) ![10, 0] S1x512.size inb_S31x512_S1x512_10_0
abbrev r4_33 : Rect S30x128x512 := Rect.unit (s := S30x128x512) ![11, 0, 0] S1x128x512.size inb_S30x128x512_S1x128x512_11_0_0
abbrev r4_34 : Rect S31x512 := Rect.unit (s := S31x512) ![11, 0] S1x512.size inb_S31x512_S1x512_11_0
abbrev r4_35 : Rect S30x128x512 := Rect.unit (s := S30x128x512) ![12, 0, 0] S1x128x512.size inb_S30x128x512_S1x128x512_12_0_0
abbrev r4_36 : Rect S31x512 := Rect.unit (s := S31x512) ![12, 0] S1x512.size inb_S31x512_S1x512_12_0
abbrev r4_37 : Rect S30x128x512 := Rect.unit (s := S30x128x512) ![13, 0, 0] S1x128x512.size inb_S30x128x512_S1x128x512_13_0_0
abbrev r4_38 : Rect S31x512 := Rect.unit (s := S31x512) ![13, 0] S1x512.size inb_S31x512_S1x512_13_0
abbrev r4_39 : Rect S30x128x512 := Rect.unit (s := S30x128x512) ![14, 0, 0] S1x128x512.size inb_S30x128x512_S1x128x512_14_0_0
abbrev r4_40 : Rect S31x512 := Rect.unit (s := S31x512) ![14, 0] S1x512.size inb_S31x512_S1x512_14_0
abbrev r4_41 : Rect S30x128x512 := Rect.unit (s := S30x128x512) ![15, 0, 0] S1x128x512.size inb_S30x128x512_S1x128x512_15_0_0
abbrev r4_42 : Rect S31x512 := Rect.unit (s := S31x512) ![15, 0] S1x512.size inb_S31x512_S1x512_15_0
abbrev r4_43 : Rect S30x128x512 := Rect.unit (s := S30x128x512) ![16, 0, 0] S1x128x512.size inb_S30x128x512_S1x128x512_16_0_0
abbrev r4_44 : Rect S31x512 := Rect.unit (s := S31x512) ![16, 0] S1x512.size inb_S31x512_S1x512_16_0
abbrev r4_45 : Rect S30x128x512 := Rect.unit (s := S30x128x512) ![17, 0, 0] S1x128x512.size inb_S30x128x512_S1x128x512_17_0_0
abbrev r4_46 : Rect S31x512 := Rect.unit (s := S31x512) ![17, 0] S1x512.size inb_S31x512_S1x512_17_0
abbrev r4_47 : Rect S30x128x512 := Rect.unit (s := S30x128x512) ![18, 0, 0] S1x128x512.size inb_S30x128x512_S1x128x512_18_0_0
abbrev r4_48 : Rect S31x512 := Rect.unit (s := S31x512) ![18, 0] S1x512.size inb_S31x512_S1x512_18_0
abbrev r4_49 : Rect S30x128x512 := Rect.unit (s := S30x128x512) ![19, 0, 0] S1x128x512.size inb_S30x128x512_S1x128x512_19_0_0
abbrev r4_50 : Rect S31x512 := Rect.unit (s := S31x512) ![19, 0] S1x512.size inb_S31x512_S1x512_19_0
abbrev r4_51 : Rect S30x128x512 := Rect.unit (s := S30x128x512) ![20, 0, 0] S1x128x512.size inb_S30x128x512_S1x128x512_20_0_0
abbrev r4_52 : Rect S31x512 := Rect.unit (s := S31x512) ![20, 0] S1x512.size inb_S31x512_S1x512_20_0
abbrev r4_53 : Rect S30x128x512 := Rect.unit (s := S30x128x512) ![21, 0, 0] S1x128x512.size inb_S30x128x512_S1x128x512_21_0_0
abbrev r4_54 : Rect S31x512 := Rect.unit (s := S31x512) ![21, 0] S1x512.size inb_S31x512_S1x512_21_0
abbrev r4_55 : Rect S30x128x512 := Rect.unit (s := S30x128x512) ![22, 0, 0] S1x128x512.size inb_S30x128x512_S1x128x512_22_0_0
abbrev r4_56 : Rect S31x512 := Rect.unit (s := S31x512) ![22, 0] S1x512.size inb_S31x512_S1x512_22_0
abbrev r4_57 : Rect S30x128x512 := Rect.unit (s := S30x128x512) ![23, 0, 0] S1x128x512.size inb_S30x128x512_S1x128x512_23_0_0
abbrev r4_58 : Rect S31x512 := Rect.unit (s := S31x512) ![23, 0] S1x512.size inb_S31x512_S1x512_23_0
abbrev r4_59 : Rect S30x128x512 := Rect.unit (s := S30x128x512) ![24, 0, 0] S1x128x512.size inb_S30x128x512_S1x128x512_24_0_0
abbrev r4_60 : Rect S31x512 := Rect.unit (s := S31x512) ![24, 0] S1x512.size inb_S31x512_S1x512_24_0
abbrev r4_61 : Rect S30x128x512 := Rect.unit (s := S30x128x512) ![25, 0, 0] S1x128x512.size inb_S30x128x512_S1x128x512_25_0_0
abbrev r4_62 : Rect S31x512 := Rect.unit (s := S31x512) ![25, 0] S1x512.size inb_S31x512_S1x512_25_0
abbrev r4_63 : Rect S30x128x512 := Rect.unit (s := S30x128x512) ![26, 0, 0] S1x128x512.size inb_S30x128x512_S1x128x512_26_0_0
abbrev r4_64 : Rect S31x512 := Rect.unit (s := S31x512) ![26, 0] S1x512.size inb_S31x512_S1x512_26_0
abbrev r4_65 : Rect S30x128x512 := Rect.unit (s := S30x128x512) ![27, 0, 0] S1x128x512.size inb_S30x128x512_S1x128x512_27_0_0
abbrev r4_66 : Rect S31x512 := Rect.unit (s := S31x512) ![27, 0] S1x512.size inb_S31x512_S1x512_27_0
abbrev r4_67 : Rect S30x128x512 := Rect.unit (s := S30x128x512) ![28, 0, 0] S1x128x512.size inb_S30x128x512_S1x128x512_28_0_0
abbrev r4_68 : Rect S31x512 := Rect.unit (s := S31x512) ![28, 0] S1x512.size inb_S31x512_S1x512_28_0
abbrev r4_69 : Rect S30x128x512 := Rect.unit (s := S30x128x512) ![29, 0, 0] S1x128x512.size inb_S30x128x512_S1x128x512_29_0_0
abbrev r4_70 : Rect S31x512 := Rect.unit (s := S31x512) ![29, 0] S1x512.size inb_S31x512_S1x512_29_0
abbrev r4_71 : Rect S128x128 := Rect.unit (s := S128x128) ![0, 0] S128x128.size inb_S128x128_S128x128_0_0
abbrev r4_72 : Rect S128x512 := Rect.unit (s := S128x512) ![0, 0] S128x128.size inb_S128x512_S128x128_0_0
abbrev r4_73 : Rect S128x512 := Rect.unit (s := S128x512) ![0, 128] S128x128.size inb_S128x512_S128x128_0_128
abbrev r4_74 : Rect S128x512 := Rect.unit (s := S128x512) ![0, 256] S128x128.size inb_S128x512_S128x128_0_256
abbrev r4_75 : Rect S128x512 := Rect.unit (s := S128x512) ![0, 384] S128x128.size inb_S128x512_S128x128_0_384

/-! ## What the body leaves in each output window's buffer -/

/-! ### Values of the body that the stores' payloads, spelt out, would write more than once

    Each is a vector the body binds (often a part call's result), stated over the input windows' blocks and
    numbered on from the skeleton's payload functions (`k4_pay103` …, after `k4_pay102`), so that
    `out4_W` and the values after it name it instead of spelling it out ; the comment after each is the printed function's
    name for the value (a count appended where that name is bound again). -/

def k4_pay103 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1024 .f32 :=
  k4_pay6 (View.ld x0 r4_0) (View.ld x1 r4_1) (View.ld x2 r4_2) -- `v23`
def k4_pay104 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x3072 .f32 :=
  k4_pay7 (View.ld x0 r4_0) (View.ld x1 r4_1) (View.ld x2 r4_2) (View.ld x3 r4_3) (View.ld x4 r4_3) -- `v36`
def k4_pay105 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay9 (k4_pay103 x0 x1 x2 x3 x4 x5 x6 x7 x8 x9 x10 x11 x12 x13 x14 x15 x16) (k4_pay8 (View.ld x5 r4_4)) (View.ld x6 r4_4) (View.ld x7 r4_5) -- `v53`
def k4_pay106 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x512 .f32 :=
  k4_pay11 (k4_pay104 x0 x1 x2 x3 x4 x5 x6 x7 x8 x9 x10 x11 x12 x13 x14 x15 x16) -- `v75`
def k4_pay107 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x512 .f32 :=
  k4_pay12 (k4_pay104 x0 x1 x2 x3 x4 x5 x6 x7 x8 x9 x10 x11 x12 x13 x14 x15 x16) -- `v76`
def k4_pay108 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x512 .f32 :=
  k4_pay13 (k4_pay104 x0 x1 x2 x3 x4 x5 x6 x7 x8 x9 x10 x11 x12 x13 x14 x15 x16) -- `v77`
def k4_pay109 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : IVec S1x128 32 :=
  iota .tc S1x128 32 [1] iota_S1x128_d1_w32 -- `v347`
def k4_pay110 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay37 (View.ld x16 r4_71) -- `v344`
def k4_pay111 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x512 .f32 :=
  k4_pay38 (View.ld x15 r4_8) -- `v346`
def k4_pay112 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay42 (k4_pay105 x0 x1 x2 x3 x4 x5 x6 x7 x8 x9 x10 x11 x12 x13 x14 x15 x16) (View.ld x16 r4_71) -- `v363`
def k4_pay113 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay43 (k4_pay105 x0 x1 x2 x3 x4 x5 x6 x7 x8 x9 x10 x11 x12 x13 x14 x15 x16) (View.ld x16 r4_71) -- `v365`
def k4_pay114 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay44 (k4_pay105 x0 x1 x2 x3 x4 x5 x6 x7 x8 x9 x10 x11 x12 x13 x14 x15 x16) (View.ld x16 r4_71) -- `v367`
def k4_pay115 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay45 (k4_pay104 x0 x1 x2 x3 x4 x5 x6 x7 x8 x9 x10 x11 x12 x13 x14 x15 x16) -- `v368`
def k4_pay116 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay46 (k4_pay106 x0 x1 x2 x3 x4 x5 x6 x7 x8 x9 x10 x11 x12 x13 x14 x15 x16) -- `v369`
def k4_pay117 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay60 (k4_pay105 x0 x1 x2 x3 x4 x5 x6 x7 x8 x9 x10 x11 x12 x13 x14 x15 x16) (k4_pay110 x0 x1 x2 x3 x4 x5 x6 x7 x8 x9 x10 x11 x12 x13 x14 x15 x16) -- `v430`
def k4_pay118 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay61 (k4_pay105 x0 x1 x2 x3 x4 x5 x6 x7 x8 x9 x10 x11 x12 x13 x14 x15 x16) (k4_pay110 x0 x1 x2 x3 x4 x5 x6 x7 x8 x9 x10 x11 x12 x13 x14 x15 x16) -- `v432`
def k4_pay119 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay76 (k4_pay105 x0 x1 x2 x3 x4 x5 x6 x7 x8 x9 x10 x11 x12 x13 x14 x15 x16) (k4_pay110 x0 x1 x2 x3 x4 x5 x6 x7 x8 x9 x10 x11 x12 x13 x14 x15 x16) -- `v493`
def k4_pay120 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay77 (k4_pay105 x0 x1 x2 x3 x4 x5 x6 x7 x8 x9 x10 x11 x12 x13 x14 x15 x16) (k4_pay110 x0 x1 x2 x3 x4 x5 x6 x7 x8 x9 x10 x11 x12 x13 x14 x15 x16) -- `v495`
def k4_pay121 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay78 (k4_pay105 x0 x1 x2 x3 x4 x5 x6 x7 x8 x9 x10 x11 x12 x13 x14 x15 x16) (k4_pay110 x0 x1 x2 x3 x4 x5 x6 x7 x8 x9 x10 x11 x12 x13 x14 x15 x16) -- `v497`
def k4_pay122 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay79 (k4_pay104 x0 x1 x2 x3 x4 x5 x6 x7 x8 x9 x10 x11 x12 x13 x14 x15 x16) -- `v498`
def k4_pay123 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x128 .f32 :=
  k4_pay80 (k4_pay106 x0 x1 x2 x3 x4 x5 x6 x7 x8 x9 x10 x11 x12 x13 x14 x15 x16) -- `v499`
def k4_pay124 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay94 (k4_pay105 x0 x1 x2 x3 x4 x5 x6 x7 x8 x9 x10 x11 x12 x13 x14 x15 x16) (k4_pay110 x0 x1 x2 x3 x4 x5 x6 x7 x8 x9 x10 x11 x12 x13 x14 x15 x16) -- `v560`
def k4_pay125 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : FVec F S128x1 .f32 :=
  k4_pay95 (k4_pay105 x0 x1 x2 x3 x4 x5 x6 x7 x8 x9 x10 x11 x12 x13 x14 x15 x16) (k4_pay110 x0 x1 x2 x3 x4 x5 x6 x7 x8 x9 x10 x11 x12 x13 x14 x15 x16) -- `v562`

/-- Window 17's staging buffer after the body, from the input windows' blocks: its 1 store as pieces, LAST
    FIRST (Lib/Pipeline/FrameBody.lean `View.canon`; the payloads are the skeleton's and the values stated above). -/
def out4_17 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_8, k4_pay36 (k4_pay104 x0 x1 x2 x3 x4 x5 x6 x7 x8 x9 x10 x11 x12 x13 x14 x15 x16)⟩]

/-- Its stores tile the buffer (checked by evaluation), so they cover it. -/
theorem cover4_17 (p0 : Vec F S128x512 .f32) (y : S128x512.Idx) :
    ∃ pc ∈ ([⟨r4_8, p0⟩] : List (View.Piece (Elt F) S128x512 .f32)), y ∈ pc.1.set :=
  View.cover_of_tiled [⟨r4_8, p0⟩] S128x512.size (by rfl) y

/-- Window 18's staging buffer after the body, from the input windows' blocks: its 1 store as pieces, LAST
    FIRST (Lib/Pipeline/FrameBody.lean `View.canon`; the payloads are the skeleton's and the values stated above). -/
def out4_18 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S512x128 .bf16 :=
  View.canon [⟨r4_7, k4_pay10 (k4_pay103 x0 x1 x2 x3 x4 x5 x6 x7 x8 x9 x10 x11 x12 x13 x14 x15 x16) (View.ld x8 r4_6) (View.ld x9 r4_6) (View.ld x8 r4_6)⟩]

/-- Its stores tile the buffer (checked by evaluation), so they cover it. -/
theorem cover4_18 (p0 : Vec F S512x128 .bf16) (y : S512x128.Idx) :
    ∃ pc ∈ ([⟨r4_7, p0⟩] : List (View.Piece (Elt F) S512x128 .bf16)), y ∈ pc.1.set :=
  View.cover_of_tiled [⟨r4_7, p0⟩] S512x128.size (by rfl) y

/-- Window 19's staging buffer after the body, from the input windows' blocks: its 4 stores as pieces, LAST
    FIRST (Lib/Pipeline/FrameBody.lean `View.canon`; the payloads are the skeleton's and the values stated above). -/
def out4_19 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .bf16 :=
  View.canon [⟨r4_75, k4_pay3 (k4_pay124 x0 x1 x2 x3 x4 x5 x6 x7 x8 x9 x10 x11 x12 x13 x14 x15 x16) (k4_pay98 (k4_pay104 x0 x1 x2 x3 x4 x5 x6 x7 x8 x9 x10 x11 x12 x13 x14 x15 x16))⟩,
    ⟨r4_74, k4_pay87 (k4_pay104 x0 x1 x2 x3 x4 x5 x6 x7 x8 x9 x10 x11 x12 x13 x14 x15 x16) (k4_pay120 x0 x1 x2 x3 x4 x5 x6 x7 x8 x9 x10 x11 x12 x13 x14 x15 x16)⟩,
    ⟨r4_73, k4_pay71 (k4_pay117 x0 x1 x2 x3 x4 x5 x6 x7 x8 x9 x10 x11 x12 x13 x14 x15 x16) (k4_pay64 (k4_pay104 x0 x1 x2 x3 x4 x5 x6 x7 x8 x9 x10 x11 x12 x13 x14 x15 x16))⟩,
    ⟨r4_72, k4_pay53 (k4_pay104 x0 x1 x2 x3 x4 x5 x6 x7 x8 x9 x10 x11 x12 x13 x14 x15 x16) (k4_pay113 x0 x1 x2 x3 x4 x5 x6 x7 x8 x9 x10 x11 x12 x13 x14 x15 x16)⟩]

/-- Its stores tile the buffer (checked by evaluation), so they cover it. -/
theorem cover4_19 (p0 : Vec F S128x128 .bf16) (p1 : Vec F S128x128 .bf16) (p2 : Vec F S128x128 .bf16) (p3 : Vec F S128x128 .bf16) (y : S128x512.Idx) :
    ∃ pc ∈ ([⟨r4_75, p0⟩, ⟨r4_74, p1⟩, ⟨r4_73, p2⟩, ⟨r4_72, p3⟩] : List (View.Piece (Elt F) S128x512 .bf16)), y ∈ pc.1.set :=
  View.cover_of_tiled [⟨r4_75, p0⟩, ⟨r4_74, p1⟩, ⟨r4_73, p2⟩, ⟨r4_72, p3⟩] S128x128.size (by rfl) y

/-- Window 20's staging buffer after the body, from the input windows' blocks: its 4 stores as pieces, LAST
    FIRST (Lib/Pipeline/FrameBody.lean `View.canon`; the payloads are the skeleton's and the values stated above). -/
def out4_20 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_75, k4_pay2 (k4_pay125 x0 x1 x2 x3 x4 x5 x6 x7 x8 x9 x10 x11 x12 x13 x14 x15 x16)⟩,
    ⟨r4_74, k4_pay86 (k4_pay121 x0 x1 x2 x3 x4 x5 x6 x7 x8 x9 x10 x11 x12 x13 x14 x15 x16)⟩,
    ⟨r4_73, k4_pay70 (k4_pay118 x0 x1 x2 x3 x4 x5 x6 x7 x8 x9 x10 x11 x12 x13 x14 x15 x16)⟩,
    ⟨r4_72, k4_pay52 (k4_pay114 x0 x1 x2 x3 x4 x5 x6 x7 x8 x9 x10 x11 x12 x13 x14 x15 x16)⟩]

/-- Its stores tile the buffer (checked by evaluation), so they cover it. -/
theorem cover4_20 (p0 : Vec F S128x128 .f32) (p1 : Vec F S128x128 .f32) (p2 : Vec F S128x128 .f32) (p3 : Vec F S128x128 .f32) (y : S128x512.Idx) :
    ∃ pc ∈ ([⟨r4_75, p0⟩, ⟨r4_74, p1⟩, ⟨r4_73, p2⟩, ⟨r4_72, p3⟩] : List (View.Piece (Elt F) S128x512 .f32)), y ∈ pc.1.set :=
  View.cover_of_tiled [⟨r4_75, p0⟩, ⟨r4_74, p1⟩, ⟨r4_73, p2⟩, ⟨r4_72, p3⟩] S128x128.size (by rfl) y

/-- Window 21's staging buffer after the body, from the input windows' blocks: its 4 stores as pieces, LAST
    FIRST (Lib/Pipeline/FrameBody.lean `View.canon`; the payloads are the skeleton's and the values stated above). -/
def out4_21 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_75, k4_pay100 (k4_pay104 x0 x1 x2 x3 x4 x5 x6 x7 x8 x9 x10 x11 x12 x13 x14 x15 x16) (k4_pay105 x0 x1 x2 x3 x4 x5 x6 x7 x8 x9 x10 x11 x12 x13 x14 x15 x16) (k4_pay106 x0 x1 x2 x3 x4 x5 x6 x7 x8 x9 x10 x11 x12 x13 x14 x15 x16) (k4_pay110 x0 x1 x2 x3 x4 x5 x6 x7 x8 x9 x10 x11 x12 x13 x14 x15 x16)⟩,
    ⟨r4_74, k4_pay83 (k4_pay104 x0 x1 x2 x3 x4 x5 x6 x7 x8 x9 x10 x11 x12 x13 x14 x15 x16) (k4_pay120 x0 x1 x2 x3 x4 x5 x6 x7 x8 x9 x10 x11 x12 x13 x14 x15 x16) (k4_pay122 x0 x1 x2 x3 x4 x5 x6 x7 x8 x9 x10 x11 x12 x13 x14 x15 x16) (k4_pay123 x0 x1 x2 x3 x4 x5 x6 x7 x8 x9 x10 x11 x12 x13 x14 x15 x16)⟩,
    ⟨r4_73, k4_pay66 (k4_pay104 x0 x1 x2 x3 x4 x5 x6 x7 x8 x9 x10 x11 x12 x13 x14 x15 x16) (k4_pay105 x0 x1 x2 x3 x4 x5 x6 x7 x8 x9 x10 x11 x12 x13 x14 x15 x16) (k4_pay106 x0 x1 x2 x3 x4 x5 x6 x7 x8 x9 x10 x11 x12 x13 x14 x15 x16) (k4_pay110 x0 x1 x2 x3 x4 x5 x6 x7 x8 x9 x10 x11 x12 x13 x14 x15 x16)⟩,
    ⟨r4_72, k4_pay49 (k4_pay104 x0 x1 x2 x3 x4 x5 x6 x7 x8 x9 x10 x11 x12 x13 x14 x15 x16) (k4_pay113 x0 x1 x2 x3 x4 x5 x6 x7 x8 x9 x10 x11 x12 x13 x14 x15 x16) (k4_pay115 x0 x1 x2 x3 x4 x5 x6 x7 x8 x9 x10 x11 x12 x13 x14 x15 x16) (k4_pay116 x0 x1 x2 x3 x4 x5 x6 x7 x8 x9 x10 x11 x12 x13 x14 x15 x16)⟩]

/-- Its stores tile the buffer (checked by evaluation), so they cover it. -/
theorem cover4_21 (p0 : Vec F S128x128 .f32) (p1 : Vec F S128x128 .f32) (p2 : Vec F S128x128 .f32) (p3 : Vec F S128x128 .f32) (y : S128x512.Idx) :
    ∃ pc ∈ ([⟨r4_75, p0⟩, ⟨r4_74, p1⟩, ⟨r4_73, p2⟩, ⟨r4_72, p3⟩] : List (View.Piece (Elt F) S128x512 .f32)), y ∈ pc.1.set :=
  View.cover_of_tiled [⟨r4_75, p0⟩, ⟨r4_74, p1⟩, ⟨r4_73, p2⟩, ⟨r4_72, p3⟩] S128x128.size (by rfl) y

/-- Window 22's staging buffer after the body, from the input windows' blocks: its 4 stores as pieces, LAST
    FIRST (Lib/Pipeline/FrameBody.lean `View.canon`; the payloads are the skeleton's and the values stated above). -/
def out4_22 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_75, k4_pay101 (k4_pay104 x0 x1 x2 x3 x4 x5 x6 x7 x8 x9 x10 x11 x12 x13 x14 x15 x16) (k4_pay105 x0 x1 x2 x3 x4 x5 x6 x7 x8 x9 x10 x11 x12 x13 x14 x15 x16) (k4_pay106 x0 x1 x2 x3 x4 x5 x6 x7 x8 x9 x10 x11 x12 x13 x14 x15 x16) (k4_pay110 x0 x1 x2 x3 x4 x5 x6 x7 x8 x9 x10 x11 x12 x13 x14 x15 x16) (k4_pay111 x0 x1 x2 x3 x4 x5 x6 x7 x8 x9 x10 x11 x12 x13 x14 x15 x16)⟩,
    ⟨r4_74, k4_pay84 (k4_pay111 x0 x1 x2 x3 x4 x5 x6 x7 x8 x9 x10 x11 x12 x13 x14 x15 x16) (k4_pay120 x0 x1 x2 x3 x4 x5 x6 x7 x8 x9 x10 x11 x12 x13 x14 x15 x16) (k4_pay121 x0 x1 x2 x3 x4 x5 x6 x7 x8 x9 x10 x11 x12 x13 x14 x15 x16) (k4_pay122 x0 x1 x2 x3 x4 x5 x6 x7 x8 x9 x10 x11 x12 x13 x14 x15 x16) (k4_pay123 x0 x1 x2 x3 x4 x5 x6 x7 x8 x9 x10 x11 x12 x13 x14 x15 x16)⟩,
    ⟨r4_73, k4_pay67 (k4_pay104 x0 x1 x2 x3 x4 x5 x6 x7 x8 x9 x10 x11 x12 x13 x14 x15 x16) (k4_pay105 x0 x1 x2 x3 x4 x5 x6 x7 x8 x9 x10 x11 x12 x13 x14 x15 x16) (k4_pay106 x0 x1 x2 x3 x4 x5 x6 x7 x8 x9 x10 x11 x12 x13 x14 x15 x16) (k4_pay110 x0 x1 x2 x3 x4 x5 x6 x7 x8 x9 x10 x11 x12 x13 x14 x15 x16) (k4_pay111 x0 x1 x2 x3 x4 x5 x6 x7 x8 x9 x10 x11 x12 x13 x14 x15 x16)⟩,
    ⟨r4_72, k4_pay50 (k4_pay111 x0 x1 x2 x3 x4 x5 x6 x7 x8 x9 x10 x11 x12 x13 x14 x15 x16) (k4_pay113 x0 x1 x2 x3 x4 x5 x6 x7 x8 x9 x10 x11 x12 x13 x14 x15 x16) (k4_pay114 x0 x1 x2 x3 x4 x5 x6 x7 x8 x9 x10 x11 x12 x13 x14 x15 x16) (k4_pay115 x0 x1 x2 x3 x4 x5 x6 x7 x8 x9 x10 x11 x12 x13 x14 x15 x16) (k4_pay116 x0 x1 x2 x3 x4 x5 x6 x7 x8 x9 x10 x11 x12 x13 x14 x15 x16)⟩]

/-- Its stores tile the buffer (checked by evaluation), so they cover it. -/
theorem cover4_22 (p0 : Vec F S128x128 .f32) (p1 : Vec F S128x128 .f32) (p2 : Vec F S128x128 .f32) (p3 : Vec F S128x128 .f32) (y : S128x512.Idx) :
    ∃ pc ∈ ([⟨r4_75, p0⟩, ⟨r4_74, p1⟩, ⟨r4_73, p2⟩, ⟨r4_72, p3⟩] : List (View.Piece (Elt F) S128x512 .f32)), y ∈ pc.1.set :=
  View.cover_of_tiled [⟨r4_75, p0⟩, ⟨r4_74, p1⟩, ⟨r4_73, p2⟩, ⟨r4_72, p3⟩] S128x128.size (by rfl) y

/-- Window 23's staging buffer after the body, from the input windows' blocks: its 4 stores as pieces, LAST
    FIRST (Lib/Pipeline/FrameBody.lean `View.canon`; the payloads are the skeleton's and the values stated above). -/
def out4_23 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_75, k4_pay1 (k4_pay102 (k4_pay105 x0 x1 x2 x3 x4 x5 x6 x7 x8 x9 x10 x11 x12 x13 x14 x15 x16) (k4_pay110 x0 x1 x2 x3 x4 x5 x6 x7 x8 x9 x10 x11 x12 x13 x14 x15 x16))⟩,
    ⟨r4_74, k4_pay85 (k4_pay119 x0 x1 x2 x3 x4 x5 x6 x7 x8 x9 x10 x11 x12 x13 x14 x15 x16)⟩,
    ⟨r4_73, k4_pay69 (k4_pay68 (k4_pay105 x0 x1 x2 x3 x4 x5 x6 x7 x8 x9 x10 x11 x12 x13 x14 x15 x16) (k4_pay110 x0 x1 x2 x3 x4 x5 x6 x7 x8 x9 x10 x11 x12 x13 x14 x15 x16))⟩,
    ⟨r4_72, k4_pay51 (k4_pay112 x0 x1 x2 x3 x4 x5 x6 x7 x8 x9 x10 x11 x12 x13 x14 x15 x16)⟩]

/-- Its stores tile the buffer (checked by evaluation), so they cover it. -/
theorem cover4_23 (p0 : Vec F S128x128 .f32) (p1 : Vec F S128x128 .f32) (p2 : Vec F S128x128 .f32) (p3 : Vec F S128x128 .f32) (y : S128x512.Idx) :
    ∃ pc ∈ ([⟨r4_75, p0⟩, ⟨r4_74, p1⟩, ⟨r4_73, p2⟩, ⟨r4_72, p3⟩] : List (View.Piece (Elt F) S128x512 .f32)), y ∈ pc.1.set :=
  View.cover_of_tiled [⟨r4_75, p0⟩, ⟨r4_74, p1⟩, ⟨r4_73, p2⟩, ⟨r4_72, p3⟩] S128x128.size (by rfl) y

/-- Window 24's staging buffer after the body, from the input windows' blocks: its 1 store as pieces, LAST
    FIRST (Lib/Pipeline/FrameBody.lean `View.canon`; the payloads are the skeleton's and the values stated above). -/
def out4_24 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_8, k4_pay35 (k4_pay104 x0 x1 x2 x3 x4 x5 x6 x7 x8 x9 x10 x11 x12 x13 x14 x15 x16)⟩]

/-- Its stores tile the buffer (checked by evaluation), so they cover it. -/
theorem cover4_24 (p0 : Vec F S128x512 .f32) (y : S128x512.Idx) :
    ∃ pc ∈ ([⟨r4_8, p0⟩] : List (View.Piece (Elt F) S128x512 .f32)), y ∈ pc.1.set :=
  View.cover_of_tiled [⟨r4_8, p0⟩] S128x512.size (by rfl) y

/-- Window 25's staging buffer after the body, from the input windows' blocks: its 1 store as pieces, LAST
    FIRST (Lib/Pipeline/FrameBody.lean `View.canon`; the payloads are the skeleton's and the values stated above). -/
def out4_25 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_8, k4_pay34 (k4_pay33 (k4_pay30 (k4_pay27 (k4_pay24 (k4_pay21 (k4_pay18 (k4_pay15 (k4_pay107 x0 x1 x2 x3 x4 x5 x6 x7 x8 x9 x10 x11 x12 x13 x14 x15 x16) (k4_pay108 x0 x1 x2 x3 x4 x5 x6 x7 x8 x9 x10 x11 x12 x13 x14 x15 x16) (Scalar.ofBits .f32 0x00000000#32) (View.ld x11 r4_9) (View.ld x10 r4_10) (View.ld x14 r4_11) (View.ld x10 r4_12) (View.ld x14 r4_13) (View.ld x10 r4_14)) (k4_pay16 (View.ld x14 r4_15)) (k4_pay17 (View.ld x10 r4_16)) (View.ld x14 r4_17) (View.ld x10 r4_18) (View.ld x14 r4_19) (View.ld x10 r4_20) (View.ld x14 r4_21) (View.ld x10 r4_22) (View.ld x14 r4_23) (View.ld x10 r4_24)) (k4_pay19 (View.ld x14 r4_25)) (k4_pay20 (View.ld x10 r4_26)) (View.ld x14 r4_27) (View.ld x10 r4_28) (View.ld x14 r4_29) (View.ld x10 r4_30) (View.ld x14 r4_31) (View.ld x10 r4_32) (View.ld x14 r4_33) (View.ld x10 r4_34)) (k4_pay22 (View.ld x14 r4_35)) (k4_pay23 (View.ld x10 r4_36)) (View.ld x14 r4_37) (View.ld x10 r4_38) (View.ld x14 r4_39) (View.ld x10 r4_40) (View.ld x14 r4_41) (View.ld x10 r4_42) (View.ld x14 r4_43) (View.ld x10 r4_44)) (k4_pay25 (View.ld x14 r4_45)) (k4_pay26 (View.ld x10 r4_46)) (View.ld x14 r4_47) (View.ld x10 r4_48) (View.ld x14 r4_49) (View.ld x10 r4_50) (View.ld x14 r4_51) (View.ld x10 r4_52) (View.ld x14 r4_53) (View.ld x10 r4_54)) (k4_pay28 (View.ld x14 r4_55)) (k4_pay29 (View.ld x10 r4_56)) (View.ld x14 r4_57) (View.ld x10 r4_58) (View.ld x14 r4_59) (View.ld x10 r4_60) (View.ld x14 r4_61) (View.ld x10 r4_62) (View.ld x14 r4_63) (View.ld x10 r4_64)) (k4_pay31 (View.ld x14 r4_65)) (k4_pay32 (View.ld x10 r4_66)) (View.ld x14 r4_67) (View.ld x10 r4_68) (View.ld x14 r4_69) (View.ld x10 r4_70) (View.ld x12 r4_9) (View.ld x13 r4_9))⟩]

/-- Its stores tile the buffer (checked by evaluation), so they cover it. -/
theorem cover4_25 (p0 : Vec F S128x512 .f32) (y : S128x512.Idx) :
    ∃ pc ∈ ([⟨r4_8, p0⟩] : List (View.Piece (Elt F) S128x512 .f32)), y ∈ pc.1.set :=
  View.cover_of_tiled [⟨r4_8, p0⟩] S128x512.size (by rfl) y

/-- Window 26's staging buffer after the body, from the input windows' blocks: its 1 store as pieces, LAST
    FIRST (Lib/Pipeline/FrameBody.lean `View.canon`; the payloads are the skeleton's and the values stated above). -/
def out4_26 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_8, k4_pay14 (k4_pay107 x0 x1 x2 x3 x4 x5 x6 x7 x8 x9 x10 x11 x12 x13 x14 x15 x16) (k4_pay108 x0 x1 x2 x3 x4 x5 x6 x7 x8 x9 x10 x11 x12 x13 x14 x15 x16) (Scalar.ofBits .f32 0x00000000#32)⟩]

/-- Its stores tile the buffer (checked by evaluation), so they cover it. -/
theorem cover4_26 (p0 : Vec F S128x512 .f32) (y : S128x512.Idx) :
    ∃ pc ∈ ([⟨r4_8, p0⟩] : List (View.Piece (Elt F) S128x512 .f32)), y ∈ pc.1.set :=
  View.cover_of_tiled [⟨r4_8, p0⟩] S128x512.size (by rfl) y

/-- Window 27's staging buffer after the body, from the input windows' blocks: its 4 stores as pieces, LAST
    FIRST (Lib/Pipeline/FrameBody.lean `View.canon`; the payloads are the skeleton's and the values stated above). -/
def out4_27 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x512 .f32 :=
  View.canon [⟨r4_75, k4_pay4 (k4_pay111 x0 x1 x2 x3 x4 x5 x6 x7 x8 x9 x10 x11 x12 x13 x14 x15 x16) (k4_pay124 x0 x1 x2 x3 x4 x5 x6 x7 x8 x9 x10 x11 x12 x13 x14 x15 x16) (k4_pay125 x0 x1 x2 x3 x4 x5 x6 x7 x8 x9 x10 x11 x12 x13 x14 x15 x16) (k4_pay97 (k4_pay106 x0 x1 x2 x3 x4 x5 x6 x7 x8 x9 x10 x11 x12 x13 x14 x15 x16))⟩,
    ⟨r4_74, k4_pay88 (k4_pay111 x0 x1 x2 x3 x4 x5 x6 x7 x8 x9 x10 x11 x12 x13 x14 x15 x16) (k4_pay120 x0 x1 x2 x3 x4 x5 x6 x7 x8 x9 x10 x11 x12 x13 x14 x15 x16) (k4_pay121 x0 x1 x2 x3 x4 x5 x6 x7 x8 x9 x10 x11 x12 x13 x14 x15 x16) (k4_pay123 x0 x1 x2 x3 x4 x5 x6 x7 x8 x9 x10 x11 x12 x13 x14 x15 x16)⟩,
    ⟨r4_73, k4_pay72 (k4_pay111 x0 x1 x2 x3 x4 x5 x6 x7 x8 x9 x10 x11 x12 x13 x14 x15 x16) (k4_pay117 x0 x1 x2 x3 x4 x5 x6 x7 x8 x9 x10 x11 x12 x13 x14 x15 x16) (k4_pay118 x0 x1 x2 x3 x4 x5 x6 x7 x8 x9 x10 x11 x12 x13 x14 x15 x16) (k4_pay63 (k4_pay106 x0 x1 x2 x3 x4 x5 x6 x7 x8 x9 x10 x11 x12 x13 x14 x15 x16))⟩,
    ⟨r4_72, k4_pay54 (k4_pay111 x0 x1 x2 x3 x4 x5 x6 x7 x8 x9 x10 x11 x12 x13 x14 x15 x16) (k4_pay113 x0 x1 x2 x3 x4 x5 x6 x7 x8 x9 x10 x11 x12 x13 x14 x15 x16) (k4_pay114 x0 x1 x2 x3 x4 x5 x6 x7 x8 x9 x10 x11 x12 x13 x14 x15 x16) (k4_pay116 x0 x1 x2 x3 x4 x5 x6 x7 x8 x9 x10 x11 x12 x13 x14 x15 x16)⟩]

/-- Its stores tile the buffer (checked by evaluation), so they cover it. -/
theorem cover4_27 (p0 : Vec F S128x128 .f32) (p1 : Vec F S128x128 .f32) (p2 : Vec F S128x128 .f32) (p3 : Vec F S128x128 .f32) (y : S128x512.Idx) :
    ∃ pc ∈ ([⟨r4_75, p0⟩, ⟨r4_74, p1⟩, ⟨r4_73, p2⟩, ⟨r4_72, p3⟩] : List (View.Piece (Elt F) S128x512 .f32)), y ∈ pc.1.set :=
  View.cover_of_tiled [⟨r4_75, p0⟩, ⟨r4_74, p1⟩, ⟨r4_73, p2⟩, ⟨r4_72, p3⟩] S128x128.size (by rfl) y

/-- Window 28's staging buffer after the body, from the input windows' blocks: its 1 store as pieces, LAST
    FIRST (Lib/Pipeline/FrameBody.lean `View.canon`; the payloads are the skeleton's and the values stated above). -/
def out4_28 (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) : Vec F S128x128 .f32 :=
  View.canon [⟨r4_71, k4_pay5 (k4_pay109 x0 x1 x2 x3 x4 x5 x6 x7 x8 x9 x10 x11 x12 x13 x14 x15 x16) (k4_pay90 (k4_pay109 x0 x1 x2 x3 x4 x5 x6 x7 x8 x9 x10 x11 x12 x13 x14 x15 x16) (k4_pay73 (k4_pay109 x0 x1 x2 x3 x4 x5 x6 x7 x8 x9 x10 x11 x12 x13 x14 x15 x16) (k4_pay56 (k4_pay109 x0 x1 x2 x3 x4 x5 x6 x7 x8 x9 x10 x11 x12 x13 x14 x15 x16) (k4_pay39 (F := F)) (k4_pay112 x0 x1 x2 x3 x4 x5 x6 x7 x8 x9 x10 x11 x12 x13 x14 x15 x16) k4_pay55) (k4_pay59 (k4_pay105 x0 x1 x2 x3 x4 x5 x6 x7 x8 x9 x10 x11 x12 x13 x14 x15 x16) (k4_pay110 x0 x1 x2 x3 x4 x5 x6 x7 x8 x9 x10 x11 x12 x13 x14 x15 x16))) (k4_pay119 x0 x1 x2 x3 x4 x5 x6 x7 x8 x9 x10 x11 x12 x13 x14 x15 x16) k4_pay89) (k4_pay93 (k4_pay105 x0 x1 x2 x3 x4 x5 x6 x7 x8 x9 x10 x11 x12 x13 x14 x15 x16) (k4_pay110 x0 x1 x2 x3 x4 x5 x6 x7 x8 x9 x10 x11 x12 x13 x14 x15 x16))⟩]

/-- Its stores tile the buffer (checked by evaluation), so they cover it. -/
theorem cover4_28 (p0 : Vec F S128x128 .f32) (y : S128x128.Idx) :
    ∃ pc ∈ ([⟨r4_71, p0⟩] : List (View.Piece (Elt F) S128x128 .f32)), y ∈ pc.1.set :=
  View.cover_of_tiled [⟨r4_71, p0⟩] S128x128.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are their skeletons (`Gen.*_eq_skeleton`), which `sl_exec` runs (Lib/Exec.lean), through every part call. -/
theorem sound_kernel4 (c : Dev nD) (E : Set ℕ) (i : grid4.Coords) (arg1 : Memref sig .tc .vmem S128x1024 .f32) (harg1 : arg1.IsWhole) (arg2 : Memref sig .tc .vmem S128x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x3072 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S30x128x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x512 .f32) (harg18 : arg18.IsWhole) (arg19 : Memref sig .tc .vmem S512x128 .bf16) (harg19 : arg19.IsWhole) (arg20 : Memref sig .tc .vmem S128x512 .bf16) (harg20 : arg20.IsWhole) (arg21 : Memref sig .tc .vmem S128x512 .f32) (harg21 : arg21.IsWhole) (arg22 : Memref sig .tc .vmem S128x512 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x128 .f32) (harg29 : arg29.IsWhole)
    (x0 : Vec F S128x1024 .f32) (x1 : Vec F S128x6144 .f32) (x2 : Vec F S1x1024 .f32) (x3 : Vec F S1024x3072 .bf16) (x4 : Vec F S1024x3072 .bf16) (x5 : Vec F S1024x128 .bf16) (x6 : Vec F S1024x128 .bf16) (x7 : Vec F S1x128 .f32) (x8 : Vec F S512x1024 .bf16) (x9 : Vec F S512x1024 .bf16) (x10 : Vec F S31x512 .f32) (x11 : Vec F S1x512 .f32) (x12 : Vec F S1x512 .f32) (x13 : Vec F S1x512 .f32) (x14 : Vec F S30x128x512 .f32) (x15 : Vec F S128x512 .f32) (x16 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out4_17 x0 x1 x2 x3 x4 x5 x6 x7 x8 x9 x10 x11 x12 x13 x14 x15 x16) ∗ owns (c : Thread nD τ) arg19 fullShare (out4_18 x0 x1 x2 x3 x4 x5 x6 x7 x8 x9 x10 x11 x12 x13 x14 x15 x16) ∗ owns (c : Thread nD τ) arg20 fullShare (out4_19 x0 x1 x2 x3 x4 x5 x6 x7 x8 x9 x10 x11 x12 x13 x14 x15 x16) ∗ owns (c : Thread nD τ) arg21 fullShare (out4_20 x0 x1 x2 x3 x4 x5 x6 x7 x8 x9 x10 x11 x12 x13 x14 x15 x16) ∗ owns (c : Thread nD τ) arg22 fullShare (out4_21 x0 x1 x2 x3 x4 x5 x6 x7 x8 x9 x10 x11 x12 x13 x14 x15 x16) ∗ owns (c : Thread nD τ) arg23 fullShare (out4_22 x0 x1 x2 x3 x4 x5 x6 x7 x8 x9 x10 x11 x12 x13 x14 x15 x16) ∗ owns (c : Thread nD τ) arg24 fullShare (out4_23 x0 x1 x2 x3 x4 x5 x6 x7 x8 x9 x10 x11 x12 x13 x14 x15 x16) ∗ owns (c : Thread nD τ) arg25 fullShare (out4_24 x0 x1 x2 x3 x4 x5 x6 x7 x8 x9 x10 x11 x12 x13 x14 x15 x16) ∗ owns (c : Thread nD τ) arg26 fullShare (out4_25 x0 x1 x2 x3 x4 x5 x6 x7 x8 x9 x10 x11 x12 x13 x14 x15 x16) ∗ owns (c : Thread nD τ) arg27 fullShare (out4_26 x0 x1 x2 x3 x4 x5 x6 x7 x8 x9 x10 x11 x12 x13 x14 x15 x16) ∗ owns (c : Thread nD τ) arg28 fullShare (out4_27 x0 x1 x2 x3 x4 x5 x6 x7 x8 x9 x10 x11 x12 x13 x14 x15 x16) ∗ owns (c : Thread nD τ) arg29 fullShare (out4_28 x0 x1 x2 x3 x4 x5 x6 x7 x8 x9 x10 x11 x12 x13 x14 x15 x16)) -∗ K ⟨⟩))
      ⊢ wp frame (wpE (defs₀ (F := F)) Variants.none c none) E (cc4_s_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc4_s_pre_eq_skeleton]; unfold cc4_s_pre_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton, k4_part12_eq_skeleton, k4_part13_eq_skeleton, k4_part14_eq_skeleton, k4_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover4_17 _)).trans ?_
    rfl
  isplitl [H18]
  · iexists _; isplitr
    swap; · iexact H18
    ipureintro
    refine (View.read_writes_eq_canon _ _ _ (cover4_18 _)).trans ?_
    rfl
  isplitl [H19]
  · iexists _; isplitr
    swap; · iexact H19
    ipureintro
    refine (View.read_writes_eq_canon _ _ _ (cover4_19 _ _ _ _)).trans ?_
    rfl
  isplitl [H20]
  · iexists _; isplitr
    swap; · iexact H20
    ipureintro
    refine (View.read_writes_eq_canon _ _ _ (cover4_20 _ _ _ _)).trans ?_
    rfl
  isplitl [H21]
  · iexists _; isplitr
    swap; · iexact H21
    ipureintro
    refine (View.read_writes_eq_canon _ _ _ (cover4_21 _ _ _ _)).trans ?_
    rfl
  isplitl [H22]
  · iexists _; isplitr
    swap; · iexact H22
    ipureintro
    refine (View.read_writes_eq_canon _ _ _ (cover4_22 _ _ _ _)).trans ?_
    rfl
  isplitl [H23]
  · iexists _; isplitr
    swap; · iexact H23
    ipureintro
    refine (View.read_writes_eq_canon _ _ _ (cover4_23 _ _ _ _)).trans ?_
    rfl
  isplitl [H24]
  · iexists _; isplitr
    swap; · iexact H24
    ipureintro
    refine (View.read_writes_eq_canon _ _ _ (cover4_24 _)).trans ?_
    rfl
  isplitl [H25]
  · iexists _; isplitr
    swap; · iexact H25
    ipureintro
    refine (View.read_writes_eq_canon _ _ _ (cover4_25 _)).trans ?_
    rfl
  isplitl [H26]
  · iexists _; isplitr
    swap; · iexact H26
    ipureintro
    refine (View.read_writes_eq_canon _ _ _ (cover4_26 _)).trans ?_
    rfl
  isplitl [H27]
  · iexists _; isplitr
    swap; · iexact H27
    ipureintro
    refine (View.read_writes_eq_canon _ _ _ (cover4_27 _ _ _ _)).trans ?_
    rfl
  iexists _; isplitr
  swap; · iexact H28
  ipureintro
  refine (View.read_writes_eq_canon _ _ _ (cover4_28 _)).trans ?_
  rfl

/-! ## The pipeline's proof data -/

/-- The proof data of pipeline 4 on core `c`: the arrays as the region finds them (`V`); after the body at
    point `t` each input's buffer at its block and each output's at `out4_W` of the input blocks; the invariant the
    class's (Lib/Pipeline/Frame.lean `ΦA`: the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => out4_17 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨18, _⟩ => out4_18 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨19, _⟩ => out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨20, _⟩ => out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨21, _⟩ => out4_21 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨22, _⟩ => out4_22 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨23, _⟩ => out4_23 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨24, _⟩ => out4_24 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨25, _⟩ => out4_25 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨26, _⟩ => out4_26 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨27, _⟩ => out4_27 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨28, _⟩ => out4_28 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
    | ⟨_ + 29, h⟩ => absurd h (Nat.not_lt.2 (Nat.le_add_left _ _))
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = out4_17 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_18 (c : Dev nD) (t : Fin cfg4.N) : (dat4 V c).after 18 t = out4_18 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_19 (c : Dev nD) (t : Fin cfg4.N) : (dat4 V c).after 19 t = out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_20 (c : Dev nD) (t : Fin cfg4.N) : (dat4 V c).after 20 t = out4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_21 (c : Dev nD) (t : Fin cfg4.N) : (dat4 V c).after 21 t = out4_21 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_22 (c : Dev nD) (t : Fin cfg4.N) : (dat4 V c).after 22 t = out4_22 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_23 (c : Dev nD) (t : Fin cfg4.N) : (dat4 V c).after 23 t = out4_23 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_24 (c : Dev nD) (t : Fin cfg4.N) : (dat4 V c).after 24 t = out4_24 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_25 (c : Dev nD) (t : Fin cfg4.N) : (dat4 V c).after 25 t = out4_25 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_26 (c : Dev nD) (t : Fin cfg4.N) : (dat4 V c).after 26 t = out4_26 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_27 (c : Dev nD) (t : Fin cfg4.N) : (dat4 V c).after 27 t = out4_27 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]
theorem after4_28 (c : Dev nD) (t : Fin cfg4.N) : (dat4 V c).after 28 t = out4_28 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d))
    ∗ (∃ d, owns (c : Thread nD τ) (st4_21 t) fullShare ((dat4 V c).before 21 t d))
    ∗ (∃ d, owns (c : Thread nD τ) (st4_22 t) fullShare ((dat4 V c).before 22 t d))
    ∗ (∃ d, owns (c : Thread nD τ) (st4_23 t) fullShare ((dat4 V c).before 23 t d))
    ∗ (∃ d, owns (c : Thread nD τ) (st4_24 t) fullShare ((dat4 V c).before 24 t d))
    ∗ (∃ d, owns (c : Thread nD τ) (st4_25 t) fullShare ((dat4 V c).before 25 t d))
    ∗ (∃ d, owns (c : Thread nD τ) (st4_26 t) fullShare ((dat4 V c).before 26 t d))
    ∗ (∃ d, owns (c : Thread nD τ) (st4_27 t) fullShare ((dat4 V c).before 27 t d))
    ∗ (∃ d, owns (c : Thread nD τ) (st4_28 t) fullShare ((dat4 V c).before 28 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t)
    ∗ owns (c : Thread nD τ) (st4_21 t) fullShare ((dat4 V c).after 21 t)
    ∗ owns (c : Thread nD τ) (st4_22 t) fullShare ((dat4 V c).after 22 t)
    ∗ owns (c : Thread nD τ) (st4_23 t) fullShare ((dat4 V c).after 23 t)
    ∗ owns (c : Thread nD τ) (st4_24 t) fullShare ((dat4 V c).after 24 t)
    ∗ owns (c : Thread nD τ) (st4_25 t) fullShare ((dat4 V c).after 25 t)
    ∗ owns (c : Thread nD τ) (st4_26 t) fullShare ((dat4 V c).after 26 t)
    ∗ owns (c : Thread nD τ) (st4_27 t) fullShare ((dat4 V c).after 27 t)
    ∗ owns (c : Thread nD τ) (st4_28 t) fullShare ((dat4 V c).after 28 t))

set_option maxHeartbeats 4000000 in
/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20, after4_21, after4_22, after4_23, after4_24, after4_25, after4_26, after4_27, after4_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel4 c Set.univ (grid4.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

set_option maxHeartbeats 4000000 in
/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Fold.lean ====
/- The buffer contents at each boundary of @main's segments, and the thread state. -/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region5
public import proofs.«01_k».proof.Proof.Region4
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- After `hostOps2_1` (region 2's entry). -/
abbrev W6 : Dev nD → Valuation τ sig (Elt F) := fun c => StableHlo.after hostOps2_1 (W5 m ρ c)
/-- A reference `hostOps2_1` does not write keeps its contents across it. -/
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W6_args (c : Dev nD) : ∀ a ∈ argRefs, W6 m ρ c (Proc.devRef .tc a) = m ((c : Thread nD τ).loc a) :=
  fun a ha => (W6_of m ρ c a (hostOps2_1_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3`. -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W8_args (c : Dev nD) : ∀ a ∈ argRefs, W8 m ρ c (Proc.devRef .tc a) = m ((c : Thread nD τ).loc a) :=
  fun a ha => (W8_of m ρ c a (hostOps3_args a ha)).trans (W7_args m ρ c a ha)
/-- After `hostOps3_1`. -/
abbrev W9 : Dev nD → Valuation τ sig (Elt F) := fun c => StableHlo.after hostOps3_1 (W8 m ρ c)
/-- A reference `hostOps3_1` does not write keeps its contents across it. -/
theorem W9_of (c : Dev nD) (r : Ref sig .tc) (h : r ∉ hostOps3_1_W) : W9 m ρ c (Proc.devRef .tc r) = W8 m ρ c (Proc.devRef .tc r) :=
  StableHlo.after_of_writes_sub hostOps3_1 _ hostOps3_1_writes h
theorem W9_args (c : Dev nD) : ∀ a ∈ argRefs, W9 m ρ c (Proc.devRef .tc a) = m ((c : Thread nD τ).loc a) :=
  fun a ha => (W9_of m ρ c a (hostOps3_1_args a ha)).trans (W8_args m ρ c a ha)
/-- After `hostOps3_2` (region 3's entry). -/
abbrev W10 : Dev nD → Valuation τ sig (Elt F) := fun c => StableHlo.after hostOps3_2 (W9 m ρ c)
/-- A reference `hostOps3_2` does not write keeps its contents across it. -/
theorem W10_of (c : Dev nD) (r : Ref sig .tc) (h : r ∉ hostOps3_2_W) : W10 m ρ c (Proc.devRef .tc r) = W9 m ρ c (Proc.devRef .tc r) :=
  StableHlo.after_of_writes_sub hostOps3_2 _ hostOps3_2_writes h
theorem W10_args (c : Dev nD) : ∀ a ∈ argRefs, W10 m ρ c (Proc.devRef .tc a) = m ((c : Thread nD τ).loc a) :=
  fun a ha => (W10_of m ρ c a (hostOps3_2_args a ha)).trans (W9_args m ρ c a ha)
/-- The same read at the TensorCore's references (what region 3's proof data take). -/
abbrev V10 : (c : Dev nD) → (b : Ref sig .tc) → Buf (Elt F) ((c : Thread nD τ).loc b) := fun c b => W10 m ρ c b
/-- At region 3's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- A reference that is none of region 3's OUTPUT arrays keeps its entry contents across it: an input window's
    array is never written back (`Dat.arrAt_in`, `A_eq3`); any other buffer is left as is. -/
theorem W11_of (c : Dev nD) (r : Ref sig .tc) (h : ∀ w : Fin cfg3.W, Pipeline.arrRef spec3 w = r → (cfg3.win w).isOut = false) :
    W11 m ρ c (Proc.devRef .tc r) = W10 m ρ c (Proc.devRef .tc r) := by
  by_cases hw : ∃ w : Fin cfg3.W, Pipeline.arrRef spec3 w = r
  · obtain ⟨w, rfl⟩ := hw
    exact (W11_arr m ρ c w).trans (((dat3 (V10 m ρ) c).arrAt_in w (h w rfl) _).trans (A_eq3 (V10 m ρ) c w))
  · exact W11_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn3 a ha)).trans (W10_args m ρ c a ha)
/-- The same read at the TensorCore's references (region 3's exit contents). -/
abbrev V11 : (c : Dev nD) → (b : Ref sig .tc) → Buf (Elt F) ((c : Thread nD τ).loc b) := fun c b => W11 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`. -/
abbrev W12 : Dev nD → Valuation τ sig (Elt F) := fun c => StableHlo.after hostOps4 (W11 m ρ c)
/-- A reference `hostOps4` does not write keeps its contents across it. -/
theorem W12_of (c : Dev nD) (r : Ref sig .tc) (h : r ∉ hostOps4_W) : W12 m ρ c (Proc.devRef .tc r) = W11 m ρ c (Proc.devRef .tc r) :=
  StableHlo.after_of_writes_sub hostOps4 _ hostOps4_writes h
theorem W12_args (c : Dev nD) : ∀ a ∈ argRefs, W12 m ρ c (Proc.devRef .tc a) = m ((c : Thread nD τ).loc a) :=
  fun a ha => (W12_of m ρ c a (hostOps4_args a ha)).trans (W11_args m ρ c a ha)
/-- After `hostOps4_1`. -/
abbrev W13 : Dev nD → Valuation τ sig (Elt F) := fun c => StableHlo.after hostOps4_1 (W12 m ρ c)
/-- A reference `hostOps4_1` does not write keeps its contents across it. -/
theorem W13_of (c : Dev nD) (r : Ref sig .tc) (h : r ∉ hostOps4_1_W) : W13 m ρ c (Proc.devRef .tc r) = W12 m ρ c (Proc.devRef .tc r) :=
  StableHlo.after_of_writes_sub hostOps4_1 _ hostOps4_1_writes h
theorem W13_args (c : Dev nD) : ∀ a ∈ argRefs, W13 m ρ c (Proc.devRef .tc a) = m ((c : Thread nD τ).loc a) :=
  fun a ha => (W13_of m ρ c a (hostOps4_1_args a ha)).trans (W12_args m ρ c a ha)
/-- After `hostOps4_2` (region 4's entry). -/
abbrev W14 : Dev nD → Valuation τ sig (Elt F) := fun c => StableHlo.after hostOps4_2 (W13 m ρ c)
/-- A reference `hostOps4_2` does not write keeps its contents across it. -/
theorem W14_of (c : Dev nD) (r : Ref sig .tc) (h : r ∉ hostOps4_2_W) : W14 m ρ c (Proc.devRef .tc r) = W13 m ρ c (Proc.devRef .tc r) :=
  StableHlo.after_of_writes_sub hostOps4_2 _ hostOps4_2_writes h
theorem W14_args (c : Dev nD) : ∀ a ∈ argRefs, W14 m ρ c (Proc.devRef .tc a) = m ((c : Thread nD τ).loc a) :=
  fun a ha => (W14_of m ρ c a (hostOps4_2_args a ha)).trans (W13_args m ρ c a ha)
/-- The same read at the TensorCore's references (what region 4's proof data take). -/
abbrev V14 : (c : Dev nD) → (b : Ref sig .tc) → Buf (Elt F) ((c : Thread nD τ).loc b) := fun c b => W14 m ρ c b
/-- At region 4's exit: its arrays at what the pipeline leaves (the inputs as entered, each output's write-backs
    folded: `Dat.arrAt … N`), every other buffer as entered (Lib/Pipeline/FrameSuffix.lean `withArrays`) (region 5's entry). -/
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
/-- A reference that is none of region 4's OUTPUT arrays keeps its entry contents across it: an input window's
    array is never written back (`Dat.arrAt_in`, `A_eq4`); any other buffer is left as is. -/
theorem W15_of (c : Dev nD) (r : Ref sig .tc) (h : ∀ w : Fin cfg4.W, Pipeline.arrRef spec4 w = r → (cfg4.win w).isOut = false) :
    W15 m ρ c (Proc.devRef .tc r) = W14 m ρ c (Proc.devRef .tc r) := by
  by_cases hw : ∃ w : Fin cfg4.W, Pipeline.arrRef spec4 w = r
  · obtain ⟨w, rfl⟩ := hw
    exact (W15_arr m ρ c w).trans (((dat4 (V14 m ρ) c).arrAt_in w (h w rfl) _).trans (A_eq4 (V14 m ρ) c w))
  · exact W15_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn4 a ha)).trans (W14_args m ρ c a ha)
/-- The same read at the TensorCore's references (region 4's exit contents). -/
abbrev V15 : (c : Dev nD) → (b : Ref sig .tc) → Buf (Elt F) ((c : Thread nD τ).loc b) := fun c b => W15 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- A reference that is none of region 5's OUTPUT arrays keeps its entry contents across it: an input window's
    array is never written back (`Dat.arrAt_in`, `A_eq5`); any other buffer is left as is. -/
theorem W16_of (c : Dev nD) (r : Ref sig .tc) (h : ∀ w : Fin cfg5.W, Pipeline.arrRef spec5 w = r → (cfg5.win w).isOut = false) :
    W16 m ρ c (Proc.devRef .tc r) = W15 m ρ c (Proc.devRef .tc r) := by
  by_cases hw : ∃ w : Fin cfg5.W, Pipeline.arrRef spec5 w = r
  · obtain ⟨w, rfl⟩ := hw
    exact (W16_arr m ρ c w).trans (((dat5 (V15 m ρ) c).arrAt_in w (h w rfl) _).trans (A_eq5 (V15 m ρ) c w))
  · exact W16_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn5 a ha)).trans (W15_args m ρ c a ha)
/-- The same read at the TensorCore's references (region 5's exit contents). -/
abbrev V16 : (c : Dev nD) → (b : Ref sig .tc) → Buf (Elt F) ((c : Thread nD τ).loc b) := fun c b => W16 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)

/-- After `hostOps6`. -/
abbrev W17 : Dev nD → Valuation τ sig (Elt F) := fun c => StableHlo.after hostOps6 (W16 m ρ c)
/-- A reference `hostOps6` does not write keeps its contents across it. -/
theorem W17_of (c : Dev nD) (r : Ref sig .tc) (h : r ∉ hostOps6_W) : W17 m ρ c (Proc.devRef .tc r) = W16 m ρ c (Proc.devRef .tc r) :=
  StableHlo.after_of_writes_sub hostOps6 _ hostOps6_writes h
theorem W17_args (c : Dev nD) : ∀ a ∈ argRefs, W17 m ρ c (Proc.devRef .tc a) = m ((c : Thread nD τ).loc a) :=
  fun a ha => (W17_of m ρ c a (hostOps6_args a ha)).trans (W16_args m ρ c a ha)

/-! ### The arguments end as launched: no host stretch writes one and no region may change one (a region reads it
    through an input window or bypasses it) -/

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
theorem W17_main_arg7 (c : Dev nD) : W17 m ρ c (Proc.devRef .tc main_arg7) = m ((c : Thread nD τ).loc main_arg7) :=
  W17_args m ρ c main_arg7 (by decide)
theorem W17_main_arg8 (c : Dev nD) : W17 m ρ c (Proc.devRef .tc main_arg8) = m ((c : Thread nD τ).loc main_arg8) :=
  W17_args m ρ c main_arg8 (by decide)
theorem W17_main_arg9 (c : Dev nD) : W17 m ρ c (Proc.devRef .tc main_arg9) = m ((c : Thread nD τ).loc main_arg9) :=
  W17_args m ρ c main_arg9 (by decide)
theorem W17_main_arg10 (c : Dev nD) : W17 m ρ c (Proc.devRef .tc main_arg10) = m ((c : Thread nD τ).loc main_arg10) :=
  W17_args m ρ c main_arg10 (by decide)
theorem W17_main_arg11 (c : Dev nD) : W17 m ρ c (Proc.devRef .tc main_arg11) = m ((c : Thread nD τ).loc main_arg11) :=
  W17_args m ρ c main_arg11 (by decide)
theorem W17_main_arg12 (c : Dev nD) : W17 m ρ c (Proc.devRef .tc main_arg12) = m ((c : Thread nD τ).loc main_arg12) :=
  W17_args m ρ c main_arg12 (by decide)
theorem W17_main_arg13 (c : Dev nD) : W17 m ρ c (Proc.devRef .tc main_arg13) = m ((c : Thread nD τ).loc main_arg13) :=
  W17_args m ρ c main_arg13 (by decide)
theorem W17_main_arg14 (c : Dev nD) : W17 m ρ c (Proc.devRef .tc main_arg14) = m ((c : Thread nD τ).loc main_arg14) :=
  W17_args m ρ c main_arg14 (by decide)
theorem W17_main_arg15 (c : Dev nD) : W17 m ρ c (Proc.devRef .tc main_arg15) = m ((c : Thread nD τ).loc main_arg15) :=
  W17_args m ρ c main_arg15 (by decide)
theorem W17_main_arg16 (c : Dev nD) : W17 m ρ c (Proc.devRef .tc main_arg16) = m ((c : Thread nD τ).loc main_arg16) :=
  W17_args m ρ c main_arg16 (by decide)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V6 m ρ) c
  | ⟨3, _⟩ => fun c => dat3 (V10 m ρ) c
  | ⟨4, _⟩ => fun c => dat4 (V14 m ρ) c
  | ⟨5, _⟩ => fun c => dat5 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W17`, the generator register at some state. -/
abbrev Tₙ (c : Dev nD) : sProp 𝕄 := iprop(StableHlo.held (c : Thread nD τ) (Pipeline.ucRefs τ sig) (W17 m ρ c) ∗ ∃ r, prngReg c r)

end Cert.KernelIdeal.Gen

end
-- ==== Proof.Records.lean ====
/- The six regions as segments. -/
module

public import proofs.«01_k».proof.Proof.Fold

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) (A_eq3 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W14`, left at `W15`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) (A_eq4 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W15`, left at `W16`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V15 m ρ c) (A_eq5 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.lean ====
/- @main as segments and its run. -/
module

public import proofs.«01_k».proof.Proof.Records

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 17 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .region (reg2 m ρ),
    .host (hseg hostOps3 hostOps3_sub hostOps3_fresh (W7 m ρ)),
    .host (hseg hostOps3_1 hostOps3_1_sub hostOps3_1_fresh (W8 m ρ)),
    .host (hseg hostOps3_2 hostOps3_2_sub hostOps3_2_fresh (W9 m ρ)),
    .region (reg3 m ρ),
    .host (hseg hostOps4 hostOps4_sub hostOps4_fresh (W11 m ρ)),
    .host (hseg hostOps4_1 hostOps4_1_sub hostOps4_1_fresh (W12 m ρ)),
    .host (hseg hostOps4_2 hostOps4_2_sub hostOps4_2_fresh (W13 m ρ)),
    .region (reg4 m ρ),
    .region (reg5 m ρ),
    .host (hseg hostOps6 hostOps6_sub hostOps6_fresh (W16 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main on the TensorCores terminates, nothing
    faulting, and every final state has each unscoped buffer at the fold's last contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W17 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨h, funext fun g => hz g (.inr (no_unscoped g.2))⟩)

/-- The argument arrays end as launched, and every counter at zero: the run, read at the arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c =>
    ⟨(h.1 c _ (mem_uc main_arg0 (by decide))).trans (W17_main_arg0 m ρ c),
     (h.1 c _ (mem_uc main_arg1 (by decide))).trans (W17_main_arg1 m ρ c),
     (h.1 c _ (mem_uc main_arg2 (by decide))).trans (W17_main_arg2 m ρ c),
     (h.1 c _ (mem_uc main_arg3 (by decide))).trans (W17_main_arg3 m ρ c),
     (h.1 c _ (mem_uc main_arg4 (by decide))).trans (W17_main_arg4 m ρ c),
     (h.1 c _ (mem_uc main_arg5 (by decide))).trans (W17_main_arg5 m ρ c),
     (h.1 c _ (mem_uc main_arg6 (by decide))).trans (W17_main_arg6 m ρ c),
     (h.1 c _ (mem_uc main_arg7 (by decide))).trans (W17_main_arg7 m ρ c),
     (h.1 c _ (mem_uc main_arg8 (by decide))).trans (W17_main_arg8 m ρ c),
     (h.1 c _ (mem_uc main_arg9 (by decide))).trans (W17_main_arg9 m ρ c),
     (h.1 c _ (mem_uc main_arg10 (by decide))).trans (W17_main_arg10 m ρ c),
     (h.1 c _ (mem_uc main_arg11 (by decide))).trans (W17_main_arg11 m ρ c),
     (h.1 c _ (mem_uc main_arg12 (by decide))).trans (W17_main_arg12 m ρ c),
     (h.1 c _ (mem_uc main_arg13 (by decide))).trans (W17_main_arg13 m ρ c),
     (h.1 c _ (mem_uc main_arg14 (by decide))).trans (W17_main_arg14 m ρ c),
     (h.1 c _ (mem_uc main_arg15 (by decide))).trans (W17_main_arg15 m ρ c),
     (h.1 c _ (mem_uc main_arg16 (by decide))).trans (W17_main_arg16 m ρ c)⟩, h.2⟩) (run_all m ρ)

end Cert.KernelIdeal.Gen

end
-- ==== Proof.Twin.lean ====
/- The kernel's frame, by the ideal kernel's run at bit patterns: the two programs have the same text. -/
module

public import proofs.«01_k».proof.Defs
public import proofs.«01_k».proof.Proof.Gen.Kernel
public import proofs.«01_k».proof.Proof.Run
public import Idealize.ShloMosaic.Lib.Tactic

@[expose] public section

noncomputable section

namespace Cert.Proof

open Idealize.ShloMosaic Idealize.SL.Sem

/-- The kernel runs, keeps its arguments, and leaves every semaphore at zero. -/
theorem frame_kernel : Cert.quiescent_Kernel (hKernel := Cert.Kernel.Gen.facts) := fun m ρ _ => by
  have h := Cert.KernelIdeal.Gen.frame (F := Bits) m ρ
  refine Eq.mp ?_ h
  sl_kernel_rfl

end Cert.Proof

end
-- ==== Proof.PreVal.lean ====
/- The step before the state: what each payload of it holds at an entry. -/
module

public import proofs.«01_k».proof.Proof.Region4
public import proofs.«01_k».proof.Proof.Spec
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

/-- The modulated row at an entry. -/
def hA (x : S128x1024.Idx → EReal) (mo : S128x6144.Idx → EReal) (g : S1x1024.Idx → EReal) (b : Fin 128) (k : Fin 1024) : EReal :=
  x (ix2 b k) * Ideal.rsqrt (Ideal.div (∑ j : Fin 1024, x (ix2 b j) * x (ix2 b j)) (Ideal.ofBits .f32 0x44800000#32)
      + Ideal.ofBits .f32 0x358637BD#32) * g (ix2 0 k) * (1 + mo (ix2 b ⟨1024 + k, by omega⟩)) + mo (ix2 b ⟨k, by omega⟩)

/-- The modulated row. -/
theorem pay6_at (x0 : Vec Ideal S128x1024 .f32) (x1 : Vec Ideal S128x6144 .f32) (x2 : Vec Ideal S1x1024 .f32) (b : Fin 128) (k : Fin 1024) :
    k4_pay6 (F := Ideal) x0 x1 x2 (ix2 b k) = hA x0 x1 x2 b k := by
  pointwise [k4_pay6]
  rfl

/-- The projection's three products. -/
theorem pay7_at (x0 : Vec Ideal S128x1024 .f32) (x1 : Vec Ideal S128x6144 .f32) (x2 : Vec Ideal S1x1024 .f32)
    (w wl : Vec Ideal S1024x3072 .bf16) (b : Fin 128) (j : Fin 3072) :
    k4_pay7 (F := Ideal) x0 x1 x2 w wl (ix2 b j)
      = (∑ k, hA x0 x1 x2 b k * w (ix2 k j)) + (∑ k, (hA x0 x1 x2 b k - hA x0 x1 x2 b k) * w (ix2 k j))
        + (∑ k, hA x0 x1 x2 b k * wl (ix2 k j)) := by
  pointwise [k4_pay7]
  simp only [pay6_at]

/-- The gates' three products and their bias. -/
theorem pay9_at (H : FVec Ideal S128x1024 .f32) (w : FVec Ideal S1024x128 .bf16) (wl : Vec Ideal S1024x128 .bf16) (bias : Vec Ideal S1x128 .f32)
    (b j : Fin 128) :
    k4_pay9 (F := Ideal) H w wl bias (ix2 b j)
      = (∑ k : Fin 1024, H (ix2 b k) * w (ix2 k j)) + (∑ k : Fin 1024, (H (ix2 b k) - H (ix2 b k)) * w (ix2 k j))
        + (∑ k : Fin 1024, H (ix2 b k) * wl (ix2 k j)) + bias (ix2 0 j) := by
  pointwise [k4_pay9]

/-- The scaled keys, transposed. -/
theorem pay10_at (H : FVec Ideal S128x1024 .f32) (w wl : Vec Ideal S512x1024 .bf16) (d : Fin 512) (b : Fin 128) :
    k4_pay10 (F := Ideal) H w wl w (ix2 d b)
      = ((∑ k : Fin 1024, w (ix2 d k) * H (ix2 b k)) + (∑ k : Fin 1024, wl (ix2 d k) * H (ix2 b k))
        + (∑ k : Fin 1024, w (ix2 d k) * (H (ix2 b k) - H (ix2 b k)))) * Ideal.ofBits .f32 0x3DB504F3#32 := by
  pointwise [k4_pay10]

/-- The gated convolution input. -/
theorem pay14_at (A B : FVec Ideal S128x512 .f32) (b : Fin 128) (j : Fin 512) :
    k4_pay14 (F := Ideal) A B (Scalar.ofBits .f32 0x00000000#32) (ix2 b j) = A (ix2 b j) * Spec.sig (B (ix2 b j)) := by
  pointwise [k4_pay14]
  simp only [Spec.sig, zero_sub]

/-- The input gate of head `h`. -/
def igA (G : S128x128.Idx → EReal) (b : Fin 128) (h : Fin 4) : EReal := G (ix2 b ⟨h, by omega⟩)

/-- The forget gate's logarithm with the running maximum of head `h`. -/
def inA (G M : S128x128.Idx → EReal) (b : Fin 128) (h : Fin 4) : EReal :=
  Spec.lsig (G (ix2 b ⟨4 + h, by omega⟩)) + M (ix2 b ⟨h, by omega⟩)

/-- The new maximum of head `h`. -/
def mtA (G M : S128x128.Idx → EReal) (b : Fin 128) (h : Fin 4) : EReal := max (inA G M b h) (igA G b h)

/-- The weight of the new step. -/
def wA (G M : S128x128.Idx → EReal) (b : Fin 128) (h : Fin 4) : EReal := Ideal.exp (igA G b h - mtA G M b h)

/-- The weight of the old state. -/
def aA (G M : S128x128.Idx → EReal) (b : Fin 128) (h : Fin 4) : EReal := Ideal.exp (inA G M b h - mtA G M b h)

/-- A lane of head `h`, of the 512 lanes of the four heads. -/
def lane (h : Fin 4) (e : Fin 128) : Fin 512 := ⟨128 * h + e, by omega⟩

/-- A lane belongs to one head, at one place. -/
theorem lane_eq (h : Fin 4) (e x : Fin 128) (q : Fin 4) (hx : 128 * h.1 + e.1 = 128 * q.1 + x.1) : h = q ∧ e = x :=
  ⟨Fin.ext (by omega), Fin.ext (by omega)⟩

/-- The first head's lanes. -/
theorem lane_eq_zero (h : Fin 4) (e x : Fin 128) (hx : 128 * h.1 + e.1 = x.1) : h = 0 ∧ e = x :=
  lane_eq h e x 0 (by simpa using hx)

/-- The first head's lanes are the first. -/
theorem lane_zero (e : Fin 128) : lane 0 e = ⟨e.1, by omega⟩ := Fin.ext (by show 128 * 0 + e.1 = e.1; omega)

section

variable (a0 : Vec Ideal S128x1024 .f32)
  (a1 : Vec Ideal S128x6144 .f32)
  (a2 : Vec Ideal S1x1024 .f32)
  (a3 : Vec Ideal S1024x3072 .bf16)
  (a4 : Vec Ideal S1024x3072 .bf16)
  (a5 : Vec Ideal S1024x128 .bf16)
  (a6 : Vec Ideal S1024x128 .bf16)
  (a7 : Vec Ideal S1x128 .f32)
  (a8 : Vec Ideal S512x1024 .bf16)
  (a9 : Vec Ideal S512x1024 .bf16)
  (a10 : Vec Ideal S31x512 .f32)
  (a11 : Vec Ideal S1x512 .f32)
  (a12 : Vec Ideal S1x512 .f32)
  (a13 : Vec Ideal S1x512 .f32)
  (a14 : Vec Ideal S30x128x512 .f32)
  (a15 : Vec Ideal S128x512 .f32)
  (a16 : Vec Ideal S128x128 .f32)

/-- The scaled keys, transposed. -/
theorem out18_at (d : Fin 512) (b : Fin 128) :
    out4_18 (F := Ideal) a0 a1 a2 a3 a4 a5 a6 a7 a8 a9 a10 a11 a12 a13 a14 a15 a16 (ix2 d b) = k4_pay10 (k4_pay103 a0 a1 a2 a3 a4 a5 a6 a7 a8 a9 a10 a11 a12 a13 a14 a15 a16) a8 a9 a8 (ix2 d b) := by
  frame_out

/-- The gated input of the convolution. -/
theorem out26_at (b : Fin 128) (j : Fin 512) :
    out4_26 (F := Ideal) a0 a1 a2 a3 a4 a5 a6 a7 a8 a9 a10 a11 a12 a13 a14 a15 a16 (ix2 b j)
      = k4_pay104 a0 a1 a2 a3 a4 a5 a6 a7 a8 a9 a10 a11 a12 a13 a14 a15 a16 (ix2 b ⟨2048 + j, by omega⟩) * Spec.sig (k4_pay104 a0 a1 a2 a3 a4 a5 a6 a7 a8 a9 a10 a11 a12 a13 a14 a15 a16 (ix2 b ⟨2560 + j, by omega⟩)) := by
  frame_out
  rw [pay14_at]
  pointwise [k4_pay107, k4_pay108, k4_pay12, k4_pay13]

/-- The weighted values the step leaves. -/
theorem out19_at (b : Fin 128) (h : Fin 4) (e : Fin 128) :
    out4_19 (F := Ideal) a0 a1 a2 a3 a4 a5 a6 a7 a8 a9 a10 a11 a12 a13 a14 a15 a16 (ix2 b (lane h e)) = k4_pay104 a0 a1 a2 a3 a4 a5 a6 a7 a8 a9 a10 a11 a12 a13 a14 a15 a16 (ix2 b ⟨1024 + 128 * h + e, by omega⟩) * wA (k4_pay105 a0 a1 a2 a3 a4 a5 a6 a7 a8 a9 a10 a11 a12 a13 a14 a15 a16) a16 b h := by
  frame_out
  canon_tiles x hx
  all_goals
    idx_vars x
    obtain rfl : b = x0 := Fin.ext hx0
    obtain ⟨rfl, rfl⟩ : h = _ ∧ e = x1 := by
      first
        | exact lane_eq h e x1 3 hx1
        | exact lane_eq h e x1 2 hx1
        | exact lane_eq h e x1 1 hx1
        | exact lane_eq_zero h e x1 hx1
    pointwise [k4_pay3, k4_pay98, k4_pay124, k4_pay94, k4_pay87, k4_pay81, k4_pay120, k4_pay77, k4_pay71, k4_pay64, k4_pay117, k4_pay60, k4_pay53, k4_pay47, k4_pay113, k4_pay43, k4_pay40, k4_pay57, k4_pay74, k4_pay91, k4_pay41, k4_pay58, k4_pay75, k4_pay92, k4_pay42, k4_pay59, k4_pay76, k4_pay93, k4_pay110, k4_pay37]
    rfl

/-- The old state's weights, one along each head's lanes. -/
theorem out20_at (b : Fin 128) (h : Fin 4) (e : Fin 128) :
    out4_20 (F := Ideal) a0 a1 a2 a3 a4 a5 a6 a7 a8 a9 a10 a11 a12 a13 a14 a15 a16 (ix2 b (lane h e)) = aA (k4_pay105 a0 a1 a2 a3 a4 a5 a6 a7 a8 a9 a10 a11 a12 a13 a14 a15 a16) a16 b h := by
  frame_out
  canon_tiles x hx
  all_goals
    idx_vars x
    obtain rfl : b = x0 := Fin.ext hx0
    obtain ⟨rfl, rfl⟩ : h = _ ∧ e = x1 := by
      first
        | exact lane_eq h e x1 3 hx1
        | exact lane_eq h e x1 2 hx1
        | exact lane_eq h e x1 1 hx1
        | exact lane_eq_zero h e x1 hx1
    pointwise [k4_pay2, k4_pay86, k4_pay70, k4_pay52, k4_pay125, k4_pay121, k4_pay118, k4_pay114, k4_pay44, k4_pay61, k4_pay78, k4_pay95, k4_pay40, k4_pay57, k4_pay74, k4_pay91, k4_pay41, k4_pay58, k4_pay75, k4_pay92, k4_pay42, k4_pay59, k4_pay76, k4_pay93, k4_pay110, k4_pay37]
    rfl

/-- The new normalizer. -/
theorem out27_at (b : Fin 128) (h : Fin 4) (e : Fin 128) :
    out4_27 (F := Ideal) a0 a1 a2 a3 a4 a5 a6 a7 a8 a9 a10 a11 a12 a13 a14 a15 a16 (ix2 b (lane h e)) = aA (k4_pay105 a0 a1 a2 a3 a4 a5 a6 a7 a8 a9 a10 a11 a12 a13 a14 a15 a16) a16 b h * a15 (ix2 b (lane h e)) + wA (k4_pay105 a0 a1 a2 a3 a4 a5 a6 a7 a8 a9 a10 a11 a12 a13 a14 a15 a16) a16 b h * k4_pay106 a0 a1 a2 a3 a4 a5 a6 a7 a8 a9 a10 a11 a12 a13 a14 a15 a16 (ix2 b (lane h e)) := by
  frame_out
  canon_tiles x hx
  all_goals
    idx_vars x
    obtain rfl : b = x0 := Fin.ext hx0
    obtain ⟨rfl, rfl⟩ : h = _ ∧ e = x1 := by
      first
        | exact lane_eq h e x1 3 hx1
        | exact lane_eq h e x1 2 hx1
        | exact lane_eq h e x1 1 hx1
        | exact lane_eq_zero h e x1 hx1
    pointwise [k4_pay4, k4_pay88, k4_pay72, k4_pay54, k4_pay111, k4_pay38, k4_pay116, k4_pay46, k4_pay63, k4_pay123, k4_pay80, k4_pay97, k4_pay124, k4_pay94, k4_pay120, k4_pay77, k4_pay117, k4_pay60, k4_pay113, k4_pay43, k4_pay125, k4_pay121, k4_pay118, k4_pay114, k4_pay44, k4_pay61, k4_pay78, k4_pay95, k4_pay40, k4_pay57, k4_pay74, k4_pay91, k4_pay41, k4_pay58, k4_pay75, k4_pay92, k4_pay42, k4_pay59, k4_pay76, k4_pay93, k4_pay110, k4_pay37]
    first
      | (rw [lane_zero]; rfl)
      | rfl

/-- The new maximum of head `h`, at lane `h`. -/
theorem out28_at (b : Fin 128) (h : Fin 4) :
    out4_28 (F := Ideal) a0 a1 a2 a3 a4 a5 a6 a7 a8 a9 a10 a11 a12 a13 a14 a15 a16 (ix2 b ⟨h, by omega⟩) = mtA (k4_pay105 a0 a1 a2 a3 a4 a5 a6 a7 a8 a9 a10 a11 a12 a13 a14 a15 a16) a16 b h := by
  frame_out
  fin_cases h
  all_goals
    pointwise [k4_pay5, k4_pay90, k4_pay73, k4_pay56, k4_pay39, k4_pay55, k4_pay89, k4_pay109, k4_pay112, k4_pay119, k4_pay40, k4_pay57, k4_pay74, k4_pay91, k4_pay41, k4_pay58, k4_pay75, k4_pay92, k4_pay42, k4_pay59, k4_pay76, k4_pay93, k4_pay110, k4_pay37]
    rfl

end

end Cert.KernelIdeal.Val

end
-- ==== Proof.StateVal.lean ====
/- The state step: one block of the new state. -/
module

public import proofs.«01_k».proof.Proof.Gen.KernelIdeal.Frame.Region5
public import proofs.«01_k».proof.Proof.PreVal
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

variable (V : (c : Dev nD) → (b : Ref sig .tc) → Buf (Elt Ideal) ((c : Thread nD τ).loc b))

/-- Row `i` of block `t`. -/
def rowOf (t : Fin cfg5.N) (i : ℕ) (hi : i < 8) : Fin 128 :=
  ⟨8 * t.val + i, by have := t.isLt; have h : cfg5.N = 16 := N_5; omega⟩

theorem off1 : ∀ t : Fin cfg5.N, k5_off1 (grid5.coords t) = ![8 * t.val, 0] := by decide +kernel

theorem coord0 : ∀ t : Fin cfg5.N, (grid5.coords t 0).val = t.val := by decide +kernel

/-- The state's entry: the old state weighted, and the one product that the row's mask keeps. -/
def c1A (kt : S512x128.Idx → EReal) (vs ab : S128x512.Idx → EReal) (c0 : S8x4x128x128.Idx → EReal)
    (r : Fin 128) (i : Fin 8) (h : Fin 4) (d e : Fin 128) : EReal :=
  ab (ix2 r (lane h e)) * c0 (ix4 i h d e) + kt (ix2 (lane h d) r) * vs (ix2 r (lane h e))

/-- The mask picks the row numbered `8 * t + j`. -/
theorem mask_eq : ∀ (t : Fin 16) (s : Fin 128) (j : Fin 8),
    IntOp.cmpi CmpIPredicate.eq (BitVec.ofNat 32 s.val)
        (Scalar.addi (Scalar.muli (BitVec.ofNat 32 t.val) 8#32) (BitVec.ofNat 32 j.val))
      = if s.val = 8 * t.val + j.val then 1#1 else 0#1 := by decide +kernel

/-- A sum of masked terms is the term of the mask's row. -/
theorem sum_mask (t : Fin cfg5.N) (j : ℕ) (hj : j < 8) (f : Fin 128 → EReal) :
    (∑ s : Fin 128, Scalar.select (IntOp.cmpi CmpIPredicate.eq (BitVec.ofNat 32 s.val)
        (Scalar.addi (Scalar.muli (BitVec.ofNat 32 (grid5.coords t 0).val) 8#32) (BitVec.ofNat 32 j)))
        (f s) 0) = f (rowOf t j hj) := by
  have h : cfg5.N = 16 := N_5
  rw [Finset.sum_eq_single (rowOf t j hj)]
  · have e := mask_eq ⟨t.val, by omega⟩ (rowOf t j hj) ⟨j, hj⟩
    rw [if_pos (show (rowOf t j hj).val = 8 * t.val + j from rfl)] at e
    rw [coord0, e]
    rfl
  · intro s _ hs
    have e := mask_eq ⟨t.val, by omega⟩ s ⟨j, hj⟩
    rw [if_neg (show ¬ s.val = 8 * t.val + j from fun e => hs (Fin.ext e))] at e
    rw [coord0, e]
    rfl
  · intro h
    exact absurd (Finset.mem_univ _) h

theorem c1A_of {kt : S512x128.Idx → EReal} {vs ab : S128x512.Idx → EReal} {c0 : S8x4x128x128.Idx → EReal}
    {r r' r'' : Fin 128} {i i' : Fin 8} {h h' : Fin 4} {d d' e e' : Fin 128} {p p' q : Fin 512}
    (hr : r' = r) (hr' : r'' = r) (hi : i' = i) (hh : h' = h) (hd : d' = d) (he : e' = e)
    (hp : p = lane h e) (hp' : p' = lane h e) (hq : q = lane h d) :
    ab (ix2 r' p) * c0 (ix4 i' h' d' e') + kt (ix2 q r'') * vs (ix2 r'' p') = c1A kt vs ab c0 r i h d e := by
  subst hr hr' hi hh hd he hp hp' hq
  rfl

set_option maxHeartbeats 40000000 in
/-- The new state's block, at an entry. -/
theorem out5_at (c : Dev nD) (t : Fin cfg5.N) (i : Fin 8) (h : Fin 4) (d e : Fin 128) :
    (outsAt5 V c t.val t.isLt).1 (ix4 i h d e)
      = c1A (iblk5 V c 1 t) (iblk5 V c 2 t) (iblk5 V c 3 t) (iblk5 V c 4 t) (rowOf t i.val i.isLt) i h d e := by
  have o0 : k5_off1 (grid5.coords t) 0 = 8 * t.val := by rw [off1]; rfl
  have o1 : k5_off1 (grid5.coords t) 1 = 0 := by rw [off1]; rfl
  by_cases h0 : t.val % 16 = 0
  on_goal 1 => rw [outsAt5_A V c t h0]
  on_goal 2 => rw [outsAt5_B V c t h0]
  all_goals
    frame_out
    canon_tiles x hx
    all_goals
      open_payloads
      pointwise
      simp only [ix4] at hx0 hx1 hx2 hx3
      first
        | rw [sum_mask t 7 (by decide)]
        | rw [sum_mask t 6 (by decide)]
        | rw [sum_mask t 5 (by decide)]
        | rw [sum_mask t 4 (by decide)]
        | rw [sum_mask t 3 (by decide)]
        | rw [sum_mask t 2 (by decide)]
        | rw [sum_mask t 1 (by decide)]
        | rw [sum_mask t 0 (by decide)]
      apply c1A_of
      all_goals
        apply Fin.ext
        simp [rowOf, lane, o0, o1] <;> omega

end Cert.KernelIdeal.Val

end
-- ==== Proof.Arrays.lean ====
/- What the last two steps leave in their arrays, and the payloads they are made of, at entries. -/
module

public import proofs.«01_k».proof.Proof.StateVal

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

variable (V : (c : Dev nD) → (b : Ref sig .tc) → Buf (Elt Ideal) ((c : Thread nD τ).loc b))

/-! ## The state's array -/

theorem same5 : ∀ t : Fin cfg5.N, win5_4.index t = ![t.1, 0, 0, 0] ∧ win5_5.index t = ![t.1, 0, 0, 0]
    ∧ win5_1.index t = ![0, 0] ∧ win5_2.index t = ![0, 0] ∧ win5_3.index t = ![0, 0] := by
  decide +kernel

/-- The new state at an entry. -/
def stA (kt : S512x128.Idx → EReal) (vs ab : S128x512.Idx → EReal) (c0 : S128x4x128x128.Idx → EReal)
    (b : Fin 128) (h : Fin 4) (d e : Fin 128) : EReal :=
  ab (ix2 b (lane h e)) * c0 (ix4 b h d e) + kt (ix2 (lane h d) b) * vs (ix2 b (lane h e))

set_option maxHeartbeats 1000000 in
/-- The new state. -/
theorem state_out (c : Dev nD) :
    (dat5 V c).arrAt 5 cfg5.N = fun i : S128x4x128x128.Idx =>
      stA (V c main_v38_1) (V c main_v38_2) (V c main_v38_3) (V c main_v34) (i 0) (i 1) (i 2) (i 3) := by
  refine (dat5 V c).arrAt_eq_of_covers 5 _ (by decide +kernel) fun t hf y => ?_
  blk_simp
  rw [after5_5]
  obtain ⟨e4, e5, e1, e2, e3⟩ := same5 t
  idx_vars y
  rw [out5_at]
  have r1 : (((View.whole main_v39_0).slice (win5_5.rect t)).emb (ix4 y0 y1 y2 y3) 0) = rowOf t y0.val y0.isLt := by
    apply Fin.ext
    blk_simp [e5]
    simp [rowOf]
    omega
  have r2 : (((View.whole main_v39_0).slice (win5_5.rect t)).emb (ix4 y0 y1 y2 y3) 1) = y1 := by
    apply Fin.ext
    blk_simp [e5]
  have r3 : (((View.whole main_v39_0).slice (win5_5.rect t)).emb (ix4 y0 y1 y2 y3) 2) = y2 := by
    apply Fin.ext
    blk_simp [e5]
  have r4 : (((View.whole main_v39_0).slice (win5_5.rect t)).emb (ix4 y0 y1 y2 y3) 3) = y3 := by
    apply Fin.ext
    blk_simp [e5]
  have h1 : ∀ (a : Fin 512) (b : Fin 128), iblk5 V c 1 t (ix2 a b) = V c main_v38_1 (ix2 a b) := fun a b => by
    blk_ext [iblk5, e1]
  have h2 : ∀ (a : Fin 128) (b : Fin 512), iblk5 V c 2 t (ix2 a b) = V c main_v38_2 (ix2 a b) := fun a b => by
    blk_ext [iblk5, e2]
  have h3 : ∀ (a : Fin 128) (b : Fin 512), iblk5 V c 3 t (ix2 a b) = V c main_v38_3 (ix2 a b) := fun a b => by
    blk_ext [iblk5, e3]
  have h4 : iblk5 V c 4 t (ix4 y0 y1 y2 y3) = V c main_v34 (ix4 (rowOf t y0.val y0.isLt) y1 y2 y3) := by
    rw [← r1]
    blk_ext [iblk5, e4, e5]
  unfold c1A stA
  rw [r1, r2, r3, r4, h1, h2, h3, h4]

/-! ## The arrays of the step before it: one block each -/

theorem same4 : ∀ t : Fin cfg4.N, win4_0.index t = ![0, 0]
    ∧ win4_1.index t = ![0, 0]
    ∧ win4_2.index t = ![0, 0]
    ∧ win4_3.index t = ![0, 0]
    ∧ win4_4.index t = ![0, 0]
    ∧ win4_5.index t = ![0, 0]
    ∧ win4_6.index t = ![0, 0]
    ∧ win4_7.index t = ![0, 0]
    ∧ win4_8.index t = ![0, 0]
    ∧ win4_9.index t = ![0, 0]
    ∧ win4_10.index t = ![0, 0]
    ∧ win4_11.index t = ![0, 0]
    ∧ win4_12.index t = ![0, 0]
    ∧ win4_13.index t = ![0, 0]
    ∧ win4_14.index t = ![0, 0, 0]
    ∧ win4_15.index t = ![0, 0]
    ∧ win4_16.index t = ![0, 0]
    ∧ win4_18.index t = ![0, 0]
    ∧ win4_19.index t = ![0, 0]
    ∧ win4_20.index t = ![0, 0]
    ∧ win4_26.index t = ![0, 0]
    ∧ win4_27.index t = ![0, 0]
    ∧ win4_28.index t = ![0, 0] := by
  decide +kernel

theorem blk4_0 (c : Dev nD) (t : Fin cfg4.N) : iblk4 V c 0 t = V c main_v30 := by
  obtain ⟨e0, e1, e2, e3, e4, e5, e6, e7, e8, e9, e10, e11, e12, e13, e14, e15, e16, e18, e19, e20, e26, e27, e28⟩ := same4 t
  funext y
  idx_vars y
  blk_ext [iblk4, e0]

theorem blk4_1 (c : Dev nD) (t : Fin cfg4.N) : iblk4 V c 1 t = V c main_v29_1 := by
  obtain ⟨e0, e1, e2, e3, e4, e5, e6, e7, e8, e9, e10, e11, e12, e13, e14, e15, e16, e18, e19, e20, e26, e27, e28⟩ := same4 t
  funext y
  idx_vars y
  blk_ext [iblk4, e1]

theorem blk4_2 (c : Dev nD) (t : Fin cfg4.N) : iblk4 V c 2 t = V c main_v17 := by
  obtain ⟨e0, e1, e2, e3, e4, e5, e6, e7, e8, e9, e10, e11, e12, e13, e14, e15, e16, e18, e19, e20, e26, e27, e28⟩ := same4 t
  funext y
  idx_vars y
  blk_ext [iblk4, e2]

theorem blk4_3 (c : Dev nD) (t : Fin cfg4.N) : iblk4 V c 3 t = V c main_v5_0 := by
  obtain ⟨e0, e1, e2, e3, e4, e5, e6, e7, e8, e9, e10, e11, e12, e13, e14, e15, e16, e18, e19, e20, e26, e27, e28⟩ := same4 t
  funext y
  idx_vars y
  blk_ext [iblk4, e3]

theorem blk4_4 (c : Dev nD) (t : Fin cfg4.N) : iblk4 V c 4 t = V c main_v5_1 := by
  obtain ⟨e0, e1, e2, e3, e4, e5, e6, e7, e8, e9, e10, e11, e12, e13, e14, e15, e16, e18, e19, e20, e26, e27, e28⟩ := same4 t
  funext y
  idx_vars y
  blk_ext [iblk4, e4]

theorem blk4_5 (c : Dev nD) (t : Fin cfg4.N) : iblk4 V c 5 t = V c main_v10_0 := by
  obtain ⟨e0, e1, e2, e3, e4, e5, e6, e7, e8, e9, e10, e11, e12, e13, e14, e15, e16, e18, e19, e20, e26, e27, e28⟩ := same4 t
  funext y
  idx_vars y
  blk_ext [iblk4, e5]

theorem blk4_6 (c : Dev nD) (t : Fin cfg4.N) : iblk4 V c 6 t = V c main_v10_1 := by
  obtain ⟨e0, e1, e2, e3, e4, e5, e6, e7, e8, e9, e10, e11, e12, e13, e14, e15, e16, e18, e19, e20, e26, e27, e28⟩ := same4 t
  funext y
  idx_vars y
  blk_ext [iblk4, e6]

theorem blk4_7 (c : Dev nD) (t : Fin cfg4.N) : iblk4 V c 7 t = V c main_v15 := by
  obtain ⟨e0, e1, e2, e3, e4, e5, e6, e7, e8, e9, e10, e11, e12, e13, e14, e15, e16, e18, e19, e20, e26, e27, e28⟩ := same4 t
  funext y
  idx_vars y
  blk_ext [iblk4, e7]

theorem blk4_8 (c : Dev nD) (t : Fin cfg4.N) : iblk4 V c 8 t = V c main_v8_0 := by
  obtain ⟨e0, e1, e2, e3, e4, e5, e6, e7, e8, e9, e10, e11, e12, e13, e14, e15, e16, e18, e19, e20, e26, e27, e28⟩ := same4 t
  funext y
  idx_vars y
  blk_ext [iblk4, e8]

theorem blk4_9 (c : Dev nD) (t : Fin cfg4.N) : iblk4 V c 9 t = V c main_v8_1 := by
  obtain ⟨e0, e1, e2, e3, e4, e5, e6, e7, e8, e9, e10, e11, e12, e13, e14, e15, e16, e18, e19, e20, e26, e27, e28⟩ := same4 t
  funext y
  idx_vars y
  blk_ext [iblk4, e9]

theorem blk4_10 (c : Dev nD) (t : Fin cfg4.N) : iblk4 V c 10 t = V c main_v19 := by
  obtain ⟨e0, e1, e2, e3, e4, e5, e6, e7, e8, e9, e10, e11, e12, e13, e14, e15, e16, e18, e19, e20, e26, e27, e28⟩ := same4 t
  funext y
  idx_vars y
  blk_ext [iblk4, e10]

theorem blk4_11 (c : Dev nD) (t : Fin cfg4.N) : iblk4 V c 11 t = V c main_v21 := by
  obtain ⟨e0, e1, e2, e3, e4, e5, e6, e7, e8, e9, e10, e11, e12, e13, e14, e15, e16, e18, e19, e20, e26, e27, e28⟩ := same4 t
  funext y
  idx_vars y
  blk_ext [iblk4, e11]

theorem blk4_12 (c : Dev nD) (t : Fin cfg4.N) : iblk4 V c 12 t = V c main_v23 := by
  obtain ⟨e0, e1, e2, e3, e4, e5, e6, e7, e8, e9, e10, e11, e12, e13, e14, e15, e16, e18, e19, e20, e26, e27, e28⟩ := same4 t
  funext y
  idx_vars y
  blk_ext [iblk4, e12]

theorem blk4_13 (c : Dev nD) (t : Fin cfg4.N) : iblk4 V c 13 t = V c main_v25 := by
  obtain ⟨e0, e1, e2, e3, e4, e5, e6, e7, e8, e9, e10, e11, e12, e13, e14, e15, e16, e18, e19, e20, e26, e27, e28⟩ := same4 t
  funext y
  idx_vars y
  blk_ext [iblk4, e13]

theorem blk4_14 (c : Dev nD) (t : Fin cfg4.N) : iblk4 V c 14 t = V c main_v35 := by
  obtain ⟨e0, e1, e2, e3, e4, e5, e6, e7, e8, e9, e10, e11, e12, e13, e14, e15, e16, e18, e19, e20, e26, e27, e28⟩ := same4 t
  funext y
  idx_vars y
  blk_ext [iblk4, e14]

theorem blk4_15 (c : Dev nD) (t : Fin cfg4.N) : iblk4 V c 15 t = V c main_v37 := by
  obtain ⟨e0, e1, e2, e3, e4, e5, e6, e7, e8, e9, e10, e11, e12, e13, e14, e15, e16, e18, e19, e20, e26, e27, e28⟩ := same4 t
  funext y
  idx_vars y
  blk_ext [iblk4, e15]

theorem blk4_16 (c : Dev nD) (t : Fin cfg4.N) : iblk4 V c 16 t = V c main_v36 := by
  obtain ⟨e0, e1, e2, e3, e4, e5, e6, e7, e8, e9, e10, e11, e12, e13, e14, e15, e16, e18, e19, e20, e26, e27, e28⟩ := same4 t
  funext y
  idx_vars y
  blk_ext [iblk4, e16]

set_option maxHeartbeats 1000000 in
theorem arr4_18 (c : Dev nD) :
    (dat4 V c).arrAt 18 cfg4.N = out4_18 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 18 _ (by decide +kernel) fun t hf y => ?_
  obtain ⟨e0, e1, e2, e3, e4, e5, e6, e7, e8, e9, e10, e11, e12, e13, e14, e15, e16, e18, e19, e20, e26, e27, e28⟩ := same4 t
  rw [after4_18, blk4_0, blk4_1, blk4_2, blk4_3, blk4_4, blk4_5, blk4_6, blk4_7, blk4_8, blk4_9, blk4_10, blk4_11, blk4_12, blk4_13, blk4_14, blk4_15, blk4_16]
  generalize out4_18 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e18]

set_option maxHeartbeats 1000000 in
theorem arr4_19 (c : Dev nD) :
    (dat4 V c).arrAt 19 cfg4.N = out4_19 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 19 _ (by decide +kernel) fun t hf y => ?_
  obtain ⟨e0, e1, e2, e3, e4, e5, e6, e7, e8, e9, e10, e11, e12, e13, e14, e15, e16, e18, e19, e20, e26, e27, e28⟩ := same4 t
  rw [after4_19, blk4_0, blk4_1, blk4_2, blk4_3, blk4_4, blk4_5, blk4_6, blk4_7, blk4_8, blk4_9, blk4_10, blk4_11, blk4_12, blk4_13, blk4_14, blk4_15, blk4_16]
  generalize out4_19 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e19]

set_option maxHeartbeats 1000000 in
theorem arr4_20 (c : Dev nD) :
    (dat4 V c).arrAt 20 cfg4.N = out4_20 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 20 _ (by decide +kernel) fun t hf y => ?_
  obtain ⟨e0, e1, e2, e3, e4, e5, e6, e7, e8, e9, e10, e11, e12, e13, e14, e15, e16, e18, e19, e20, e26, e27, e28⟩ := same4 t
  rw [after4_20, blk4_0, blk4_1, blk4_2, blk4_3, blk4_4, blk4_5, blk4_6, blk4_7, blk4_8, blk4_9, blk4_10, blk4_11, blk4_12, blk4_13, blk4_14, blk4_15, blk4_16]
  generalize out4_20 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e20]

set_option maxHeartbeats 1000000 in
theorem arr4_26 (c : Dev nD) :
    (dat4 V c).arrAt 26 cfg4.N = out4_26 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 26 _ (by decide +kernel) fun t hf y => ?_
  obtain ⟨e0, e1, e2, e3, e4, e5, e6, e7, e8, e9, e10, e11, e12, e13, e14, e15, e16, e18, e19, e20, e26, e27, e28⟩ := same4 t
  rw [after4_26, blk4_0, blk4_1, blk4_2, blk4_3, blk4_4, blk4_5, blk4_6, blk4_7, blk4_8, blk4_9, blk4_10, blk4_11, blk4_12, blk4_13, blk4_14, blk4_15, blk4_16]
  generalize out4_26 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e26]

set_option maxHeartbeats 1000000 in
theorem arr4_27 (c : Dev nD) :
    (dat4 V c).arrAt 27 cfg4.N = out4_27 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 27 _ (by decide +kernel) fun t hf y => ?_
  obtain ⟨e0, e1, e2, e3, e4, e5, e6, e7, e8, e9, e10, e11, e12, e13, e14, e15, e16, e18, e19, e20, e26, e27, e28⟩ := same4 t
  rw [after4_27, blk4_0, blk4_1, blk4_2, blk4_3, blk4_4, blk4_5, blk4_6, blk4_7, blk4_8, blk4_9, blk4_10, blk4_11, blk4_12, blk4_13, blk4_14, blk4_15, blk4_16]
  generalize out4_27 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e27]

set_option maxHeartbeats 1000000 in
theorem arr4_28 (c : Dev nD) :
    (dat4 V c).arrAt 28 cfg4.N = out4_28 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 28 _ (by decide +kernel) fun t hf y => ?_
  obtain ⟨e0, e1, e2, e3, e4, e5, e6, e7, e8, e9, e10, e11, e12, e13, e14, e15, e16, e18, e19, e20, e26, e27, e28⟩ := same4 t
  rw [after4_28, blk4_0, blk4_1, blk4_2, blk4_3, blk4_4, blk4_5, blk4_6, blk4_7, blk4_8, blk4_9, blk4_10, blk4_11, blk4_12, blk4_13, blk4_14, blk4_15, blk4_16]
  generalize out4_28 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [e28]

/-! ## The payloads -/

/-- The projection at an entry: its three products. -/
def prA (x : S128x1024.Idx → EReal) (mo : S128x6144.Idx → EReal) (g : S1x1024.Idx → EReal) (w wl : S1024x3072.Idx → EReal) (b : Fin 128) (j : Fin 3072) : EReal :=
  (∑ k, hA x mo g b k * w (ix2 k j)) + (∑ k, (hA x mo g b k - hA x mo g b k) * w (ix2 k j)) + (∑ k, hA x mo g b k * wl (ix2 k j))

/-- The gates at an entry: three products and a bias. -/
def gaA (x : S128x1024.Idx → EReal) (mo : S128x6144.Idx → EReal) (g : S1x1024.Idx → EReal) (w wl : S1024x128.Idx → EReal) (bias : S1x128.Idx → EReal) (b j : Fin 128) : EReal :=
  (∑ k, hA x mo g b k * w (ix2 k j)) + (∑ k, (hA x mo g b k - hA x mo g b k) * w (ix2 k j)) + (∑ k, hA x mo g b k * wl (ix2 k j)) + bias (ix2 0 j)

/-- The transposed keys at an entry: three products and the scale. -/
def ktA (x : S128x1024.Idx → EReal) (mo : S128x6144.Idx → EReal) (g : S1x1024.Idx → EReal) (w wl : S512x1024.Idx → EReal) (d : Fin 512) (b : Fin 128) : EReal :=
  ((∑ k, w (ix2 d k) * hA x mo g b k) + (∑ k, wl (ix2 d k) * hA x mo g b k) + (∑ k, w (ix2 d k) * (hA x mo g b k - hA x mo g b k))) * Ideal.ofBits .f32 0x3DB504F3#32

section

variable (a0 : Vec Ideal S128x1024 .f32)
  (a1 : Vec Ideal S128x6144 .f32)
  (a2 : Vec Ideal S1x1024 .f32)
  (a3 : Vec Ideal S1024x3072 .bf16)
  (a4 : Vec Ideal S1024x3072 .bf16)
  (a5 : Vec Ideal S1024x128 .bf16)
  (a6 : Vec Ideal S1024x128 .bf16)
  (a7 : Vec Ideal S1x128 .f32)
  (a8 : Vec Ideal S512x1024 .bf16)
  (a9 : Vec Ideal S512x1024 .bf16)
  (a10 : Vec Ideal S31x512 .f32)
  (a11 : Vec Ideal S1x512 .f32)
  (a12 : Vec Ideal S1x512 .f32)
  (a13 : Vec Ideal S1x512 .f32)
  (a14 : Vec Ideal S30x128x512 .f32)
  (a15 : Vec Ideal S128x512 .f32)
  (a16 : Vec Ideal S128x128 .f32)

theorem p103_at (b : Fin 128) (k : Fin 1024) : k4_pay103 (F := Ideal) a0 a1 a2 a3 a4 a5 a6 a7 a8 a9 a10 a11 a12 a13 a14 a15 a16 (ix2 b k) = hA a0 a1 a2 b k := by
  unfold k4_pay103
  frame_out
  exact pay6_at _ _ _ _ _

theorem p104_at (b : Fin 128) (j : Fin 3072) : k4_pay104 (F := Ideal) a0 a1 a2 a3 a4 a5 a6 a7 a8 a9 a10 a11 a12 a13 a14 a15 a16 (ix2 b j) = prA a0 a1 a2 a3 a4 b j := by
  unfold k4_pay104
  frame_out
  exact pay7_at _ _ _ _ _ _ _

theorem p105_at (b j : Fin 128) : k4_pay105 (F := Ideal) a0 a1 a2 a3 a4 a5 a6 a7 a8 a9 a10 a11 a12 a13 a14 a15 a16 (ix2 b j) = gaA a0 a1 a2 a5 a6 a7 b j := by
  unfold k4_pay105
  frame_out
  rw [pay9_at]
  simp only [p103_at]
  pointwise [k4_pay8]
  rfl

theorem p106_at (b : Fin 128) (j : Fin 512) :
    k4_pay106 (F := Ideal) a0 a1 a2 a3 a4 a5 a6 a7 a8 a9 a10 a11 a12 a13 a14 a15 a16 (ix2 b j) = prA a0 a1 a2 a3 a4 b ⟨512 + j, by omega⟩ * Ideal.ofBits .f32 0x3DB504F3#32 := by
  unfold k4_pay106
  pointwise [k4_pay11]
  rw [p104_at]

theorem kt_at (d : Fin 512) (b : Fin 128) : out4_18 (F := Ideal) a0 a1 a2 a3 a4 a5 a6 a7 a8 a9 a10 a11 a12 a13 a14 a15 a16 (ix2 d b) = ktA a0 a1 a2 a8 a9 d b := by
  rw [out18_at, pay10_at]
  simp only [p103_at]
  rfl

end

end Cert.KernelIdeal.Val

end
-- ==== Proof.Ada.lean ====
/- The modulation of the sample rows: the sigmoid-weighted condition rows against the modulation matrix, cut in three products. -/
module

public import proofs.«01_k».proof.Proof.Gen.KernelIdeal.Frame.Region3
public import proofs.«01_k».proof.Proof.Spec
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

variable (V : (c : Dev nD) → (b : Ref sig .tc) → Buf (Elt Ideal) ((c : Thread nD τ).loc b))

/-- The modulation's three products and its bias, at an entry. -/
def adaAt (x : S128x1024.Idx → EReal) (w : S1024x6144.Idx → EReal) (bias : S1x6144.Idx → EReal) (b : Fin 128) (j : Fin 6144) : EReal :=
  (∑ k : Fin 1024, Spec.silu (x (ix2 b k)) * w (ix2 k j))
    + (∑ k : Fin 1024, (Spec.silu (x (ix2 b k)) - Spec.silu (x (ix2 b k))) * w (ix2 k j))
    + (∑ k : Fin 1024, Spec.silu (x (ix2 b k)) * (w (ix2 k j) - w (ix2 k j)))
    + bias (ix2 0 j)

/-- One block's product, at an entry of the block. -/
theorem pay_ada (x1 : Vec Ideal S128x1024 .f32) (x2 : Vec Ideal S1024x1024 .f32) (x3 : Vec Ideal S1x1024 .f32) (b : Fin 128) (j : Fin 1024) :
    k3_pay1 (F := Ideal) (k3_pay3 x2) (k3_pay4 x2) (k3_pay6 x1) (k3_pay7 x1) x3 (ix2 b j)
      = (∑ k : Fin 1024, Spec.silu (x1 (ix2 b k)) * x2 (ix2 k j))
    + (∑ k : Fin 1024, (Spec.silu (x1 (ix2 b k)) - Spec.silu (x1 (ix2 b k))) * x2 (ix2 k j))
    + (∑ k : Fin 1024, Spec.silu (x1 (ix2 b k)) * (x2 (ix2 k j) - x2 (ix2 k j)))
    + x3 (ix2 0 j) := by
  pointwise [k3_pay1, k3_pay2, k3_pay3, k3_pay4, k3_pay6, k3_pay7]
  simp only [Spec.silu, Spec.sig, zero_sub]

/-- The weight, the bias and the output move together along the columns. -/
theorem same3 : ∀ t : Fin cfg3.N, win3_2.index t = ![0, t.1] ∧ win3_3.index t = ![0, t.1]
    ∧ win3_1.index t = ![0, 0] ∧ win3_5.index t = ![0, t.1] := by
  decide +kernel

set_option maxHeartbeats 1000000 in
/-- The sample rows' modulation. -/
theorem ada_out (c : Dev nD) :
    (dat3 V c).arrAt 5 cfg3.N
      = fun i : S128x6144.Idx => adaAt (V c main_arg2) (V c main_v26) (V c main_v28) (i 0) (i 1) := by
  refine (dat3 V c).arrAt_eq_of_covers 5 _ (by decide +kernel) fun t hf y => ?_
  blk_simp
  rw [after3_5]
  frame_out
  obtain ⟨e2, e3, e1, e0⟩ := same3 t
  idx_vars y
  rw [pay_ada]
  have h1 : ∀ k : Fin 1024, iblk3 V c 1 t (ix2 y0 k)
      = V c main_arg2 (ix2 (((View.whole main_v29_1).slice (win3_5.rect t)).emb (ix2 y0 y1) 0) k) := fun k => by
    blk_ext [iblk3, e1, e0]
  have h2 : ∀ k : Fin 1024, iblk3 V c 2 t (ix2 k y1)
      = V c main_v26 (ix2 k (((View.whole main_v29_1).slice (win3_5.rect t)).emb (ix2 y0 y1) 1)) := fun k => by
    blk_ext [iblk3, e2, e0]
  have h3 : iblk3 V c 3 t (ix2 0 y1)
      = V c main_v28 (ix2 0 (((View.whole main_v29_1).slice (win3_5.rect t)).emb (ix2 y0 y1) 1)) := by
    blk_ext [iblk3, e3, e0]
  unfold adaAt
  simp only [h1, h2, h3]

end Cert.KernelIdeal.Val

end
-- ==== Proof.Splits.lean ====
/- The three weight splits: each leaves the weight, and the difference of the weight with itself. -/
module

public import proofs.«01_k».proof.Proof.Gen.KernelIdeal.Frame.Region0
public import proofs.«01_k».proof.Proof.Gen.KernelIdeal.Frame.Region1
public import proofs.«01_k».proof.Proof.Gen.KernelIdeal.Frame.Region2
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

variable (V : (c : Dev nD) → (b : Ref sig .tc) → Buf (Elt Ideal) ((c : Thread nD τ).loc b))

/-- A number's difference with itself: zero where it is real. -/
abbrev selfSub (x : EReal) : EReal := x - x

/-- The first split's windows move together. -/
theorem same0 : ∀ t : Fin cfg0.N, win0_1.index t = win0_0.index t ∧ win0_2.index t = win0_0.index t := by
  decide +kernel

/-- The first split's high part is the weight. -/
theorem split0_hi (c : Dev nD) :
    (dat0 V c).arrAt 1 cfg0.N = fun i : S1024x3072.Idx => (V c main_v4 : S1024x3072.Idx → EReal) i := by
  refine (dat0 V c).arrAt_eq_of_covers 1 _ (by decide +kernel) fun t hf y => ?_
  blk_simp
  rw [after0_1]
  frame_out
  pointwise [k0_pay2, k0_pay1]
  have e := (same0 t).1
  blk_ext [iblk0, e]

/-- The first split's low part is the weight's difference with itself. -/
theorem split0_lo (c : Dev nD) :
    (dat0 V c).arrAt 2 cfg0.N
      = fun i : S1024x3072.Idx => selfSub ((V c main_v4 : S1024x3072.Idx → EReal) i) := by
  refine (dat0 V c).arrAt_eq_of_covers 2 _ (by decide +kernel) fun t hf y => ?_
  blk_simp
  rw [after0_2]
  frame_out
  pointwise [k0_pay3, k0_pay2, k0_pay1]
  have e := (same0 t).2
  congr 1 <;> blk_ext [iblk0, e]

/-- The second split's windows move together. -/
theorem same1 : ∀ t : Fin cfg1.N, win1_1.index t = win1_0.index t ∧ win1_2.index t = win1_0.index t := by
  decide +kernel

/-- The second split's high part is the weight. -/
theorem split1_hi (c : Dev nD) :
    (dat1 V c).arrAt 1 cfg1.N = fun i : S512x1024.Idx => (V c main_v7 : S512x1024.Idx → EReal) i := by
  refine (dat1 V c).arrAt_eq_of_covers 1 _ (by decide +kernel) fun t hf y => ?_
  blk_simp
  rw [after1_1]
  frame_out
  pointwise [k1_pay2, k1_pay1]
  have e := (same1 t).1
  blk_ext [iblk1, e]

/-- The second split's low part is the weight's difference with itself. -/
theorem split1_lo (c : Dev nD) :
    (dat1 V c).arrAt 2 cfg1.N
      = fun i : S512x1024.Idx => selfSub ((V c main_v7 : S512x1024.Idx → EReal) i) := by
  refine (dat1 V c).arrAt_eq_of_covers 2 _ (by decide +kernel) fun t hf y => ?_
  blk_simp
  rw [after1_2]
  frame_out
  pointwise [k1_pay3, k1_pay2, k1_pay1]
  have e := (same1 t).2
  congr 1 <;> blk_ext [iblk1, e]

/-- The third split's windows move together. -/
theorem same2 : ∀ t : Fin cfg2.N, win2_1.index t = win2_0.index t ∧ win2_2.index t = win2_0.index t := by
  decide +kernel

/-- The third split's high part is the weight. -/
theorem split2_hi (c : Dev nD) :
    (dat2 V c).arrAt 1 cfg2.N = fun i : S1024x128.Idx => (V c main_v9 : S1024x128.Idx → EReal) i := by
  refine (dat2 V c).arrAt_eq_of_covers 1 _ (by decide +kernel) fun t hf y => ?_
  blk_simp
  rw [after2_1]
  frame_out
  pointwise [k2_pay2, k2_pay1]
  have e := (same2 t).1
  blk_ext [iblk2, e]

/-- The third split's low part is the weight's difference with itself. -/
theorem split2_lo (c : Dev nD) :
    (dat2 V c).arrAt 2 cfg2.N
      = fun i : S1024x128.Idx => selfSub ((V c main_v9 : S1024x128.Idx → EReal) i) := by
  refine (dat2 V c).arrAt_eq_of_covers 2 _ (by decide +kernel) fun t hf y => ?_
  blk_simp
  rw [after2_2]
  frame_out
  pointwise [k2_pay3, k2_pay2, k2_pay1]
  have e := (same2 t).2
  congr 1 <;> blk_ext [iblk2, e]

end Cert.KernelIdeal.Val

end
-- ==== Proof.HostVal.lean ====
/- What the steps take as their arrays, in terms of the arguments. -/
module

public import proofs.«01_k».proof.Proof.Arrays
public import proofs.«01_k».proof.Proof.Ada
public import proofs.«01_k».proof.Proof.Splits
public import proofs.«01_k».proof.Proof.Fold
public import Idealize.ShloMosaic.Lib.Claim
public import Idealize.ShloMosaic.Lib.StableHlo.ReadAt

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (ρ : Dev nD → PrngReg)

/-! ## What each stretch keeps -/

theorem keep_3 (c : Dev nD) (r : Ref sig .tc) (h : r ∉ hostOps1_W) (h' : ∀ w : Fin cfg1.W, Pipeline.arrRef spec1 w = r → (cfg1.win w).isOut = false) :
    W4 m ρ c r = W2 m ρ c r := (W4_of m ρ c r h').trans (W3_of m ρ c r h)

theorem keep_7 (c : Dev nD) (r : Ref sig .tc) (h : r ∉ hostOps2_W) (h1 : r ∉ hostOps2_1_W)
    (h' : ∀ w : Fin cfg2.W, Pipeline.arrRef spec2 w = r → (cfg2.win w).isOut = false) :
    W7 m ρ c r = W4 m ρ c r := ((W7_of m ρ c r h').trans (W6_of m ρ c r h1)).trans (W5_of m ρ c r h)

theorem keep_11 (c : Dev nD) (r : Ref sig .tc) (h : r ∉ hostOps3_W) (h1 : r ∉ hostOps3_1_W) (h2 : r ∉ hostOps3_2_W)
    (h' : ∀ w : Fin cfg3.W, Pipeline.arrRef spec3 w = r → (cfg3.win w).isOut = false) :
    W11 m ρ c r = W7 m ρ c r :=
  (((W11_of m ρ c r h').trans (W10_of m ρ c r h2)).trans (W9_of m ρ c r h1)).trans (W8_of m ρ c r h)

theorem keep_14 (c : Dev nD) (r : Ref sig .tc) (h : r ∉ hostOps4_W) (h1 : r ∉ hostOps4_1_W) (h2 : r ∉ hostOps4_2_W) :
    W14 m ρ c r = W11 m ρ c r := ((W14_of m ρ c r h2).trans (W13_of m ρ c r h1)).trans (W12_of m ρ c r h)

/-! ## The weights -/

/-- The column of the projection that a column of the joined weight is. -/
def col (j : Fin 3072) : Fin 3080 := if h : j.1 < 2048 then ⟨j, by omega⟩ else ⟨2056 + (j - 2048), by omega⟩

theorem v4_at (c : Dev nD) (k : Fin 1024) (j : Fin 3072) :
    W1 m ρ c main_v4 (ix2 k j) = m ((c : Thread nD τ).loc main_arg10) (ix3 0 k (col j)) := by
  after_reads_at
  unfold col
  split <;> rfl

theorem v5_0_eq (c : Dev nD) : W14 m ρ c main_v5_0 = W1 m ρ c main_v4 :=
  (((keep_14 m ρ c main_v5_0 (by decide) (by decide) (by decide)).trans
    (keep_11 m ρ c main_v5_0 (by decide) (by decide) (by decide) (by decide +kernel))).trans
    (keep_7 m ρ c main_v5_0 (by decide) (by decide) (by decide +kernel))).trans
    ((keep_3 m ρ c main_v5_0 (by decide) (by decide +kernel)).trans
      ((W2_arr m ρ c 1).trans (split0_hi (V1 m ρ) c)))

theorem v5_1_eq (c : Dev nD) : W14 m ρ c main_v5_1 = fun i : S1024x3072.Idx => selfSub ((W1 m ρ c main_v4 : S1024x3072.Idx → EReal) i) :=
  (((keep_14 m ρ c main_v5_1 (by decide) (by decide) (by decide)).trans
    (keep_11 m ρ c main_v5_1 (by decide) (by decide) (by decide) (by decide +kernel))).trans
    (keep_7 m ρ c main_v5_1 (by decide) (by decide) (by decide +kernel))).trans
    ((keep_3 m ρ c main_v5_1 (by decide) (by decide +kernel)).trans
      ((W2_arr m ρ c 2).trans (split0_lo (V1 m ρ) c)))

theorem v0_at (c : Dev nD) (k : Fin 1024) (j : Fin 3080) :
    W1 m ρ c main_v0 (ix2 k j) = m ((c : Thread nD τ).loc main_arg10) (ix3 0 k j) := by
  after_reads_at

theorem v2_at (c : Dev nD) (k : Fin 1024) (j : Fin 8) :
    W1 m ρ c main_v2 (ix2 k j) = m ((c : Thread nD τ).loc main_arg10) (ix3 0 k ⟨2048 + j, by omega⟩) := by
  after_reads_at

theorem v7_at (c : Dev nD) (d : Fin 512) (k : Fin 1024) :
    W3 m ρ c main_v7 (ix2 d k) = m ((c : Thread nD τ).loc main_arg10) (ix3 0 k ⟨512 + d, by omega⟩) := by
  after_reads_at
  exact (congrFun (W2_of m ρ c main_v0 (by decide +kernel)) _).trans (v0_at m ρ c _ _)

theorem v8_0_eq (c : Dev nD) : W14 m ρ c main_v8_0 = W3 m ρ c main_v7 :=
  ((keep_14 m ρ c main_v8_0 (by decide) (by decide) (by decide)).trans
    (keep_11 m ρ c main_v8_0 (by decide) (by decide) (by decide) (by decide +kernel))).trans
    ((keep_7 m ρ c main_v8_0 (by decide) (by decide) (by decide +kernel)).trans
      ((W4_arr m ρ c 1).trans (split1_hi (V3 m ρ) c)))

theorem v8_1_eq (c : Dev nD) : W14 m ρ c main_v8_1 = fun i : S512x1024.Idx => selfSub ((W3 m ρ c main_v7 : S512x1024.Idx → EReal) i) :=
  ((keep_14 m ρ c main_v8_1 (by decide) (by decide) (by decide)).trans
    (keep_11 m ρ c main_v8_1 (by decide) (by decide) (by decide) (by decide +kernel))).trans
    ((keep_7 m ρ c main_v8_1 (by decide) (by decide) (by decide +kernel)).trans
      ((W4_arr m ρ c 2).trans (split1_lo (V3 m ρ) c)))

theorem v9_at (c : Dev nD) (k : Fin 1024) (j : Fin 8) :
    W6 m ρ c main_v9 (ix2 k ⟨j, by omega⟩) = m ((c : Thread nD τ).loc main_arg10) (ix3 0 k ⟨2048 + j, by omega⟩) := by
  after_reads_at
  exact ((congrFun (keep_3 m ρ c main_v2 (by decide) (by decide +kernel)) _).trans
    (congrFun (W2_of m ρ c main_v2 (by decide +kernel)) _)).trans (v2_at m ρ c _ _)

theorem v10_0_eq (c : Dev nD) : W14 m ρ c main_v10_0 = W6 m ρ c main_v9 :=
  ((keep_14 m ρ c main_v10_0 (by decide) (by decide) (by decide)).trans
    (keep_11 m ρ c main_v10_0 (by decide) (by decide) (by decide) (by decide +kernel))).trans
    ((W7_arr m ρ c 1).trans (split2_hi (V6 m ρ) c))

theorem v10_1_eq (c : Dev nD) : W14 m ρ c main_v10_1 = fun i : S1024x128.Idx => selfSub ((W6 m ρ c main_v9 : S1024x128.Idx → EReal) i) :=
  ((keep_14 m ρ c main_v10_1 (by decide) (by decide) (by decide)).trans
    (keep_11 m ρ c main_v10_1 (by decide) (by decide) (by decide) (by decide +kernel))).trans
    ((W7_arr m ρ c 2).trans (split2_lo (V6 m ρ) c))

/-! ## The gates' bias, the norm's weight, the modulation -/

theorem v15_lo (c : Dev nD) (h : Fin 4) :
    W14 m ρ c main_v15 (ix2 0 ⟨h, by omega⟩) = m ((c : Thread nD τ).loc main_arg11) (ix2 0 h) := by
  rw [keep_14 m ρ c main_v15 (by decide) (by decide) (by decide), W11_of m ρ c main_v15 (by decide +kernel)]
  after_reads_at
  rw [dif_pos (show h.1 < 8 by omega)]
  after_reads_at
  exact congrFun (W7_args m ρ c main_arg11 (by decide)) _

theorem v15_hi (c : Dev nD) (h : Fin 4) :
    W14 m ρ c main_v15 (ix2 0 ⟨4 + h, by omega⟩) = m ((c : Thread nD τ).loc main_arg12) (ix2 0 h) := by
  rw [keep_14 m ρ c main_v15 (by decide) (by decide) (by decide), W11_of m ρ c main_v15 (by decide +kernel)]
  after_reads_at
  rw [dif_pos (show 4 + h.1 < 8 by omega)]
  after_reads_at
  exact congrFun (W7_args m ρ c main_arg12 (by decide)) _

theorem v17_at (c : Dev nD) (k : Fin 1024) :
    W14 m ρ c main_v17 (ix2 0 k) = m ((c : Thread nD τ).loc main_arg9) (ix2 0 k) := by
  rw [keep_14 m ρ c main_v17 (by decide) (by decide) (by decide), W11_of m ρ c main_v17 (by decide +kernel)]
  after_reads_at
  exact congrFun (W7_args m ρ c main_arg9 (by decide)) _

theorem v26_at (c : Dev nD) (k : Fin 1024) (j : Fin 6144) :
    W10 m ρ c main_v26 (ix2 k j) = m ((c : Thread nD τ).loc main_arg7) (ix3 0 k j) := by
  after_reads_at
  exact congrFun (W7_args m ρ c main_arg7 (by decide)) _

theorem v28_at (c : Dev nD) (j : Fin 6144) :
    W10 m ρ c main_v28 (ix2 0 j) = m ((c : Thread nD τ).loc main_arg8) (ix2 0 j) := by
  after_reads_at
  exact congrFun (W7_args m ρ c main_arg8 (by decide)) _

theorem v29_eq (c : Dev nD) : W14 m ρ c main_v29_1
    = fun i : S128x6144.Idx => adaAt (m ((c : Thread nD τ).loc main_arg2)) (W10 m ρ c main_v26) (W10 m ρ c main_v28) (i 0) (i 1) := by
  rw [keep_14 m ρ c main_v29_1 (by decide) (by decide) (by decide)]
  refine ((W11_arr m ρ c 5).trans (ada_out (V10 m ρ) c)).trans ?_
  have e : V10 m ρ c main_arg2 = m ((c : Thread nD τ).loc main_arg2) := W10_args m ρ c main_arg2 (by decide)
  rw [e]

/-! ## The rows, the state before, and the results -/

theorem v30_at (c : Dev nD) (b : Fin 128) (k : Fin 1024) :
    W14 m ρ c main_v30 (ix2 b k) = m ((c : Thread nD τ).loc main_arg0) (ix3 b 0 k) := by
  after_reads_at
  exact congrFun (W11_args m ρ c main_arg0 (by decide)) _

theorem v34_at (c : Dev nD) (b : Fin 128) (h : Fin 4) (d e : Fin 128) :
    W15 m ρ c main_v34 (ix4 b h d e) = m ((c : Thread nD τ).loc main_arg3) (ix5 0 b h d e) := by
  rw [W15_of m ρ c main_v34 (by decide +kernel)]
  after_reads_at
  exact congrFun (W11_args m ρ c main_arg3 (by decide)) _

theorem v36_at (c : Dev nD) (b : Fin 128) (h : Fin 4) :
    W14 m ρ c main_v36 (ix2 b ⟨h, by omega⟩) = m ((c : Thread nD τ).loc main_arg5) (ix3 0 b h) := by
  after_reads_at
  exact congrFun (W11_args m ρ c main_arg5 (by decide)) _

theorem v37_at (c : Dev nD) (b : Fin 128) (h : Fin 4) (d : Fin 128) :
    W14 m ρ c main_v37 (ix2 b (lane h d)) = m ((c : Thread nD τ).loc main_arg4) (ix4 0 b h d) := by
  after_reads_at
  refine (congrFun (W11_args m ρ c main_arg4 (by decide)) _).trans ?_
  have e1 : (lane h d).1 / 128 = h.1 := by show (128 * h.1 + d.1) / 128 = h.1; omega
  have e2 : (lane h d).1 % 128 = d.1 := by show (128 * h.1 + d.1) % 128 = d.1; omega
  congr 2 <;> exact Fin.ext (by assumption)

theorem v43_at (c : Dev nD) (b : Fin 128) (h : Fin 4) (d e : Fin 128) :
    W17 m ρ c main_v43 (ix5 0 b h d e) = (dat5 (V15 m ρ) c).arrAt 5 cfg5.N (ix4 b h d e) := by
  after_reads_at
  exact congrFun (W16_arr m ρ c 5) _

theorem v44_at (c : Dev nD) (b : Fin 128) (h : Fin 4) (d : Fin 128) :
    W17 m ρ c main_v44 (ix4 0 b h d) = (dat4 (V14 m ρ) c).arrAt 27 cfg4.N (ix2 b (lane h d)) := by
  after_reads_at
  refine (congrFun ((W16_of m ρ c main_v38_10 (by decide +kernel)).trans (W15_arr m ρ c 27)) _).trans ?_
  congr 2
  exact Fin.ext (by show h.1 * 128 + d.1 = 128 * h.1 + d.1; omega)

theorem v46_at (c : Dev nD) (b : Fin 128) (h : Fin 4) :
    W17 m ρ c main_v46 (ix3 0 b h) = (dat4 (V14 m ρ) c).arrAt 28 cfg4.N (ix2 b ⟨h, by omega⟩) := by
  after_reads_at
  exact congrFun ((W16_of m ρ c main_v38_11 (by decide +kernel)).trans (W15_arr m ρ c 28)) _

theorem v33_at (c : Dev nD) (b : Fin 128) (s : Fin 30) (j : Fin 512) :
    W16 m ρ c main_v33 (ix3 b s j) = m ((c : Thread nD τ).loc main_arg6) (ix4 0 b s j) := by
  rw [W16_of m ρ c main_v33 (by decide +kernel), W15_of m ρ c main_v33 (by decide +kernel)]
  after_reads_at
  exact congrFun (W11_args m ρ c main_arg6 (by decide)) _

theorem v47_at (c : Dev nD) (b : Fin 128) (s : Fin 30) (j : Fin 512) :
    W17 m ρ c main_v47 (ix4 0 b s j)
      = if h : 1 + s.1 < 30 then m ((c : Thread nD τ).loc main_arg6) (ix4 0 b ⟨1 + s, h⟩ j)
        else (dat4 (V14 m ρ) c).arrAt 26 cfg4.N (ix2 b j) := by
  after_reads_at
  by_cases h : s.1 < 29
  · rw [dif_pos h, dif_pos (show 1 + s.1 < 30 by omega)]
    after_reads_at
    exact v33_at m ρ c b ⟨1 + s, by omega⟩ j
  · rw [dif_neg h, dif_neg (show ¬ 1 + s.1 < 30 by omega)]
    after_reads_at
    exact congrFun ((W16_of m ρ c main_v38_9 (by decide +kernel)).trans (W15_arr m ρ c 26)) _

end Cert.KernelIdeal.Val

end
-- ==== Proof.RefVal.lean ====
/- The reference's results at an entry. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read

/-- The modulation at an entry. -/
def modR (x2 : S128x1024.Idx → EReal) (x7 : S1x1024x6144.Idx → EReal) (x8 : S1x6144.Idx → EReal) (b : Fin 128) (j : Fin 6144) : EReal :=
  (∑ k : Fin 1024, Spec.silu (x2 (ix2 b k)) * x7 (ix3 0 k j)) + x8 (ix2 0 j)

/-- The normalized and modulated row at an entry. -/
def hR (x0 : S128x1x1024.Idx → EReal) (x9 : S1x1024.Idx → EReal) (mo : Fin 128 → Fin 6144 → EReal) (b : Fin 128) (k : Fin 1024) : EReal :=
  x0 (ix3 b 0 k) * Ideal.rsqrt (Ideal.div (∑ j : Fin 1024, x0 (ix3 b 0 j) * x0 (ix3 b 0 j)) (Ideal.ofBits .f32 0x44800000#32)
      + Ideal.ofBits .f32 0x358637BD#32) * x9 (ix2 0 k) * (1 + mo b ⟨1024 + k, by omega⟩) + mo b ⟨k, by omega⟩

/-- The projection at an entry. -/
def zR (x10 : S1x1024x3080.Idx → EReal) (h : Fin 128 → Fin 1024 → EReal) (b : Fin 128) (j : Fin 3080) : EReal :=
  ∑ k : Fin 1024, h b k * x10 (ix3 0 k j)

section

variable (x0 : (⟨S128x1x1024, .f32⟩ : BufTy).Contents (Elt Ideal)) (x2 : (⟨S128x1024, .f32⟩ : BufTy).Contents (Elt Ideal))
  (x3 : (⟨S1x128x4x128x128, .f32⟩ : BufTy).Contents (Elt Ideal)) (x4 : (⟨S1x128x4x128, .f32⟩ : BufTy).Contents (Elt Ideal))
  (x5 : (⟨S1x128x4, .f32⟩ : BufTy).Contents (Elt Ideal)) (x6 : (⟨S1x128x30x512, .f32⟩ : BufTy).Contents (Elt Ideal))
  (x7 : (⟨S1x1024x6144, .f32⟩ : BufTy).Contents (Elt Ideal)) (x8 : (⟨S1x6144, .f32⟩ : BufTy).Contents (Elt Ideal))
  (x9 : (⟨S1x1024, .f32⟩ : BufTy).Contents (Elt Ideal)) (x10 : (⟨S1x1024x3080, .f32⟩ : BufTy).Contents (Elt Ideal))
  (x11 x12 : (⟨S1x4, .f32⟩ : BufTy).Contents (Elt Ideal))

theorem v10_at (b : Fin 128) (j : Fin 6144) : val_main_v10 (F := Ideal) x2 x7 x8 (ix2 b j) = modR x2 x7 x8 b j := by
  pointwise [val_main_v10, val_main_v6, val_main_v4, val_main_v5, val_main_v7, val_main_v8, val_main_v9, val_main_call0_v0, val_main_call0_v1,
    val_main_call0_v2, val_main_call0_v3, val_main_call0_v4, val_main_call0_v5, val_main_call0_cst, val_main_call0_cst_0]
  rfl

/-- The row of the arguments. -/
abbrev hX (b : Fin 128) (k : Fin 1024) : EReal := hR x0 x9 (modR x2 x7 x8) b k

theorem v36_at (b : Fin 128) (k : Fin 1024) : val_main_v36 (F := Ideal) x0 x2 x7 x8 x9 (ix3 b 0 k) = hX x0 x2 x7 x8 x9 b k := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_v11, val_main_v12]
  simp only [v10_at]
  rfl

/-- The projection of the arguments. -/
abbrev zX (b : Fin 128) (j : Fin 3080) : EReal := zR x10 (hX x0 x2 x7 x8 x9) b j

theorem v38_at (b : Fin 128) (j : Fin 3080) : val_main_v38 (F := Ideal) x0 x2 x7 x8 x9 x10 (ix3 b 0 j) = zX x0 x2 x7 x8 x9 x10 b j := by
  pointwise [val_main_v38, val_main_v37]
  simp only [v36_at]
  rfl

/-- The forget gate's argument at head `h`. -/
abbrev fX (b : Fin 128) (h : Fin 4) : EReal := zX x0 x2 x7 x8 x9 x10 b ⟨2052 + h, by omega⟩ + x12 (ix2 0 h)

/-- The input gate's argument at head `h`. -/
abbrev iX (b : Fin 128) (h : Fin 4) : EReal := zX x0 x2 x7 x8 x9 x10 b ⟨2048 + h, by omega⟩ + x11 (ix2 0 h)

/-- The new maximum. -/
abbrev mX (b : Fin 128) (h : Fin 4) : EReal :=
  max (Spec.lsig (fX x0 x2 x7 x8 x9 x10 x12 b h) + x5 (ix3 0 b h)) (iX x0 x2 x7 x8 x9 x10 x11 b h)

/-- The weight of the old state. -/
abbrev aX (b : Fin 128) (h : Fin 4) : EReal :=
  Ideal.exp (Spec.lsig (fX x0 x2 x7 x8 x9 x10 x12 b h) + x5 (ix3 0 b h) - mX x0 x2 x5 x7 x8 x9 x10 x11 x12 b h)

/-- The weight of the new step. -/
abbrev wX (b : Fin 128) (h : Fin 4) : EReal := Ideal.exp (iX x0 x2 x7 x8 x9 x10 x11 b h - mX x0 x2 x5 x7 x8 x9 x10 x11 x12 b h)

/-- The input gate of head `h`. -/
theorem v57_at (b : Fin 128) (h : Fin 4) : val_main_v57 (F := Ideal) x0 x2 x7 x8 x9 x10 x11 (ix3 b h 0)
    = zX x0 x2 x7 x8 x9 x10 b ⟨2048 + h, by omega⟩ + x11 (ix2 0 h) := by
  pointwise [val_main_v57, val_main_v56, val_main_v55, val_main_v54, val_main_v53, val_main_v43]
  simp only [v38_at]

theorem v63_at (b : Fin 128) (h : Fin 4) (hf : Spec.Fin' (zX x0 x2 x7 x8 x9 x10 b ⟨2052 + h, by omega⟩ + x12 (ix2 0 h))) : val_main_v63 (F := Ideal) x0 x2 x7 x8 x9 x10 x12 (ix3 b h 0)
    = Spec.lsig (zX x0 x2 x7 x8 x9 x10 b ⟨2052 + h, by omega⟩ + x12 (ix2 0 h)) := by
  pointwise [val_main_v63, val_main_v62, val_main_v61, val_main_v60, val_main_v59, val_main_v58, val_main_v44, val_main_call1_v0, val_main_call1_v1,
    val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11]
  simp only [v38_at]
  rw [← Spec.lsig_eq hf]
  generalize zX x0 x2 x7 x8 x9 x10 b ⟨2052 + h, by omega⟩ + x12 (ix2 0 h) = f at hf ⊢
  rw [if_neg (not_not.2 rfl), sub_zero]
  rfl

/-- A logarithm of a logistic value of a real number is a real number. -/
theorem _root_.Cert.Spec.lsig_fin {x : EReal} (hx : Spec.Fin' x) : Spec.Fin' (Spec.lsig x) := by
  obtain ⟨r, rfl⟩ := Spec.fin_iff.1 hx
  have e' : (0 : EReal) - max (r : EReal) (-(r : EReal)) = ((-|r| : ℝ) : EReal) := by
    rw [zero_sub, abs_eq_max_neg]
    push_cast
    rw [Spec.coe_max]
    rfl
  have hp : ¬ (1 + Real.exp (-|r|) ≤ 0) := by have := Real.exp_pos (-|r|); linarith
  have h2 : min (r : EReal) 0 = ((min r 0 : ℝ) : EReal) := by
    rw [Spec.coe_min]; rfl
  unfold Spec.lsig
  rw [e', Spec.one_add_exp, Ideal.log_coe, if_neg hp, h2, ← EReal.coe_sub]
  exact Spec.Fin'.coe _

/-- A window of one element sums that element alone. -/
theorem window_one (x : S128x4x1.Idx → EReal) (v : EReal) (hw) (hu) (i : S128x4x1.Idx) :
    Host.reduceWindow (s := S128x4x1) (t := S128x4x1) (u := ⟨0, ![]⟩) (· + ·) ![1, 1, 1] ![1, 1, 1] ![0, 0, 0] ![0, 0, 0] x (fun _ => v) hw hu i = v + x i := by
  unfold Host.reduceWindow
  have e : List.finRange (⟨S128x4x1.rank, ![1, 1, 1]⟩ : Shape).numel = [⟨0, by decide⟩] := by decide
  have z : ∀ a, ((⟨S128x4x1.rank, ![1, 1, 1]⟩ : Shape).rowMajor.symm ⟨0, by decide⟩ a).val = 0 := by decide
  have q : ∀ a : Fin 3, (![0, 0, 0] : Fin 3 → ℕ) a = 0 ∧ (![1, 1, 1] : Fin 3 → ℕ) a = 1 := by decide
  dsimp only
  rw [e]
  simp only [List.foldl]
  rw [dif_pos]
  · congr 2
    funext a
    apply Fin.ext
    show (i a).val * (![1, 1, 1] : Fin 3 → ℕ) a + _ - (![0, 0, 0] : Fin 3 → ℕ) a = (i a).val
    rw [z, (q a).1, (q a).2]
    omega
  · intro a
    show (![0, 0, 0] : Fin 3 → ℕ) a ≤ (i a).val * (![1, 1, 1] : Fin 3 → ℕ) a + _ ∧ (i a).val * (![1, 1, 1] : Fin 3 → ℕ) a + _ - (![0, 0, 0] : Fin 3 → ℕ) a < S128x4x1.size a
    rw [z, (q a).1, (q a).2]
    have := (i a).isLt
    omega

theorem v66_at (b : Fin 128) (h : Fin 4) : val_main_v66 (F := Ideal) x0 x2 x7 x8 x9 x10 x12 (ix3 b h 0)
    = val_main_v63 (F := Ideal) x0 x2 x7 x8 x9 x10 x12 (ix3 b h 0) := by
  have e : val_main_call3_call0_v0 (F := Ideal) (Shape.Idx.first h_S_) = 0 := by
    have e' : val_main_call3_call0_v0 (F := Ideal) ix0 = 0 := by
      pointwise [val_main_call3_call0_v0, val_main_call3_call0_cst]
    exact (congrArg _ (funext fun a => a.elim0)).trans e'
  exact (window_one (val_main_v63 (F := Ideal) x0 x2 x7 x8 x9 x10 x12) (val_main_call3_call0_v0 (F := Ideal) (Shape.Idx.first h_S_))
    reduceWindows_S128x4x1_S128x4x1_w1s1p0_0_w1s1p0_0_w1s1p0_0 (by decide) (ix3 b h 0)).trans (by rw [e]; exact zero_add _)

theorem v2_at (b : Fin 128) (h : Fin 4) : val_main_v2 (F := Ideal) x5 (ix2 b h) = x5 (ix3 0 b h) := by
  pointwise [val_main_v2]

theorem v72_at (b : Fin 128) (h : Fin 4) (hf : Spec.Fin' (zX x0 x2 x7 x8 x9 x10 b ⟨2052 + h, by omega⟩ + x12 (ix2 0 h))) :
    val_main_v72 (F := Ideal) x0 x2 x7 x8 x9 x10 x11 x12 (ix4 b h 0 0) = zX x0 x2 x7 x8 x9 x10 b ⟨2048 + h, by omega⟩ + x11 (ix2 0 h) := by
  pointwise [val_main_v67, val_main_v68, val_main_v69, val_main_v70, val_main_v71, val_main_v72, val_main_cst_4, val_main_call4_v0, val_main_call4_v1, val_main_call4_v2, val_main_v65, val_main_v64, val_main_c, val_main_call2_v0, val_main_call2_v1, val_main_call2_v2, val_main_call2_v3, val_main_call2_v4, val_main_call2_v5, val_main_call2_c, val_main_call2_c_0]
  simp only [v66_at, v57_at]
  rw [v63_at _ _ _ _ _ _ _ b h hf, (Spec.lsig_fin hf).sub_self, zero_add]
  rfl

theorem v77_at (b : Fin 128) (h : Fin 4) (hf : Spec.Fin' (zX x0 x2 x7 x8 x9 x10 b ⟨2052 + h, by omega⟩ + x12 (ix2 0 h))) :
    val_main_v77 (F := Ideal) x0 x2 x5 x7 x8 x9 x10 x11 x12 (ix2 b h)
    = max (Spec.lsig (zX x0 x2 x7 x8 x9 x10 b ⟨2052 + h, by omega⟩ + x12 (ix2 0 h)) + x5 (ix3 0 b h))
        (zX x0 x2 x7 x8 x9 x10 b ⟨2048 + h, by omega⟩ + x11 (ix2 0 h)) := by
  pointwise [val_main_v77, val_main_v76, val_main_v75, val_main_v74, val_main_v73, val_main_cst_5]
  simp only [v66_at, v2_at, v72_at x0 x2 x7 x8 x9 x10 x11 x12 b h hf, v63_at _ _ _ _ _ _ _ b h hf]
  congr 1
  rw [show (Finset.univ : Finset (Fin 1)) = {0} from rfl, Finset.fold_singleton,
    v72_at x0 x2 x7 x8 x9 x10 x11 x12 b h hf, show Ideal.ofBits FTy.f32 4286578688#32 = ⊥ from by simp [Ideal.ofBits, Ideal.ieee]]
  exact max_bot_right _

theorem v108_at (b : Fin 128) (j : Fin 512) : val_main_v108 (F := Ideal) x0 x2 x7 x8 x9 x10 (ix3 b 0 j)
    = zX x0 x2 x7 x8 x9 x10 b ⟨2056 + j, by omega⟩ * Spec.sig (zX x0 x2 x7 x8 x9 x10 b ⟨2568 + j, by omega⟩) := by
  pointwise [val_main_v102, val_main_v103, val_main_v104, val_main_v105, val_main_v106, val_main_v107, val_main_v108, val_main_cst_7, val_main_cst_8, val_main_v45, val_main_v46]
  simp only [v38_at]
  rfl

theorem v114_at (b : Fin 128) (s : Fin 30) (j : Fin 512) : val_main_v114 (F := Ideal) x0 x2 x6 x7 x8 x9 x10 (ix4 0 b s j)
    = if h : 1 + s.1 < 30 then x6 (ix4 0 b ⟨1 + s, h⟩ j)
      else zX x0 x2 x7 x8 x9 x10 b ⟨2056 + j, by omega⟩ * Spec.sig (zX x0 x2 x7 x8 x9 x10 b ⟨2568 + j, by omega⟩) := by
  pointwise [val_main_v114, val_main_v110, val_main_v109, val_main_v3]
  split
  · rfl
  · rw [← v108_at]
    congr 2
    apply Fin.ext
    show 1 + s.1 - 30 = 0
    omega

theorem v113_at (b : Fin 128) (h : Fin 4) (hf : Spec.Fin' (fX x0 x2 x7 x8 x9 x10 x12 b h)) : val_main_v113 (F := Ideal) x0 x2 x5 x7 x8 x9 x10 x11 x12 (ix3 0 b h)
    = mX x0 x2 x5 x7 x8 x9 x10 x11 x12 b h := by
  pointwise [val_main_v113]
  exact v77_at x0 x2 x5 x7 x8 x9 x10 x11 x12 b h hf

theorem v111_at (b : Fin 128) (h : Fin 4) (d e : Fin 128) (hf : Spec.Fin' (fX x0 x2 x7 x8 x9 x10 x12 b h)) : val_main_v111 (F := Ideal) x0 x2 x3 x5 x7 x8 x9 x10 x11 x12 (ix5 0 b h d e)
    = aX x0 x2 x5 x7 x8 x9 x10 x11 x12 b h * x3 (ix5 0 b h d e)
      + wX x0 x2 x5 x7 x8 x9 x10 x11 x12 b h * (zX x0 x2 x7 x8 x9 x10 b ⟨512 + (h * 128 + d), by omega⟩ * Ideal.ofBits .f32 0x3DB504F3#32)
        * zX x0 x2 x7 x8 x9 x10 b ⟨1024 + (h * 128 + e), by omega⟩ := by
  pointwise [val_main_v111, val_main_v47, val_main_v48, val_main_v49, val_main_v50, val_main_v51, val_main_v52, val_main_v78, val_main_v79, val_main_v80, val_main_v81, val_main_v82, val_main_v83, val_main_v84, val_main_v85, val_main_v86, val_main_v87, val_main_v88, val_main_v89, val_main_v90, val_main_v91, val_main_v92, val_main_v93, val_main_v0, val_main_v40, val_main_v41, val_main_cst_3]
  simp only [v38_at, v66_at, v2_at, v63_at x0 x2 x7 x8 x9 x10 x12 b h hf, v72_at x0 x2 x7 x8 x9 x10 x11 x12 b h hf, v77_at x0 x2 x5 x7 x8 x9 x10 x11 x12 b h hf,
    Finset.univ_unique, Finset.sum_singleton]

theorem v112_at (b : Fin 128) (h : Fin 4) (d : Fin 128) (hf : Spec.Fin' (fX x0 x2 x7 x8 x9 x10 x12 b h)) : val_main_v112 (F := Ideal) x0 x2 x4 x5 x7 x8 x9 x10 x11 x12 (ix4 0 b h d)
    = aX x0 x2 x5 x7 x8 x9 x10 x11 x12 b h * x4 (ix4 0 b h d)
      + wX x0 x2 x5 x7 x8 x9 x10 x11 x12 b h * (zX x0 x2 x7 x8 x9 x10 b ⟨512 + (h * 128 + d), by omega⟩ * Ideal.ofBits .f32 0x3DB504F3#32) := by
  pointwise [val_main_v112, val_main_v47, val_main_v48, val_main_v49, val_main_v50, val_main_v51, val_main_v52, val_main_v78, val_main_v79, val_main_v80, val_main_v81, val_main_v82, val_main_v83, val_main_v84, val_main_v85, val_main_v94, val_main_v95, val_main_v96, val_main_v97, val_main_v98, val_main_v99, val_main_v100, val_main_v101, val_main_v1, val_main_v40, val_main_v41, val_main_cst_3, val_main_cst_6]
  simp only [v38_at, v66_at, v2_at, v63_at x0 x2 x7 x8 x9 x10 x12 b h hf, v72_at x0 x2 x7 x8 x9 x10 x11 x12 b h hf, v77_at x0 x2 x5 x7 x8 x9 x10 x11 x12 b h hf,
    Finset.univ_unique, Finset.sum_singleton]

end

end Cert.ReferenceIdeal.Val

end
-- ==== Proof.Finite.lean ====
/- The precondition read at an entry: each of the arrays it names holds real numbers only. -/
module

public import proofs.«01_k».proof.Defs
public import proofs.«01_k».proof.Proof.Spec
public import Idealize.ShloMosaic.PureOps.Ideal.Laws
public import Idealize.ShloMosaic.Lib.Decide
public import Idealize.ShloMosaic.Lib.ReduceAll
public import Idealize.ShloMosaic.Lib.Affine

@[expose] public section

namespace Cert.Proof

open Idealize.ShloMosaic Idealize.ShloMosaic.TcCoe

/-- The side conditions the precondition's operations take. -/
theorem facts_finite : Cert.Pre_finite.Facts :=
  ⟨by decide, by decide, by decide, by decide, by decide, by decide, by decide, by decide, by decide, by decide, by decide,
   by decide, by decide⟩

/-- A number whose absolute value is below infinity is a real number. -/
theorem fin_of_lt {x : EReal} (h : Ideal.cmp .olt (max x (-x)) (Ideal.ofBits .f32 0x7F800000#32) = 1#1) : Spec.Fin' x := by
  have e : Ideal.ofBits .f32 0x7F800000#32 = ⊤ := by simp [Ideal.ofBits, Ideal.ieee]
  rw [e] at h
  refine ⟨?_, ?_⟩ <;> rintro rfl <;> simp [Ideal.cmp] at h

/-- An array all of whose absolute values are below infinity holds real numbers. -/
theorem fin_of_all {s : Shape} {axes : List (Fin s.rank)} (x : FVec Ideal s .f32) (y : FVec Ideal s .f32) (v : IVec Cert.Pre_finite.S_ 1)
    (h : s.ReducesTo axes Cert.Pre_finite.S_) (hu : 0 < Cert.Pre_finite.S_.numel) (hy : ∀ i, y i = Ideal.ofBits .f32 0x7F800000#32)
    (e : Host.reduce IntOp.andi (cmpf .olt (Host.absf x) y) v h hu ix0 = 1#1) (i : s.Idx) : Spec.Fin' (x i) := by
  have h1 := Host.reduce_andi_all _ _ _ _ _ e i
  refine fin_of_lt ?_
  rw [← hy i]
  exact h1

/-- What the precondition says of the arrays it reads. -/
structure Real (m : (ℓ : Loc Cert.KernelIdeal.nD Cert.KernelIdeal.τ Cert.KernelIdeal.sig) → Buf (Elt Ideal) ℓ) (c : Dev Cert.KernelIdeal.nD) : Prop where
  h2 : ∀ i : Cert.KernelIdeal.S128x1024.Idx, Spec.Fin' (m ((c.tc : Thread Cert.KernelIdeal.nD Cert.KernelIdeal.τ).loc Cert.KernelIdeal.main_arg2) i)
  h7 : ∀ i : Cert.KernelIdeal.S1x1024x6144.Idx, Spec.Fin' (m ((c.tc : Thread Cert.KernelIdeal.nD Cert.KernelIdeal.τ).loc Cert.KernelIdeal.main_arg7) i)
  h8 : ∀ i : Cert.KernelIdeal.S1x6144.Idx, Spec.Fin' (m ((c.tc : Thread Cert.KernelIdeal.nD Cert.KernelIdeal.τ).loc Cert.KernelIdeal.main_arg8) i)
  h9 : ∀ i : Cert.KernelIdeal.S1x1024.Idx, Spec.Fin' (m ((c.tc : Thread Cert.KernelIdeal.nD Cert.KernelIdeal.τ).loc Cert.KernelIdeal.main_arg9) i)
  h10 : ∀ i : Cert.KernelIdeal.S1x1024x3080.Idx, Spec.Fin' (m ((c.tc : Thread Cert.KernelIdeal.nD Cert.KernelIdeal.τ).loc Cert.KernelIdeal.main_arg10) i)
  h12 : ∀ i : Cert.KernelIdeal.S1x4.Idx, Spec.Fin' (m ((c.tc : Thread Cert.KernelIdeal.nD Cert.KernelIdeal.τ).loc Cert.KernelIdeal.main_arg12) i)

theorem real_of_pre (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) : Real m c := by
  have e := congrFun (h c) ix0
  dsimp only [Cert.Pre_finite.fn, Cert.Pre_finite.fn_part1] at e
  obtain ⟨e, e12⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e2, e7⟩ := IntOp.andi_eq_one.1 e
  exact ⟨fin_of_all _ _ _ _ _ (fun _ => rfl) e2, fin_of_all _ _ _ _ _ (fun _ => rfl) e7, fin_of_all _ _ _ _ _ (fun _ => rfl) e8,
    fin_of_all _ _ _ _ _ (fun _ => rfl) e9, fin_of_all _ _ _ _ _ (fun _ => rfl) e10, fin_of_all _ _ _ _ _ (fun _ => rfl) e12⟩

end Cert.Proof

end
-- ==== Proof.KerVal.lean ====
/- The kernel's numbers are the reference's, where the weights, the modulation's input and the forget gate's bias are real. -/
module

public import proofs.«01_k».proof.Proof.HostVal
public import proofs.«01_k».proof.Proof.RefVal
public import proofs.«01_k».proof.Proof.Finite

@[expose] public section

set_option maxRecDepth 16384

noncomputable section

namespace Cert.KernelIdeal.Val

open Idealize.ShloMosaic Idealize.ShloMosaic.TcCoe Idealize.SL.Sem
open Cert.KernelIdeal.Gen
open Cert.ReferenceIdeal.Val (modR hR zR hX zX fX iX mX aX wX)

section

variable {x0 : S128x1x1024.Idx → EReal} {x2 : S128x1024.Idx → EReal} {x7 : S1x1024x6144.Idx → EReal} {x8 : S1x6144.Idx → EReal}
  {x9 : S1x1024.Idx → EReal} {x10 : S1x1024x3080.Idx → EReal}

/-- The modulation's three products are one. -/
theorem ada_eq (w : S1024x6144.Idx → EReal) (bias : S1x6144.Idx → EReal) (hw : ∀ k j, w (ix2 k j) = x7 (ix3 0 k j))
    (hb : ∀ j, bias (ix2 0 j) = x8 (ix2 0 j)) (f2 : ∀ i, Spec.Fin' (x2 i)) (f7 : ∀ i, Spec.Fin' (x7 i)) (b : Fin 128) (j : Fin 6144) :
    adaAt x2 w bias b j = modR x2 x7 x8 b j := by
  unfold adaAt modR
  simp only [hw, hb]
  rw [Spec.dot3 (fun k => Spec.silu (x2 (ix2 b k))) (fun k => x7 (ix3 0 k j)) (fun k => Spec.silu_fin (f2 _)) (fun k => f7 _)]

theorem mod_fin (f2 : ∀ i, Spec.Fin' (x2 i)) (f7 : ∀ i, Spec.Fin' (x7 i)) (f8 : ∀ i, Spec.Fin' (x8 i)) (b : Fin 128) (j : Fin 6144) :
    Spec.Fin' (modR x2 x7 x8 b j) :=
  (Spec.Fin'.sum _ fun k => (Spec.silu_fin (f2 _)).mul (f7 _)).add (f8 _)

/-- A square is never negative. -/
theorem sq_nonneg' (x : EReal) : 0 ≤ x * x := by
  induction x using EReal.rec with
  | bot => simp
  | top => simp
  | coe r => exact_mod_cast mul_self_nonneg r

/-- A number times the reciprocal root of a mean of squares it is one of: real, and zero where the number is infinite. -/
theorem normed_fin (f : Fin 1024 → EReal) (k : Fin 1024) :
    Spec.Fin' (f k * Ideal.rsqrt (Ideal.div (∑ j, f j * f j) (Ideal.ofBits .f32 0x44800000#32) + Ideal.ofBits .f32 0x358637BD#32)) := by
  have e1 : Ideal.ofBits .f32 0x44800000#32 = ((1024 : ℝ) : EReal) := by simp [Ideal.ofBits, Ideal.ieee, -EReal.coe_mul]; norm_num
  obtain ⟨r, hr, e2⟩ : ∃ r : ℝ, 0 < r ∧ Ideal.ofBits .f32 0x358637BD#32 = (r : EReal) := by
    refine ⟨_, ?_, by simp [Ideal.ofBits, Ideal.ieee, -EReal.coe_mul]; rfl⟩
    positivity
  rw [e1, e2]
  have hS : 0 ≤ ∑ j, f j * f j := Finset.sum_nonneg fun j _ => sq_nonneg' (f j)
  have hk : f k * f k ≤ ∑ j, f j * f j := Finset.single_le_sum (f := fun j => f j * f j) (fun j _ => sq_nonneg' (f j)) (Finset.mem_univ k)
  generalize (∑ j, f j * f j) = S at hS hk
  induction S using EReal.rec with
  | bot => simp at hS
  | top =>
    have : Ideal.div ⊤ ((1024 : ℝ) : EReal) + (r : EReal) = ⊤ := by
      have h0 : ((1024 : ℝ) : EReal) ≠ 0 := by simp
      rw [Ideal.div, if_neg h0, ← EReal.coe_inv, EReal.top_mul_coe_of_pos (by norm_num)]
      rfl
    rw [this, Ideal.rsqrt_top, mul_zero]
    exact Spec.Fin'.coe 0
  | coe s =>
    have hs : (0 : ℝ) ≤ s := by exact_mod_cast hS
    have hfk : Spec.Fin' (f k) := by
      refine ⟨fun e => ?_, fun e => ?_⟩ <;> rw [e] at hk <;> simp at hk
    refine hfk.mul (Spec.rsqrt_fin ?_)
    have : Ideal.div (s : EReal) ((1024 : ℝ) : EReal) = ((s / 1024 : ℝ) : EReal) := by
      have h0 : ((1024 : ℝ) : EReal) ≠ 0 := by simp
      rw [Ideal.div, if_neg h0, ← EReal.coe_inv, ← EReal.coe_mul, div_eq_mul_inv]
    rw [this]
    exact_mod_cast (by positivity : (0 : ℝ) < s / 1024 + r)

theorem h_fin (f2 : ∀ i, Spec.Fin' (x2 i)) (f7 : ∀ i, Spec.Fin' (x7 i)) (f8 : ∀ i, Spec.Fin' (x8 i)) (f9 : ∀ i, Spec.Fin' (x9 i))
    (b : Fin 128) (k : Fin 1024) : Spec.Fin' (hX x0 x2 x7 x8 x9 b k) := by
  have h1 : Spec.Fin' (1 : EReal) := Spec.Fin'.coe 1
  exact (((normed_fin (fun j => x0 (ix3 b 0 j)) k).mul (f9 _)).mul (h1.add (mod_fin f2 f7 f8 _ _))).add (mod_fin f2 f7 f8 _ _)

theorem z_fin (f2 : ∀ i, Spec.Fin' (x2 i)) (f7 : ∀ i, Spec.Fin' (x7 i)) (f8 : ∀ i, Spec.Fin' (x8 i)) (f9 : ∀ i, Spec.Fin' (x9 i))
    (f10 : ∀ i, Spec.Fin' (x10 i)) (b : Fin 128) (j : Fin 3080) : Spec.Fin' (zX x0 x2 x7 x8 x9 x10 b j) :=
  Spec.Fin'.sum _ fun k => (h_fin f2 f7 f8 f9 b k).mul (f10 _)

/-- The modulated row, read from the arguments. -/
theorem hA_eq (x : S128x1024.Idx → EReal) (mo : S128x6144.Idx → EReal) (g : S1x1024.Idx → EReal) (hx : ∀ b k, x (ix2 b k) = x0 (ix3 b 0 k))
    (hm : ∀ b j, mo (ix2 b j) = modR x2 x7 x8 b j) (hg : ∀ k, g (ix2 0 k) = x9 (ix2 0 k)) (b : Fin 128) (k : Fin 1024) :
    hA x mo g b k = hX x0 x2 x7 x8 x9 b k := by
  unfold hA hX hR
  simp only [hx, hm, hg]

variable (x : S128x1024.Idx → EReal) (mo : S128x6144.Idx → EReal) (g : S1x1024.Idx → EReal)
  (hh : ∀ b k, hA x mo g b k = hX x0 x2 x7 x8 x9 b k) (fh : ∀ b k, Spec.Fin' (hX x0 x2 x7 x8 x9 b k)) (f10 : ∀ i, Spec.Fin' (x10 i))
include hh fh f10

/-- The projection's three products are one. -/
theorem pr_eq (w wl : S1024x3072.Idx → EReal) (j : Fin 3072) (j' : Fin 3080) (hw : ∀ k, w (ix2 k j) = x10 (ix3 0 k j'))
    (hl : ∀ k, wl (ix2 k j) = selfSub (w (ix2 k j))) (b : Fin 128) : prA x mo g w wl b j = zX x0 x2 x7 x8 x9 x10 b j' := by
  unfold prA
  simp only [hl, hw, hh]
  exact Spec.dot3 (fun k => hX x0 x2 x7 x8 x9 b k) (fun k => x10 (ix3 0 k j')) (fun k => fh b k) (fun k => f10 _)

/-- The gates' three products are one. -/
theorem ga_eq (w wl : S1024x128.Idx → EReal) (bias : S1x128.Idx → EReal) (j : Fin 128) (j' : Fin 3080) (v : EReal)
    (hw : ∀ k, w (ix2 k j) = x10 (ix3 0 k j')) (hl : ∀ k, wl (ix2 k j) = selfSub (w (ix2 k j))) (hb : bias (ix2 0 j) = v) (b : Fin 128) :
    gaA x mo g w wl bias b j = zX x0 x2 x7 x8 x9 x10 b j' + v := by
  unfold gaA
  simp only [hl, hw, hh, hb]
  rw [Spec.dot3 (fun k => hX x0 x2 x7 x8 x9 b k) (fun k => x10 (ix3 0 k j')) (fun k => fh b k) (fun k => f10 _)]
  rfl

/-- The transposed keys' three products are one. -/
theorem ktA_eq (w wl : S512x1024.Idx → EReal) (d : Fin 512) (j' : Fin 3080) (hw : ∀ k, w (ix2 d k) = x10 (ix3 0 k j'))
    (hl : ∀ k, wl (ix2 d k) = selfSub (w (ix2 d k))) (b : Fin 128) :
    ktA x mo g w wl d b = zX x0 x2 x7 x8 x9 x10 b j' * Ideal.ofBits .f32 0x3DB504F3#32 := by
  unfold ktA
  simp only [hl, hw, hh]
  rw [Spec.dot3' (fun k => hX x0 x2 x7 x8 x9 b k) (fun k => x10 (ix3 0 k j')) (fun k => fh b k) (fun k => f10 _)]
  rfl

end

/-! ## The four results -/

section

variable (m : (ℓ : Loc nD τ sig) → Buf (Elt Ideal) ℓ) (ρ : Dev nD → PrngReg) (c : Dev nD)

/-- An argument of the program. -/
abbrev arg (r : Ref sig .tc) : Buf (Elt Ideal) ((c : Thread nD τ).loc r) := m ((c : Thread nD τ).loc r)

/-- The reference's row, projection, gates, maximum and weights, of the program's arguments. -/
abbrev hM (b : Fin 128) (k : Fin 1024) : EReal :=
  hX (arg m c main_arg0) (arg m c main_arg2) (arg m c main_arg7) (arg m c main_arg8) (arg m c main_arg9) b k
abbrev zM (b : Fin 128) (j : Fin 3080) : EReal :=
  zX (arg m c main_arg0) (arg m c main_arg2) (arg m c main_arg7) (arg m c main_arg8) (arg m c main_arg9) (arg m c main_arg10) b j
abbrev fM (b : Fin 128) (h : Fin 4) : EReal :=
  fX (arg m c main_arg0) (arg m c main_arg2) (arg m c main_arg7) (arg m c main_arg8) (arg m c main_arg9) (arg m c main_arg10) (arg m c main_arg12) b h
abbrev iM (b : Fin 128) (h : Fin 4) : EReal :=
  iX (arg m c main_arg0) (arg m c main_arg2) (arg m c main_arg7) (arg m c main_arg8) (arg m c main_arg9) (arg m c main_arg10) (arg m c main_arg11) b h
abbrev mM (b : Fin 128) (h : Fin 4) : EReal :=
  mX (arg m c main_arg0) (arg m c main_arg2) (arg m c main_arg5) (arg m c main_arg7) (arg m c main_arg8) (arg m c main_arg9) (arg m c main_arg10) (arg m c main_arg11) (arg m c main_arg12) b h
abbrev aM (b : Fin 128) (h : Fin 4) : EReal :=
  aX (arg m c main_arg0) (arg m c main_arg2) (arg m c main_arg5) (arg m c main_arg7) (arg m c main_arg8) (arg m c main_arg9) (arg m c main_arg10) (arg m c main_arg11) (arg m c main_arg12) b h
abbrev wM (b : Fin 128) (h : Fin 4) : EReal :=
  wX (arg m c main_arg0) (arg m c main_arg2) (arg m c main_arg5) (arg m c main_arg7) (arg m c main_arg8) (arg m c main_arg9) (arg m c main_arg10) (arg m c main_arg11) (arg m c main_arg12) b h

variable (hr : Proof.Real m c)
include hr

theorem hM_fin (b : Fin 128) (k : Fin 1024) : Spec.Fin' (hM m c b k) := h_fin hr.h2 hr.h7 hr.h8 hr.h9 b k

theorem fM_fin (b : Fin 128) (h : Fin 4) : Spec.Fin' (fM m c b h) := (z_fin hr.h2 hr.h7 hr.h8 hr.h9 hr.h10 b _).add (hr.h12 _)

theorem row_eq (b : Fin 128) (k : Fin 1024) :
    hA (W14 m ρ c main_v30) (W14 m ρ c main_v29_1) (W14 m ρ c main_v17) b k = hM m c b k :=
  hA_eq _ _ _ (v30_at m ρ c) (fun b j => by
    rw [v29_eq]
    exact ada_eq _ _ (v26_at m ρ c) (v28_at m ρ c) hr.h2 hr.h7 b j) (v17_at m ρ c) b k

/-- The projection the step computes, at a column of the joined weight. -/
theorem proj_eq (b : Fin 128) (j : Fin 3072) :
    prA (W14 m ρ c main_v30) (W14 m ρ c main_v29_1) (W14 m ρ c main_v17) (W14 m ρ c main_v5_0) (W14 m ρ c main_v5_1) b j = zM m c b (col j) := by
  rw [v5_0_eq, v5_1_eq]
  exact pr_eq _ _ _ (row_eq m ρ c hr) (hM_fin m c hr) hr.h10 _ _ j (col j) (fun k => v4_at m ρ c k j) (fun _ => rfl) b

theorem keys_eq (b : Fin 128) (d : Fin 512) :
    ktA (W14 m ρ c main_v30) (W14 m ρ c main_v29_1) (W14 m ρ c main_v17) (W14 m ρ c main_v8_0) (W14 m ρ c main_v8_1) d b
      = zM m c b ⟨512 + d, by omega⟩ * Ideal.ofBits .f32 0x3DB504F3#32 := by
  rw [v8_0_eq, v8_1_eq]
  exact ktA_eq _ _ _ (row_eq m ρ c hr) (hM_fin m c hr) hr.h10 _ _ d _ (fun k => v7_at m ρ c d k) (fun _ => rfl) b

theorem gate_i (b : Fin 128) (h : Fin 4) :
    gaA (W14 m ρ c main_v30) (W14 m ρ c main_v29_1) (W14 m ρ c main_v17) (W14 m ρ c main_v10_0) (W14 m ρ c main_v10_1) (W14 m ρ c main_v15) b ⟨h, by omega⟩
      = iM m c b h := by
  rw [v10_0_eq, v10_1_eq]
  exact ga_eq _ _ _ (row_eq m ρ c hr) (hM_fin m c hr) hr.h10 _ _ _ _ ⟨2048 + h, by omega⟩ _ (fun k => v9_at m ρ c k ⟨h, by omega⟩) (fun _ => rfl)
    (v15_lo m ρ c h) b

theorem gate_f (b : Fin 128) (h : Fin 4) :
    gaA (W14 m ρ c main_v30) (W14 m ρ c main_v29_1) (W14 m ρ c main_v17) (W14 m ρ c main_v10_0) (W14 m ρ c main_v10_1) (W14 m ρ c main_v15) b ⟨4 + h, by omega⟩
      = fM m c b h := by
  rw [v10_0_eq, v10_1_eq]
  refine (ga_eq _ _ _ (row_eq m ρ c hr) (hM_fin m c hr) hr.h10 _ _ _ _ ⟨2048 + (4 + h), by omega⟩ _ (fun k => v9_at m ρ c k ⟨4 + h, by omega⟩) (fun _ => rfl)
    (v15_hi m ρ c h) b).trans ?_
  unfold fM fX
  congr 3
  omega

omit hr in
/-- The gates the step computes, of the arrays it reads. -/
abbrev gates : S128x128.Idx → EReal :=
  k4_pay105 (F := Ideal) (W14 m ρ c main_v30) (W14 m ρ c main_v29_1) (W14 m ρ c main_v17) (W14 m ρ c main_v5_0) (W14 m ρ c main_v5_1) (W14 m ρ c main_v10_0) (W14 m ρ c main_v10_1) (W14 m ρ c main_v15) (W14 m ρ c main_v8_0) (W14 m ρ c main_v8_1) (W14 m ρ c main_v19) (W14 m ρ c main_v21) (W14 m ρ c main_v23) (W14 m ρ c main_v25) (W14 m ρ c main_v35) (W14 m ρ c main_v37) (W14 m ρ c main_v36)

theorem gates_i (b : Fin 128) (h : Fin 4) : gates m ρ c (ix2 b ⟨h, by omega⟩) = iM m c b h :=
  (p105_at _ _ _ _ _ _ _ _ _ _ _ _ _ _ _ _ _ b _).trans (gate_i m ρ c hr b h)

theorem gates_f (b : Fin 128) (h : Fin 4) : gates m ρ c (ix2 b ⟨4 + h, by omega⟩) = fM m c b h :=
  (p105_at _ _ _ _ _ _ _ _ _ _ _ _ _ _ _ _ _ b _).trans (gate_f m ρ c hr b h)

theorem in_eq (b : Fin 128) (h : Fin 4) : inA (gates m ρ c) (W14 m ρ c main_v36) b h = Spec.lsig (fM m c b h) + arg m c main_arg5 (ix3 0 b h) := by
  unfold inA
  rw [gates_f m ρ c hr, v36_at]

theorem mt_eq (b : Fin 128) (h : Fin 4) : mtA (gates m ρ c) (W14 m ρ c main_v36) b h = mM m c b h := by
  unfold mtA igA
  rw [in_eq m ρ c hr, gates_i m ρ c hr]

theorem w_eq (b : Fin 128) (h : Fin 4) : wA (gates m ρ c) (W14 m ρ c main_v36) b h = wM m c b h := by
  unfold wA igA
  rw [mt_eq m ρ c hr, gates_i m ρ c hr]

theorem a_eq (b : Fin 128) (h : Fin 4) : aA (gates m ρ c) (W14 m ρ c main_v36) b h = aM m c b h := by
  unfold aA
  rw [mt_eq m ρ c hr, in_eq m ρ c hr]

theorem v113_eq (b : Fin 128) (h : Fin 4) : W17 m ρ c main_v46 (ix3 0 b h) = mM m c b h := by
  rw [v46_at, arr4_28 (V14 m ρ) c]
  exact (out28_at _ _ _ _ _ _ _ _ _ _ _ _ _ _ _ _ _ b h).trans (mt_eq m ρ c hr b h)

theorem v112_eq (b : Fin 128) (h : Fin 4) (d : Fin 128) : W17 m ρ c main_v44 (ix4 0 b h d)
    = aM m c b h * arg m c main_arg4 (ix4 0 b h d) + wM m c b h * (zM m c b ⟨512 + (h * 128 + d), by omega⟩ * Ideal.ofBits .f32 0x3DB504F3#32) := by
  rw [v44_at, arr4_27 (V14 m ρ) c]
  refine (out27_at _ _ _ _ _ _ _ _ _ _ _ _ _ _ _ _ _ b h d).trans ?_
  refine congrArg₂ (· + ·) (congrArg₂ (· * ·) (a_eq m ρ c hr b h) (v37_at m ρ c b h d)) (congrArg₂ (· * ·) (w_eq m ρ c hr b h) ?_)
  refine (p106_at _ _ _ _ _ _ _ _ _ _ _ _ _ _ _ _ _ b (lane h d)).trans (congrArg (· * Ideal.ofBits .f32 0x3DB504F3#32) ?_)
  refine (proj_eq m ρ c hr b _).trans (congrArg (zM m c b) (Fin.ext ?_))
  unfold col
  have e : (lane h d).1 = h.1 * 128 + d.1 := by show 128 * h.1 + d.1 = _; omega
  rw [dif_pos (show 512 + (lane h d).1 < 2048 by omega)]
  show 512 + (lane h d).1 = _
  rw [e]

theorem v111_eq (b : Fin 128) (h : Fin 4) (d e : Fin 128) : W17 m ρ c main_v43 (ix5 0 b h d e)
    = aM m c b h * arg m c main_arg3 (ix5 0 b h d e)
      + wM m c b h * (zM m c b ⟨512 + (h * 128 + d), by omega⟩ * Ideal.ofBits .f32 0x3DB504F3#32) * zM m c b ⟨1024 + (h * 128 + e), by omega⟩ := by
  rw [v43_at, state_out (V15 m ρ) c]
  show stA (W15 m ρ c main_v38_1) (W15 m ρ c main_v38_2) (W15 m ρ c main_v38_3) (W15 m ρ c main_v34) b h d e = _
  have e1 := (W15_arr m ρ c 18).trans (arr4_18 (V14 m ρ) c)
  have e2 := (W15_arr m ρ c 19).trans (arr4_19 (V14 m ρ) c)
  have e3 := (W15_arr m ρ c 20).trans (arr4_20 (V14 m ρ) c)
  have k1 : W15 m ρ c main_v38_1 (ix2 (lane h d) b) = zM m c b ⟨512 + (h * 128 + d), by omega⟩ * Ideal.ofBits .f32 0x3DB504F3#32 := by
    refine ((congrFun e1 _).trans (kt_at _ _ _ _ _ _ _ _ _ _ _ _ _ _ _ _ _ (lane h d) b)).trans ((keys_eq m ρ c hr b (lane h d)).trans ?_)
    congr 3
    show 512 + (128 * h.1 + d.1) = 512 + (h.1 * 128 + d.1)
    omega
  have k2 : W15 m ρ c main_v38_2 (ix2 b (lane h e)) = zM m c b ⟨1024 + (h * 128 + e), by omega⟩ * wM m c b h := by
    refine ((congrFun e2 _).trans (out19_at _ _ _ _ _ _ _ _ _ _ _ _ _ _ _ _ _ b h e)).trans ?_
    rw [p104_at]
    erw [w_eq m ρ c hr b h, proj_eq m ρ c hr b]
    congr 2
    apply Fin.ext
    unfold col
    rw [dif_pos (show 1024 + 128 * h.1 + e.1 < 2048 by omega)]
    show 1024 + 128 * h.1 + e.1 = 1024 + (h.1 * 128 + e.1)
    omega
  have k3 : W15 m ρ c main_v38_3 (ix2 b (lane h e)) = aM m c b h :=
    ((congrFun e3 _).trans (out20_at _ _ _ _ _ _ _ _ _ _ _ _ _ _ _ _ _ b h e)).trans (a_eq m ρ c hr b h)
  unfold stA
  rw [k1, k2, k3, v34_at]
  refine congrArg (aM m c b h * arg m c main_arg3 (ix5 0 b h d e) + ·) ?_
  generalize zM m c b ⟨512 + (h * 128 + d), by omega⟩ * Ideal.ofBits .f32 0x3DB504F3#32 = p
  generalize zM m c b ⟨1024 + (h * 128 + e), by omega⟩ = q
  rw [mul_comm q, ← mul_assoc, mul_comm p]

theorem v114_eq (b : Fin 128) (s : Fin 30) (j : Fin 512) : W17 m ρ c main_v47 (ix4 0 b s j)
    = if h : 1 + s.1 < 30 then arg m c main_arg6 (ix4 0 b ⟨1 + s, h⟩ j)
      else zM m c b ⟨2056 + j, by omega⟩ * Spec.sig (zM m c b ⟨2568 + j, by omega⟩) := by
  rw [v47_at, arr4_26 (V14 m ρ) c]
  split
  · rfl
  · refine (out26_at _ _ _ _ _ _ _ _ _ _ _ _ _ _ _ _ _ b j).trans ?_
    have c1 : col ⟨2048 + j, by omega⟩ = ⟨2056 + j, by omega⟩ := by
      apply Fin.ext
      unfold col
      rw [dif_neg (show ¬ 2048 + j.1 < 2048 by omega)]
      show 2056 + (2048 + j.1 - 2048) = 2056 + j.1
      omega
    have c2 : col ⟨2560 + j, by omega⟩ = ⟨2568 + j, by omega⟩ := by
      apply Fin.ext
      unfold col
      rw [dif_neg (show ¬ 2560 + j.1 < 2048 by omega)]
      show 2056 + (2560 + j.1 - 2048) = 2568 + j.1
      omega
    exact congrArg₂ (fun p q => p * Spec.sig q)
      ((p104_at _ _ _ _ _ _ _ _ _ _ _ _ _ _ _ _ _ b _).trans ((proj_eq m ρ c hr b _).trans (congrArg (zM m c b) c1)))
      ((p104_at _ _ _ _ _ _ _ _ _ _ _ _ _ _ _ _ _ b _).trans ((proj_eq m ρ c hr b _).trans (congrArg (zM m c b) c2)))

/-! The arrays whole. -/

theorem res_111 : W17 m ρ c main_v43 = Cert.ReferenceIdeal.Read.val_main_v111 (F := Ideal) (arg m c main_arg0) (arg m c main_arg2) (arg m c main_arg3) (arg m c main_arg5) (arg m c main_arg7) (arg m c main_arg8) (arg m c main_arg9) (arg m c main_arg10) (arg m c main_arg11) (arg m c main_arg12) := by
  funext i
  idx_vars i
  obtain rfl : i0 = 0 := Subsingleton.elim (α := Fin 1) _ _
  exact (v111_eq m ρ c hr i1 i2 i3 i4).trans (Cert.ReferenceIdeal.Val.v111_at (arg m c main_arg0) (arg m c main_arg2) (arg m c main_arg3) (arg m c main_arg5) (arg m c main_arg7) (arg m c main_arg8) (arg m c main_arg9) (arg m c main_arg10) (arg m c main_arg11) (arg m c main_arg12) i1 i2 i3 i4 (fM_fin m c hr i1 i2)).symm

theorem res_112 : W17 m ρ c main_v44 = Cert.ReferenceIdeal.Read.val_main_v112 (F := Ideal) (arg m c main_arg0) (arg m c main_arg2) (arg m c main_arg4) (arg m c main_arg5) (arg m c main_arg7) (arg m c main_arg8) (arg m c main_arg9) (arg m c main_arg10) (arg m c main_arg11) (arg m c main_arg12) := by
  funext i
  idx_vars i
  obtain rfl : i0 = 0 := Subsingleton.elim (α := Fin 1) _ _
  exact (v112_eq m ρ c hr i1 i2 i3).trans (Cert.ReferenceIdeal.Val.v112_at (arg m c main_arg0) (arg m c main_arg2) (arg m c main_arg4) (arg m c main_arg5) (arg m c main_arg7) (arg m c main_arg8) (arg m c main_arg9) (arg m c main_arg10) (arg m c main_arg11) (arg m c main_arg12) i1 i2 i3 (fM_fin m c hr i1 i2)).symm

theorem res_113 : W17 m ρ c main_v46 = Cert.ReferenceIdeal.Read.val_main_v113 (F := Ideal) (arg m c main_arg0) (arg m c main_arg2) (arg m c main_arg5) (arg m c main_arg7) (arg m c main_arg8) (arg m c main_arg9) (arg m c main_arg10) (arg m c main_arg11) (arg m c main_arg12) := by
  funext i
  idx_vars i
  obtain rfl : i0 = 0 := Subsingleton.elim (α := Fin 1) _ _
  exact (v113_eq m ρ c hr i1 i2).trans (Cert.ReferenceIdeal.Val.v113_at (arg m c main_arg0) (arg m c main_arg2) (arg m c main_arg5) (arg m c main_arg7) (arg m c main_arg8) (arg m c main_arg9) (arg m c main_arg10) (arg m c main_arg11) (arg m c main_arg12) i1 i2 (fM_fin m c hr i1 i2)).symm

theorem res_114 : W17 m ρ c main_v47 = Cert.ReferenceIdeal.Read.val_main_v114 (F := Ideal) (arg m c main_arg0) (arg m c main_arg2) (arg m c main_arg6) (arg m c main_arg7) (arg m c main_arg8) (arg m c main_arg9) (arg m c main_arg10) := by
  funext i
  idx_vars i
  obtain rfl : i0 = 0 := Subsingleton.elim (α := Fin 1) _ _
  exact (v114_eq m ρ c hr i1 i2 i3).trans (Cert.ReferenceIdeal.Val.v114_at (arg m c main_arg0) (arg m c main_arg2) (arg m c main_arg6) (arg m c main_arg7) (arg m c main_arg8) (arg m c main_arg9) (arg m c main_arg10) i1 i2 i3).symm

end

end Cert.KernelIdeal.Val

end
-- ==== Proof.Conv.lean ====
/- The step before the state: its convolution, normed. -/
module

public import proofs.«01_k».proof.Proof.PreVal
public import proofs.«01_k».proof.Proof.Arrays

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen

/-- A row less its mean, over the root of its variance, weighted and shifted. -/
def normed (y : Fin 512 → EReal) (g s : EReal) (j : Fin 512) : EReal :=
  (y j - Ideal.div (∑ k, y k) (Ideal.ofBits .f32 0x44000000#32))
    * Ideal.rsqrt (Ideal.div (∑ k, (y k - Ideal.div (∑ k, y k) (Ideal.ofBits .f32 0x44000000#32)) * (y k - Ideal.div (∑ k, y k) (Ideal.ofBits .f32 0x44000000#32)))
        (Ideal.ofBits .f32 0x44000000#32) + Ideal.ofBits .f32 0x358637BD#32) * g + s

/-- The convolution's newest three rows. -/
theorem pay15_at (A B : FVec Ideal S128x512 .f32) (v87 v91 : Vec Ideal S1x512 .f32) (v96 : Vec Ideal S1x128x512 .f32) (v98 : Vec Ideal S1x512 .f32)
    (v103 : Vec Ideal S1x128x512 .f32) (v105 : Vec Ideal S1x512 .f32) (b : Fin 128) (j : Fin 512) :
    k4_pay15 (F := Ideal) A B (Scalar.ofBits .f32 0x00000000#32) v87 v91 v96 v98 v103 v105 (ix2 b j)
      = v87 (ix2 0 j) + A (ix2 b j) * Spec.sig (B (ix2 b j)) * v91 (ix2 0 j) + v96 (ix3 0 b j) * v98 (ix2 0 j) + v103 (ix3 0 b j) * v105 (ix2 0 j) := by
  pointwise [k4_pay15, k4_pay14]
  simp only [Spec.sig, zero_sub]

/-- Five rows more. -/
theorem pay18_at (A B : FVec Ideal S128x512 .f32) (w : FVec Ideal S1x512 .f32) (c1 : Vec Ideal S1x128x512 .f32) (w1 : Vec Ideal S1x512 .f32)
    (c2 : Vec Ideal S1x128x512 .f32) (w2 : Vec Ideal S1x512 .f32) (c3 : Vec Ideal S1x128x512 .f32) (w3 : Vec Ideal S1x512 .f32)
    (c4 : Vec Ideal S1x128x512 .f32) (w4 : Vec Ideal S1x512 .f32) (b : Fin 128) (j : Fin 512) :
    k4_pay18 (F := Ideal) A B w c1 w1 c2 w2 c3 w3 c4 w4 (ix2 b j)
      = A (ix2 b j) + B (ix2 b j) * w (ix2 0 j) + c1 (ix3 0 b j) * w1 (ix2 0 j) + c2 (ix3 0 b j) * w2 (ix2 0 j)
        + c3 (ix3 0 b j) * w3 (ix2 0 j) + c4 (ix3 0 b j) * w4 (ix2 0 j) := by
  pointwise [k4_pay18]

/-- Five rows more. -/
theorem pay21_at (A B : FVec Ideal S128x512 .f32) (w : FVec Ideal S1x512 .f32) (c1 : Vec Ideal S1x128x512 .f32) (w1 : Vec Ideal S1x512 .f32)
    (c2 : Vec Ideal S1x128x512 .f32) (w2 : Vec Ideal S1x512 .f32) (c3 : Vec Ideal S1x128x512 .f32) (w3 : Vec Ideal S1x512 .f32)
    (c4 : Vec Ideal S1x128x512 .f32) (w4 : Vec Ideal S1x512 .f32) (b : Fin 128) (j : Fin 512) :
    k4_pay21 (F := Ideal) A B w c1 w1 c2 w2 c3 w3 c4 w4 (ix2 b j)
      = A (ix2 b j) + B (ix2 b j) * w (ix2 0 j) + c1 (ix3 0 b j) * w1 (ix2 0 j) + c2 (ix3 0 b j) * w2 (ix2 0 j)
        + c3 (ix3 0 b j) * w3 (ix2 0 j) + c4 (ix3 0 b j) * w4 (ix2 0 j) := by
  pointwise [k4_pay21]

/-- Five rows more. -/
theorem pay24_at (A B : FVec Ideal S128x512 .f32) (w : FVec Ideal S1x512 .f32) (c1 : Vec Ideal S1x128x512 .f32) (w1 : Vec Ideal S1x512 .f32)
    (c2 : Vec Ideal S1x128x512 .f32) (w2 : Vec Ideal S1x512 .f32) (c3 : Vec Ideal S1x128x512 .f32) (w3 : Vec Ideal S1x512 .f32)
    (c4 : Vec Ideal S1x128x512 .f32) (w4 : Vec Ideal S1x512 .f32) (b : Fin 128) (j : Fin 512) :
    k4_pay24 (F := Ideal) A B w c1 w1 c2 w2 c3 w3 c4 w4 (ix2 b j)
      = A (ix2 b j) + B (ix2 b j) * w (ix2 0 j) + c1 (ix3 0 b j) * w1 (ix2 0 j) + c2 (ix3 0 b j) * w2 (ix2 0 j)
        + c3 (ix3 0 b j) * w3 (ix2 0 j) + c4 (ix3 0 b j) * w4 (ix2 0 j) := by
  pointwise [k4_pay24]

/-- Five rows more. -/
theorem pay27_at (A B : FVec Ideal S128x512 .f32) (w : FVec Ideal S1x512 .f32) (c1 : Vec Ideal S1x128x512 .f32) (w1 : Vec Ideal S1x512 .f32)
    (c2 : Vec Ideal S1x128x512 .f32) (w2 : Vec Ideal S1x512 .f32) (c3 : Vec Ideal S1x128x512 .f32) (w3 : Vec Ideal S1x512 .f32)
    (c4 : Vec Ideal S1x128x512 .f32) (w4 : Vec Ideal S1x512 .f32) (b : Fin 128) (j : Fin 512) :
    k4_pay27 (F := Ideal) A B w c1 w1 c2 w2 c3 w3 c4 w4 (ix2 b j)
      = A (ix2 b j) + B (ix2 b j) * w (ix2 0 j) + c1 (ix3 0 b j) * w1 (ix2 0 j) + c2 (ix3 0 b j) * w2 (ix2 0 j)
        + c3 (ix3 0 b j) * w3 (ix2 0 j) + c4 (ix3 0 b j) * w4 (ix2 0 j) := by
  pointwise [k4_pay27]

/-- Five rows more. -/
theorem pay30_at (A B : FVec Ideal S128x512 .f32) (w : FVec Ideal S1x512 .f32) (c1 : Vec Ideal S1x128x512 .f32) (w1 : Vec Ideal S1x512 .f32)
    (c2 : Vec Ideal S1x128x512 .f32) (w2 : Vec Ideal S1x512 .f32) (c3 : Vec Ideal S1x128x512 .f32) (w3 : Vec Ideal S1x512 .f32)
    (c4 : Vec Ideal S1x128x512 .f32) (w4 : Vec Ideal S1x512 .f32) (b : Fin 128) (j : Fin 512) :
    k4_pay30 (F := Ideal) A B w c1 w1 c2 w2 c3 w3 c4 w4 (ix2 b j)
      = A (ix2 b j) + B (ix2 b j) * w (ix2 0 j) + c1 (ix3 0 b j) * w1 (ix2 0 j) + c2 (ix3 0 b j) * w2 (ix2 0 j)
        + c3 (ix3 0 b j) * w3 (ix2 0 j) + c4 (ix3 0 b j) * w4 (ix2 0 j) := by
  pointwise [k4_pay30]

/-- The last three rows, and the norm. -/
theorem pay33_at (A B : FVec Ideal S128x512 .f32) (w : FVec Ideal S1x512 .f32) (c1 : Vec Ideal S1x128x512 .f32) (w1 : Vec Ideal S1x512 .f32)
    (c2 : Vec Ideal S1x128x512 .f32) (w2 g s : Vec Ideal S1x512 .f32) (b : Fin 128) (j : Fin 512) :
    k4_pay33 (F := Ideal) A B w c1 w1 c2 w2 g s (ix2 b j)
      = normed (fun k => A (ix2 b k) + B (ix2 b k) * w (ix2 0 k) + c1 (ix3 0 b k) * w1 (ix2 0 k) + c2 (ix3 0 b k) * w2 (ix2 0 k))
          (g (ix2 0 j)) (s (ix2 0 j)) j := by
  pointwise [k4_pay33]
  rfl

/-- A number times its logistic value. -/
theorem pay34_at (A : FVec Ideal S128x512 .f32) (b : Fin 128) (j : Fin 512) :
    k4_pay34 (F := Ideal) A (ix2 b j) = Spec.silu (A (ix2 b j)) := by
  pointwise [k4_pay34]
  simp only [Spec.silu, Spec.sig, zero_sub]

/-- The convolution: its bias, the new row and the thirty before it. -/
def convA (c : S30x128x512.Idx → EReal) (w : S31x512.Idx → EReal) (bias : S1x512.Idx → EReal) (u : S128x512.Idx → EReal) (b : Fin 128) (k : Fin 512) : EReal :=
  bias (ix2 0 k) + u (ix2 b k) * w (ix2 30 k) + ∑ s : Fin 30, c (ix3 s b k) * w (ix2 ⟨s, by omega⟩ k)

section

variable (a0 : Vec Ideal S128x1024 .f32)
  (a1 : Vec Ideal S128x6144 .f32)
  (a2 : Vec Ideal S1x1024 .f32)
  (a3 : Vec Ideal S1024x3072 .bf16)
  (a4 : Vec Ideal S1024x3072 .bf16)
  (a5 : Vec Ideal S1024x128 .bf16)
  (a6 : Vec Ideal S1024x128 .bf16)
  (a7 : Vec Ideal S1x128 .f32)
  (a8 : Vec Ideal S512x1024 .bf16)
  (a9 : Vec Ideal S512x1024 .bf16)
  (a10 : Vec Ideal S31x512 .f32)
  (a11 : Vec Ideal S1x512 .f32)
  (a12 : Vec Ideal S1x512 .f32)
  (a13 : Vec Ideal S1x512 .f32)
  (a14 : Vec Ideal S30x128x512 .f32)
  (a15 : Vec Ideal S128x512 .f32)
  (a16 : Vec Ideal S128x128 .f32)

/-- The normed convolution. -/
theorem out25_at (b : Fin 128) (j : Fin 512) :
    out4_25 (F := Ideal) a0 a1 a2 a3 a4 a5 a6 a7 a8 a9 a10 a11 a12 a13 a14 a15 a16 (ix2 b j)
      = Spec.silu (normed (convA a14 a10 a11 (out4_26 (F := Ideal) a0 a1 a2 a3 a4 a5 a6 a7 a8 a9 a10 a11 a12 a13 a14 a15 a16) b) (a12 (ix2 0 j)) (a13 (ix2 0 j)) j) := by
  frame_out
  rw [pay34_at, pay33_at]
  simp only [pay30_at, pay27_at, pay24_at, pay21_at, pay18_at, pay15_at]
  refine congrArg Spec.silu (congrArg (fun y => normed y (a12 (ix2 0 j)) (a13 (ix2 0 j)) j) (funext fun k => ?_))
  unfold convA
  erw [pay14_at]
  simp only [Fin.sum_univ_castSucc, Fin.sum_univ_zero, zero_add, ← add_assoc]
  pointwise [k4_pay16, k4_pay17, k4_pay19, k4_pay20, k4_pay22, k4_pay23, k4_pay25, k4_pay26, k4_pay28, k4_pay29, k4_pay31, k4_pay32]
  rfl

end

end Cert.KernelIdeal.Val

end
-- ==== Proof.ConvRef.lean ====
/- The reference's convolution, normed, at an entry. -/
module

public import proofs.«01_k».proof.Proof.RefVal
public import proofs.«01_k».proof.Proof.Conv

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read

/-- The convolution's argument: the rows kept, then the new row. -/
def uX (x0 : S128x1x1024.Idx → EReal) (x2 : S128x1024.Idx → EReal) (x7 : S1x1024x6144.Idx → EReal) (x8 : S1x6144.Idx → EReal)
    (x9 : S1x1024.Idx → EReal) (x10 : S1x1024x3080.Idx → EReal) (b : Fin 128) (j : Fin 512) : EReal :=
  zX x0 x2 x7 x8 x9 x10 b ⟨2056 + j, by omega⟩ * Spec.sig (zX x0 x2 x7 x8 x9 x10 b ⟨2568 + j, by omega⟩)

section

variable (x0 : (⟨S128x1x1024, .f32⟩ : BufTy).Contents (Elt Ideal)) (x2 : (⟨S128x1024, .f32⟩ : BufTy).Contents (Elt Ideal))
  (x3 : (⟨S1x128x4x128x128, .f32⟩ : BufTy).Contents (Elt Ideal)) (x4 : (⟨S1x128x4x128, .f32⟩ : BufTy).Contents (Elt Ideal))
  (x5 : (⟨S1x128x4, .f32⟩ : BufTy).Contents (Elt Ideal)) (x6 : (⟨S1x128x30x512, .f32⟩ : BufTy).Contents (Elt Ideal))
  (x7 : (⟨S1x1024x6144, .f32⟩ : BufTy).Contents (Elt Ideal)) (x8 : (⟨S1x6144, .f32⟩ : BufTy).Contents (Elt Ideal))
  (x9 : (⟨S1x1024, .f32⟩ : BufTy).Contents (Elt Ideal)) (x10 : (⟨S1x1024x3080, .f32⟩ : BufTy).Contents (Elt Ideal))
  (x11 x12 : (⟨S1x4, .f32⟩ : BufTy).Contents (Elt Ideal))
  (x13 : (⟨S1x31x1x512, .f32⟩ : BufTy).Contents (Elt Ideal)) (x14 x15 x16 : (⟨S1x512, .f32⟩ : BufTy).Contents (Elt Ideal))

/-- The convolution: the new row, the thirty before it, and the bias. -/
def convX (b : Fin 128) (k : Fin 512) : EReal :=
  x14 (ix2 0 k) + uX x0 x2 x7 x8 x9 x10 b k * x13 (ix4 0 30 0 k) + ∑ s : Fin 30, x6 (ix4 0 b s k) * x13 (ix4 0 ⟨s, by omega⟩ 0 k)

theorem v118_at (b : Fin 128) (s : Fin 31) (k : Fin 512) : val_main_v118 (F := Ideal) x0 x2 x6 x7 x8 x9 x10 x13 (ix3 b s k)
    = (if h : s.1 < 30 then x6 (ix4 0 b ⟨s, h⟩ k) else uX x0 x2 x7 x8 x9 x10 b k) * x13 (ix4 0 s 0 k) := by
  pointwise [val_main_v118, val_main_v117, val_main_v116, val_main_v115, val_main_v109, val_main_v3]
  split
  · rfl
  · rw [← show _ = uX x0 x2 x7 x8 x9 x10 b k from v108_at x0 x2 x7 x8 x9 x10 b k]
    congr 3
    apply Fin.ext
    show s.1 - 30 = 0
    omega

theorem v123_at (b : Fin 128) (k : Fin 512) : val_main_v123 (F := Ideal) x0 x2 x6 x7 x8 x9 x10 x13 x14 (ix2 b k)
    = convX x0 x2 x6 x7 x8 x9 x10 x13 x14 b k := by
  pointwise [val_main_v123, val_main_v119, val_main_cst_9, val_main_v120, val_main_v121, val_main_v122]
  simp only [v118_at]
  unfold convX
  rw [Fin.sum_univ_castSucc, dif_neg (show ¬ (Fin.last 30).1 < 30 by decide), add_assoc, add_comm, add_comm (uX x0 x2 x7 x8 x9 x10 b k * _)]
  refine congrArg (_ + ·) (Finset.sum_congr rfl fun s _ => ?_)
  rw [dif_pos (show s.castSucc.1 < 30 from s.isLt)]
  rfl

theorem v150_at (b : Fin 128) (j : Fin 512) : val_main_v150 (F := Ideal) x0 x2 x6 x7 x8 x9 x10 x13 x14 x15 x16 (ix2 b j)
    = Spec.silu (Cert.KernelIdeal.Val.normed (convX x0 x2 x6 x7 x8 x9 x10 x13 x14 b) (x15 (ix2 0 j)) (x16 (ix2 0 j)) j) := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_cst_10, val_main_cst_11, val_main_cst_12, val_main_cst_13, val_main_cst_14, val_main_call5_v0, val_main_call5_v1, val_main_call5_v2, val_main_call5_v3, val_main_call5_v4, val_main_call5_v5, val_main_call5_cst, val_main_call5_cst_0]
  simp only [v123_at]
  rfl

end

end Cert.ReferenceIdeal.Val

end
-- ==== Proof.ConvVal.lean ====
/- The normed convolution is the reference's. -/
module

public import proofs.«01_k».proof.Proof.KerVal
public import proofs.«01_k».proof.Proof.ConvRef

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen
open Cert.ReferenceIdeal.Val (uX convX)

section

variable (V : (c : Dev nD) → (b : Ref sig .tc) → Buf (Elt Ideal) ((c : Thread nD τ).loc b))

theorem index4_25 : ∀ t : Fin cfg4.N, win4_25.index t = ![0, 0] := by decide +kernel

set_option maxHeartbeats 1000000 in
/-- The array of the normed convolution. -/
theorem arr4_25 (c : Dev nD) :
    (dat4 V c).arrAt 25 cfg4.N = out4_25 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) := by
  refine (dat4 V c).arrAt_eq_of_covers 25 _ (by decide +kernel) fun t hf y => ?_
  rw [after4_25, blk4_0, blk4_1, blk4_2, blk4_3, blk4_4, blk4_5, blk4_6, blk4_7, blk4_8, blk4_9, blk4_10, blk4_11, blk4_12, blk4_13, blk4_14, blk4_15, blk4_16]
  generalize out4_25 (F := Ideal) (V c main_v30) (V c main_v29_1) (V c main_v17) (V c main_v5_0) (V c main_v5_1) (V c main_v10_0) (V c main_v10_1) (V c main_v15) (V c main_v8_0) (V c main_v8_1) (V c main_v19) (V c main_v21) (V c main_v23) (V c main_v25) (V c main_v35) (V c main_v37) (V c main_v36) = G
  blk_simp
  idx_vars y
  blk_ext [index4_25 t]

end

variable (m : (ℓ : Loc nD τ sig) → Buf (Elt Ideal) ℓ) (ρ : Dev nD → PrngReg) (c : Dev nD)

/-! What the convolution takes, in terms of the arguments. -/

theorem v19_at (s : Fin 31) (k : Fin 512) : W14 m ρ c main_v19 (ix2 s k) = arg m c main_arg13 (ix4 0 s 0 k) := by
  rw [keep_14 m ρ c main_v19 (by decide) (by decide) (by decide), W11_of m ρ c main_v19 (by decide +kernel)]
  after_reads_at
  exact congrFun (W7_args m ρ c main_arg13 (by decide)) _

theorem v21_at (k : Fin 512) : W14 m ρ c main_v21 (ix2 0 k) = arg m c main_arg14 (ix2 0 k) := by
  rw [keep_14 m ρ c main_v21 (by decide) (by decide) (by decide), W11_of m ρ c main_v21 (by decide +kernel)]
  after_reads_at
  exact congrFun (W7_args m ρ c main_arg14 (by decide)) _

theorem v23_at (k : Fin 512) : W14 m ρ c main_v23 (ix2 0 k) = arg m c main_arg15 (ix2 0 k) := by
  rw [keep_14 m ρ c main_v23 (by decide) (by decide) (by decide), W11_of m ρ c main_v23 (by decide +kernel)]
  after_reads_at
  exact congrFun (W7_args m ρ c main_arg15 (by decide)) _

theorem v25_at (k : Fin 512) : W14 m ρ c main_v25 (ix2 0 k) = arg m c main_arg16 (ix2 0 k) := by
  rw [keep_14 m ρ c main_v25 (by decide) (by decide) (by decide), W11_of m ρ c main_v25 (by decide +kernel)]
  after_reads_at
  exact congrFun (W7_args m ρ c main_arg16 (by decide)) _

theorem v35_at (s : Fin 30) (b : Fin 128) (k : Fin 512) : W14 m ρ c main_v35 (ix3 s b k) = arg m c main_arg6 (ix4 0 b s k) := by
  after_reads_at
  exact congrFun (W11_args m ρ c main_arg6 (by decide)) _

theorem v38_8_eq : W17 m ρ c main_v38_8 = (dat4 (V14 m ρ) c).arrAt 25 cfg4.N :=
  (W17_of m ρ c main_v38_8 (by decide)).trans ((W16_of m ρ c main_v38_8 (by decide +kernel)).trans (W15_arr m ρ c 25))

section

variable (hr : Proof.Real m c)
include hr

/-- The new row of the convolution is the last of the rows kept. -/
theorem u_eq (b : Fin 128) (k : Fin 512) : (dat4 (V14 m ρ) c).arrAt 26 cfg4.N (ix2 b k)
    = uX (arg m c main_arg0) (arg m c main_arg2) (arg m c main_arg7) (arg m c main_arg8) (arg m c main_arg9) (arg m c main_arg10) b k := by
  have h1 := v47_at m ρ c b 29 k
  have h2 := v114_eq m ρ c hr b 29 k
  rw [dif_neg (by decide)] at h1 h2
  exact h1.symm.trans h2

theorem conv_eq (b : Fin 128) (k : Fin 512) :
    convA (W14 m ρ c main_v35) (W14 m ρ c main_v19) (W14 m ρ c main_v21) ((dat4 (V14 m ρ) c).arrAt 26 cfg4.N) b k
      = convX (arg m c main_arg0) (arg m c main_arg2) (arg m c main_arg6) (arg m c main_arg7) (arg m c main_arg8) (arg m c main_arg9) (arg m c main_arg10)
          (arg m c main_arg13) (arg m c main_arg14) b k := by
  unfold convA convX
  rw [u_eq m ρ c hr b k]
  exact congrArg₂ (· + ·) (congrArg₂ (· + ·) (v21_at m ρ c k) (congrArg (_ * ·) (v19_at m ρ c 30 k)))
    (Finset.sum_congr rfl fun s _ => congrArg₂ (· * ·) (v35_at m ρ c s b k) (v19_at m ρ c ⟨s, by omega⟩ k))

theorem res_150 : W17 m ρ c main_v38_8 = Cert.ReferenceIdeal.Read.val_main_v150 (F := Ideal) (arg m c main_arg0) (arg m c main_arg2) (arg m c main_arg6)
    (arg m c main_arg7) (arg m c main_arg8) (arg m c main_arg9) (arg m c main_arg10) (arg m c main_arg13) (arg m c main_arg14) (arg m c main_arg15) (arg m c main_arg16) := by
  funext i
  idx_vars i
  refine Eq.trans ?_ (Cert.ReferenceIdeal.Val.v150_at _ _ _ _ _ _ _ _ _ _ _ i0 i1).symm
  rw [v38_8_eq, arr4_25 (V14 m ρ) c]
  refine (out25_at _ _ _ _ _ _ _ _ _ _ _ _ _ _ _ _ _ i0 i1).trans ?_
  rw [← arr4_26 (V14 m ρ) c]
  have e := funext (conv_eq m ρ c hr i0)
  refine congrArg Spec.silu ?_
  refine (congrArg (fun y => normed y _ _ i1) e).trans ?_
  exact congrArg₂ (fun g s => normed _ g s i1) (v23_at m ρ c i1) (v25_at m ρ c i1)

end

end Cert.KernelIdeal.Val

end
-- ==== Proof.Hit.lean ====
/- A row's choice as a number: one in the chosen expert's lane. -/
module

public import Idealize.ShloMosaic.Lib.Pointwise
public import Idealize.ShloMosaic.Lib.ValueIdx
public import Idealize.ShloMosaic.Lib.WordCmp

@[expose] public section

noncomputable section

namespace Cert.Hit

open Idealize.ShloMosaic

/-- One if the lane's number is the row's entry, else zero. -/
def hit (x : EReal) (l : ℕ) : EReal := if ((l : ℝ) : EReal) = x then 1 else 0

/-- A lane's number. -/
theorem lane (l : ℕ) (h : l < 1024) : (FloatOps.sitofp (F := Ideal) .f32 (BitVec.ofNat 32 l) : EReal) = ((l : ℝ) : EReal) := by
  show ((((BitVec.ofNat 32 l).toInt : ℤ) : ℝ) : EReal) = _
  have : (BitVec.ofNat 32 l).toInt = l := by
    rw [BitVec.toInt_eq_toNat_cond, BitVec.toNat_ofNat]; omega
  rw [this]; norm_cast

theorem word_true : (FloatOps.sitofp (F := Ideal) .f32 (BitVec.setWidth 32 (BitVec.ofBool true)) : EReal) = 1 := by
  show ((((BitVec.setWidth 32 (BitVec.ofBool true)).toInt : ℤ) : ℝ) : EReal) = 1
  rw [show (BitVec.setWidth 32 (BitVec.ofBool true)).toInt = 1 from by decide]; norm_num

theorem word_false : (FloatOps.sitofp (F := Ideal) .f32 (BitVec.setWidth 32 (BitVec.ofBool false)) : EReal) = 0 := by
  show ((((BitVec.setWidth 32 (BitVec.ofBool false)).toInt : ℤ) : ℝ) : EReal) = 0
  rw [show (BitVec.setWidth 32 (BitVec.ofBool false)).toInt = 0 from by decide]; norm_num

theorem bit_true : (FloatOps.uitofp (F := Ideal) .f32 (BitVec.ofBool true) : EReal) = 1 := by
  show ((((BitVec.ofBool true).toNat : ℝ)) : EReal) = 1
  rw [show (BitVec.ofBool true).toNat = 1 from by decide]; norm_num

theorem bit_false : (FloatOps.uitofp (F := Ideal) .f32 (BitVec.ofBool false) : EReal) = 0 := by
  show ((((BitVec.ofBool false).toNat : ℝ)) : EReal) = 0
  rw [show (BitVec.ofBool false).toNat = 0 from by decide]; norm_num

/-- The kernel's choice. -/
theorem kernel_hit (l : ℕ) (h : l < 1024) (x : EReal) [Decidable ((FloatOps.sitofp (F := Ideal) .f32 (BitVec.ofNat 32 l) : EReal) = x)] :
    (FloatOps.sitofp (F := Ideal) .f32 (BitVec.setWidth 32 (BitVec.ofBool
      (decide ((FloatOps.sitofp (F := Ideal) .f32 (BitVec.ofNat 32 l) : EReal) = x)))) : EReal) = hit x l := by
  have e := lane l h
  unfold hit
  by_cases hx : ((l : ℝ) : EReal) = x
  · rw [if_pos hx, decide_eq_true (e.trans hx)]; exact word_true
  · rw [if_neg hx, decide_eq_false (fun k => hx (e.symm.trans k))]; exact word_false

/-- The reference's choice. -/
theorem ref_hit (l : ℕ) (h : l < 1024) (x : EReal) [Decidable (x = (FloatOps.sitofp (F := Ideal) .f32 (BitVec.ofNat 32 l) : EReal))] :
    (FloatOps.uitofp (F := Ideal) .f32 (BitVec.ofBool
      (decide (x = (FloatOps.sitofp (F := Ideal) .f32 (BitVec.ofNat 32 l) : EReal)))) : EReal) = hit x l := by
  have e := lane l h
  unfold hit
  by_cases hx : ((l : ℝ) : EReal) = x
  · rw [if_pos hx, decide_eq_true (e.trans hx).symm]; exact bit_true
  · rw [if_neg hx, decide_eq_false (fun k => hx (e.symm.trans k.symm))]; exact bit_false

/-- A choice is a real number. -/
theorem hit_real (x : EReal) (l : ℕ) : ∃ r : ℝ, hit x l = (r : EReal) := by
  unfold hit; split
  · exact ⟨1, by norm_num⟩
  · exact ⟨0, by norm_num⟩

theorem lane_int (l : ℕ) (h : l < 1024) : (BitVec.ofNat 32 l).toInt = l := by
  rw [BitVec.toInt_eq_toNat_cond, BitVec.toNat_ofNat]; omega

/-- The kernel's mark of the columns before a row. -/
theorem kernel_tri (k r : ℕ) (hk : k < 1024) (hr : r < 1024) :
    (FloatOps.sitofp (F := Ideal) .f32 (BitVec.setWidth 32 (IntOp.cmpi .slt (BitVec.ofNat 32 k) (BitVec.ofNat 32 r))) : EReal)
      = if k < r then 1 else 0 := by
  rw [WordCmp.cmpi_slt_eq, lane_int k hk, lane_int r hr]
  by_cases h : k < r
  · rw [if_pos h, decide_eq_true (by omega : (k : ℤ) < r)]; exact word_true
  · rw [if_neg h, decide_eq_false (by omega : ¬ (k : ℤ) < r)]; exact word_false

/-- The reference's mark of the columns before a row. -/
theorem ref_tri (k r : ℕ) (hk : k < 1024) (hr : r < 1024) :
    (FloatOps.uitofp (F := Ideal) .f32 (IntOp.cmpi .slt (BitVec.ofNat 32 k) (BitVec.ofNat 32 r)) : EReal)
      = if k < r then 1 else 0 := by
  rw [WordCmp.cmpi_slt_eq, lane_int k hk, lane_int r hr]
  by_cases h : k < r
  · rw [if_pos h, decide_eq_true (by omega : (k : ℤ) < r)]; exact bit_true
  · rw [if_neg h, decide_eq_false (by omega : ¬ (k : ℤ) < r)]; exact bit_false

/-- A lane from 32 on is nobody's choice where the entry is below 32. -/
theorem hit_zero {x : EReal} (hx : x < ((32 : ℝ) : EReal)) (l : ℕ) (h : 32 ≤ l) : hit x l = 0 := by
  unfold hit
  refine if_neg fun e => ?_
  rw [← e, EReal.coe_lt_coe_iff] at hx
  have : (32 : ℝ) ≤ (l : ℝ) := by exact_mod_cast h
  exact absurd hx (not_lt.2 this)

/-- How many earlier rows of the tile chose a lane's expert. -/
def earlier {n : ℕ} (X : Fin n → Fin 2 → EReal) (r : Fin n) (l : ℕ) : EReal :=
  ∑ k : Fin n, (if k.val < r.val then 1 else 0) * (hit (X k 0) l + hit (X k 1) l)

theorem sum_real {n : ℕ} (f : Fin n → EReal) (h : ∀ k, ∃ r : ℝ, f k = (r : EReal)) : ∃ r : ℝ, ∑ k : Fin n, f k = (r : EReal) := by
  induction n with
  | zero => exact ⟨0, by rw [Fin.sum_univ_zero, EReal.coe_zero]⟩
  | succ n ih =>
    obtain ⟨a, ha⟩ := h 0
    obtain ⟨b, hb⟩ := ih (fun k => f k.succ) fun k => h _
    exact ⟨a + b, by rw [Fin.sum_univ_succ, ha, hb, EReal.coe_add]⟩

theorem earlier_real {n : ℕ} (X : Fin n → Fin 2 → EReal) (r : Fin n) (l : ℕ) : ∃ y : ℝ, earlier X r l = (y : EReal) := by
  refine sum_real _ fun k => ?_
  obtain ⟨a, ha⟩ := hit_real (X k 0) l
  obtain ⟨b, hb⟩ := hit_real (X k 1) l
  rw [ha, hb]
  split
  · exact ⟨a + b, by rw [one_mul, EReal.coe_add]⟩
  · exact ⟨0, by rw [zero_mul, EReal.coe_zero]⟩

/-- A sum over 128 lanes whose last 96 are zero. -/
theorem sum_lanes (f : Fin 128 → EReal) (h : ∀ l : Fin 128, 32 ≤ l.val → f l = 0) : ∑ l : Fin 128, f l = ∑ e : Fin 32, f ⟨e.val, by omega⟩ := by
  rw [Fin.sum_univ_add (a := 32) (b := 96) (fun l : Fin (32 + 96) => f l)]
  have : ∑ i : Fin 96, f (Fin.natAdd 32 i : Fin (32 + 96)) = 0 := Finset.sum_eq_zero fun i _ => h _ (by simp)
  rw [this, add_zero]
  rfl

/-- The row of choice `q`: the sum over the lanes, its rests being nothing. -/
theorem split_sum {n : ℕ} (v : Fin n → EReal) (h : ∀ l, ∃ r : ℝ, v l = (r : EReal)) :
    ∑ l, v l + ∑ l, (v l - v l) + ∑ l, (v l - v l - (v l - v l)) = ∑ l, v l := by
  have e : ∀ l, v l - v l = 0 := fun l => by
    obtain ⟨r, hr⟩ := h l
    rw [hr, ← EReal.coe_sub, sub_self, EReal.coe_zero]
  simp only [e, sub_zero, Finset.sum_const_zero, add_zero]

/-- A chosen place is a real number. -/
theorem lane_real (x : EReal) (hx : x < ((32 : ℝ) : EReal)) (s b e : EReal) (l : ℕ) (hs : l < 32 → ∃ y : ℝ, s = (y : EReal)) (hb : l < 32 → ∃ y : ℝ, b = (y : EReal))
    (he : ∃ y : ℝ, e = (y : EReal)) : ∃ y : ℝ, hit x l * (s + b + e) = (y : EReal) := by
  by_cases h : l < 32
  · obtain ⟨s', hs⟩ := hs h
    obtain ⟨b', hb⟩ := hb h
    obtain ⟨e', he⟩ := he
    obtain ⟨a, ha⟩ := hit_real x l
    exact ⟨a * (s' + b' + e'), by rw [ha, hs, hb, he, EReal.coe_mul, EReal.coe_add, EReal.coe_add]⟩
  · exact ⟨0, by rw [hit_zero hx l (by omega), zero_mul, EReal.coe_zero]⟩

/-- Nothing is word zero. -/
theorem word_zero : (FloatOps.fptosi (F := Ideal) (φ := .f32) 32 (0 : EReal)) = (0#32 : BitVec 32) := by
  show Ideal.fptosi 32 0 = _
  have e : Ideal.fptosi 32 ((0 : ℝ) : EReal) = 0#32 := by
    show BitVec.ofInt 32 (max _ (min _ (if (0 : ℝ) ≤ 0 then ⌊(0 : ℝ)⌋ else ⌈(0 : ℝ)⌉))) = _
    rw [if_pos le_rfl, Int.floor_zero]
    rfl
  exact e

end Cert.Hit

end
-- ==== Proof.Count.lean ====
/- The counts of the chosen experts: none before the one tile, and each expert's rows after it. -/
module

public import proofs.«01_k».proof.Proof.Gen.Kernel3Ideal.Frame
public import proofs.«01_k».proof.Proof.Gen.Reference3Ideal.Read
public import proofs.«01_k».proof.Proof.Hit
public import Idealize.ShloMosaic.Lib.Pipeline.ValueKit
public import Idealize.ShloMosaic.Lib.Pointwise

@[expose] public section

set_option maxRecDepth 16384

noncomputable section

namespace Cert.Kernel3Ideal.Val

open Idealize.ShloMosaic Idealize.ShloMosaic.TcCoe Idealize.SL.Sem
open Idealize.ShloMosaic.Pipeline (Dat)
open Cert.Kernel3Ideal Cert.Kernel3Ideal.Gen Cert.Hit

variable (m : (ℓ : Loc nD τ sig) → Buf (Elt Ideal) ℓ)

/-- The counts after the tile. -/
theorem pay_count (x : Vec Ideal S128x128 .f32) (a : Vec Ideal S8x128 .f32) (s : Fin 8) (l : Fin 128) :
    k0_pay3 (F := Ideal) x a (ix2 s l)
      = a (ix2 s l) + ∑ r : Fin 128, (hit (x (ix2 r 0)) l.val + hit (x (ix2 r 1)) l.val) := by
  pointwise [k0_pay3]
  refine congrArg (_ + ·) (Finset.sum_congr rfl fun r _ => ?_)
  rw [kernel_hit _ (by omega), kernel_hit _ (by omega)]

/-- Before the tile nothing is counted. -/
theorem base_out (c : Dev nD) :
    (dats m 0 c).arrAt 1 cfg0.N = fun _ : S1x8x128.Idx => (0 : EReal) := by
  refine (dats m 0 c).arrAt_eq_of_covers 1 _ (by decide +kernel) fun t hf y => ?_
  blk_simp
  rw [after0_1]
  unfold outsAt0
  frame_out
  pointwise [k0_pay2, k0_pay1]

/-- The one point's windows start at the origin. -/
theorem at0 : ∀ t : Fin cfg0.N, win0_0.index t = ![0, 0] ∧ win0_2.index t = ![0, 0] := by
  decide +kernel

/-- The counts after the tile. -/
theorem tot_out (c : Dev nD) :
    (dats m 0 c).arrAt 2 cfg0.N = fun i : S8x128.Idx =>
      ∑ r : Fin 128, (hit ((V m c main_arg0 : S128x128.Idx → EReal) (ix2 r 0)) (i 1).val + hit ((V m c main_arg0 : S128x128.Idx → EReal) (ix2 r 1)) (i 1).val) := by
  refine (dats m 0 c).arrAt_eq_of_covers 2 _ (by decide +kernel) fun t hf y => ?_
  blk_simp
  rw [after0_2]
  unfold outsAt0
  frame_out
  idx_vars y
  rw [pay_count]
  obtain ⟨e1, e2⟩ := at0 t
  have h1 : ∀ (r : Fin 128) (k : Fin 128), iblk m c 0 t (ix2 r k) = V m c main_arg0 (ix2 r k) := fun r k => by
    blk_ext [iblk, e1]
  simp only [h1, e2]
  have h2 : k0_pay1 (F := Ideal) (ix2 y0 y1) = 0 := by pointwise [k0_pay1]
  rw [h2]
  rw [zero_add]
  have h3 : (![0, 0] : Fin 2 → ℕ) 1 * 128 + y1.val = y1.val := by simp
  rw [h3]

end Cert.Kernel3Ideal.Val

namespace Cert.Reference3Ideal.Val

open Idealize.ShloMosaic Idealize.ShloMosaic.TcCoe
open Cert.Hit Cert.Reference3Ideal Cert.Reference3Ideal.Gen Cert.Reference3Ideal.Read

/-- The reference's counts before the tile. -/
theorem v3_zero : val_main_v3 (F := Ideal) = fun _ => (0 : EReal) := by
  funext i
  pointwise [val_main_v3, val_main_cst_0]

/-- The reference's counts. -/
theorem v5_at (x0 : (⟨S128x128, .f32⟩ : BufTy).Contents (Elt Ideal)) (s : Fin 8) (l : Fin 128) :
    val_main_v5 (F := Ideal) x0 (ix2 s l) = ∑ r : Fin 128, (Hit.hit (x0 (ix2 r 0)) l.val + Hit.hit (x0 (ix2 r 1)) l.val) := by
  pointwise [val_main_v5, val_main_v4, val_main_v3, val_main_v2, val_main_v1, val_main_call0_v4, val_main_call0_v3, val_main_call0_v2, val_main_call0_v1, val_main_call0_v0, val_main_v0,
    val_main_cst, val_main_cst_1]
  refine Finset.sum_congr rfl fun r _ => ?_
  rw [Fin.sum_univ_two]
  exact congrArg₂ (· + ·) (ref_hit _ (by omega) _) (ref_hit _ (by omega) _)

/-- The reference's counts, as an array. -/
theorem v5_eq (x0 : (⟨S128x128, .f32⟩ : BufTy).Contents (Elt Ideal)) :
    val_main_v5 (F := Ideal) x0 = fun i : S8x128.Idx => ∑ r : Fin 128, (Hit.hit (x0 (ix2 r 0)) (i 1).val + Hit.hit (x0 (ix2 r 1)) (i 1).val) := by
  funext i
  idx_vars i
  exact v5_at x0 i0 i1

end Cert.Reference3Ideal.Val

end
-- ==== Proof.Place.lean ====
/- The rows' places in the order of the experts: what each tile of rows writes. -/
module

public import proofs.«01_k».proof.Proof.Gen.Kernel4Ideal.Frame
public import proofs.«01_k».proof.Proof.Hit
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Kernel4Ideal.Val

open Idealize.ShloMosaic Idealize.ShloMosaic.TcCoe Idealize.SL.Sem
open Idealize.ShloMosaic.Pipeline (Dat)
open Cert.Kernel4Ideal Cert.Kernel4Ideal.Gen Cert.Hit

variable (m : (ℓ : Loc nD τ sig) → Buf (Elt Ideal) ℓ)

/-- The scratch's entries: one where the column comes before the row. -/
theorem pay_tri (r k : Fin 512) : k0_pay2 (F := Ideal) (ix2 r k) = if k.val < r.val then 1 else 0 := by
  pointwise [k0_pay2]
  exact kernel_tri _ _ (by omega) (by omega)

/-- A row's place in a lane's expert. -/
theorem pay_place (x : Vec Ideal S512x128 .f32) (sg : Vec Ideal S1x128 .f32) (bs : Vec Ideal S1x8x128 .f32) (r : Fin 512) (l : Fin 128) :
    k0_pay6 (F := Ideal) x (k0_pay2 (F := Ideal)) sg bs (ix2 r l)
      = sg (ix2 0 l) + bs (ix3 0 0 l) + earlier (fun k q => x (ix2 k ⟨q.val, by omega⟩)) r l.val := by
  pointwise [k0_pay6, k0_pay5, k0_pay4, k0_pay3]
  refine congrArg (_ + ·) (Finset.sum_congr rfl fun k _ => ?_)
  rw [pay_tri, kernel_hit _ (by omega), kernel_hit _ (by omega)]
  rfl

/-- The first choice. -/
theorem pay_one (x : Vec Ideal S512x128 .f32) (r : Fin 512) (l : Fin 128) :
    k0_pay4 (F := Ideal) x (ix2 r l) = hit (x (ix2 r 0)) l.val := by
  pointwise [k0_pay4, k0_pay3]
  exact kernel_hit _ (by omega) _

/-- The second choice. -/
theorem pay_two (x : Vec Ideal S512x128 .f32) (r : Fin 512) (l : Fin 128) :
    k0_pay5 (F := Ideal) x (ix2 r l) = hit (x (ix2 r 1)) l.val := by
  pointwise [k0_pay5, k0_pay3]
  exact kernel_hit _ (by omega) _

/-- A row's chosen place, summed over the lanes. -/
def lanes (x : Vec Ideal S512x128 .f32) (sg : Vec Ideal S1x128 .f32) (bs : Vec Ideal S1x8x128 .f32) (r : Fin 512) (q : Fin 2) : EReal :=
  ∑ l : Fin 128, hit (x (ix2 r ⟨q.val, by omega⟩)) l.val
    * (sg (ix2 0 l) + bs (ix3 0 0 l) + earlier (fun k q => x (ix2 k ⟨q.val, by omega⟩)) r l.val)

variable (x : Vec Ideal S512x128 .f32) (sg : Vec Ideal S1x128 .f32) (bs : Vec Ideal S1x8x128 .f32)

/-- The first row of a block. -/
theorem pay_row0 (hx : ∀ (r : Fin 512) (q : Fin 2), x (ix2 r ⟨q.val, by omega⟩) < ((32 : ℝ) : EReal))
    (hs : ∀ l : Fin 128, l.val < 32 → ∃ y : ℝ, sg (ix2 0 l) = (y : EReal)) (hb : ∀ l : Fin 128, l.val < 32 → ∃ y : ℝ, bs (ix3 0 0 l) = (y : EReal))
    (s : Fin 8) (r : Fin 512) :
    k0_pay8 (F := Ideal) x (k0_pay2 (F := Ideal)) sg bs (ix2 s r) = lanes x sg bs r 0 := by
  pointwise [k0_pay8, k0_pay7]
  simp only [pay_one, pay_place]
  exact split_sum _ fun l => lane_real _ (hx r 0) _ _ _ _ (hs l) (hb l) (earlier_real _ _ _)

/-- A block's entry. -/
theorem pay_out (hx : ∀ (r : Fin 512) (q : Fin 2), x (ix2 r ⟨q.val, by omega⟩) < ((32 : ℝ) : EReal))
    (hs : ∀ l : Fin 128, l.val < 32 → ∃ y : ℝ, sg (ix2 0 l) = (y : EReal)) (hb : ∀ l : Fin 128, l.val < 32 → ∃ y : ℝ, bs (ix3 0 0 l) = (y : EReal))
    (s : Fin 8) (r : Fin 512) :
    k0_pay1 (F := Ideal) (k0_pay5 x) (k0_pay6 x (k0_pay2 (F := Ideal)) sg bs) (k0_pay7 (F := Ideal)) (k0_pay8 x (k0_pay2 (F := Ideal)) sg bs) (ix3 0 s r)
      = if h : s.val < 2 then FloatOps.fptosi (F := Ideal) (φ := .f32) 32 (lanes x sg bs r ⟨s.val, h⟩ * Ideal.ofBits FTy.f32 1090519040#32) else 0#32 := by
  pointwise [k0_pay1]
  rw [pay_row0 x sg bs hx hs hb]
  have one : ∀ l : Fin 128, k0_pay7 (F := Ideal) (ix2 s l) = 1 := fun l => by pointwise [k0_pay7]
  simp only [one, one_mul, pay_two, pay_place]
  have e := split_sum (fun l : Fin 128 => hit (x (ix2 r 1)) l.val * (sg (ix2 0 l) + bs (ix3 0 0 l) + earlier (fun k q => x (ix2 k ⟨q.val, by omega⟩)) r l.val))
    fun l => lane_real _ (hx r 1) _ _ _ _ (hs l) (hb l) (earlier_real _ _ _)
  rw [e]
  match s with
  | ⟨0, _⟩ => rfl
  | ⟨1, _⟩ => rfl
  | ⟨s + 2, h⟩ =>
    rw [dif_neg (by simp)]
    have e0 : IntOp.cmpi CmpIPredicate.eq (BitVec.ofNat 32 (s + 2)) 0#32 = 0#1 := by
      refine (BitVec.eq_zero_or_eq_one _).resolve_right fun k => ?_
      have := congrArg BitVec.toNat (IntOp.cmpi_eq.1 k)
      rw [BitVec.toNat_ofNat] at this
      simp at this; omega
    have e1 : IntOp.cmpi CmpIPredicate.eq (BitVec.ofNat 32 (s + 2)) 1#32 = 0#1 := by
      refine (BitVec.eq_zero_or_eq_one _).resolve_right fun k => ?_
      have := congrArg BitVec.toNat (IntOp.cmpi_eq.1 k)
      rw [BitVec.toNat_ofNat] at this
      simp at this; omega
    rw [show (⟨s + 2, h⟩ : Fin 8).val = s + 2 from rfl, e0, e1]
    show FloatOps.fptosi (F := Ideal) (φ := .f32) 32 ((0 : EReal) * _) = _
    rw [zero_mul]
    exact word_zero

/-- The first row of the segments' block. -/
def seg0 (c : Dev nD) (t : Fin cfg0.N) : Vec Ideal S1x128 .f32 := View.ld (iblk m c 2 t) (Rect.unit ![0, 0] ![1, 128] inb_S8x128_S1x128_0_0)

/-- What a point leaves: its block, and the scratch as the first point set it. -/
theorem outs (c : Dev nD) : ∀ (n : ℕ) (h : n < cfg0.N),
    (outsAt0 m c n h).1 = k0_pay1 (F := Ideal) (k0_pay5 (iblk m c 0 ⟨n, h⟩)) (k0_pay6 (iblk m c 0 ⟨n, h⟩) (k0_pay2 (F := Ideal)) (seg0 m c ⟨n, h⟩) (iblk m c 1 ⟨n, h⟩)) (k0_pay7 (F := Ideal))
      (k0_pay8 (iblk m c 0 ⟨n, h⟩) (k0_pay2 (F := Ideal)) (seg0 m c ⟨n, h⟩) (iblk m c 1 ⟨n, h⟩)) ∧ (outsAt0 m c n h).2 = k0_pay2 (F := Ideal) := by
  intro n
  induction n with
  | zero =>
    intro h
    rw [outsAt0_A m c ⟨0, h⟩ (Nat.zero_mod _)]
    dsimp only
    constructor
    · frame_out
      rfl
    · frame_out
  | succ n ih =>
    intro h
    have hN := lt_of_lt_of_eq h (show cfg0.N = 32 from N_0)
    have ih := (ih (Nat.lt_of_succ_lt h)).2
    rw [outsAt0_B m c ⟨n + 1, h⟩ (by show ¬ (n + 1) % 32 = 0; omega)]
    dsimp only
    constructor
    · frame_out
      rw [show View.read (Elt Ideal) (View.whole cc0_scratch0) _ = (outsAt0 m c (n + 1 - 1) (Nat.lt_of_succ_lt h)).2 from (Memref.isWhole_whole _).read_unread _]
      rw [show outsAt0 m c (n + 1 - 1) (Nat.lt_of_succ_lt h) = outsAt0 m c n (Nat.lt_of_succ_lt h) from rfl, ih]
      rfl
    · exact ih

/-- The blocks' places. -/
theorem at0 : ∀ t : Fin cfg0.N, win0_0.index t = ![t.val, 0] ∧ win0_1.index t = ![t.val, 0, 0] ∧ win0_2.index t = ![0, 0] ∧ win0_3.index t = ![t.val, 0, 0] := by
  decide +kernel

/-- The segments' first rows, as the call takes them. -/
theorem seg_at (c : Dev nD) (s : Fin 8) (l : Fin 128) :
    V m c main_v3 (ix2 s l) = if h : l.val < 32 then FloatOps.sitofp (F := Ideal) .f32 (m ((c : Thread nD τ).loc main_arg2) (ix1 ⟨l.val, h⟩)) else 0 := by
  after_reads_at
  split
  · rfl
  · show ((((0#32 : BitVec 32).toInt : ℤ) : ℝ) : EReal) = 0
    simp

/-- Of a row's choice `q` the place: the segment's first row, the rows of the tiles before, and the tile's earlier rows. -/
def placeAt (X : S16384x128.Idx → EReal) (B : S32x8x128.Idx → EReal) (G : S32.Idx → BitVec 32) (t : Fin 32) (r : Fin 512) (q : Fin 2) : EReal :=
  ∑ e : Fin 32, hit (X (ix2 ⟨t.val * 512 + r.val, by omega⟩ ⟨q.val, by omega⟩)) e.val
    * (FloatOps.sitofp (F := Ideal) .f32 (G (ix1 e)) + B (ix3 t 0 ⟨e.val, by omega⟩)
      + earlier (fun k q => X (ix2 ⟨t.val * 512 + k.val, by omega⟩ ⟨q.val, by omega⟩)) r e.val)

/-- The array of the places, eightfold: a tile's first two rows hold its rows' two choices, the others zeros. -/
def placed (X : S16384x128.Idx → EReal) (B : S32x8x128.Idx → EReal) (G : S32.Idx → BitVec 32) : S32x8x512.Idx → BitVec 32 := fun i =>
  if h : (i 1).val < 2 then FloatOps.fptosi (F := Ideal) (φ := .f32) 32 (placeAt X B G (i 0) (i 2) ⟨(i 1).val, h⟩ * Ideal.ofBits FTy.f32 1090519040#32) else 0#32

theorem placed_at (X : S16384x128.Idx → EReal) (B : S32x8x128.Idx → EReal) (G : S32.Idx → BitVec 32) (t : Fin 32) (s : Fin 8) (r : Fin 512) :
    placed X B G (ix3 t s r) = if h : s.val < 2 then FloatOps.fptosi (F := Ideal) (φ := .f32) 32 (placeAt X B G t r ⟨s.val, h⟩ * Ideal.ofBits FTy.f32 1090519040#32) else 0#32 := rfl

/-- Each row's two choices name experts. -/
def Chosen (X : S16384x128.Idx → EReal) : Prop := ∀ (r : Fin 16384) (q : Fin 2), X (ix2 r ⟨q.val, by omega⟩) < ((32 : ℝ) : EReal)

/-- The rows counted before each tile are real numbers. -/
def Counted (B : S32x8x128.Idx → EReal) : Prop := ∀ t e : Fin 32, ∃ y : ℝ, B (ix3 t 0 ⟨e.val, by omega⟩) = (y : EReal)

/-- The places of all rows, eightfold. -/
theorem pos_out (c : Dev nD) (hx : Chosen (m ((c : Thread nD τ).loc main_arg0))) (hb : Counted (m ((c : Thread nD τ).loc main_arg1))) :
    (dats m 0 c).arrAt 3 cfg0.N = placed (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, (outs m c t.val t.isLt).1]
  idx_vars y
  obtain ⟨e0, e1, e2, e3⟩ := at0 t
  have hN := lt_of_lt_of_eq t.isLt (show cfg0.N = 32 from N_0)
  have h0 : ∀ (r : Fin 512) (l : Fin 128), iblk m c 0 t (ix2 r l) = (m ((c : Thread nD τ).loc main_arg0) : S16384x128.Idx → EReal) (ix2 ⟨t.val * 512 + r.val, by omega⟩ l) := fun r l => by
    rw [← V_main_arg0 m c]
    blk_ext [iblk, e0]
  have h1 : ∀ (l : Fin 128), iblk m c 1 t (ix3 0 0 l) = (m ((c : Thread nD τ).loc main_arg1) : S32x8x128.Idx → EReal) (ix3 ⟨t.val, hN⟩ 0 l) := fun l => by
    rw [← V_main_arg1 m c]
    blk_ext [iblk, e1]
  have h2 : ∀ (l : Fin 128), seg0 m c t (ix2 0 l) = V m c main_v3 (ix2 0 l) := fun l => by
    blk_ext [seg0, iblk, e2, View.ld]
    · rfl
    · show 0 + 1 * l.val = l.val
      omega
  obtain rfl : y0 = 0 := Subsingleton.elim _ _
  refine (pay_out (iblk m c 0 t) (seg0 m c t) (iblk m c 1 t) ?_ ?_ ?_ y1 y2).trans ?_
  · intro r q
    rw [h0]
    exact hx _ q
  · intro l hl
    rw [h2, seg_at, dif_pos hl]
    exact ⟨_, rfl⟩
  · intro l hl
    rw [h1]
    exact hb ⟨t.val, hN⟩ ⟨l.val, hl⟩
  have e : ∀ q, lanes (iblk m c 0 t) (seg0 m c t) (iblk m c 1 t) y2 q = placeAt (m ((c : Thread nD τ).loc main_arg0)) (m ((c : Thread nD τ).loc main_arg1))
      (m ((c : Thread nD τ).loc main_arg2)) ⟨t.val, hN⟩ y2 q := fun q => by
    unfold lanes placeAt
    simp only [h0, h1, h2]
    refine (sum_lanes _ fun l hl => ?_).trans (Finset.sum_congr rfl fun e _ => ?_)
    · rw [hit_zero (hx _ q) _ hl, zero_mul]
    · rw [seg_at, dif_pos e.isLt]
  simp only [e]
  refine Eq.trans (b := placed _ _ _ (ix3 ⟨t.val, hN⟩ y1 y2)) rfl (congrArg (placed _ _ _) ?_)
  blk_ext [e3]

end Cert.Kernel4Ideal.Val

end
-- ==== Proof.PlaceRef.lean ====
/- The reference's places, at an entry. -/
module

public import proofs.«01_k».proof.Proof.Gen.Reference4Ideal.Read
public import proofs.«01_k».proof.Proof.Place
public import Idealize.ShloMosaic.Lib.Pointwise

@[expose] public section

set_option maxRecDepth 16384

noncomputable section

namespace Cert.Reference4Ideal.Val

open Idealize.ShloMosaic Idealize.ShloMosaic.TcCoe
open Cert.Hit Cert.Reference4Ideal Cert.Reference4Ideal.Gen Cert.Reference4Ideal.Read

variable (x0 : (⟨S16384x128, .f32⟩ : BufTy).Contents (Elt Ideal)) (x1 : (⟨S32x8x128, .f32⟩ : BufTy).Contents (Elt Ideal))
  (x2 : (⟨S32, .i32⟩ : BufTy).Contents (Elt Ideal))

/-- A row's choice. -/
theorem v2_at (t : Fin 32) (r : Fin 512) (q : Fin 2) (e : Fin 32) :
    val_main_v2 (F := Ideal) x0 (ix4 t r q e) = hit (x0 (ix2 ⟨t.val * 512 + r.val, by omega⟩ ⟨q.val, by omega⟩)) e.val := by
  pointwise [val_main_v2, val_main_call0_v4, val_main_call0_v3, val_main_call0_v2, val_main_call0_v1, val_main_call0_v0, val_main_v1, val_main_v0]
  exact ref_hit _ (by omega) _

/-- The columns before a row. -/
theorem v10_at (r k : Fin 512) : val_main_v10 (F := Ideal) (ix2 r k) = if k.val < r.val then 1 else 0 := by
  pointwise [val_main_v10, val_main_v9, val_main_v8, val_main_v7, val_main_v6, val_main_v5, val_main_v4]
  exact ref_tri _ _ (by omega) (by omega)

/-- A row's place in an expert's segment. -/
theorem v21_at (t : Fin 32) (r : Fin 512) (e : Fin 32) :
    val_main_v21 (F := Ideal) x0 x1 x2 (ix3 t r e)
      = FloatOps.sitofp (F := Ideal) .f32 (x2 (ix1 e)) + x1 (ix3 t 0 ⟨e.val, by omega⟩)
      + earlier (fun k q => x0 (ix2 ⟨t.val * 512 + k.val, by omega⟩ ⟨q.val, by omega⟩)) r e.val := by
  pointwise [val_main_v21, val_main_v20, val_main_v19, val_main_v18, val_main_v17, val_main_v16, val_main_v15, val_main_v14, val_main_v13, val_main_v12, val_main_v11, val_main_v3, val_main_cst]
  rw [← add_assoc]
  refine congrArg (_ + ·) (Finset.sum_congr rfl fun k _ => ?_)
  rw [v10_at, Fin.sum_univ_two, v2_at, v2_at, mul_comm]

/-- A row's place, eightfold. -/
theorem v28_at (t : Fin 32) (r : Fin 512) (q : Fin 2) :
    val_main_v28 (F := Ideal) x0 x1 x2 (ix3 t r q)
      = FloatOps.fptosi (F := Ideal) (φ := .f32) 32 (Kernel4Ideal.Val.placeAt x0 x1 x2 t r q * Ideal.ofBits FTy.f32 1090519040#32) := by
  pointwise [val_main_v28, val_main_v27, val_main_v26, val_main_v25, val_main_v24, val_main_v23, val_main_v22, val_main_cst_0, val_main_cst_1]
  rw [mul_comm]
  refine congrArg (fun z : EReal => FloatOps.fptosi (F := Ideal) (φ := .f32) 32 (z * Ideal.ofBits FTy.f32 1090519040#32)) (Finset.sum_congr rfl fun e _ => ?_)
  rw [v2_at, v21_at]

/-- The reference's array. -/
theorem v30_eq : val_main_v30 (F := Ideal) x0 x1 x2 = Kernel4Ideal.Val.placed x0 x1 x2 := by
  funext i
  idx_vars i
  pointwise [val_main_v30, val_main_v29, val_main_call1_v0]
  rw [Kernel4Ideal.Val.placed_at]
  by_cases h : i1.val < 2
  · rw [dif_pos h, dif_pos h]
    exact v28_at x0 x1 x2 i0 i2 ⟨i1.val, h⟩
  · rw [dif_neg h, dif_neg h]
    rfl

end Cert.Reference4Ideal.Val

end
-- ==== Proof.PlaceS.lean ====
/- The sample group's places in the order of the experts. -/
module

public import proofs.«01_k».proof.Proof.Gen.Kernel5Ideal.Frame
public import proofs.«01_k».proof.Proof.Hit
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Kernel5Ideal.Val

open Idealize.ShloMosaic Idealize.ShloMosaic.TcCoe Idealize.SL.Sem
open Idealize.ShloMosaic.Pipeline (Dat)
open Cert.Kernel5Ideal Cert.Kernel5Ideal.Gen Cert.Hit

variable (m : (ℓ : Loc nD τ sig) → Buf (Elt Ideal) ℓ)

/-- The scratch's entries: one where the column comes before the row. -/
theorem pay_tri (r k : Fin 128) : k0_pay2 (F := Ideal) (ix2 r k) = if k.val < r.val then 1 else 0 := by
  pointwise [k0_pay2]
  exact kernel_tri _ _ (by omega) (by omega)

/-- A row's place in a lane's expert. -/
theorem pay_place (x : Vec Ideal S128x128 .f32) (sg : Vec Ideal S1x128 .f32) (bs : Vec Ideal S1x8x128 .f32) (r : Fin 128) (l : Fin 128) :
    k0_pay6 (F := Ideal) x (k0_pay2 (F := Ideal)) sg bs (ix2 r l)
      = sg (ix2 0 l) + bs (ix3 0 0 l) + earlier (fun k q => x (ix2 k ⟨q.val, by omega⟩)) r l.val := by
  pointwise [k0_pay6, k0_pay5, k0_pay4, k0_pay3]
  refine congrArg (_ + ·) (Finset.sum_congr rfl fun k _ => ?_)
  rw [pay_tri, kernel_hit _ (by omega), kernel_hit _ (by omega)]
  rfl

/-- The first choice. -/
theorem pay_one (x : Vec Ideal S128x128 .f32) (r : Fin 128) (l : Fin 128) :
    k0_pay4 (F := Ideal) x (ix2 r l) = hit (x (ix2 r 0)) l.val := by
  pointwise [k0_pay4, k0_pay3]
  exact kernel_hit _ (by omega) _

/-- The second choice. -/
theorem pay_two (x : Vec Ideal S128x128 .f32) (r : Fin 128) (l : Fin 128) :
    k0_pay5 (F := Ideal) x (ix2 r l) = hit (x (ix2 r 1)) l.val := by
  pointwise [k0_pay5, k0_pay3]
  exact kernel_hit _ (by omega) _

/-- A row's chosen place, summed over the lanes. -/
def lanes (x : Vec Ideal S128x128 .f32) (sg : Vec Ideal S1x128 .f32) (bs : Vec Ideal S1x8x128 .f32) (r : Fin 128) (q : Fin 2) : EReal :=
  ∑ l : Fin 128, hit (x (ix2 r ⟨q.val, by omega⟩)) l.val
    * (sg (ix2 0 l) + bs (ix3 0 0 l) + earlier (fun k q => x (ix2 k ⟨q.val, by omega⟩)) r l.val)

variable (x : Vec Ideal S128x128 .f32) (sg : Vec Ideal S1x128 .f32) (bs : Vec Ideal S1x8x128 .f32)

/-- The first row of a block. -/
theorem pay_row0 (hx : ∀ (r : Fin 128) (q : Fin 2), x (ix2 r ⟨q.val, by omega⟩) < ((32 : ℝ) : EReal))
    (hs : ∀ l : Fin 128, l.val < 32 → ∃ y : ℝ, sg (ix2 0 l) = (y : EReal)) (hb : ∀ l : Fin 128, l.val < 32 → ∃ y : ℝ, bs (ix3 0 0 l) = (y : EReal))
    (s : Fin 8) (r : Fin 128) :
    k0_pay8 (F := Ideal) x (k0_pay2 (F := Ideal)) sg bs (ix2 s r) = lanes x sg bs r 0 := by
  pointwise [k0_pay8, k0_pay7]
  simp only [pay_one, pay_place]
  exact split_sum _ fun l => lane_real _ (hx r 0) _ _ _ _ (hs l) (hb l) (earlier_real _ _ _)

/-- A block's entry. -/
theorem pay_out (hx : ∀ (r : Fin 128) (q : Fin 2), x (ix2 r ⟨q.val, by omega⟩) < ((32 : ℝ) : EReal))
    (hs : ∀ l : Fin 128, l.val < 32 → ∃ y : ℝ, sg (ix2 0 l) = (y : EReal)) (hb : ∀ l : Fin 128, l.val < 32 → ∃ y : ℝ, bs (ix3 0 0 l) = (y : EReal))
    (s : Fin 8) (r : Fin 128) :
    k0_pay1 (F := Ideal) (k0_pay5 x) (k0_pay6 x (k0_pay2 (F := Ideal)) sg bs) (k0_pay7 (F := Ideal)) (k0_pay8 x (k0_pay2 (F := Ideal)) sg bs) (ix3 0 s r)
      = if h : s.val < 2 then FloatOps.fptosi (F := Ideal) (φ := .f32) 32 (lanes x sg bs r ⟨s.val, h⟩ * Ideal.ofBits FTy.f32 1090519040#32) else 0#32 := by
  pointwise [k0_pay1]
  rw [pay_row0 x sg bs hx hs hb]
  have one : ∀ l : Fin 128, k0_pay7 (F := Ideal) (ix2 s l) = 1 := fun l => by pointwise [k0_pay7]
  simp only [one, one_mul, pay_two, pay_place]
  have e := split_sum (fun l : Fin 128 => hit (x (ix2 r 1)) l.val * (sg (ix2 0 l) + bs (ix3 0 0 l) + earlier (fun k q => x (ix2 k ⟨q.val, by omega⟩)) r l.val))
    fun l => lane_real _ (hx r 1) _ _ _ _ (hs l) (hb l) (earlier_real _ _ _)
  rw [e]
  match s with
  | ⟨0, _⟩ => rfl
  | ⟨1, _⟩ => rfl
  | ⟨s + 2, h⟩ =>
    rw [dif_neg (by simp)]
    have e0 : IntOp.cmpi CmpIPredicate.eq (BitVec.ofNat 32 (s + 2)) 0#32 = 0#1 := by
      refine (BitVec.eq_zero_or_eq_one _).resolve_right fun k => ?_
      have := congrArg BitVec.toNat (IntOp.cmpi_eq.1 k)
      rw [BitVec.toNat_ofNat] at this
      simp at this; omega
    have e1 : IntOp.cmpi CmpIPredicate.eq (BitVec.ofNat 32 (s + 2)) 1#32 = 0#1 := by
      refine (BitVec.eq_zero_or_eq_one _).resolve_right fun k => ?_
      have := congrArg BitVec.toNat (IntOp.cmpi_eq.1 k)
      rw [BitVec.toNat_ofNat] at this
      simp at this; omega
    rw [show (⟨s + 2, h⟩ : Fin 8).val = s + 2 from rfl, e0, e1]
    show FloatOps.fptosi (F := Ideal) (φ := .f32) 32 ((0 : EReal) * _) = _
    rw [zero_mul]
    exact word_zero

/-- The first row of the segments' block. -/
def seg0 (c : Dev nD) (t : Fin cfg0.N) : Vec Ideal S1x128 .f32 := View.ld (iblk m c 2 t) (Rect.unit ![0, 0] ![1, 128] inb_S8x128_S1x128_0_0)

/-- What the point leaves. -/
theorem outs (c : Dev nD) (t : Fin cfg0.N) :
    outsAt0 m c t = k0_pay1 (F := Ideal) (k0_pay5 (iblk m c 0 t)) (k0_pay6 (iblk m c 0 t) (k0_pay2 (F := Ideal)) (seg0 m c t) (iblk m c 1 t)) (k0_pay7 (F := Ideal))
      (k0_pay8 (iblk m c 0 t) (k0_pay2 (F := Ideal)) (seg0 m c t) (iblk m c 1 t)) := by
  unfold outsAt0
  frame_out
  rfl

/-- The blocks' places. -/
theorem at0 : ∀ t : Fin cfg0.N, win0_0.index t = ![0, 0] ∧ win0_1.index t = ![0, 0, 0] ∧ win0_2.index t = ![0, 0] ∧ win0_3.index t = ![0, 0, 0] := by
  decide +kernel

/-- The segments' first rows, as the call takes them. -/
theorem seg_at (c : Dev nD) (s : Fin 8) (l : Fin 128) :
    V m c main_v5 (ix2 s l) = if h : l.val < 32 then FloatOps.sitofp (F := Ideal) .f32 (m ((c : Thread nD τ).loc main_arg3) (ix1 ⟨l.val, h⟩)) else 0 := by
  after_reads_at
  split
  · rfl
  · show ((((0#32 : BitVec 32).toInt : ℤ) : ℝ) : EReal) = 0
    simp

/-- The rows counted before: those of the group and those of the other group. -/
def both (B : S1x8x128.Idx → EReal) (T : S8x128.Idx → EReal) (s : Fin 8) (l : Fin 128) : EReal := B (ix3 0 s l) + T (ix2 s l)

/-- The rows counted before, as the call takes them. -/
theorem base_at (c : Dev nD) (s : Fin 8) (l : Fin 128) :
    V m c main_v1 (ix3 0 s l) = both (m ((c : Thread nD τ).loc main_arg1)) (m ((c : Thread nD τ).loc main_arg2)) s l := by
  after_reads_at
  rfl

/-- Of a row's choice `q` the place: the segment's first row, the rows counted before, and the earlier rows. -/
def placeAt (X : S128x128.Idx → EReal) (B : S1x8x128.Idx → EReal) (T : S8x128.Idx → EReal) (G : S32.Idx → BitVec 32) (r : Fin 128) (q : Fin 2) : EReal :=
  ∑ e : Fin 32, hit (X (ix2 r ⟨q.val, by omega⟩)) e.val
    * (FloatOps.sitofp (F := Ideal) .f32 (G (ix1 e)) + both B T 0 ⟨e.val, by omega⟩
      + earlier (fun k q => X (ix2 k ⟨q.val, by omega⟩)) r e.val)

/-- The array of the places, eightfold: the first two rows hold the two choices, the others zeros. -/
def placed (X : S128x128.Idx → EReal) (B : S1x8x128.Idx → EReal) (T : S8x128.Idx → EReal) (G : S32.Idx → BitVec 32) : S1x8x128.Idx → BitVec 32 := fun i =>
  if h : (i 1).val < 2 then FloatOps.fptosi (F := Ideal) (φ := .f32) 32 (placeAt X B T G (i 2) ⟨(i 1).val, h⟩ * Ideal.ofBits FTy.f32 1090519040#32) else 0#32

theorem placed_at (X : S128x128.Idx → EReal) (B : S1x8x128.Idx → EReal) (T : S8x128.Idx → EReal) (G : S32.Idx → BitVec 32) (t : Fin 1) (s : Fin 8) (r : Fin 128) :
    placed X B T G (ix3 t s r) = if h : s.val < 2 then FloatOps.fptosi (F := Ideal) (φ := .f32) 32 (placeAt X B T G r ⟨s.val, h⟩ * Ideal.ofBits FTy.f32 1090519040#32) else 0#32 := rfl

/-- Each row's two choices name experts. -/
def Chosen (X : S128x128.Idx → EReal) : Prop := ∀ (r : Fin 128) (q : Fin 2), X (ix2 r ⟨q.val, by omega⟩) < ((32 : ℝ) : EReal)

/-- The rows counted before are real numbers. -/
def Counted (B : S1x8x128.Idx → EReal) (T : S8x128.Idx → EReal) : Prop :=
  ∀ e : Fin 32, ∃ y : ℝ, both B T 0 ⟨e.val, by omega⟩ = (y : EReal)

/-- The places of the rows, eightfold. -/
theorem pos_out (c : Dev nD) (hx : Chosen (m ((c : Thread nD τ).loc main_arg0))) (hb : Counted (m ((c : Thread nD τ).loc main_arg1)) (m ((c : Thread nD τ).loc main_arg2))) :
    (dats m 0 c).arrAt 3 cfg0.N = placed (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, outs m c t]
  idx_vars y
  obtain ⟨e0, e1, e2, e3⟩ := at0 t
  have h0 : ∀ (r : Fin 128) (l : Fin 128), iblk m c 0 t (ix2 r l) = (m ((c : Thread nD τ).loc main_arg0) : S128x128.Idx → EReal) (ix2 r l) := fun r l => by
    rw [← V_main_arg0 m c]
    blk_ext [iblk, e0]
  have h1 : ∀ (l : Fin 128), iblk m c 1 t (ix3 0 0 l) = V m c main_v1 (ix3 0 0 l) := fun l => by
    blk_ext [iblk, e1]
  have h2 : ∀ (l : Fin 128), seg0 m c t (ix2 0 l) = V m c main_v5 (ix2 0 l) := fun l => by
    blk_ext [seg0, iblk, e2, View.ld]
    · rfl
    · show 0 + 1 * l.val = l.val
      omega
  obtain rfl : y0 = 0 := Subsingleton.elim _ _
  refine (pay_out (iblk m c 0 t) (seg0 m c t) (iblk m c 1 t) ?_ ?_ ?_ y1 y2).trans ?_
  · intro r q
    rw [h0]
    exact hx _ q
  · intro l hl
    rw [h2, seg_at, dif_pos hl]
    exact ⟨_, rfl⟩
  · intro l hl
    rw [h1, base_at]
    exact hb ⟨l.val, hl⟩
  have e : ∀ q, lanes (iblk m c 0 t) (seg0 m c t) (iblk m c 1 t) y2 q = placeAt (m ((c : Thread nD τ).loc main_arg0)) (m ((c : Thread nD τ).loc main_arg1))
      (m ((c : Thread nD τ).loc main_arg2)) (m ((c : Thread nD τ).loc main_arg3)) y2 q := fun q => by
    unfold lanes placeAt
    simp only [h0, h1, h2]
    refine (sum_lanes _ fun l hl => ?_).trans (Finset.sum_congr rfl fun e _ => ?_)
    · rw [hit_zero (hx _ q) _ hl, zero_mul]
    · rw [seg_at, dif_pos e.isLt, base_at]
  simp only [e]
  refine Eq.trans (b := placed _ _ _ _ (ix3 0 y1 y2)) rfl (congrArg (placed _ _ _ _) ?_)
  blk_ext [e3]

end Cert.Kernel5Ideal.Val

end
-- ==== Proof.PlaceSRef.lean ====
/- The reference's places of the sample group, at an entry. -/
module

public import proofs.«01_k».proof.Proof.Gen.Reference5Ideal.Read
public import proofs.«01_k».proof.Proof.PlaceS
public import Idealize.ShloMosaic.Lib.Pointwise

@[expose] public section

set_option maxRecDepth 16384

noncomputable section

namespace Cert.Reference5Ideal.Val

open Idealize.ShloMosaic Idealize.ShloMosaic.TcCoe
open Cert.Hit Cert.Reference5Ideal Cert.Reference5Ideal.Gen Cert.Reference5Ideal.Read

variable (x0 : (⟨S128x128, .f32⟩ : BufTy).Contents (Elt Ideal)) (x1 : (⟨S1x8x128, .f32⟩ : BufTy).Contents (Elt Ideal))
  (x2 : (⟨S8x128, .f32⟩ : BufTy).Contents (Elt Ideal)) (x3 : (⟨S32, .i32⟩ : BufTy).Contents (Elt Ideal))

/-- A row's choice. -/
theorem v1_at (r : Fin 128) (q : Fin 2) (e : Fin 32) :
    val_main_v1 (F := Ideal) x0 (ix3 r q e) = hit (x0 (ix2 r ⟨q.val, by omega⟩)) e.val := by
  pointwise [val_main_v1, val_main_call0_v4, val_main_call0_v3, val_main_call0_v2, val_main_call0_v1, val_main_call0_v0, val_main_v0]
  exact ref_hit _ (by omega) _

/-- The columns before a row. -/
theorem v9_at (r k : Fin 128) : val_main_v9 (F := Ideal) (ix2 r k) = if k.val < r.val then 1 else 0 := by
  pointwise [val_main_v9, val_main_v8, val_main_v7, val_main_v6, val_main_v5, val_main_v4, val_main_v3]
  exact ref_tri _ _ (by omega) (by omega)

/-- A row's place in an expert's segment. -/
theorem v20_at (r : Fin 128) (e : Fin 32) :
    val_main_v20 (F := Ideal) x0 x1 x2 x3 (ix2 r e)
      = FloatOps.sitofp (F := Ideal) .f32 (x3 (ix1 e)) + Kernel5Ideal.Val.both x1 x2 0 ⟨e.val, by omega⟩
      + earlier (fun k q => x0 (ix2 k ⟨q.val, by omega⟩)) r e.val := by
  pointwise [val_main_v20, val_main_v19, val_main_v18, val_main_v17, val_main_v16, val_main_v15, val_main_v14, val_main_v13, val_main_v12, val_main_v11, val_main_v10, val_main_v2, val_main_cst]
  rw [← add_assoc]
  refine congrArg (_ + ·) (Finset.sum_congr rfl fun k _ => ?_)
  rw [v9_at, Fin.sum_univ_two, v1_at, v1_at]

/-- A row's place, eightfold. -/
theorem v27_at (r : Fin 128) (q : Fin 2) :
    val_main_v27 (F := Ideal) x0 x1 x2 x3 (ix2 r q)
      = FloatOps.fptosi (F := Ideal) (φ := .f32) 32 (Kernel5Ideal.Val.placeAt x0 x1 x2 x3 r q * Ideal.ofBits FTy.f32 1090519040#32) := by
  pointwise [val_main_v27, val_main_v26, val_main_v25, val_main_v24, val_main_v23, val_main_v22, val_main_v21, val_main_cst_0, val_main_cst_1]
  rw [mul_comm]
  refine congrArg (fun z : EReal => FloatOps.fptosi (F := Ideal) (φ := .f32) 32 (z * Ideal.ofBits FTy.f32 1090519040#32)) (Finset.sum_congr rfl fun e _ => ?_)
  rw [v1_at, v20_at]

/-- The reference's array. -/
theorem v30_eq : val_main_v30 (F := Ideal) x0 x1 x2 x3 = Kernel5Ideal.Val.placed x0 x1 x2 x3 := by
  funext i
  idx_vars i
  pointwise [val_main_v30, val_main_v29, val_main_v28, val_main_call1_v0]
  rw [Kernel5Ideal.Val.placed_at]
  by_cases h : i1.val < 2
  · rw [dif_pos h, dif_pos h]
    exact v27_at x0 x1 x2 x3 i2 ⟨i1.val, h⟩
  · rw [dif_neg h, dif_neg h]
    rfl

end Cert.Reference5Ideal.Val

end
-- ==== Proof.Routed.lean ====
/- The preconditions of the places read at an entry: each choice names one of the 32 experts, and the rows counted before a tile are real numbers. -/
module

public import proofs.«01_k».proof.Defs
public import proofs.«01_k».proof.Proof.Finite
public import proofs.«01_k».proof.Proof.Place
public import proofs.«01_k».proof.Proof.PlaceS
public import proofs.«01_k».proof.Proof.Gen.Pre_routed
public import proofs.«01_k».proof.Proof.Gen.Pre_routed_s
public import Idealize.ShloMosaic.Lib.Pointwise

@[expose] public section

namespace Cert.Proof

open Idealize.ShloMosaic Idealize.ShloMosaic.TcCoe

theorem lt_of_cmp {x : EReal} (h : Ideal.cmp .olt x (Ideal.ofBits .f32 0x42000000#32) = 1#1) : x < ((32 : ℝ) : EReal) := by
  have e : Ideal.ofBits .f32 0x42000000#32 = ((32 : ℝ) : EReal) := by
    simp [Ideal.ofBits, Ideal.ieee]
    rw [← EReal.coe_mul]
    norm_num
  rw [e] at h
  by_contra k
  simp [Ideal.cmp, k] at h

/-- What the precondition says of the choices and of the rows counted before. -/
theorem routed_of_pre (m : (ℓ : Loc Cert.Kernel4Ideal.nD Cert.Kernel4Ideal.τ Cert.Kernel4Ideal.sig) → Buf (Elt Ideal) ℓ)
    (h : Cert.Pre_Kernel4Ideal_routed (hPre_routed := Cert.Pre_routed.Gen.facts) m) (c : Dev Cert.Kernel4Ideal.nD) :
    Cert.Kernel4Ideal.Val.Chosen (m ((c.tc : Thread Cert.Kernel4Ideal.nD Cert.Kernel4Ideal.τ).loc Cert.Kernel4Ideal.main_arg0))
      ∧ Cert.Kernel4Ideal.Val.Counted (m ((c.tc : Thread Cert.Kernel4Ideal.nD Cert.Kernel4Ideal.τ).loc Cert.Kernel4Ideal.main_arg1)) := by
  have e := congrFun (h c) ix0
  dsimp only [Cert.Pre_routed.fn] at e
  obtain ⟨e0, e1⟩ := IntOp.andi_eq_one.1 e
  constructor
  · intro r q
    have h1 := Host.reduce_andi_all _ _ _ _ _ e0 (ix2 r q)
    refine lt_of_cmp ?_
    pointwise at h1
    exact h1
  · intro t k
    refine Spec.fin_iff.1 (fin_of_lt ?_)
    have h1 := Host.reduce_andi_all _ _ _ _ _ e1 (ix2 t k)
    pointwise at h1
    exact h1

/-- What the sample group's precondition says of the choices and of the rows counted before. -/
theorem routed_s_of_pre (m : (ℓ : Loc Cert.Kernel5Ideal.nD Cert.Kernel5Ideal.τ Cert.Kernel5Ideal.sig) → Buf (Elt Ideal) ℓ)
    (h : Cert.Pre_Kernel5Ideal_routed_s (hPre_routed_s := Cert.Pre_routed_s.Gen.facts) m) (c : Dev Cert.Kernel5Ideal.nD) :
    Cert.Kernel5Ideal.Val.Chosen (m ((c.tc : Thread Cert.Kernel5Ideal.nD Cert.Kernel5Ideal.τ).loc Cert.Kernel5Ideal.main_arg0))
      ∧ Cert.Kernel5Ideal.Val.Counted (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2)) := by
  have e := congrFun (h c) ix0
  dsimp only [Cert.Pre_routed_s.fn] at e
  obtain ⟨e0, e1⟩ := IntOp.andi_eq_one.1 e
  constructor
  · intro r q
    have h1 := Host.reduce_andi_all _ _ _ _ _ e0 (ix2 r q)
    refine lt_of_cmp ?_
    pointwise at h1
    exact h1
  · intro k
    refine Spec.fin_iff.1 (fin_of_lt ?_)
    have h1 := Host.reduce_andi_all _ _ _ _ _ e1 (ix2 0 k)
    pointwise at h1
    exact h1

end Cert.Proof

end
-- ==== Proof.lean ====
module

public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_planned
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_routed
public import proofs.«01_k».proof.Proof.Gen.Pre_routed_s
public import proofs.«01_k».proof.Defs
public import proofs.«01_k».proof.Proof.MoeTwin
public import proofs.«01_k».proof.Proof.MoeKer
public import proofs.«01_k».proof.Proof.Gen.Kernel
public import proofs.«01_k».proof.Proof.Gen.KernelIdeal
public import proofs.«01_k».proof.Proof.Run
public import proofs.«01_k».proof.Proof.Twin
public import proofs.«01_k».proof.Proof.KerVal
public import proofs.«01_k».proof.Proof.ConvVal
public import proofs.«01_k».proof.Proof.Gen.ReferenceIdeal
public import proofs.«01_k».proof.Proof.Gen.ReferenceIdeal.Run
public import proofs.«01_k».proof.Proof.Finite
public import proofs.«01_k».proof.Proof.Gen.ReferenceIdeal.Read
public import proofs.«01_k».proof.Proof.Count
public import proofs.«01_k».proof.Proof.PlaceRef
public import proofs.«01_k».proof.Proof.PlaceSRef
public import proofs.«01_k».proof.Proof.Routed
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's run, read at its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

set_option maxHeartbeats 1000000 in
/-- The five results are the reference's. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hp hagree
  refine ⟨fun c => Cert.KernelIdeal.Gen.W17 m g c Cert.KernelIdeal.main_v43, fun c => Cert.KernelIdeal.Gen.W17 m g c Cert.KernelIdeal.main_v44,
    fun c => Cert.KernelIdeal.Gen.W17 m g c Cert.KernelIdeal.main_v46, fun c => Cert.KernelIdeal.Gen.W17 m g c Cert.KernelIdeal.main_v47,
    fun c => Cert.KernelIdeal.Gen.W17 m g c Cert.KernelIdeal.main_v38_8, ?_, ?_⟩
  · refine (θ_run Cert.KernelIdeal.defs _ _).mono (fun r h c => ?_) (Cert.KernelIdeal.Gen.run_all (F := Ideal) m g)
    exact ⟨h.1 c _ (Cert.KernelIdeal.Gen.mem_uc Cert.KernelIdeal.main_v43 (by decide)),
      h.1 c _ (Cert.KernelIdeal.Gen.mem_uc Cert.KernelIdeal.main_v44 (by decide)),
      h.1 c _ (Cert.KernelIdeal.Gen.mem_uc Cert.KernelIdeal.main_v46 (by decide)),
      h.1 c _ (Cert.KernelIdeal.Gen.mem_uc Cert.KernelIdeal.main_v47 (by decide)),
      h.1 c _ (Cert.KernelIdeal.Gen.mem_uc Cert.KernelIdeal.main_v38_8 (by decide)),
      (h.1 c _ (Cert.KernelIdeal.Gen.mem_uc Cert.KernelIdeal.main_arg0 (by decide))).trans (Cert.KernelIdeal.Gen.W17_main_arg0 m g c),
      (h.1 c _ (Cert.KernelIdeal.Gen.mem_uc Cert.KernelIdeal.main_arg1 (by decide))).trans (Cert.KernelIdeal.Gen.W17_main_arg1 m g c),
      (h.1 c _ (Cert.KernelIdeal.Gen.mem_uc Cert.KernelIdeal.main_arg2 (by decide))).trans (Cert.KernelIdeal.Gen.W17_main_arg2 m g c),
      (h.1 c _ (Cert.KernelIdeal.Gen.mem_uc Cert.KernelIdeal.main_arg3 (by decide))).trans (Cert.KernelIdeal.Gen.W17_main_arg3 m g c),
      (h.1 c _ (Cert.KernelIdeal.Gen.mem_uc Cert.KernelIdeal.main_arg4 (by decide))).trans (Cert.KernelIdeal.Gen.W17_main_arg4 m g c),
      (h.1 c _ (Cert.KernelIdeal.Gen.mem_uc Cert.KernelIdeal.main_arg5 (by decide))).trans (Cert.KernelIdeal.Gen.W17_main_arg5 m g c),
      (h.1 c _ (Cert.KernelIdeal.Gen.mem_uc Cert.KernelIdeal.main_arg6 (by decide))).trans (Cert.KernelIdeal.Gen.W17_main_arg6 m g c),
      (h.1 c _ (Cert.KernelIdeal.Gen.mem_uc Cert.KernelIdeal.main_arg7 (by decide))).trans (Cert.KernelIdeal.Gen.W17_main_arg7 m g c),
      (h.1 c _ (Cert.KernelIdeal.Gen.mem_uc Cert.KernelIdeal.main_arg8 (by decide))).trans (Cert.KernelIdeal.Gen.W17_main_arg8 m g c),
      (h.1 c _ (Cert.KernelIdeal.Gen.mem_uc Cert.KernelIdeal.main_arg9 (by decide))).trans (Cert.KernelIdeal.Gen.W17_main_arg9 m g c),
      (h.1 c _ (Cert.KernelIdeal.Gen.mem_uc Cert.KernelIdeal.main_arg10 (by decide))).trans (Cert.KernelIdeal.Gen.W17_main_arg10 m g c),
      (h.1 c _ (Cert.KernelIdeal.Gen.mem_uc Cert.KernelIdeal.main_arg11 (by decide))).trans (Cert.KernelIdeal.Gen.W17_main_arg11 m g c),
      (h.1 c _ (Cert.KernelIdeal.Gen.mem_uc Cert.KernelIdeal.main_arg12 (by decide))).trans (Cert.KernelIdeal.Gen.W17_main_arg12 m g c),
      (h.1 c _ (Cert.KernelIdeal.Gen.mem_uc Cert.KernelIdeal.main_arg13 (by decide))).trans (Cert.KernelIdeal.Gen.W17_main_arg13 m g c),
      (h.1 c _ (Cert.KernelIdeal.Gen.mem_uc Cert.KernelIdeal.main_arg14 (by decide))).trans (Cert.KernelIdeal.Gen.W17_main_arg14 m g c),
      (h.1 c _ (Cert.KernelIdeal.Gen.mem_uc Cert.KernelIdeal.main_arg15 (by decide))).trans (Cert.KernelIdeal.Gen.W17_main_arg15 m g c),
      (h.1 c _ (Cert.KernelIdeal.Gen.mem_uc Cert.KernelIdeal.main_arg16 (by decide))).trans (Cert.KernelIdeal.Gen.W17_main_arg16 m g c)⟩
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14, e15, e16⟩ := hagree c
    have hr := real_of_pre m hp c
    refine ⟨((h c).1.trans (Cert.ReferenceIdeal.Read.val_main_v111_eq (StableHlo.launchContents m' c))).trans ?_, ((h c).2.1.trans (Cert.ReferenceIdeal.Read.val_main_v112_eq (StableHlo.launchContents m' c))).trans ?_, ((h c).2.2.1.trans (Cert.ReferenceIdeal.Read.val_main_v113_eq (StableHlo.launchContents m' c))).trans ?_, ((h c).2.2.2.1.trans (Cert.ReferenceIdeal.Read.val_main_v114_eq (StableHlo.launchContents m' c))).trans ?_, ((h c).2.2.2.2.1.trans (Cert.ReferenceIdeal.Read.val_main_v150_eq (StableHlo.launchContents m' c))).trans ?_, (h c).2.2.2.2.2⟩
    · refine Eq.trans ?_ (Cert.KernelIdeal.Val.res_111 m g c hr).symm
      show Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e2, e3, e5, e7, e8, e9, e10, e11, e12]
    · refine Eq.trans ?_ (Cert.KernelIdeal.Val.res_112 m g c hr).symm
      show Cert.ReferenceIdeal.Read.val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e2, e4, e5, e7, e8, e9, e10, e11, e12]
    · refine Eq.trans ?_ (Cert.KernelIdeal.Val.res_113 m g c hr).symm
      show Cert.ReferenceIdeal.Read.val_main_v113 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e2, e5, e7, e8, e9, e10, e11, e12]
    · refine Eq.trans ?_ (Cert.KernelIdeal.Val.res_114 m g c hr).symm
      show Cert.ReferenceIdeal.Read.val_main_v114 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
      rw [e0, e2, e6, e7, e8, e9, e10]
    · refine Eq.trans ?_ (Cert.KernelIdeal.Val.res_150 m g c hr).symm
      show Cert.ReferenceIdeal.Read.val_main_v150 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
      rw [e0, e2, e6, e7, e8, e9, e10, e13, e14, e15, e16]

/-- The second reference's run, read at its arguments; it declares no semaphore. -/
theorem frame_reference2 : Cert.quiescent_Reference2Ideal (hReference2Ideal := Cert.Reference2Ideal.Gen.facts) (hPre_planned := Cert.Pre_planned.Gen.facts) :=
  fun m ρ _ => (θ_run Cert.Reference2Ideal.defs _ _).mono (fun r h => ⟨fun c => (h c).2, sem_eq_zero_of_no_sems (by decide) r.2⟩)
    (Cert.Reference2Ideal.Value.run (F := Ideal) m ρ)

/-- The expert layer's result is the reference's. -/
theorem algebraic2 : Cert.algebraic_Kernel2Ideal_Reference2Ideal (hKernel2Ideal := Cert.Kernel2Ideal.Gen.facts)
    (hReference2Ideal := Cert.Reference2Ideal.Gen.facts) (hPre_planned := Cert.Pre_planned.Gen.facts) := by
  intro m g m' g' hp hagree
  have P := Cert.Kernel2Ideal.Gen.plan_of_pre (F := Ideal) m hp
  refine ⟨fun c => Cert.Kernel2Ideal.Gen.outV m c, ?_, ?_⟩
  · exact (θ_run Cert.Kernel2Ideal.defs _ _).mono (fun r h c => h.1 c) (Cert.Kernel2Ideal.Gen.ends (F := Ideal) m g P)
  · refine (θ_run Cert.Reference2Ideal.defs _ _).mono (fun r h c => ?_) (Cert.Reference2Ideal.Value.run (F := Ideal) m' g')
    obtain ⟨e0, e1, e2, e3, e4, e5, e6, e7⟩ := hagree c
    refine ⟨((h c).1.trans (Cert.Reference2Ideal.Read.val_main_v25_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)))).trans ?_, (h c).2⟩
    rw [e0, e1, e4, e5, e6, e7]
    exact Cert.Kernel2Ideal.Val.result c m P

/-- The third reference's run, read at its argument; it declares no semaphore. -/
theorem frame_reference3 : Cert.quiescent_Reference3Ideal (hReference3Ideal := Cert.Reference3Ideal.Gen.facts) :=
  fun m ρ _ => (θ_run Cert.Reference3Ideal.defs _ _).mono (fun r h => ⟨fun c => (h c).2.2, sem_eq_zero_of_no_sems (by decide) r.2⟩)
    (Cert.Reference3Ideal.Value.run (F := Ideal) m ρ)

/-- The counts are the reference's. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 1 Cert.Kernel3Ideal.cfg0.N,
    fun c => (Cert.Kernel3Ideal.Gen.dats m 0 c).arrAt 2 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  have e0 := hagree c
  refine ⟨(((h c).1.trans (Cert.Reference3Ideal.Read.val_main_v3_eq (F := Ideal))).trans Cert.Reference3Ideal.Val.v3_zero).trans
      (Cert.Kernel3Ideal.Val.base_out m c).symm,
    (((h c).2.1.trans (Cert.Reference3Ideal.Read.val_main_v5_eq (F := Ideal) (m' ((c.tc : Thread Cert.Reference3Ideal.nD Cert.Reference3Ideal.τ).loc Cert.Reference3Ideal.main_arg0)))).trans
      (Cert.Reference3Ideal.Val.v5_eq _)).trans ?_, (h c).2.2⟩
  rw [e0]
  exact (Cert.Kernel3Ideal.Val.tot_out m c).symm

/-- The fourth reference's run, read at its arguments; it declares no semaphore. -/
theorem frame_reference4 : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run (F := Ideal) m ρ)

/-- The places are the reference's. -/
theorem algebraic4 : Cert.algebraic_Kernel4Ideal_Reference4Ideal_pre_routed (hKernel4Ideal := Cert.Kernel4Ideal.Gen.facts)
    (hReference4Ideal := Cert.Reference4Ideal.Gen.facts) (hPre_routed := Cert.Pre_routed.Gen.facts) := by
  intro m g m' g' hp hagree
  refine ⟨fun c => (Cert.Kernel4Ideal.Gen.dats m 0 c).arrAt 3 Cert.Kernel4Ideal.cfg0.N, Cert.Kernel4Ideal.Value.run_blocks (F := Ideal) m g, ?_⟩
  refine (θ_run Cert.Reference4Ideal.defs _ _).mono (fun r h c => ?_) (Cert.Reference4Ideal.Value.run (F := Ideal) m' g')
  obtain ⟨e0, e1, e2⟩ := hagree c
  obtain ⟨hx, hb⟩ := routed_of_pre m hp c
  refine ⟨(((h c).1.trans (Cert.Reference4Ideal.Read.val_main_v30_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)))).trans
      (Cert.Reference4Ideal.Val.v30_eq _ _ _)).trans ?_, (h c).2⟩
  rw [e0, e1, e2]
  exact (Cert.Kernel4Ideal.Val.pos_out m c hx hb).symm

/-- The fifth reference's run, read at its arguments; it declares no semaphore. -/
theorem frame_reference5 : Cert.quiescent_Reference5Ideal (hReference5Ideal := Cert.Reference5Ideal.Gen.facts) :=
  fun m ρ _ => (θ_run Cert.Reference5Ideal.defs _ _).mono (fun r h => ⟨fun c => (h c).2, sem_eq_zero_of_no_sems (by decide) r.2⟩)
    (Cert.Reference5Ideal.Value.run (F := Ideal) m ρ)

/-- The sample group's places are the reference's. -/
theorem algebraic5 : Cert.algebraic_Kernel5Ideal_Reference5Ideal_pre_routed_s (hKernel5Ideal := Cert.Kernel5Ideal.Gen.facts)
    (hReference5Ideal := Cert.Reference5Ideal.Gen.facts) (hPre_routed_s := Cert.Pre_routed_s.Gen.facts) := by
  intro m g m' g' hp hagree
  refine ⟨fun c => (Cert.Kernel5Ideal.Gen.dats m 0 c).arrAt 3 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨e0, e1, e2, e3⟩ := hagree c
  obtain ⟨hx, hb⟩ := routed_s_of_pre m hp c
  refine ⟨(((h c).1.trans (Cert.Reference5Ideal.Read.val_main_v30_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)))).trans
      (Cert.Reference5Ideal.Val.v30_eq _ _ _ _)).trans ?_, (h c).2⟩
  rw [e0, e1, e2, e3]
  exact (Cert.Kernel5Ideal.Val.pos_out m c hx hb).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  facts_finite, Cert.Pre_planned.Gen.facts, Cert.Pre_routed.Gen.facts, Cert.Pre_routed_s.Gen.facts,
  frame_kernel, fun m ρ _ => Cert.KernelIdeal.Gen.frame m ρ, fun m ρ _ => Cert.KernelIdeal.Gen.frame m ρ,
  frame_reference, fun m ρ _ => frame_reference m ρ trivial, frame_kernel2, frame_kernel2I, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  trivial, algebraic, trivial, algebraic2, trivial, algebraic3, trivial, algebraic4, trivial, algebraic5⟩

end Cert.Proof

end
